-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Decoder (m : (ℓ : Loc Cert.Decoder.nD Cert.Decoder.τ Cert.Decoder.sig) → Buf (Elt Bits) ℓ) : Prop :=
  True

def Pre_DecoderIdeal (m : (ℓ : Loc Cert.DecoderIdeal.nD Cert.DecoderIdeal.τ Cert.DecoderIdeal.sig) → Buf (Elt Ideal) ℓ) : Prop :=
  True

def Pre_DecoderReferenceIdeal (m : (ℓ : Loc Cert.DecoderReferenceIdeal.nD Cert.DecoderReferenceIdeal.τ Cert.DecoderReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Decoder [hDecoder : Cert.Decoder.Facts] : Prop :=
  ∀ (m : (ℓ : Loc Cert.Decoder.nD Cert.Decoder.τ Cert.Decoder.sig) → Buf (Elt Bits) ℓ) (g : Dev Cert.Decoder.nD → PrngReg), Pre_Decoder m →
    θ_run (Cert.Decoder.defs (F := Bits)) (onTc (τ := Cert.Decoder.τ) (Cert.Decoder.main (F := Bits))) ⟨m, fun _ => 0, g⟩ (fun r => (∀ c : Dev Cert.Decoder.nD,
      r.2.mem ((c.tc : Thread Cert.Decoder.nD Cert.Decoder.τ).loc Cert.Decoder.main_arg0) = m ((c.tc : Thread Cert.Decoder.nD Cert.Decoder.τ).loc Cert.Decoder.main_arg0)
      ∧ r.2.mem ((c.tc : Thread Cert.Decoder.nD Cert.Decoder.τ).loc Cert.Decoder.main_arg1) = m ((c.tc : Thread Cert.Decoder.nD Cert.Decoder.τ).loc Cert.Decoder.main_arg1)
      ∧ r.2.mem ((c.tc : Thread Cert.Decoder.nD Cert.Decoder.τ).loc Cert.Decoder.main_arg2) = m ((c.tc : Thread Cert.Decoder.nD Cert.Decoder.τ).loc Cert.Decoder.main_arg2)
      ∧ r.2.mem ((c.tc : Thread Cert.Decoder.nD Cert.Decoder.τ).loc Cert.Decoder.main_arg3) = m ((c.tc : Thread Cert.Decoder.nD Cert.Decoder.τ).loc Cert.Decoder.main_arg3)
      ∧ r.2.mem ((c.tc : Thread Cert.Decoder.nD Cert.Decoder.τ).loc Cert.Decoder.main_arg4) = m ((c.tc : Thread Cert.Decoder.nD Cert.Decoder.τ).loc Cert.Decoder.main_arg4)
      ∧ r.2.mem ((c.tc : Thread Cert.Decoder.nD Cert.Decoder.τ).loc Cert.Decoder.main_arg5) = m ((c.tc : Thread Cert.Decoder.nD Cert.Decoder.τ).loc Cert.Decoder.main_arg5)
      ∧ r.2.mem ((c.tc : Thread Cert.Decoder.nD Cert.Decoder.τ).loc Cert.Decoder.main_arg6) = m ((c.tc : Thread Cert.Decoder.nD Cert.Decoder.τ).loc Cert.Decoder.main_arg6))
      ∧ r.2.sem = fun _ => 0)

def quiescent_DecoderIdeal [hDecoderIdeal : Cert.DecoderIdeal.Facts] : Prop :=
  ∀ (m : (ℓ : Loc Cert.DecoderIdeal.nD Cert.DecoderIdeal.τ Cert.DecoderIdeal.sig) → Buf (Elt Ideal) ℓ) (g : Dev Cert.DecoderIdeal.nD → PrngReg), Pre_DecoderIdeal m →
    θ_run (Cert.DecoderIdeal.defs (F := Ideal)) (onTc (τ := Cert.DecoderIdeal.τ) (Cert.DecoderIdeal.main (F := Ideal))) ⟨m, fun _ => 0, g⟩ (fun r => (∀ c : Dev Cert.DecoderIdeal.nD,
      r.2.mem ((c.tc : Thread Cert.DecoderIdeal.nD Cert.DecoderIdeal.τ).loc Cert.DecoderIdeal.main_arg0) = m ((c.tc : Thread Cert.DecoderIdeal.nD Cert.DecoderIdeal.τ).loc Cert.DecoderIdeal.main_arg0)
      ∧ r.2.mem ((c.tc : Thread Cert.DecoderIdeal.nD Cert.DecoderIdeal.τ).loc Cert.DecoderIdeal.main_arg1) = m ((c.tc : Thread Cert.DecoderIdeal.nD Cert.DecoderIdeal.τ).loc Cert.DecoderIdeal.main_arg1)
      ∧ r.2.mem ((c.tc : Thread Cert.DecoderIdeal.nD Cert.DecoderIdeal.τ).loc Cert.DecoderIdeal.main_arg2) = m ((c.tc : Thread Cert.DecoderIdeal.nD Cert.DecoderIdeal.τ).loc Cert.DecoderIdeal.main_arg2)
      ∧ r.2.mem ((c.tc : Thread Cert.DecoderIdeal.nD Cert.DecoderIdeal.τ).loc Cert.DecoderIdeal.main_arg3) = m ((c.tc : Thread Cert.DecoderIdeal.nD Cert.DecoderIdeal.τ).loc Cert.DecoderIdeal.main_arg3)
      ∧ r.2.mem ((c.tc : Thread Cert.DecoderIdeal.nD Cert.DecoderIdeal.τ).loc Cert.DecoderIdeal.main_arg4) = m ((c.tc : Thread Cert.DecoderIdeal.nD Cert.DecoderIdeal.τ).loc Cert.DecoderIdeal.main_arg4)
      ∧ r.2.mem ((c.tc : Thread Cert.DecoderIdeal.nD Cert.DecoderIdeal.τ).loc Cert.DecoderIdeal.main_arg5) = m ((c.tc : Thread Cert.DecoderIdeal.nD Cert.DecoderIdeal.τ).loc Cert.DecoderIdeal.main_arg5)
      ∧ r.2.mem ((c.tc : Thread Cert.DecoderIdeal.nD Cert.DecoderIdeal.τ).loc Cert.DecoderIdeal.main_arg6) = m ((c.tc : Thread Cert.DecoderIdeal.nD Cert.DecoderIdeal.τ).loc Cert.DecoderIdeal.main_arg6))
      ∧ r.2.sem = fun _ => 0)

def quiescent_DecoderReferenceIdeal [hDecoderReferenceIdeal : Cert.DecoderReferenceIdeal.Facts] : Prop :=
  ∀ (m : (ℓ : Loc Cert.DecoderReferenceIdeal.nD Cert.DecoderReferenceIdeal.τ Cert.DecoderReferenceIdeal.sig) → Buf (Elt Ideal) ℓ) (g : Dev Cert.DecoderReferenceIdeal.nD → PrngReg), Pre_DecoderReferenceIdeal m →
    θ_run (Cert.DecoderReferenceIdeal.defs (F := Ideal)) (onTc (τ := Cert.DecoderReferenceIdeal.τ) (Cert.DecoderReferenceIdeal.main (F := Ideal))) ⟨m, fun _ => 0, g⟩ (fun r => (∀ c : Dev Cert.DecoderReferenceIdeal.nD,
      r.2.mem ((c.tc : Thread Cert.DecoderReferenceIdeal.nD Cert.DecoderReferenceIdeal.τ).loc Cert.DecoderReferenceIdeal.main_arg0) = m ((c.tc : Thread Cert.DecoderReferenceIdeal.nD Cert.DecoderReferenceIdeal.τ).loc Cert.DecoderReferenceIdeal.main_arg0)
      ∧ r.2.mem ((c.tc : Thread Cert.DecoderReferenceIdeal.nD Cert.DecoderReferenceIdeal.τ).loc Cert.DecoderReferenceIdeal.main_arg1) = m ((c.tc : Thread Cert.DecoderReferenceIdeal.nD Cert.DecoderReferenceIdeal.τ).loc Cert.DecoderReferenceIdeal.main_arg1)
      ∧ r.2.mem ((c.tc : Thread Cert.DecoderReferenceIdeal.nD Cert.DecoderReferenceIdeal.τ).loc Cert.DecoderReferenceIdeal.main_arg2) = m ((c.tc : Thread Cert.DecoderReferenceIdeal.nD Cert.DecoderReferenceIdeal.τ).loc Cert.DecoderReferenceIdeal.main_arg2)
      ∧ r.2.mem ((c.tc : Thread Cert.DecoderReferenceIdeal.nD Cert.DecoderReferenceIdeal.τ).loc Cert.DecoderReferenceIdeal.main_arg3) = m ((c.tc : Thread Cert.DecoderReferenceIdeal.nD Cert.DecoderReferenceIdeal.τ).loc Cert.DecoderReferenceIdeal.main_arg3)
      ∧ r.2.mem ((c.tc : Thread Cert.DecoderReferenceIdeal.nD Cert.DecoderReferenceIdeal.τ).loc Cert.DecoderReferenceIdeal.main_arg4) = m ((c.tc : Thread Cert.DecoderReferenceIdeal.nD Cert.DecoderReferenceIdeal.τ).loc Cert.DecoderReferenceIdeal.main_arg4)
      ∧ r.2.mem ((c.tc : Thread Cert.DecoderReferenceIdeal.nD Cert.DecoderReferenceIdeal.τ).loc Cert.DecoderReferenceIdeal.main_arg5) = m ((c.tc : Thread Cert.DecoderReferenceIdeal.nD Cert.DecoderReferenceIdeal.τ).loc Cert.DecoderReferenceIdeal.main_arg5)
      ∧ r.2.mem ((c.tc : Thread Cert.DecoderReferenceIdeal.nD Cert.DecoderReferenceIdeal.τ).loc Cert.DecoderReferenceIdeal.main_arg6) = m ((c.tc : Thread Cert.DecoderReferenceIdeal.nD Cert.DecoderReferenceIdeal.τ).loc Cert.DecoderReferenceIdeal.main_arg6))
      ∧ r.2.sem = fun _ => 0)

def preserves_Kernel_KernelIdeal : Prop :=
  IdealRules.named_const.Statement Cert.KernelIdeal.κ "loss_scale" .f32 0x34272F05#32 ((1 / 6422528 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v96)) (v1 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_v97) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v380) = v0 c
          ∧ r.2.mem ((c.tc : Thread Cert.ReferenceIdeal.nD Cert.ReferenceIdeal.τ).loc Cert.ReferenceIdeal.main_v390) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Decoder_DecoderIdeal : Prop :=
  True

def algebraic_DecoderIdeal_DecoderReferenceIdeal [hDecoderIdeal : Cert.DecoderIdeal.Facts] [hDecoderReferenceIdeal : Cert.DecoderReferenceIdeal.Facts] : Prop :=
  ∀ (m : (ℓ : Loc Cert.DecoderIdeal.nD Cert.DecoderIdeal.τ Cert.DecoderIdeal.sig) → Buf (Elt Ideal) ℓ) (g : Dev Cert.DecoderIdeal.nD → PrngReg)
    (m' : (ℓ : Loc Cert.DecoderReferenceIdeal.nD Cert.DecoderReferenceIdeal.τ Cert.DecoderReferenceIdeal.sig) → Buf (Elt Ideal) ℓ) (g' : Dev Cert.DecoderReferenceIdeal.nD → PrngReg), Pre_DecoderIdeal m →
    (∀ c : Dev Cert.DecoderIdeal.nD,
      m' ((c.tc : Thread Cert.DecoderReferenceIdeal.nD Cert.DecoderReferenceIdeal.τ).loc Cert.DecoderReferenceIdeal.main_arg0) = m ((c.tc : Thread Cert.DecoderIdeal.nD Cert.DecoderIdeal.τ).loc Cert.DecoderIdeal.main_arg0)
      ∧ m' ((c.tc : Thread Cert.DecoderReferenceIdeal.nD Cert.DecoderReferenceIdeal.τ).loc Cert.DecoderReferenceIdeal.main_arg1) = m ((c.tc : Thread Cert.DecoderIdeal.nD Cert.DecoderIdeal.τ).loc Cert.DecoderIdeal.main_arg1)
      ∧ m' ((c.tc : Thread Cert.DecoderReferenceIdeal.nD Cert.DecoderReferenceIdeal.τ).loc Cert.DecoderReferenceIdeal.main_arg2) = m ((c.tc : Thread Cert.DecoderIdeal.nD Cert.DecoderIdeal.τ).loc Cert.DecoderIdeal.main_arg2)
      ∧ m' ((c.tc : Thread Cert.DecoderReferenceIdeal.nD Cert.DecoderReferenceIdeal.τ).loc Cert.DecoderReferenceIdeal.main_arg3) = m ((c.tc : Thread Cert.DecoderIdeal.nD Cert.DecoderIdeal.τ).loc Cert.DecoderIdeal.main_arg3)
      ∧ m' ((c.tc : Thread Cert.DecoderReferenceIdeal.nD Cert.DecoderReferenceIdeal.τ).loc Cert.DecoderReferenceIdeal.main_arg4) = m ((c.tc : Thread Cert.DecoderIdeal.nD Cert.DecoderIdeal.τ).loc Cert.DecoderIdeal.main_arg4)
      ∧ m' ((c.tc : Thread Cert.DecoderReferenceIdeal.nD Cert.DecoderReferenceIdeal.τ).loc Cert.DecoderReferenceIdeal.main_arg5) = m ((c.tc : Thread Cert.DecoderIdeal.nD Cert.DecoderIdeal.τ).loc Cert.DecoderIdeal.main_arg5)
      ∧ m' ((c.tc : Thread Cert.DecoderReferenceIdeal.nD Cert.DecoderReferenceIdeal.τ).loc Cert.DecoderReferenceIdeal.main_arg6) = m ((c.tc : Thread Cert.DecoderIdeal.nD Cert.DecoderIdeal.τ).loc Cert.DecoderIdeal.main_arg6)) →
    ∃ (v0 : (c : Dev Cert.DecoderIdeal.nD) → Buf (Elt Ideal) ((c.tc : Thread Cert.DecoderIdeal.nD Cert.DecoderIdeal.τ).loc Cert.DecoderIdeal.main_v44)),
      θ_run (Cert.DecoderIdeal.defs (F := Ideal)) (onTc (τ := Cert.DecoderIdeal.τ) (Cert.DecoderIdeal.main (F := Ideal))) ⟨m, fun _ => 0, g⟩ (fun r => ∀ c : Dev Cert.DecoderIdeal.nD,
          r.2.mem ((c.tc : Thread Cert.DecoderIdeal.nD Cert.DecoderIdeal.τ).loc Cert.DecoderIdeal.main_v44) = v0 c
          ∧ r.2.mem ((c.tc : Thread Cert.DecoderIdeal.nD Cert.DecoderIdeal.τ).loc Cert.DecoderIdeal.main_arg0) = m ((c.tc : Thread Cert.DecoderIdeal.nD Cert.DecoderIdeal.τ).loc Cert.DecoderIdeal.main_arg0)
          ∧ r.2.mem ((c.tc : Thread Cert.DecoderIdeal.nD Cert.DecoderIdeal.τ).loc Cert.DecoderIdeal.main_arg1) = m ((c.tc : Thread Cert.DecoderIdeal.nD Cert.DecoderIdeal.τ).loc Cert.DecoderIdeal.main_arg1)
          ∧ r.2.mem ((c.tc : Thread Cert.DecoderIdeal.nD Cert.DecoderIdeal.τ).loc Cert.DecoderIdeal.main_arg2) = m ((c.tc : Thread Cert.DecoderIdeal.nD Cert.DecoderIdeal.τ).loc Cert.DecoderIdeal.main_arg2)
          ∧ r.2.mem ((c.tc : Thread Cert.DecoderIdeal.nD Cert.DecoderIdeal.τ).loc Cert.DecoderIdeal.main_arg3) = m ((c.tc : Thread Cert.DecoderIdeal.nD Cert.DecoderIdeal.τ).loc Cert.DecoderIdeal.main_arg3)
          ∧ r.2.mem ((c.tc : Thread Cert.DecoderIdeal.nD Cert.DecoderIdeal.τ).loc Cert.DecoderIdeal.main_arg4) = m ((c.tc : Thread Cert.DecoderIdeal.nD Cert.DecoderIdeal.τ).loc Cert.DecoderIdeal.main_arg4)
          ∧ r.2.mem ((c.tc : Thread Cert.DecoderIdeal.nD Cert.DecoderIdeal.τ).loc Cert.DecoderIdeal.main_arg5) = m ((c.tc : Thread Cert.DecoderIdeal.nD Cert.DecoderIdeal.τ).loc Cert.DecoderIdeal.main_arg5)
          ∧ r.2.mem ((c.tc : Thread Cert.DecoderIdeal.nD Cert.DecoderIdeal.τ).loc Cert.DecoderIdeal.main_arg6) = m ((c.tc : Thread Cert.DecoderIdeal.nD Cert.DecoderIdeal.τ).loc Cert.DecoderIdeal.main_arg6))
      ∧ θ_run (Cert.DecoderReferenceIdeal.defs (F := Ideal)) (onTc (τ := Cert.DecoderReferenceIdeal.τ) (Cert.DecoderReferenceIdeal.main (F := Ideal))) ⟨m', fun _ => 0, g'⟩ (fun r => ∀ c : Dev Cert.DecoderReferenceIdeal.nD,
          r.2.mem ((c.tc : Thread Cert.DecoderReferenceIdeal.nD Cert.DecoderReferenceIdeal.τ).loc Cert.DecoderReferenceIdeal.main_v168) = v0 c
          ∧ r.2.mem ((c.tc : Thread Cert.DecoderReferenceIdeal.nD Cert.DecoderReferenceIdeal.τ).loc Cert.DecoderReferenceIdeal.main_arg0) = m' ((c.tc : Thread Cert.DecoderReferenceIdeal.nD Cert.DecoderReferenceIdeal.τ).loc Cert.DecoderReferenceIdeal.main_arg0)
          ∧ r.2.mem ((c.tc : Thread Cert.DecoderReferenceIdeal.nD Cert.DecoderReferenceIdeal.τ).loc Cert.DecoderReferenceIdeal.main_arg1) = m' ((c.tc : Thread Cert.DecoderReferenceIdeal.nD Cert.DecoderReferenceIdeal.τ).loc Cert.DecoderReferenceIdeal.main_arg1)
          ∧ r.2.mem ((c.tc : Thread Cert.DecoderReferenceIdeal.nD Cert.DecoderReferenceIdeal.τ).loc Cert.DecoderReferenceIdeal.main_arg2) = m' ((c.tc : Thread Cert.DecoderReferenceIdeal.nD Cert.DecoderReferenceIdeal.τ).loc Cert.DecoderReferenceIdeal.main_arg2)
          ∧ r.2.mem ((c.tc : Thread Cert.DecoderReferenceIdeal.nD Cert.DecoderReferenceIdeal.τ).loc Cert.DecoderReferenceIdeal.main_arg3) = m' ((c.tc : Thread Cert.DecoderReferenceIdeal.nD Cert.DecoderReferenceIdeal.τ).loc Cert.DecoderReferenceIdeal.main_arg3)
          ∧ r.2.mem ((c.tc : Thread Cert.DecoderReferenceIdeal.nD Cert.DecoderReferenceIdeal.τ).loc Cert.DecoderReferenceIdeal.main_arg4) = m' ((c.tc : Thread Cert.DecoderReferenceIdeal.nD Cert.DecoderReferenceIdeal.τ).loc Cert.DecoderReferenceIdeal.main_arg4)
          ∧ r.2.mem ((c.tc : Thread Cert.DecoderReferenceIdeal.nD Cert.DecoderReferenceIdeal.τ).loc Cert.DecoderReferenceIdeal.main_arg5) = m' ((c.tc : Thread Cert.DecoderReferenceIdeal.nD Cert.DecoderReferenceIdeal.τ).loc Cert.DecoderReferenceIdeal.main_arg5)
          ∧ r.2.mem ((c.tc : Thread Cert.DecoderReferenceIdeal.nD Cert.DecoderReferenceIdeal.τ).loc Cert.DecoderReferenceIdeal.main_arg6) = m' ((c.tc : Thread Cert.DecoderReferenceIdeal.nD Cert.DecoderReferenceIdeal.τ).loc Cert.DecoderReferenceIdeal.main_arg6))

def Claim : Prop :=
  ∃ (hKernel : Cert.Kernel.Facts) (hKernelIdeal : Cert.KernelIdeal.Facts) (hReferenceIdeal : Cert.ReferenceIdeal.Facts) (hDecoder : Cert.Decoder.Facts) (hDecoderIdeal : Cert.DecoderIdeal.Facts) (hDecoderReferenceIdeal : Cert.DecoderReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Decoder (hDecoder := hDecoder)
    ∧ quiescent_DecoderIdeal (hDecoderIdeal := hDecoderIdeal)
    ∧ quiescent_DecoderReferenceIdeal (hDecoderReferenceIdeal := hDecoderReferenceIdeal)
    ∧ preserves_Kernel_KernelIdeal
    ∧ algebraic_KernelIdeal_ReferenceIdeal (hKernelIdeal := hKernelIdeal) (hReferenceIdeal := hReferenceIdeal)
    ∧ preserves_Decoder_DecoderIdeal
    ∧ algebraic_DecoderIdeal_DecoderReferenceIdeal (hDecoderIdeal := hDecoderIdeal) (hDecoderReferenceIdeal := hDecoderReferenceIdeal)
-- ==== Kernel.lean ====
abbrev S8x1x224x224 : Shape := ⟨4, ![8, 1, 224, 224]⟩
abbrev S64x1x4x4 : Shape := ⟨4, ![64, 1, 4, 4]⟩
abbrev S64 : Shape := ⟨1, ![64]⟩
abbrev S128x64x4x4 : Shape := ⟨4, ![128, 64, 4, 4]⟩
abbrev S128 : Shape := ⟨1, ![128]⟩
abbrev S128x128x3x3 : Shape := ⟨4, ![128, 128, 3, 3]⟩
abbrev S32x128x3x3 : Shape := ⟨4, ![32, 128, 3, 3]⟩
abbrev S128x32x1x1 : Shape := ⟨4, ![128, 32, 1, 1]⟩
abbrev S64x128x1x1 : Shape := ⟨4, ![64, 128, 1, 1]⟩
abbrev S512x64 : Shape := ⟨2, ![512, 64]⟩
abbrev S8x224x224x1 : Shape := ⟨4, ![8, 224, 224, 1]⟩
abbrev S_ : Shape := ⟨0, ![]⟩
abbrev S8x226x226x1 : Shape := ⟨4, ![8, 226, 226, 1]⟩
abbrev S8x113x2x113x2x1 : Shape := ⟨6, ![8, 113, 2, 113, 2, 1]⟩
abbrev S8x113x113x2x2x1 : Shape := ⟨6, ![8, 113, 113, 2, 2, 1]⟩
abbrev S8x113x113x4 : Shape := ⟨4, ![8, 113, 113, 4]⟩
abbrev S8x112x112x1 : Shape := ⟨4, ![8, 112, 112, 1]⟩
abbrev S8x112x112x16 : Shape := ⟨4, ![8, 112, 112, 16]⟩
abbrev S4x4x1x64 : Shape := ⟨4, ![4, 4, 1, 64]⟩
abbrev S1x16x64 : Shape := ⟨3, ![1, 16, 64]⟩
abbrev S8x12544x16 : Shape := ⟨3, ![8, 12544, 16]⟩
abbrev S1x64 : Shape := ⟨2, ![1, 64]⟩
abbrev S8x12544x64 : Shape := ⟨3, ![8, 12544, 64]⟩
abbrev S1x12544x16 : Shape := ⟨3, ![1, 12544, 16]⟩
abbrev S1x12544x64 : Shape := ⟨3, ![1, 12544, 64]⟩
abbrev S1x3136x16 : Shape := ⟨3, ![1, 3136, 16]⟩
abbrev S3136x16 : Shape := ⟨2, ![3136, 16]⟩
abbrev S16x64 : Shape := ⟨2, ![16, 64]⟩
abbrev S3136x64 : Shape := ⟨2, ![3136, 64]⟩
abbrev S1x3136x64 : Shape := ⟨3, ![1, 3136, 64]⟩
abbrev S8x112x112x64 : Shape := ⟨4, ![8, 112, 112, 64]⟩
abbrev S8x114x114x64 : Shape := ⟨4, ![8, 114, 114, 64]⟩
abbrev S8x57x2x57x2x64 : Shape := ⟨6, ![8, 57, 2, 57, 2, 64]⟩
abbrev S8x57x57x2x2x64 : Shape := ⟨6, ![8, 57, 57, 2, 2, 64]⟩
abbrev S8x57x57x256 : Shape := ⟨4, ![8, 57, 57, 256]⟩
abbrev S8x56x56x64 : Shape := ⟨4, ![8, 56, 56, 64]⟩
abbrev S8x56x56x1024 : Shape := ⟨4, ![8, 56, 56, 1024]⟩
abbrev S4x4x64x128 : Shape := ⟨4, ![4, 4, 64, 128]⟩
abbrev S1x1024x128 : Shape := ⟨3, ![1, 1024, 128]⟩
abbrev S8x3136x1024 : Shape := ⟨3, ![8, 3136, 1024]⟩
abbrev S1x128 : Shape := ⟨2, ![1, 128]⟩
abbrev S8x3136x128 : Shape := ⟨3, ![8, 3136, 128]⟩
abbrev S1x3136x1024 : Shape := ⟨3, ![1, 3136, 1024]⟩
abbrev S1x3136x128 : Shape := ⟨3, ![1, 3136, 128]⟩
abbrev S3136x1024 : Shape := ⟨2, ![3136, 1024]⟩
abbrev S1024x128 : Shape := ⟨2, ![1024, 128]⟩
abbrev S3136x128 : Shape := ⟨2, ![3136, 128]⟩
abbrev S8x56x56x128 : Shape := ⟨4, ![8, 56, 56, 128]⟩
abbrev S8x58x58x128 : Shape := ⟨4, ![8, 58, 58, 128]⟩
abbrev S8x3364x128 : Shape := ⟨3, ![8, 3364, 128]⟩
abbrev S8x3448x128 : Shape := ⟨3, ![8, 3448, 128]⟩
abbrev S3x3x128x128 : Shape := ⟨4, ![3, 3, 128, 128]⟩
abbrev S9x128x128 : Shape := ⟨3, ![9, 128, 128]⟩
abbrev S58x58 : Shape := ⟨2, ![58, 58]⟩
abbrev S1 : Shape := ⟨1, ![1]⟩
abbrev S2 : Shape := ⟨1, ![2]⟩
abbrev S56x56 : Shape := ⟨2, ![56, 56]⟩
abbrev S3364x1 : Shape := ⟨2, ![3364, 1]⟩
abbrev S3448x1 : Shape := ⟨2, ![3448, 1]⟩
abbrev S1x3448x128 : Shape := ⟨3, ![1, 3448, 128]⟩
abbrev S1152x128 : Shape := ⟨2, ![1152, 128]⟩
abbrev S1x812x128 : Shape := ⟨3, ![1, 812, 128]⟩
abbrev S812x128 : Shape := ⟨2, ![812, 128]⟩
abbrev S812x1152 : Shape := ⟨2, ![812, 1152]⟩
abbrev S812x1 : Shape := ⟨2, ![812, 1]⟩
abbrev S66x128 : Shape := ⟨2, ![66, 128]⟩
abbrev S1x66x128 : Shape := ⟨3, ![1, 66, 128]⟩
abbrev S134x128 : Shape := ⟨2, ![134, 128]⟩
abbrev S1x134x128 : Shape := ⟨3, ![1, 134, 128]⟩
abbrev S3x3x128x32 : Shape := ⟨4, ![3, 3, 128, 32]⟩
abbrev S9x128x32 : Shape := ⟨3, ![9, 128, 32]⟩
abbrev S128x32 : Shape := ⟨2, ![128, 32]⟩
abbrev S32x128 : Shape := ⟨2, ![32, 128]⟩
abbrev S1152x32 : Shape := ⟨2, ![1152, 32]⟩
abbrev S812x32 : Shape := ⟨2, ![812, 32]⟩
abbrev S64x128 : Shape := ⟨2, ![64, 128]⟩
abbrev S128x64 : Shape := ⟨2, ![128, 64]⟩
abbrev S8x3448x64 : Shape := ⟨3, ![8, 3448, 64]⟩
abbrev S1x3448x64 : Shape := ⟨3, ![1, 3448, 64]⟩
abbrev S812x64 : Shape := ⟨2, ![812, 64]⟩
abbrev S1x812x64 : Shape := ⟨3, ![1, 812, 64]⟩
abbrev S66x64 : Shape := ⟨2, ![66, 64]⟩
abbrev S1x66x64 : Shape := ⟨3, ![1, 66, 64]⟩
abbrev S134x64 : Shape := ⟨2, ![134, 64]⟩
abbrev S1x134x64 : Shape := ⟨3, ![1, 134, 64]⟩
abbrev S8x3364x64 : Shape := ⟨3, ![8, 3364, 64]⟩
abbrev S8x58x58x64 : Shape := ⟨4, ![8, 58, 58, 64]⟩
abbrev S25088x64 : Shape := ⟨2, ![25088, 64]⟩
abbrev S1x512 : Shape := ⟨2, ![1, 512]⟩
abbrev S1x1 : Shape := ⟨2, ![1, 1]⟩
abbrev S512 : Shape := ⟨1, ![512]⟩
abbrev S512x1 : Shape := ⟨2, ![512, 1]⟩
abbrev S512x512 : Shape := ⟨2, ![512, 512]⟩
abbrev S1x512x64 : Shape := ⟨3, ![1, 512, 64]⟩
abbrev S1x1x1 : Shape := ⟨3, ![1, 1, 1]⟩
abbrev S1x1x512 : Shape := ⟨3, ![1, 1, 512]⟩

abbrev nBuf : Space → Nat
  | .hbm => 135
  | .vmem => 42
  | .smem => 0
  | _ => 0

abbrev hbmTy0_0 (i : Nat) : BufTy := match i % 128 with
  | 0 => ⟨S8x1x224x224, .f32⟩
  | 1 => ⟨S64x1x4x4, .f32⟩
  | 2 => ⟨S64, .f32⟩
  | 3 => ⟨S128x64x4x4, .f32⟩
  | 4 => ⟨S128, .f32⟩
  | 5 => ⟨S128x128x3x3, .f32⟩
  | 6 => ⟨S128, .f32⟩
  | 7 => ⟨S32x128x3x3, .f32⟩
  | 8 => ⟨S128x32x1x1, .f32⟩
  | 9 => ⟨S32x128x3x3, .f32⟩
  | 10 => ⟨S128x32x1x1, .f32⟩
  | 11 => ⟨S64x128x1x1, .f32⟩
  | 12 => ⟨S64, .f32⟩
  | 13 => ⟨S512x64, .f32⟩
  | 14 => ⟨S8x224x224x1, .f32⟩
  | 15 => ⟨S_, .i32⟩
  | 16 => ⟨S_, .f32⟩
  | 17 => ⟨S8x226x226x1, .f32⟩
  | 18 => ⟨S8x113x2x113x2x1, .f32⟩
  | 19 => ⟨S8x113x113x2x2x1, .f32⟩
  | 20 => ⟨S8x113x113x4, .f32⟩
  | 21 => ⟨S8x112x112x1, .f32⟩
  | 22 => ⟨S8x112x112x1, .f32⟩
  | 23 => ⟨S8x112x112x1, .f32⟩
  | 24 => ⟨S8x112x112x1, .f32⟩
  | 25 => ⟨S8x112x112x1, .f32⟩
  | 26 => ⟨S8x112x112x1, .f32⟩
  | 27 => ⟨S8x112x112x1, .f32⟩
  | 28 => ⟨S8x112x112x1, .f32⟩
  | 29 => ⟨S8x112x112x1, .f32⟩
  | 30 => ⟨S8x112x112x1, .f32⟩
  | 31 => ⟨S8x112x112x1, .f32⟩
  | 32 => ⟨S8x112x112x1, .f32⟩
  | 33 => ⟨S8x112x112x1, .f32⟩
  | 34 => ⟨S8x112x112x1, .f32⟩
  | 35 => ⟨S8x112x112x1, .f32⟩
  | 36 => ⟨S8x112x112x1, .f32⟩
  | 37 => ⟨S8x112x112x16, .f32⟩
  | 38 => ⟨S4x4x1x64, .f32⟩
  | 39 => ⟨S1x16x64, .f32⟩
  | 40 => ⟨S8x12544x16, .f32⟩
  | 41 => ⟨S1x64, .f32⟩
  | 42 => ⟨S8x12544x64, .f32⟩
  | 43 => ⟨S8x112x112x64, .f32⟩
  | 44 => ⟨S_, .i32⟩
  | 45 => ⟨S_, .f32⟩
  | 46 => ⟨S8x114x114x64, .f32⟩
  | 47 => ⟨S8x57x2x57x2x64, .f32⟩
  | 48 => ⟨S8x57x57x2x2x64, .f32⟩
  | 49 => ⟨S8x57x57x256, .f32⟩
  | 50 => ⟨S8x56x56x64, .f32⟩
  | 51 => ⟨S8x56x56x64, .f32⟩
  | 52 => ⟨S8x56x56x64, .f32⟩
  | 53 => ⟨S8x56x56x64, .f32⟩
  | 54 => ⟨S8x56x56x64, .f32⟩
  | 55 => ⟨S8x56x56x64, .f32⟩
  | 56 => ⟨S8x56x56x64, .f32⟩
  | 57 => ⟨S8x56x56x64, .f32⟩
  | 58 => ⟨S8x56x56x64, .f32⟩
  | 59 => ⟨S8x56x56x64, .f32⟩
  | 60 => ⟨S8x56x56x64, .f32⟩
  | 61 => ⟨S8x56x56x64, .f32⟩
  | 62 => ⟨S8x56x56x64, .f32⟩
  | 63 => ⟨S8x56x56x64, .f32⟩
  | 64 => ⟨S8x56x56x64, .f32⟩
  | 65 => ⟨S8x56x56x64, .f32⟩
  | 66 => ⟨S8x56x56x1024, .f32⟩
  | 67 => ⟨S4x4x64x128, .f32⟩
  | 68 => ⟨S1x1024x128, .f32⟩
  | 69 => ⟨S8x3136x1024, .f32⟩
  | 70 => ⟨S1x128, .f32⟩
  | 71 => ⟨S8x3136x128, .f32⟩
  | 72 => ⟨S8x56x56x128, .f32⟩
  | 73 => ⟨S_, .i32⟩
  | 74 => ⟨S_, .f32⟩
  | 75 => ⟨S8x58x58x128, .f32⟩
  | 76 => ⟨S8x3364x128, .f32⟩
  | 77 => ⟨S_, .i32⟩
  | 78 => ⟨S_, .f32⟩
  | 79 => ⟨S8x3448x128, .f32⟩
  | 80 => ⟨S3x3x128x128, .f32⟩
  | 81 => ⟨S9x128x128, .f32⟩
  | 82 => ⟨S1x128, .f32⟩
  | 83 => ⟨S_, .f32⟩
  | 84 => ⟨S58x58, .f32⟩
  | 85 => ⟨S_, .i32⟩
  | 86 => ⟨S1, .i32⟩
  | 87 => ⟨S_, .i32⟩
  | 88 => ⟨S1, .i32⟩
  | 89 => ⟨S2, .i32⟩
  | 90 => ⟨S_, .f32⟩
  | 91 => ⟨S56x56, .f32⟩
  | 92 => ⟨S58x58, .f32⟩
  | 93 => ⟨S3364x1, .f32⟩
  | 94 => ⟨S_, .i32⟩
  | 95 => ⟨S_, .f32⟩
  | 96 => ⟨S3448x1, .f32⟩
  | 97 => ⟨S8x3448x128, .f32⟩
  | 98 => ⟨S3x3x128x32, .f32⟩
  | 99 => ⟨S9x128x32, .f32⟩
  | 100 => ⟨S128x32, .f32⟩
  | 101 => ⟨S32x128, .f32⟩
  | 102 => ⟨S_, .f32⟩
  | 103 => ⟨S58x58, .f32⟩
  | 104 => ⟨S_, .i32⟩
  | 105 => ⟨S1, .i32⟩
  | 106 => ⟨S_, .i32⟩
  | 107 => ⟨S1, .i32⟩
  | 108 => ⟨S2, .i32⟩
  | 109 => ⟨S_, .f32⟩
  | 110 => ⟨S56x56, .f32⟩
  | 111 => ⟨S58x58, .f32⟩
  | 112 => ⟨S3364x1, .f32⟩
  | 113 => ⟨S_, .i32⟩
  | 114 => ⟨S_, .f32⟩
  | 115 => ⟨S3448x1, .f32⟩
  | 116 => ⟨S8x3448x128, .f32⟩
  | 117 => ⟨S3x3x128x32, .f32⟩
  | 118 => ⟨S9x128x32, .f32⟩
  | 119 => ⟨S128x32, .f32⟩
  | 120 => ⟨S32x128, .f32⟩
  | 121 => ⟨S64x128, .f32⟩
  | 122 => ⟨S128x64, .f32⟩
  | 123 => ⟨S1x64, .f32⟩
  | 124 => ⟨S8x3448x64, .f32⟩
  | 125 => ⟨S8x3364x64, .f32⟩
  | 126 => ⟨S8x58x58x64, .f32⟩
  | 127 => ⟨S8x56x56x64, .f32⟩
  | _ => ⟨S8x1x224x224, .f32⟩

abbrev hbmTy0_1 (i : Nat) : BufTy := match i % 128 with
  | 0 => ⟨S25088x64, .f32⟩
  | 1 => ⟨S25088x64, .f32⟩
  | 2 => ⟨S1x512, .f32⟩
  | 3 => ⟨S1x1, .f32⟩
  | 4 => ⟨S1x1, .f32⟩
  | 5 => ⟨S_, .f32⟩
  | 6 => ⟨S_, .f32⟩
  | _ => ⟨S8x1x224x224, .f32⟩

abbrev hbmTy (i : Nat) : BufTy := match i / 128 with
  | 0 => hbmTy0_0 i
  | 1 => hbmTy0_1 i
  | _ => ⟨S8x1x224x224, .f32⟩

abbrev bufTy : (tb : Table) → Fin (tcTables nBuf tb) → BufTy
  | .hbm, ⟨i, _⟩ => hbmTy i
  | .local _ .vmem, ⟨0, _⟩ => ⟨S1x12544x16, .f32⟩
  | .local _ .vmem, ⟨1, _⟩ => ⟨S1x12544x16, .f32⟩
  | .local _ .vmem, ⟨2, _⟩ => ⟨S1x16x64, .f32⟩
  | .local _ .vmem, ⟨3, _⟩ => ⟨S1x64, .f32⟩
  | .local _ .vmem, ⟨4, _⟩ => ⟨S1x12544x64, .f32⟩
  | .local _ .vmem, ⟨5, _⟩ => ⟨S1x12544x64, .f32⟩
  | .local _ .vmem, ⟨6, _⟩ => ⟨S1x3136x1024, .f32⟩
  | .local _ .vmem, ⟨7, _⟩ => ⟨S1x3136x1024, .f32⟩
  | .local _ .vmem, ⟨8, _⟩ => ⟨S1x1024x128, .f32⟩
  | .local _ .vmem, ⟨9, _⟩ => ⟨S1x128, .f32⟩
  | .local _ .vmem, ⟨10, _⟩ => ⟨S1x3136x128, .f32⟩
  | .local _ .vmem, ⟨11, _⟩ => ⟨S1x3136x128, .f32⟩
  | .local _ .vmem, ⟨12, _⟩ => ⟨S1x3448x128, .f32⟩
  | .local _ .vmem, ⟨13, _⟩ => ⟨S1x3448x128, .f32⟩
  | .local _ .vmem, ⟨14, _⟩ => ⟨S9x128x128, .f32⟩
  | .local _ .vmem, ⟨15, _⟩ => ⟨S1x128, .f32⟩
  | .local _ .vmem, ⟨16, _⟩ => ⟨S3448x1, .f32⟩
  | .local _ .vmem, ⟨17, _⟩ => ⟨S1x3448x128, .f32⟩
  | .local _ .vmem, ⟨18, _⟩ => ⟨S1x3448x128, .f32⟩
  | .local _ .vmem, ⟨19, _⟩ => ⟨S1x3448x128, .f32⟩
  | .local _ .vmem, ⟨20, _⟩ => ⟨S1x3448x128, .f32⟩
  | .local _ .vmem, ⟨21, _⟩ => ⟨S9x128x32, .f32⟩
  | .local _ .vmem, ⟨22, _⟩ => ⟨S32x128, .f32⟩
  | .local _ .vmem, ⟨23, _⟩ => ⟨S3448x1, .f32⟩
  | .local _ .vmem, ⟨24, _⟩ => ⟨S1x3448x128, .f32⟩
  | .local _ .vmem, ⟨25, _⟩ => ⟨S1x3448x128, .f32⟩
  | .local _ .vmem, ⟨26, _⟩ => ⟨S1x3448x128, .f32⟩
  | .local _ .vmem, ⟨27, _⟩ => ⟨S1x3448x128, .f32⟩
  | .local _ .vmem, ⟨28, _⟩ => ⟨S9x128x32, .f32⟩
  | .local _ .vmem, ⟨29, _⟩ => ⟨S32x128, .f32⟩
  | .local _ .vmem, ⟨30, _⟩ => ⟨S128x64, .f32⟩
  | .local _ .vmem, ⟨31, _⟩ => ⟨S1x64, .f32⟩
  | .local _ .vmem, ⟨32, _⟩ => ⟨S1x3448x64, .f32⟩
  | .local _ .vmem, ⟨33, _⟩ => ⟨S1x3448x64, .f32⟩
  | .local _ .vmem, ⟨34, _⟩ => ⟨S512x64, .f32⟩
  | .local _ .vmem, ⟨35, _⟩ => ⟨S512x64, .f32⟩
  | .local _ .vmem, ⟨36, _⟩ => ⟨S512x64, .f32⟩
  | .local _ .vmem, ⟨37, _⟩ => ⟨S512x64, .f32⟩
  | .local _ .vmem, ⟨38, _⟩ => ⟨S512x64, .f32⟩
  | .local _ .vmem, ⟨39, _⟩ => ⟨S1x512, .f32⟩
  | .local _ .vmem, ⟨40, _⟩ => ⟨S1x1, .f32⟩
  | .local _ .vmem, ⟨41, _⟩ => ⟨S1x1, .f32⟩
  | _, _ => ⟨S8x1x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_0 : Ref sig .tc := ⟨.hbm, 44, rfl⟩
abbrev main_call1_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_1 : Ref sig .tc := ⟨.hbm, 73, rfl⟩
abbrev main_call2_v0 : Ref sig .tc := ⟨.hbm, 74, rfl⟩
abbrev main_v55 : Ref sig .tc := ⟨.hbm, 75, rfl⟩
abbrev main_v56 : Ref sig .tc := ⟨.hbm, 76, rfl⟩
abbrev main_c_2 : Ref sig .tc := ⟨.hbm, 77, rfl⟩
abbrev main_call3_v0 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst : Ref sig .tc := ⟨.hbm, 83, rfl⟩
abbrev main_v61 : Ref sig .tc := ⟨.hbm, 84, rfl⟩
abbrev main_c_3 : Ref sig .tc := ⟨.hbm, 85, rfl⟩
abbrev main_v62 : Ref sig .tc := ⟨.hbm, 86, rfl⟩
abbrev main_c_4 : Ref sig .tc := ⟨.hbm, 87, rfl⟩
abbrev main_v63 : Ref sig .tc := ⟨.hbm, 88, rfl⟩
abbrev main_v64 : Ref sig .tc := ⟨.hbm, 89, rfl⟩
abbrev main_cst_5 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_6 : Ref sig .tc := ⟨.hbm, 94, rfl⟩
abbrev main_call4_v0 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_7 : Ref sig .tc := ⟨.hbm, 102, rfl⟩
abbrev main_v74 : Ref sig .tc := ⟨.hbm, 103, rfl⟩
abbrev main_c_8 : Ref sig .tc := ⟨.hbm, 104, rfl⟩
abbrev main_v75 : Ref sig .tc := ⟨.hbm, 105, rfl⟩
abbrev main_c_9 : Ref sig .tc := ⟨.hbm, 106, rfl⟩
abbrev main_v76 : Ref sig .tc := ⟨.hbm, 107, rfl⟩
abbrev main_v77 : Ref sig .tc := ⟨.hbm, 108, rfl⟩
abbrev main_cst_10 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_11 : Ref sig .tc := ⟨.hbm, 113, rfl⟩
abbrev main_call5_v0 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95_0 : Ref sig .tc := ⟨.hbm, 129, rfl⟩
abbrev main_v95_1 : Ref sig .tc := ⟨.hbm, 130, rfl⟩
abbrev main_v95_2 : Ref sig .tc := ⟨.hbm, 131, rfl⟩
abbrev main_v95_3 : Ref sig .tc := ⟨.hbm, 132, rfl⟩
abbrev main_v96 : Ref sig .tc := ⟨.hbm, 133, rfl⟩
abbrev main_v97 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg5_0 : Ref sig .tc := ⟨.vmem, 32, rfl⟩
abbrev cc4_stg5_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem4_0 : DmaSem sig := 31
abbrev cc4_sem5_0 : DmaSem sig := 32
abbrev cc4_sem5_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem5_0 : DmaSem sig := 41

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x12544x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x12544x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x3136x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x3136x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x3448x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S9x128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3448x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x3448x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x3448x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S9x128x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S32x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S3448x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1x3448x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![8], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x3448x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S9x128x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S32x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1x3448x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![49], ![false]⟩

def k5_cond1 (i : grid5.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_14 : BitVec 32 := 0#32
  let v42 : BitVec 1 := Scalar.cmpi .ne v41 c0_i32_14
  v42

def k5_cond2 (i : grid5.Coords) : BitVec 1 :=
  let arg0 : BitVec 32 := BitVec.ofNat 32 (i 0).val
  let c0_i32_15 : BitVec 32 := 0#32
  let v43 : BitVec 1 := Scalar.cmpi .sgt arg0 c0_i32_15
  let v44 : BitVec 32 := Scalar.extui v43
  let c0_i32_16 : BitVec 32 := 0#32
  let v45 : BitVec 1 := Scalar.cmpi .ne v44 c0_i32_16
  v45

def k5_cond3 (i : grid5.Coords) : BitVec 1 :=
  let arg0 : BitVec 32 := BitVec.ofNat 32 (i 0).val
  let c48_i32 : BitVec 32 := 48#32
  let v46 : BitVec 1 := Scalar.cmpi .eq arg0 c48_i32
  let v47 : BitVec 32 := Scalar.extui v46
  let c0_i32_17 : BitVec 32 := 0#32
  let v48 : BitVec 1 := Scalar.cmpi .ne v47 c0_i32_17
  v48

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S512x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]
-- ==== KernelIdeal.lean ====
variable {F : FTy → Type} [FloatOps F] [Named F]
def κ : String → Option EReal := fun
  | "loss_scale" => some ((1 / 6422528 : ℝ) : EReal)
  | _ => none
-- ==== ReferenceIdeal.lean ====
abbrev S8x1x224x224 : Shape := ⟨4, ![8, 1, 224, 224]⟩
abbrev S64x1x4x4 : Shape := ⟨4, ![64, 1, 4, 4]⟩
abbrev S64 : Shape := ⟨1, ![64]⟩
abbrev S128x64x4x4 : Shape := ⟨4, ![128, 64, 4, 4]⟩
abbrev S128 : Shape := ⟨1, ![128]⟩
abbrev S128x128x3x3 : Shape := ⟨4, ![128, 128, 3, 3]⟩
abbrev S32x128x3x3 : Shape := ⟨4, ![32, 128, 3, 3]⟩
abbrev S128x32x1x1 : Shape := ⟨4, ![128, 32, 1, 1]⟩
abbrev S64x128x1x1 : Shape := ⟨4, ![64, 128, 1, 1]⟩
abbrev S512x64 : Shape := ⟨2, ![512, 64]⟩
abbrev S_ : Shape := ⟨0, ![]⟩
abbrev S8x1x226x226 : Shape := ⟨4, ![8, 1, 226, 226]⟩
abbrev S8x112x112x64 : Shape := ⟨4, ![8, 112, 112, 64]⟩
abbrev S8x1x112x112 : Shape := ⟨4, ![8, 1, 112, 112]⟩
abbrev S64x1x1x1 : Shape := ⟨4, ![64, 1, 1, 1]⟩
abbrev S64x1 : Shape := ⟨2, ![64, 1]⟩
abbrev S8x64x112x112 : Shape := ⟨4, ![8, 64, 112, 112]⟩
abbrev S1x64x1x1 : Shape := ⟨4, ![1, 64, 1, 1]⟩
abbrev S8x64x114x114 : Shape := ⟨4, ![8, 64, 114, 114]⟩
abbrev S8x56x56x128 : Shape := ⟨4, ![8, 56, 56, 128]⟩
abbrev S8x64x56x56 : Shape := ⟨4, ![8, 64, 56, 56]⟩
abbrev S128x64x1x1 : Shape := ⟨4, ![128, 64, 1, 1]⟩
abbrev S128x64 : Shape := ⟨2, ![128, 64]⟩
abbrev S8x128x56x56 : Shape := ⟨4, ![8, 128, 56, 56]⟩
abbrev S1x128x1x1 : Shape := ⟨4, ![1, 128, 1, 1]⟩
abbrev S8x128x58x58 : Shape := ⟨4, ![8, 128, 58, 58]⟩
abbrev S128x128x1x1 : Shape := ⟨4, ![128, 128, 1, 1]⟩
abbrev S128x128 : Shape := ⟨2, ![128, 128]⟩
abbrev S8x56x56x32 : Shape := ⟨4, ![8, 56, 56, 32]⟩
abbrev S32x128x1x1 : Shape := ⟨4, ![32, 128, 1, 1]⟩
abbrev S32x128 : Shape := ⟨2, ![32, 128]⟩
abbrev S8x32x56x56 : Shape := ⟨4, ![8, 32, 56, 56]⟩
abbrev S128x32 : Shape := ⟨2, ![128, 32]⟩
abbrev S8x56x56x64 : Shape := ⟨4, ![8, 56, 56, 64]⟩
abbrev S64x128 : Shape := ⟨2, ![64, 128]⟩
abbrev S25088x64 : Shape := ⟨2, ![25088, 64]⟩
abbrev S25088 : Shape := ⟨1, ![25088]⟩
abbrev S25088x1 : Shape := ⟨2, ![25088, 1]⟩
abbrev S512 : Shape := ⟨1, ![512]⟩
abbrev S1x512 : Shape := ⟨2, ![1, 512]⟩
abbrev S25088x512 : Shape := ⟨2, ![25088, 512]⟩
abbrev S64x512 : Shape := ⟨2, ![64, 512]⟩

abbrev nBuf : Space → Nat
  | .hbm => 464
  | .vmem => 0
  | .smem => 0
  | _ => 0

abbrev hbmTy0_0 (i : Nat) : BufTy := match i % 128 with
  | 0 => ⟨S8x1x224x224, .f32⟩
  | 1 => ⟨S64x1x4x4, .f32⟩
  | 2 => ⟨S64, .f32⟩
  | 3 => ⟨S128x64x4x4, .f32⟩
  | 4 => ⟨S128, .f32⟩
  | 5 => ⟨S128x128x3x3, .f32⟩
  | 6 => ⟨S128, .f32⟩
  | 7 => ⟨S32x128x3x3, .f32⟩
  | 8 => ⟨S128x32x1x1, .f32⟩
  | 9 => ⟨S32x128x3x3, .f32⟩
  | 10 => ⟨S128x32x1x1, .f32⟩
  | 11 => ⟨S64x128x1x1, .f32⟩
  | 12 => ⟨S64, .f32⟩
  | 13 => ⟨S512x64, .f32⟩
  | 14 => ⟨S_, .i32⟩
  | 15 => ⟨S_, .f32⟩
  | 16 => ⟨S8x1x226x226, .f32⟩
  | 17 => ⟨S_, .f32⟩
  | 18 => ⟨S8x112x112x64, .f32⟩
  | 19 => ⟨S8x1x112x112, .f32⟩
  | 20 => ⟨S64x1x1x1, .f32⟩
  | 21 => ⟨S64x1, .f32⟩
  | 22 => ⟨S8x112x112x64, .f32⟩
  | 23 => ⟨S8x112x112x64, .f32⟩
  | 24 => ⟨S8x1x112x112, .f32⟩
  | 25 => ⟨S64x1x1x1, .f32⟩
  | 26 => ⟨S64x1, .f32⟩
  | 27 => ⟨S8x112x112x64, .f32⟩
  | 28 => ⟨S8x112x112x64, .f32⟩
  | 29 => ⟨S8x1x112x112, .f32⟩
  | 30 => ⟨S64x1x1x1, .f32⟩
  | 31 => ⟨S64x1, .f32⟩
  | 32 => ⟨S8x112x112x64, .f32⟩
  | 33 => ⟨S8x112x112x64, .f32⟩
  | 34 => ⟨S8x1x112x112, .f32⟩
  | 35 => ⟨S64x1x1x1, .f32⟩
  | 36 => ⟨S64x1, .f32⟩
  | 37 => ⟨S8x112x112x64, .f32⟩
  | 38 => ⟨S8x112x112x64, .f32⟩
  | 39 => ⟨S8x1x112x112, .f32⟩
  | 40 => ⟨S64x1x1x1, .f32⟩
  | 41 => ⟨S64x1, .f32⟩
  | 42 => ⟨S8x112x112x64, .f32⟩
  | 43 => ⟨S8x112x112x64, .f32⟩
  | 44 => ⟨S8x1x112x112, .f32⟩
  | 45 => ⟨S64x1x1x1, .f32⟩
  | 46 => ⟨S64x1, .f32⟩
  | 47 => ⟨S8x112x112x64, .f32⟩
  | 48 => ⟨S8x112x112x64, .f32⟩
  | 49 => ⟨S8x1x112x112, .f32⟩
  | 50 => ⟨S64x1x1x1, .f32⟩
  | 51 => ⟨S64x1, .f32⟩
  | 52 => ⟨S8x112x112x64, .f32⟩
  | 53 => ⟨S8x112x112x64, .f32⟩
  | 54 => ⟨S8x1x112x112, .f32⟩
  | 55 => ⟨S64x1x1x1, .f32⟩
  | 56 => ⟨S64x1, .f32⟩
  | 57 => ⟨S8x112x112x64, .f32⟩
  | 58 => ⟨S8x112x112x64, .f32⟩
  | 59 => ⟨S8x1x112x112, .f32⟩
  | 60 => ⟨S64x1x1x1, .f32⟩
  | 61 => ⟨S64x1, .f32⟩
  | 62 => ⟨S8x112x112x64, .f32⟩
  | 63 => ⟨S8x112x112x64, .f32⟩
  | 64 => ⟨S8x1x112x112, .f32⟩
  | 65 => ⟨S64x1x1x1, .f32⟩
  | 66 => ⟨S64x1, .f32⟩
  | 67 => ⟨S8x112x112x64, .f32⟩
  | 68 => ⟨S8x112x112x64, .f32⟩
  | 69 => ⟨S8x1x112x112, .f32⟩
  | 70 => ⟨S64x1x1x1, .f32⟩
  | 71 => ⟨S64x1, .f32⟩
  | 72 => ⟨S8x112x112x64, .f32⟩
  | 73 => ⟨S8x112x112x64, .f32⟩
  | 74 => ⟨S8x1x112x112, .f32⟩
  | 75 => ⟨S64x1x1x1, .f32⟩
  | 76 => ⟨S64x1, .f32⟩
  | 77 => ⟨S8x112x112x64, .f32⟩
  | 78 => ⟨S8x112x112x64, .f32⟩
  | 79 => ⟨S8x1x112x112, .f32⟩
  | 80 => ⟨S64x1x1x1, .f32⟩
  | 81 => ⟨S64x1, .f32⟩
  | 82 => ⟨S8x112x112x64, .f32⟩
  | 83 => ⟨S8x112x112x64, .f32⟩
  | 84 => ⟨S8x1x112x112, .f32⟩
  | 85 => ⟨S64x1x1x1, .f32⟩
  | 86 => ⟨S64x1, .f32⟩
  | 87 => ⟨S8x112x112x64, .f32⟩
  | 88 => ⟨S8x112x112x64, .f32⟩
  | 89 => ⟨S8x1x112x112, .f32⟩
  | 90 => ⟨S64x1x1x1, .f32⟩
  | 91 => ⟨S64x1, .f32⟩
  | 92 => ⟨S8x112x112x64, .f32⟩
  | 93 => ⟨S8x112x112x64, .f32⟩
  | 94 => ⟨S8x1x112x112, .f32⟩
  | 95 => ⟨S64x1x1x1, .f32⟩
  | 96 => ⟨S64x1, .f32⟩
  | 97 => ⟨S8x112x112x64, .f32⟩
  | 98 => ⟨S8x112x112x64, .f32⟩
  | 99 => ⟨S8x64x112x112, .f32⟩
  | 100 => ⟨S1x64x1x1, .f32⟩
  | 101 => ⟨S8x64x112x112, .f32⟩
  | 102 => ⟨S8x64x112x112, .f32⟩
  | 103 => ⟨S_, .f32⟩
  | 104 => ⟨S8x64x112x112, .f32⟩
  | 105 => ⟨S8x64x112x112, .f32⟩
  | 106 => ⟨S_, .i32⟩
  | 107 => ⟨S_, .f32⟩
  | 108 => ⟨S8x64x114x114, .f32⟩
  | 109 => ⟨S_, .f32⟩
  | 110 => ⟨S8x56x56x128, .f32⟩
  | 111 => ⟨S8x64x56x56, .f32⟩
  | 112 => ⟨S128x64x1x1, .f32⟩
  | 113 => ⟨S128x64, .f32⟩
  | 114 => ⟨S8x56x56x128, .f32⟩
  | 115 => ⟨S8x56x56x128, .f32⟩
  | 116 => ⟨S8x64x56x56, .f32⟩
  | 117 => ⟨S128x64x1x1, .f32⟩
  | 118 => ⟨S128x64, .f32⟩
  | 119 => ⟨S8x56x56x128, .f32⟩
  | 120 => ⟨S8x56x56x128, .f32⟩
  | 121 => ⟨S8x64x56x56, .f32⟩
  | 122 => ⟨S128x64x1x1, .f32⟩
  | 123 => ⟨S128x64, .f32⟩
  | 124 => ⟨S8x56x56x128, .f32⟩
  | 125 => ⟨S8x56x56x128, .f32⟩
  | 126 => ⟨S8x64x56x56, .f32⟩
  | 127 => ⟨S128x64x1x1, .f32⟩
  | _ => ⟨S8x1x224x224, .f32⟩

abbrev hbmTy0_1 (i : Nat) : BufTy := match i % 128 with
  | 0 => ⟨S128x64, .f32⟩
  | 1 => ⟨S8x56x56x128, .f32⟩
  | 2 => ⟨S8x56x56x128, .f32⟩
  | 3 => ⟨S8x64x56x56, .f32⟩
  | 4 => ⟨S128x64x1x1, .f32⟩
  | 5 => ⟨S128x64, .f32⟩
  | 6 => ⟨S8x56x56x128, .f32⟩
  | 7 => ⟨S8x56x56x128, .f32⟩
  | 8 => ⟨S8x64x56x56, .f32⟩
  | 9 => ⟨S128x64x1x1, .f32⟩
  | 10 => ⟨S128x64, .f32⟩
  | 11 => ⟨S8x56x56x128, .f32⟩
  | 12 => ⟨S8x56x56x128, .f32⟩
  | 13 => ⟨S8x64x56x56, .f32⟩
  | 14 => ⟨S128x64x1x1, .f32⟩
  | 15 => ⟨S128x64, .f32⟩
  | 16 => ⟨S8x56x56x128, .f32⟩
  | 17 => ⟨S8x56x56x128, .f32⟩
  | 18 => ⟨S8x64x56x56, .f32⟩
  | 19 => ⟨S128x64x1x1, .f32⟩
  | 20 => ⟨S128x64, .f32⟩
  | 21 => ⟨S8x56x56x128, .f32⟩
  | 22 => ⟨S8x56x56x128, .f32⟩
  | 23 => ⟨S8x64x56x56, .f32⟩
  | 24 => ⟨S128x64x1x1, .f32⟩
  | 25 => ⟨S128x64, .f32⟩
  | 26 => ⟨S8x56x56x128, .f32⟩
  | 27 => ⟨S8x56x56x128, .f32⟩
  | 28 => ⟨S8x64x56x56, .f32⟩
  | 29 => ⟨S128x64x1x1, .f32⟩
  | 30 => ⟨S128x64, .f32⟩
  | 31 => ⟨S8x56x56x128, .f32⟩
  | 32 => ⟨S8x56x56x128, .f32⟩
  | 33 => ⟨S8x64x56x56, .f32⟩
  | 34 => ⟨S128x64x1x1, .f32⟩
  | 35 => ⟨S128x64, .f32⟩
  | 36 => ⟨S8x56x56x128, .f32⟩
  | 37 => ⟨S8x56x56x128, .f32⟩
  | 38 => ⟨S8x64x56x56, .f32⟩
  | 39 => ⟨S128x64x1x1, .f32⟩
  | 40 => ⟨S128x64, .f32⟩
  | 41 => ⟨S8x56x56x128, .f32⟩
  | 42 => ⟨S8x56x56x128, .f32⟩
  | 43 => ⟨S8x64x56x56, .f32⟩
  | 44 => ⟨S128x64x1x1, .f32⟩
  | 45 => ⟨S128x64, .f32⟩
  | 46 => ⟨S8x56x56x128, .f32⟩
  | 47 => ⟨S8x56x56x128, .f32⟩
  | 48 => ⟨S8x64x56x56, .f32⟩
  | 49 => ⟨S128x64x1x1, .f32⟩
  | 50 => ⟨S128x64, .f32⟩
  | 51 => ⟨S8x56x56x128, .f32⟩
  | 52 => ⟨S8x56x56x128, .f32⟩
  | 53 => ⟨S8x64x56x56, .f32⟩
  | 54 => ⟨S128x64x1x1, .f32⟩
  | 55 => ⟨S128x64, .f32⟩
  | 56 => ⟨S8x56x56x128, .f32⟩
  | 57 => ⟨S8x56x56x128, .f32⟩
  | 58 => ⟨S8x64x56x56, .f32⟩
  | 59 => ⟨S128x64x1x1, .f32⟩
  | 60 => ⟨S128x64, .f32⟩
  | 61 => ⟨S8x56x56x128, .f32⟩
  | 62 => ⟨S8x56x56x128, .f32⟩
  | 63 => ⟨S8x128x56x56, .f32⟩
  | 64 => ⟨S1x128x1x1, .f32⟩
  | 65 => ⟨S8x128x56x56, .f32⟩
  | 66 => ⟨S8x128x56x56, .f32⟩
  | 67 => ⟨S_, .f32⟩
  | 68 => ⟨S8x128x56x56, .f32⟩
  | 69 => ⟨S8x128x56x56, .f32⟩
  | 70 => ⟨S_, .i32⟩
  | 71 => ⟨S_, .f32⟩
  | 72 => ⟨S8x128x58x58, .f32⟩
  | 73 => ⟨S_, .f32⟩
  | 74 => ⟨S8x56x56x128, .f32⟩
  | 75 => ⟨S8x128x56x56, .f32⟩
  | 76 => ⟨S128x128x1x1, .f32⟩
  | 77 => ⟨S128x128, .f32⟩
  | 78 => ⟨S8x56x56x128, .f32⟩
  | 79 => ⟨S8x56x56x128, .f32⟩
  | 80 => ⟨S8x128x56x56, .f32⟩
  | 81 => ⟨S128x128x1x1, .f32⟩
  | 82 => ⟨S128x128, .f32⟩
  | 83 => ⟨S8x56x56x128, .f32⟩
  | 84 => ⟨S8x56x56x128, .f32⟩
  | 85 => ⟨S8x128x56x56, .f32⟩
  | 86 => ⟨S128x128x1x1, .f32⟩
  | 87 => ⟨S128x128, .f32⟩
  | 88 => ⟨S8x56x56x128, .f32⟩
  | 89 => ⟨S8x56x56x128, .f32⟩
  | 90 => ⟨S8x128x56x56, .f32⟩
  | 91 => ⟨S128x128x1x1, .f32⟩
  | 92 => ⟨S128x128, .f32⟩
  | 93 => ⟨S8x56x56x128, .f32⟩
  | 94 => ⟨S8x56x56x128, .f32⟩
  | 95 => ⟨S8x128x56x56, .f32⟩
  | 96 => ⟨S128x128x1x1, .f32⟩
  | 97 => ⟨S128x128, .f32⟩
  | 98 => ⟨S8x56x56x128, .f32⟩
  | 99 => ⟨S8x56x56x128, .f32⟩
  | 100 => ⟨S8x128x56x56, .f32⟩
  | 101 => ⟨S128x128x1x1, .f32⟩
  | 102 => ⟨S128x128, .f32⟩
  | 103 => ⟨S8x56x56x128, .f32⟩
  | 104 => ⟨S8x56x56x128, .f32⟩
  | 105 => ⟨S8x128x56x56, .f32⟩
  | 106 => ⟨S128x128x1x1, .f32⟩
  | 107 => ⟨S128x128, .f32⟩
  | 108 => ⟨S8x56x56x128, .f32⟩
  | 109 => ⟨S8x56x56x128, .f32⟩
  | 110 => ⟨S8x128x56x56, .f32⟩
  | 111 => ⟨S128x128x1x1, .f32⟩
  | 112 => ⟨S128x128, .f32⟩
  | 113 => ⟨S8x56x56x128, .f32⟩
  | 114 => ⟨S8x56x56x128, .f32⟩
  | 115 => ⟨S8x128x56x56, .f32⟩
  | 116 => ⟨S128x128x1x1, .f32⟩
  | 117 => ⟨S128x128, .f32⟩
  | 118 => ⟨S8x56x56x128, .f32⟩
  | 119 => ⟨S8x56x56x128, .f32⟩
  | 120 => ⟨S8x128x56x56, .f32⟩
  | 121 => ⟨S1x128x1x1, .f32⟩
  | 122 => ⟨S8x128x56x56, .f32⟩
  | 123 => ⟨S8x128x56x56, .f32⟩
  | 124 => ⟨S_, .f32⟩
  | 125 => ⟨S8x128x56x56, .f32⟩
  | 126 => ⟨S8x128x56x56, .f32⟩
  | 127 => ⟨S_, .i32⟩
  | _ => ⟨S8x1x224x224, .f32⟩

abbrev hbmTy0_2 (i : Nat) : BufTy := match i % 128 with
  | 0 => ⟨S_, .f32⟩
  | 1 => ⟨S8x128x58x58, .f32⟩
  | 2 => ⟨S_, .f32⟩
  | 3 => ⟨S8x56x56x32, .f32⟩
  | 4 => ⟨S8x128x56x56, .f32⟩
  | 5 => ⟨S32x128x1x1, .f32⟩
  | 6 => ⟨S32x128, .f32⟩
  | 7 => ⟨S8x56x56x32, .f32⟩
  | 8 => ⟨S8x56x56x32, .f32⟩
  | 9 => ⟨S8x128x56x56, .f32⟩
  | 10 => ⟨S32x128x1x1, .f32⟩
  | 11 => ⟨S32x128, .f32⟩
  | 12 => ⟨S8x56x56x32, .f32⟩
  | 13 => ⟨S8x56x56x32, .f32⟩
  | 14 => ⟨S8x128x56x56, .f32⟩
  | 15 => ⟨S32x128x1x1, .f32⟩
  | 16 => ⟨S32x128, .f32⟩
  | 17 => ⟨S8x56x56x32, .f32⟩
  | 18 => ⟨S8x56x56x32, .f32⟩
  | 19 => ⟨S8x128x56x56, .f32⟩
  | 20 => ⟨S32x128x1x1, .f32⟩
  | 21 => ⟨S32x128, .f32⟩
  | 22 => ⟨S8x56x56x32, .f32⟩
  | 23 => ⟨S8x56x56x32, .f32⟩
  | 24 => ⟨S8x128x56x56, .f32⟩
  | 25 => ⟨S32x128x1x1, .f32⟩
  | 26 => ⟨S32x128, .f32⟩
  | 27 => ⟨S8x56x56x32, .f32⟩
  | 28 => ⟨S8x56x56x32, .f32⟩
  | 29 => ⟨S8x128x56x56, .f32⟩
  | 30 => ⟨S32x128x1x1, .f32⟩
  | 31 => ⟨S32x128, .f32⟩
  | 32 => ⟨S8x56x56x32, .f32⟩
  | 33 => ⟨S8x56x56x32, .f32⟩
  | 34 => ⟨S8x128x56x56, .f32⟩
  | 35 => ⟨S32x128x1x1, .f32⟩
  | 36 => ⟨S32x128, .f32⟩
  | 37 => ⟨S8x56x56x32, .f32⟩
  | 38 => ⟨S8x56x56x32, .f32⟩
  | 39 => ⟨S8x128x56x56, .f32⟩
  | 40 => ⟨S32x128x1x1, .f32⟩
  | 41 => ⟨S32x128, .f32⟩
  | 42 => ⟨S8x56x56x32, .f32⟩
  | 43 => ⟨S8x56x56x32, .f32⟩
  | 44 => ⟨S8x128x56x56, .f32⟩
  | 45 => ⟨S32x128x1x1, .f32⟩
  | 46 => ⟨S32x128, .f32⟩
  | 47 => ⟨S8x56x56x32, .f32⟩
  | 48 => ⟨S8x56x56x32, .f32⟩
  | 49 => ⟨S8x32x56x56, .f32⟩
  | 50 => ⟨S_, .f32⟩
  | 51 => ⟨S8x32x56x56, .f32⟩
  | 52 => ⟨S8x32x56x56, .f32⟩
  | 53 => ⟨S_, .i32⟩
  | 54 => ⟨S_, .f32⟩
  | 55 => ⟨S8x32x56x56, .f32⟩
  | 56 => ⟨S_, .f32⟩
  | 57 => ⟨S8x56x56x128, .f32⟩
  | 58 => ⟨S128x32, .f32⟩
  | 59 => ⟨S8x56x56x128, .f32⟩
  | 60 => ⟨S8x56x56x128, .f32⟩
  | 61 => ⟨S8x128x56x56, .f32⟩
  | 62 => ⟨S8x128x56x56, .f32⟩
  | 63 => ⟨S_, .f32⟩
  | 64 => ⟨S8x128x56x56, .f32⟩
  | 65 => ⟨S8x128x56x56, .f32⟩
  | 66 => ⟨S_, .i32⟩
  | 67 => ⟨S_, .f32⟩
  | 68 => ⟨S8x128x58x58, .f32⟩
  | 69 => ⟨S_, .f32⟩
  | 70 => ⟨S8x56x56x32, .f32⟩
  | 71 => ⟨S8x128x56x56, .f32⟩
  | 72 => ⟨S32x128x1x1, .f32⟩
  | 73 => ⟨S32x128, .f32⟩
  | 74 => ⟨S8x56x56x32, .f32⟩
  | 75 => ⟨S8x56x56x32, .f32⟩
  | 76 => ⟨S8x128x56x56, .f32⟩
  | 77 => ⟨S32x128x1x1, .f32⟩
  | 78 => ⟨S32x128, .f32⟩
  | 79 => ⟨S8x56x56x32, .f32⟩
  | 80 => ⟨S8x56x56x32, .f32⟩
  | 81 => ⟨S8x128x56x56, .f32⟩
  | 82 => ⟨S32x128x1x1, .f32⟩
  | 83 => ⟨S32x128, .f32⟩
  | 84 => ⟨S8x56x56x32, .f32⟩
  | 85 => ⟨S8x56x56x32, .f32⟩
  | 86 => ⟨S8x128x56x56, .f32⟩
  | 87 => ⟨S32x128x1x1, .f32⟩
  | 88 => ⟨S32x128, .f32⟩
  | 89 => ⟨S8x56x56x32, .f32⟩
  | 90 => ⟨S8x56x56x32, .f32⟩
  | 91 => ⟨S8x128x56x56, .f32⟩
  | 92 => ⟨S32x128x1x1, .f32⟩
  | 93 => ⟨S32x128, .f32⟩
  | 94 => ⟨S8x56x56x32, .f32⟩
  | 95 => ⟨S8x56x56x32, .f32⟩
  | 96 => ⟨S8x128x56x56, .f32⟩
  | 97 => ⟨S32x128x1x1, .f32⟩
  | 98 => ⟨S32x128, .f32⟩
  | 99 => ⟨S8x56x56x32, .f32⟩
  | 100 => ⟨S8x56x56x32, .f32⟩
  | 101 => ⟨S8x128x56x56, .f32⟩
  | 102 => ⟨S32x128x1x1, .f32⟩
  | 103 => ⟨S32x128, .f32⟩
  | 104 => ⟨S8x56x56x32, .f32⟩
  | 105 => ⟨S8x56x56x32, .f32⟩
  | 106 => ⟨S8x128x56x56, .f32⟩
  | 107 => ⟨S32x128x1x1, .f32⟩
  | 108 => ⟨S32x128, .f32⟩
  | 109 => ⟨S8x56x56x32, .f32⟩
  | 110 => ⟨S8x56x56x32, .f32⟩
  | 111 => ⟨S8x128x56x56, .f32⟩
  | 112 => ⟨S32x128x1x1, .f32⟩
  | 113 => ⟨S32x128, .f32⟩
  | 114 => ⟨S8x56x56x32, .f32⟩
  | 115 => ⟨S8x56x56x32, .f32⟩
  | 116 => ⟨S8x32x56x56, .f32⟩
  | 117 => ⟨S_, .f32⟩
  | 118 => ⟨S8x32x56x56, .f32⟩
  | 119 => ⟨S8x32x56x56, .f32⟩
  | 120 => ⟨S_, .i32⟩
  | 121 => ⟨S_, .f32⟩
  | 122 => ⟨S8x32x56x56, .f32⟩
  | 123 => ⟨S_, .f32⟩
  | 124 => ⟨S8x56x56x128, .f32⟩
  | 125 => ⟨S128x32, .f32⟩
  | 126 => ⟨S8x56x56x128, .f32⟩
  | 127 => ⟨S8x56x56x128, .f32⟩
  | _ => ⟨S8x1x224x224, .f32⟩

abbrev hbmTy0_3 (i : Nat) : BufTy := match i % 128 with
  | 0 => ⟨S8x128x56x56, .f32⟩
  | 1 => ⟨S8x128x56x56, .f32⟩
  | 2 => ⟨S_, .f32⟩
  | 3 => ⟨S8x128x56x56, .f32⟩
  | 4 => ⟨S8x128x56x56, .f32⟩
  | 5 => ⟨S_, .i32⟩
  | 6 => ⟨S_, .f32⟩
  | 7 => ⟨S8x128x56x56, .f32⟩
  | 8 => ⟨S_, .f32⟩
  | 9 => ⟨S8x56x56x64, .f32⟩
  | 10 => ⟨S64x128, .f32⟩
  | 11 => ⟨S8x56x56x64, .f32⟩
  | 12 => ⟨S8x56x56x64, .f32⟩
  | 13 => ⟨S8x64x56x56, .f32⟩
  | 14 => ⟨S1x64x1x1, .f32⟩
  | 15 => ⟨S8x64x56x56, .f32⟩
  | 16 => ⟨S8x64x56x56, .f32⟩
  | 17 => ⟨S8x56x56x64, .f32⟩
  | 18 => ⟨S25088x64, .f32⟩
  | 19 => ⟨S25088x64, .f32⟩
  | 20 => ⟨S_, .f32⟩
  | 21 => ⟨S25088, .f32⟩
  | 22 => ⟨S25088x1, .f32⟩
  | 23 => ⟨S512x64, .f32⟩
  | 24 => ⟨S_, .f32⟩
  | 25 => ⟨S512, .f32⟩
  | 26 => ⟨S1x512, .f32⟩
  | 27 => ⟨S25088x512, .f32⟩
  | 28 => ⟨S25088x512, .f32⟩
  | 29 => ⟨S25088x512, .f32⟩
  | 30 => ⟨S64x512, .f32⟩
  | 31 => ⟨S25088x512, .f32⟩
  | 32 => ⟨S_, .f32⟩
  | 33 => ⟨S25088x512, .f32⟩
  | 34 => ⟨S25088x512, .f32⟩
  | 35 => ⟨S25088x512, .f32⟩
  | 36 => ⟨S512, .i32⟩
  | 37 => ⟨S1x512, .i32⟩
  | 38 => ⟨S_, .f32⟩
  | 39 => ⟨S25088, .f32⟩
  | 40 => ⟨S25088x1, .f32⟩
  | 41 => ⟨S25088x512, .f32⟩
  | 42 => ⟨S25088x512, .i1⟩
  | 43 => ⟨S_, .i32⟩
  | 44 => ⟨S_, .i32⟩
  | 45 => ⟨S25088x512, .i32⟩
  | 46 => ⟨S25088x512, .i32⟩
  | 47 => ⟨S25088x512, .i32⟩
  | 48 => ⟨S_, .i32⟩
  | 49 => ⟨S25088, .i32⟩
  | 50 => ⟨S25088x1, .i32⟩
  | 51 => ⟨S1x512, .i32⟩
  | 52 => ⟨S25088x512, .i32⟩
  | 53 => ⟨S25088x512, .i32⟩
  | 54 => ⟨S25088x512, .i1⟩
  | 55 => ⟨S25088x512, .f32⟩
  | 56 => ⟨S25088x64, .f32⟩
  | 57 => ⟨S8x56x56x64, .f32⟩
  | 58 => ⟨S8x56x56x64, .f32⟩
  | 59 => ⟨S8x56x56x64, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S512, .f32⟩
  | 68 => ⟨S_, .f32⟩
  | 69 => ⟨S512, .f32⟩
  | 70 => ⟨S512, .f32⟩
  | 71 => ⟨S_, .f32⟩
  | 72 => ⟨S512, .f32⟩
  | 73 => ⟨S512, .f32⟩
  | 74 => ⟨S512, .f32⟩
  | 75 => ⟨S512, .f32⟩
  | 76 => ⟨S_, .f32⟩
  | 77 => ⟨S_, .f32⟩
  | 78 => ⟨S_, .f32⟩
  | 79 => ⟨S_, .f32⟩
  | _ => ⟨S8x1x224x224, .f32⟩

abbrev hbmTy (i : Nat) : BufTy := match i / 128 with
  | 0 => hbmTy0_0 i
  | 1 => hbmTy0_1 i
  | 2 => hbmTy0_2 i
  | 3 => hbmTy0_3 i
  | _ => ⟨S8x1x224x224, .f32⟩

abbrev bufTy : (tb : Table) → Fin (tcTables nBuf tb) → BufTy
  | .hbm, ⟨i, _⟩ => hbmTy i
  | _, _ => ⟨S8x1x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_call1_cst : Ref sig .tc := ⟨.hbm, 103, rfl⟩
abbrev main_call1_v0 : Ref sig .tc := ⟨.hbm, 104, rfl⟩
abbrev main_v86 : Ref sig .tc := ⟨.hbm, 105, rfl⟩
abbrev main_c_0 : Ref sig .tc := ⟨.hbm, 106, rfl⟩
abbrev main_call2_v0 : Ref sig .tc := ⟨.hbm, 107, rfl⟩
abbrev main_v87 : Ref sig .tc := ⟨.hbm, 108, rfl⟩
abbrev main_cst_1 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_call3_cst : Ref sig .tc := ⟨.hbm, 195, rfl⟩
abbrev main_call3_v0 : Ref sig .tc := ⟨.hbm, 196, rfl⟩
abbrev main_v173 : Ref sig .tc := ⟨.hbm, 197, rfl⟩
abbrev main_c_2 : Ref sig .tc := ⟨.hbm, 198, rfl⟩
abbrev main_call4_v0 : Ref sig .tc := ⟨.hbm, 199, rfl⟩
abbrev main_v174 : Ref sig .tc := ⟨.hbm, 200, rfl⟩
abbrev main_cst_3 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩
abbrev main_v196 : Ref sig .tc := ⟨.hbm, 223, rfl⟩
abbrev main_v197 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_v211 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_v215 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_call5_cst : Ref sig .tc := ⟨.hbm, 252, rfl⟩
abbrev main_call5_v0 : Ref sig .tc := ⟨.hbm, 253, rfl⟩
abbrev main_v225 : Ref sig .tc := ⟨.hbm, 254, rfl⟩
abbrev main_c_4 : Ref sig .tc := ⟨.hbm, 255, rfl⟩
abbrev main_call6_v0 : Ref sig .tc := ⟨.hbm, 256, rfl⟩
abbrev main_v226 : Ref sig .tc := ⟨.hbm, 257, rfl⟩
abbrev main_cst_5 : Ref sig .tc := ⟨.hbm, 258, rfl⟩
abbrev main_v227 : Ref sig .tc := ⟨.hbm, 259, rfl⟩
abbrev main_v228 : Ref sig .tc := ⟨.hbm, 260, rfl⟩
abbrev main_v229 : Ref sig .tc := ⟨.hbm, 261, rfl⟩
abbrev main_v230 : Ref sig .tc := ⟨.hbm, 262, rfl⟩
abbrev main_v231 : Ref sig .tc := ⟨.hbm, 263, rfl⟩
abbrev main_v232 : Ref sig .tc := ⟨.hbm, 264, rfl⟩
abbrev main_v233 : Ref sig .tc := ⟨.hbm, 265, rfl⟩
abbrev main_v234 : Ref sig .tc := ⟨.hbm, 266, rfl⟩
abbrev main_v235 : Ref sig .tc := ⟨.hbm, 267, rfl⟩
abbrev main_v236 : Ref sig .tc := ⟨.hbm, 268, rfl⟩
abbrev main_v237 : Ref sig .tc := ⟨.hbm, 269, rfl⟩
abbrev main_v238 : Ref sig .tc := ⟨.hbm, 270, rfl⟩
abbrev main_v239 : Ref sig .tc := ⟨.hbm, 271, rfl⟩
abbrev main_v240 : Ref sig .tc := ⟨.hbm, 272, rfl⟩
abbrev main_v241 : Ref sig .tc := ⟨.hbm, 273, rfl⟩
abbrev main_v242 : Ref sig .tc := ⟨.hbm, 274, rfl⟩
abbrev main_v243 : Ref sig .tc := ⟨.hbm, 275, rfl⟩
abbrev main_v244 : Ref sig .tc := ⟨.hbm, 276, rfl⟩
abbrev main_v245 : Ref sig .tc := ⟨.hbm, 277, rfl⟩
abbrev main_v246 : Ref sig .tc := ⟨.hbm, 278, rfl⟩
abbrev main_v247 : Ref sig .tc := ⟨.hbm, 279, rfl⟩
abbrev main_v248 : Ref sig .tc := ⟨.hbm, 280, rfl⟩
abbrev main_v249 : Ref sig .tc := ⟨.hbm, 281, rfl⟩
abbrev main_v250 : Ref sig .tc := ⟨.hbm, 282, rfl⟩
abbrev main_v251 : Ref sig .tc := ⟨.hbm, 283, rfl⟩
abbrev main_v252 : Ref sig .tc := ⟨.hbm, 284, rfl⟩
abbrev main_v253 : Ref sig .tc := ⟨.hbm, 285, rfl⟩
abbrev main_v254 : Ref sig .tc := ⟨.hbm, 286, rfl⟩
abbrev main_v255 : Ref sig .tc := ⟨.hbm, 287, rfl⟩
abbrev main_v256 : Ref sig .tc := ⟨.hbm, 288, rfl⟩
abbrev main_v257 : Ref sig .tc := ⟨.hbm, 289, rfl⟩
abbrev main_v258 : Ref sig .tc := ⟨.hbm, 290, rfl⟩
abbrev main_v259 : Ref sig .tc := ⟨.hbm, 291, rfl⟩
abbrev main_v260 : Ref sig .tc := ⟨.hbm, 292, rfl⟩
abbrev main_v261 : Ref sig .tc := ⟨.hbm, 293, rfl⟩
abbrev main_v262 : Ref sig .tc := ⟨.hbm, 294, rfl⟩
abbrev main_v263 : Ref sig .tc := ⟨.hbm, 295, rfl⟩
abbrev main_v264 : Ref sig .tc := ⟨.hbm, 296, rfl⟩
abbrev main_v265 : Ref sig .tc := ⟨.hbm, 297, rfl⟩
abbrev main_v266 : Ref sig .tc := ⟨.hbm, 298, rfl⟩
abbrev main_v267 : Ref sig .tc := ⟨.hbm, 299, rfl⟩
abbrev main_v268 : Ref sig .tc := ⟨.hbm, 300, rfl⟩
abbrev main_v269 : Ref sig .tc := ⟨.hbm, 301, rfl⟩
abbrev main_v270 : Ref sig .tc := ⟨.hbm, 302, rfl⟩
abbrev main_v271 : Ref sig .tc := ⟨.hbm, 303, rfl⟩
abbrev main_v272 : Ref sig .tc := ⟨.hbm, 304, rfl⟩
abbrev main_v273 : Ref sig .tc := ⟨.hbm, 305, rfl⟩
abbrev main_call7_cst : Ref sig .tc := ⟨.hbm, 306, rfl⟩
abbrev main_call7_v0 : Ref sig .tc := ⟨.hbm, 307, rfl⟩
abbrev main_v274 : Ref sig .tc := ⟨.hbm, 308, rfl⟩
abbrev main_c_6 : Ref sig .tc := ⟨.hbm, 309, rfl⟩
abbrev main_call8_v0 : Ref sig .tc := ⟨.hbm, 310, rfl⟩
abbrev main_v275 : Ref sig .tc := ⟨.hbm, 311, rfl⟩
abbrev main_cst_7 : Ref sig .tc := ⟨.hbm, 312, rfl⟩
abbrev main_v276 : Ref sig .tc := ⟨.hbm, 313, rfl⟩
abbrev main_v277 : Ref sig .tc := ⟨.hbm, 314, rfl⟩
abbrev main_v278 : Ref sig .tc := ⟨.hbm, 315, rfl⟩
abbrev main_v279 : Ref sig .tc := ⟨.hbm, 316, rfl⟩
abbrev main_v280 : Ref sig .tc := ⟨.hbm, 317, rfl⟩
abbrev main_v281 : Ref sig .tc := ⟨.hbm, 318, rfl⟩
abbrev main_call9_cst : Ref sig .tc := ⟨.hbm, 319, rfl⟩
abbrev main_call9_v0 : Ref sig .tc := ⟨.hbm, 320, rfl⟩
abbrev main_v282 : Ref sig .tc := ⟨.hbm, 321, rfl⟩
abbrev main_c_8 : Ref sig .tc := ⟨.hbm, 322, rfl⟩
abbrev main_call10_v0 : Ref sig .tc := ⟨.hbm, 323, rfl⟩
abbrev main_v283 : Ref sig .tc := ⟨.hbm, 324, rfl⟩
abbrev main_cst_9 : Ref sig .tc := ⟨.hbm, 325, rfl⟩
abbrev main_v284 : Ref sig .tc := ⟨.hbm, 326, rfl⟩
abbrev main_v285 : Ref sig .tc := ⟨.hbm, 327, rfl⟩
abbrev main_v286 : Ref sig .tc := ⟨.hbm, 328, rfl⟩
abbrev main_v287 : Ref sig .tc := ⟨.hbm, 329, rfl⟩
abbrev main_v288 : Ref sig .tc := ⟨.hbm, 330, rfl⟩
abbrev main_v289 : Ref sig .tc := ⟨.hbm, 331, rfl⟩
abbrev main_v290 : Ref sig .tc := ⟨.hbm, 332, rfl⟩
abbrev main_v291 : Ref sig .tc := ⟨.hbm, 333, rfl⟩
abbrev main_v292 : Ref sig .tc := ⟨.hbm, 334, rfl⟩
abbrev main_v293 : Ref sig .tc := ⟨.hbm, 335, rfl⟩
abbrev main_v294 : Ref sig .tc := ⟨.hbm, 336, rfl⟩
abbrev main_v295 : Ref sig .tc := ⟨.hbm, 337, rfl⟩
abbrev main_v296 : Ref sig .tc := ⟨.hbm, 338, rfl⟩
abbrev main_v297 : Ref sig .tc := ⟨.hbm, 339, rfl⟩
abbrev main_v298 : Ref sig .tc := ⟨.hbm, 340, rfl⟩
abbrev main_v299 : Ref sig .tc := ⟨.hbm, 341, rfl⟩
abbrev main_v300 : Ref sig .tc := ⟨.hbm, 342, rfl⟩
abbrev main_v301 : Ref sig .tc := ⟨.hbm, 343, rfl⟩
abbrev main_v302 : Ref sig .tc := ⟨.hbm, 344, rfl⟩
abbrev main_v303 : Ref sig .tc := ⟨.hbm, 345, rfl⟩
abbrev main_v304 : Ref sig .tc := ⟨.hbm, 346, rfl⟩
abbrev main_v305 : Ref sig .tc := ⟨.hbm, 347, rfl⟩
abbrev main_v306 : Ref sig .tc := ⟨.hbm, 348, rfl⟩
abbrev main_v307 : Ref sig .tc := ⟨.hbm, 349, rfl⟩
abbrev main_v308 : Ref sig .tc := ⟨.hbm, 350, rfl⟩
abbrev main_v309 : Ref sig .tc := ⟨.hbm, 351, rfl⟩
abbrev main_v310 : Ref sig .tc := ⟨.hbm, 352, rfl⟩
abbrev main_v311 : Ref sig .tc := ⟨.hbm, 353, rfl⟩
abbrev main_v312 : Ref sig .tc := ⟨.hbm, 354, rfl⟩
abbrev main_v313 : Ref sig .tc := ⟨.hbm, 355, rfl⟩
abbrev main_v314 : Ref sig .tc := ⟨.hbm, 356, rfl⟩
abbrev main_v315 : Ref sig .tc := ⟨.hbm, 357, rfl⟩
abbrev main_v316 : Ref sig .tc := ⟨.hbm, 358, rfl⟩
abbrev main_v317 : Ref sig .tc := ⟨.hbm, 359, rfl⟩
abbrev main_v318 : Ref sig .tc := ⟨.hbm, 360, rfl⟩
abbrev main_v319 : Ref sig .tc := ⟨.hbm, 361, rfl⟩
abbrev main_v320 : Ref sig .tc := ⟨.hbm, 362, rfl⟩
abbrev main_v321 : Ref sig .tc := ⟨.hbm, 363, rfl⟩
abbrev main_v322 : Ref sig .tc := ⟨.hbm, 364, rfl⟩
abbrev main_v323 : Ref sig .tc := ⟨.hbm, 365, rfl⟩
abbrev main_v324 : Ref sig .tc := ⟨.hbm, 366, rfl⟩
abbrev main_v325 : Ref sig .tc := ⟨.hbm, 367, rfl⟩
abbrev main_v326 : Ref sig .tc := ⟨.hbm, 368, rfl⟩
abbrev main_v327 : Ref sig .tc := ⟨.hbm, 369, rfl⟩
abbrev main_v328 : Ref sig .tc := ⟨.hbm, 370, rfl⟩
abbrev main_v329 : Ref sig .tc := ⟨.hbm, 371, rfl⟩
abbrev main_v330 : Ref sig .tc := ⟨.hbm, 372, rfl⟩
abbrev main_call11_cst : Ref sig .tc := ⟨.hbm, 373, rfl⟩
abbrev main_call11_v0 : Ref sig .tc := ⟨.hbm, 374, rfl⟩
abbrev main_v331 : Ref sig .tc := ⟨.hbm, 375, rfl⟩
abbrev main_c_10 : Ref sig .tc := ⟨.hbm, 376, rfl⟩
abbrev main_call12_v0 : Ref sig .tc := ⟨.hbm, 377, rfl⟩
abbrev main_v332 : Ref sig .tc := ⟨.hbm, 378, rfl⟩
abbrev main_cst_11 : Ref sig .tc := ⟨.hbm, 379, rfl⟩
abbrev main_v333 : Ref sig .tc := ⟨.hbm, 380, rfl⟩
abbrev main_v334 : Ref sig .tc := ⟨.hbm, 381, rfl⟩
abbrev main_v335 : Ref sig .tc := ⟨.hbm, 382, rfl⟩
abbrev main_v336 : Ref sig .tc := ⟨.hbm, 383, rfl⟩
abbrev main_v337 : Ref sig .tc := ⟨.hbm, 384, rfl⟩
abbrev main_v338 : Ref sig .tc := ⟨.hbm, 385, rfl⟩
abbrev main_call13_cst : Ref sig .tc := ⟨.hbm, 386, rfl⟩
abbrev main_call13_v0 : Ref sig .tc := ⟨.hbm, 387, rfl⟩
abbrev main_v339 : Ref sig .tc := ⟨.hbm, 388, rfl⟩
abbrev main_c_12 : Ref sig .tc := ⟨.hbm, 389, rfl⟩
abbrev main_call14_v0 : Ref sig .tc := ⟨.hbm, 390, rfl⟩
abbrev main_v340 : Ref sig .tc := ⟨.hbm, 391, rfl⟩
abbrev main_cst_13 : Ref sig .tc := ⟨.hbm, 392, rfl⟩
abbrev main_v341 : Ref sig .tc := ⟨.hbm, 393, rfl⟩
abbrev main_v342 : Ref sig .tc := ⟨.hbm, 394, rfl⟩
abbrev main_v343 : Ref sig .tc := ⟨.hbm, 395, rfl⟩
abbrev main_v344 : Ref sig .tc := ⟨.hbm, 396, rfl⟩
abbrev main_v345 : Ref sig .tc := ⟨.hbm, 397, rfl⟩
abbrev main_v346 : Ref sig .tc := ⟨.hbm, 398, rfl⟩
abbrev main_v347 : Ref sig .tc := ⟨.hbm, 399, rfl⟩
abbrev main_v348 : Ref sig .tc := ⟨.hbm, 400, rfl⟩
abbrev main_v349 : Ref sig .tc := ⟨.hbm, 401, rfl⟩
abbrev main_v350 : Ref sig .tc := ⟨.hbm, 402, rfl⟩
abbrev main_v351 : Ref sig .tc := ⟨.hbm, 403, rfl⟩
abbrev main_cst_14 : Ref sig .tc := ⟨.hbm, 404, rfl⟩
abbrev main_v352 : Ref sig .tc := ⟨.hbm, 405, rfl⟩
abbrev main_v353 : Ref sig .tc := ⟨.hbm, 406, rfl⟩
abbrev main_v354 : Ref sig .tc := ⟨.hbm, 407, rfl⟩
abbrev main_cst_15 : Ref sig .tc := ⟨.hbm, 408, rfl⟩
abbrev main_v355 : Ref sig .tc := ⟨.hbm, 409, rfl⟩
abbrev main_v356 : Ref sig .tc := ⟨.hbm, 410, rfl⟩
abbrev main_v357 : Ref sig .tc := ⟨.hbm, 411, rfl⟩
abbrev main_v358 : Ref sig .tc := ⟨.hbm, 412, rfl⟩
abbrev main_v359 : Ref sig .tc := ⟨.hbm, 413, rfl⟩
abbrev main_v360 : Ref sig .tc := ⟨.hbm, 414, rfl⟩
abbrev main_v361 : Ref sig .tc := ⟨.hbm, 415, rfl⟩
abbrev main_cst_16 : Ref sig .tc := ⟨.hbm, 416, rfl⟩
abbrev main_v362 : Ref sig .tc := ⟨.hbm, 417, rfl⟩
abbrev main_v363 : Ref sig .tc := ⟨.hbm, 418, rfl⟩
abbrev main_v364 : Ref sig .tc := ⟨.hbm, 419, rfl⟩
abbrev main_v365 : Ref sig .tc := ⟨.hbm, 420, rfl⟩
abbrev main_v366 : Ref sig .tc := ⟨.hbm, 421, rfl⟩
abbrev main_cst_17 : Ref sig .tc := ⟨.hbm, 422, rfl⟩
abbrev main_v367 : Ref sig .tc := ⟨.hbm, 423, rfl⟩
abbrev main_v368 : Ref sig .tc := ⟨.hbm, 424, rfl⟩
abbrev main_v369 : Ref sig .tc := ⟨.hbm, 425, rfl⟩
abbrev main_v370 : Ref sig .tc := ⟨.hbm, 426, rfl⟩
abbrev main_c_18 : Ref sig .tc := ⟨.hbm, 427, rfl⟩
abbrev main_call15_v0 : Ref sig .tc := ⟨.hbm, 428, rfl⟩
abbrev main_call15_v1 : Ref sig .tc := ⟨.hbm, 429, rfl⟩
abbrev main_call15_v2 : Ref sig .tc := ⟨.hbm, 430, rfl⟩
abbrev main_v371 : Ref sig .tc := ⟨.hbm, 431, rfl⟩
abbrev main_c_19 : Ref sig .tc := ⟨.hbm, 432, rfl⟩
abbrev main_v372 : Ref sig .tc := ⟨.hbm, 433, rfl⟩
abbrev main_call16_v0 : Ref sig .tc := ⟨.hbm, 434, rfl⟩
abbrev main_call16_v1 : Ref sig .tc := ⟨.hbm, 435, rfl⟩
abbrev main_call16_v2 : Ref sig .tc := ⟨.hbm, 436, rfl⟩
abbrev main_call16_v3 : Ref sig .tc := ⟨.hbm, 437, rfl⟩
abbrev main_call16_v4 : Ref sig .tc := ⟨.hbm, 438, rfl⟩
abbrev main_v373 : Ref sig .tc := ⟨.hbm, 439, rfl⟩
abbrev main_v374 : Ref sig .tc := ⟨.hbm, 440, rfl⟩
abbrev main_v375 : Ref sig .tc := ⟨.hbm, 441, rfl⟩
abbrev main_v376 : Ref sig .tc := ⟨.hbm, 442, rfl⟩
abbrev main_v377 : Ref sig .tc := ⟨.hbm, 443, rfl⟩
abbrev main_cst_20 : Ref sig .tc := ⟨.hbm, 444, rfl⟩
abbrev main_v378 : Ref sig .tc := ⟨.hbm, 445, rfl⟩
abbrev main_cst_21 : Ref sig .tc := ⟨.hbm, 446, rfl⟩
abbrev main_v379 : Ref sig .tc := ⟨.hbm, 447, rfl⟩
abbrev main_cst_22 : Ref sig .tc := ⟨.hbm, 448, rfl⟩
abbrev main_v380 : Ref sig .tc := ⟨.hbm, 449, rfl⟩
abbrev main_cst_23 : Ref sig .tc := ⟨.hbm, 450, rfl⟩
abbrev main_v381 : Ref sig .tc := ⟨.hbm, 451, rfl⟩
abbrev main_cst_24 : Ref sig .tc := ⟨.hbm, 452, rfl⟩
abbrev main_v382 : Ref sig .tc := ⟨.hbm, 453, rfl⟩
abbrev main_v383 : Ref sig .tc := ⟨.hbm, 454, rfl⟩
abbrev main_cst_25 : Ref sig .tc := ⟨.hbm, 455, rfl⟩
abbrev main_v384 : Ref sig .tc := ⟨.hbm, 456, rfl⟩
abbrev main_v385 : Ref sig .tc := ⟨.hbm, 457, rfl⟩
abbrev main_v386 : Ref sig .tc := ⟨.hbm, 458, rfl⟩
abbrev main_v387 : Ref sig .tc := ⟨.hbm, 459, rfl⟩
abbrev main_cst_26 : Ref sig .tc := ⟨.hbm, 460, rfl⟩
abbrev main_v388 : Ref sig .tc := ⟨.hbm, 461, rfl⟩
abbrev main_v389 : Ref sig .tc := ⟨.hbm, 462, rfl⟩
abbrev main_v390 : Ref sig .tc := ⟨.hbm, 463, rfl⟩

abbrev nD : Nat := 1
abbrev τ : Topo := Topo.v7x

variable {F : FTy → Type} [FloatOps F]
-- ==== Decoder.lean ====
abbrev S25088x64 : Shape := ⟨2, ![25088, 64]⟩
abbrev S128x64x3x3 : Shape := ⟨4, ![128, 64, 3, 3]⟩
abbrev S128 : Shape := ⟨1, ![128]⟩
abbrev S32x128x3x3 : Shape := ⟨4, ![32, 128, 3, 3]⟩
abbrev S128x32x1x1 : Shape := ⟨4, ![128, 32, 1, 1]⟩
abbrev S8x56x56x64 : Shape := ⟨4, ![8, 56, 56, 64]⟩
abbrev S_ : Shape := ⟨0, ![]⟩
abbrev S8x58x58x64 : Shape := ⟨4, ![8, 58, 58, 64]⟩
abbrev S8x3364x64 : Shape := ⟨3, ![8, 3364, 64]⟩
abbrev S8x3448x64 : Shape := ⟨3, ![8, 3448, 64]⟩
abbrev S3x3x64x128 : Shape := ⟨4, ![3, 3, 64, 128]⟩
abbrev S9x64x128 : Shape := ⟨3, ![9, 64, 128]⟩
abbrev S1x128 : Shape := ⟨2, ![1, 128]⟩
abbrev S58x58 : Shape := ⟨2, ![58, 58]⟩
abbrev S1 : Shape := ⟨1, ![1]⟩
abbrev S2 : Shape := ⟨1, ![2]⟩
abbrev S56x56 : Shape := ⟨2, ![56, 56]⟩
abbrev S3364x1 : Shape := ⟨2, ![3364, 1]⟩
abbrev S3448x1 : Shape := ⟨2, ![3448, 1]⟩
abbrev S8x3448x128 : Shape := ⟨3, ![8, 3448, 128]⟩
abbrev S1x3448x64 : Shape := ⟨3, ![1, 3448, 64]⟩
abbrev S1x3448x128 : Shape := ⟨3, ![1, 3448, 128]⟩
abbrev S576x128 : Shape := ⟨2, ![576, 128]⟩
abbrev S1x812x64 : Shape := ⟨3, ![1, 812, 64]⟩
abbrev S812x64 : Shape := ⟨2, ![812, 64]⟩
abbrev S812x576 : Shape := ⟨2, ![812, 576]⟩
abbrev S812x128 : Shape := ⟨2, ![812, 128]⟩
abbrev S812x1 : Shape := ⟨2, ![812, 1]⟩
abbrev S1x812x128 : Shape := ⟨3, ![1, 812, 128]⟩
abbrev S66x128 : Shape := ⟨2, ![66, 128]⟩
abbrev S1x66x128 : Shape := ⟨3, ![1, 66, 128]⟩
abbrev S134x128 : Shape := ⟨2, ![134, 128]⟩
abbrev S1x134x128 : Shape := ⟨3, ![1, 134, 128]⟩
abbrev S3x3x128x32 : Shape := ⟨4, ![3, 3, 128, 32]⟩
abbrev S9x128x32 : Shape := ⟨3, ![9, 128, 32]⟩
abbrev S128x32 : Shape := ⟨2, ![128, 32]⟩
abbrev S32x128 : Shape := ⟨2, ![32, 128]⟩
abbrev S1152x32 : Shape := ⟨2, ![1152, 32]⟩
abbrev S812x1152 : Shape := ⟨2, ![812, 1152]⟩
abbrev S812x32 : Shape := ⟨2, ![812, 32]⟩
abbrev S8x3364x128 : Shape := ⟨3, ![8, 3364, 128]⟩
abbrev S8x58x58x128 : Shape := ⟨4, ![8, 58, 58, 128]⟩
abbrev S8x56x56x128 : Shape := ⟨4, ![8, 56, 56, 128]⟩

abbrev nBuf : Space → Nat
  | .hbm => 74
  | .vmem => 21
  | .smem => 0
  | _ => 0

abbrev bufTy : (tb : Table) → Fin (tcTables nBuf tb) → BufTy
  | .hbm, ⟨0, _⟩ => ⟨S25088x64, .f32⟩
  | .hbm, ⟨1, _⟩ => ⟨S128x64x3x3, .f32⟩
  | .hbm, ⟨2, _⟩ => ⟨S128, .f32⟩
  | .hbm, ⟨3, _⟩ => ⟨S32x128x3x3, .f32⟩
  | .hbm, ⟨4, _⟩ => ⟨S128x32x1x1, .f32⟩
  | .hbm, ⟨5, _⟩ => ⟨S32x128x3x3, .f32⟩
  | .hbm, ⟨6, _⟩ => ⟨S128x32x1x1, .f32⟩
  | .hbm, ⟨7, _⟩ => ⟨S8x56x56x64, .f32⟩
  | .hbm, ⟨8, _⟩ => ⟨S_, .i32⟩
  | .hbm, ⟨9, _⟩ => ⟨S_, .f32⟩
  | .hbm, ⟨10, _⟩ => ⟨S8x58x58x64, .f32⟩
  | .hbm, ⟨11, _⟩ => ⟨S8x3364x64, .f32⟩
  | .hbm, ⟨12, _⟩ => ⟨S_, .i32⟩
  | .hbm, ⟨13, _⟩ => ⟨S_, .f32⟩
  | .hbm, ⟨14, _⟩ => ⟨S8x3448x64, .f32⟩
  | .hbm, ⟨15, _⟩ => ⟨S3x3x64x128, .f32⟩
  | .hbm, ⟨16, _⟩ => ⟨S9x64x128, .f32⟩
  | .hbm, ⟨17, _⟩ => ⟨S1x128, .f32⟩
  | .hbm, ⟨18, _⟩ => ⟨S_, .f32⟩
  | .hbm, ⟨19, _⟩ => ⟨S58x58, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S_, .f32⟩
  | .hbm, ⟨26, _⟩ => ⟨S56x56, .f32⟩
  | .hbm, ⟨27, _⟩ => ⟨S58x58, .f32⟩
  | .hbm, ⟨28, _⟩ => ⟨S3364x1, .f32⟩
  | .hbm, ⟨29, _⟩ => ⟨S_, .i32⟩
  | .hbm, ⟨30, _⟩ => ⟨S_, .f32⟩
  | .hbm, ⟨31, _⟩ => ⟨S3448x1, .f32⟩
  | .hbm, ⟨32, _⟩ => ⟨S8x3448x128, .f32⟩
  | .hbm, ⟨33, _⟩ => ⟨S3x3x128x32, .f32⟩
  | .hbm, ⟨34, _⟩ => ⟨S9x128x32, .f32⟩
  | .hbm, ⟨35, _⟩ => ⟨S128x32, .f32⟩
  | .hbm, ⟨36, _⟩ => ⟨S32x128, .f32⟩
  | .hbm, ⟨37, _⟩ => ⟨S_, .f32⟩
  | .hbm, ⟨38, _⟩ => ⟨S58x58, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S_, .f32⟩
  | .hbm, ⟨45, _⟩ => ⟨S56x56, .f32⟩
  | .hbm, ⟨46, _⟩ => ⟨S58x58, .f32⟩
  | .hbm, ⟨47, _⟩ => ⟨S3364x1, .f32⟩
  | .hbm, ⟨48, _⟩ => ⟨S_, .i32⟩
  | .hbm, ⟨49, _⟩ => ⟨S_, .f32⟩
  | .hbm, ⟨50, _⟩ => ⟨S3448x1, .f32⟩
  | .hbm, ⟨51, _⟩ => ⟨S8x3448x128, .f32⟩
  | .hbm, ⟨52, _⟩ => ⟨S3x3x128x32, .f32⟩
  | .hbm, ⟨53, _⟩ => ⟨S9x128x32, .f32⟩
  | .hbm, ⟨54, _⟩ => ⟨S128x32, .f32⟩
  | .hbm, ⟨55, _⟩ => ⟨S32x128, .f32⟩
  | .hbm, ⟨56, _⟩ => ⟨S_, .f32⟩
  | .hbm, ⟨57, _⟩ => ⟨S58x58, .f32⟩
  | .hbm, ⟨58, _⟩ => ⟨S_, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S2, .i32⟩
  | .hbm, ⟨63, _⟩ => ⟨S_, .f32⟩
  | .hbm, ⟨64, _⟩ => ⟨S56x56, .f32⟩
  | .hbm, ⟨65, _⟩ => ⟨S58x58, .f32⟩
  | .hbm, ⟨66, _⟩ => ⟨S3364x1, .f32⟩
  | .hbm, ⟨67, _⟩ => ⟨S_, .i32⟩
  | .hbm, ⟨68, _⟩ => ⟨S_, .f32⟩
  | .hbm, ⟨69, _⟩ => ⟨S3448x1, .f32⟩
  | .hbm, ⟨70, _⟩ => ⟨S8x3448x128, .f32⟩
  | .hbm, ⟨71, _⟩ => ⟨S8x3364x128, .f32⟩
  | .hbm, ⟨72, _⟩ => ⟨S8x58x58x128, .f32⟩
  | .hbm, ⟨73, _⟩ => ⟨S8x56x56x128, .f32⟩
  | .local _ .vmem, ⟨0, _⟩ => ⟨S1x3448x64, .f32⟩
  | .local _ .vmem, ⟨1, _⟩ => ⟨S1x3448x64, .f32⟩
  | .local _ .vmem, ⟨2, _⟩ => ⟨S9x64x128, .f32⟩
  | .local _ .vmem, ⟨3, _⟩ => ⟨S1x128, .f32⟩
  | .local _ .vmem, ⟨4, _⟩ => ⟨S3448x1, .f32⟩
  | .local _ .vmem, ⟨5, _⟩ => ⟨S1x3448x128, .f32⟩
  | .local _ .vmem, ⟨6, _⟩ => ⟨S1x3448x128, .f32⟩
  | .local _ .vmem, ⟨7, _⟩ => ⟨S1x3448x128, .f32⟩
  | .local _ .vmem, ⟨8, _⟩ => ⟨S1x3448x128, .f32⟩
  | .local _ .vmem, ⟨9, _⟩ => ⟨S9x128x32, .f32⟩
  | .local _ .vmem, ⟨10, _⟩ => ⟨S32x128, .f32⟩
  | .local _ .vmem, ⟨11, _⟩ => ⟨S3448x1, .f32⟩
  | .local _ .vmem, ⟨12, _⟩ => ⟨S1x3448x128, .f32⟩
  | .local _ .vmem, ⟨13, _⟩ => ⟨S1x3448x128, .f32⟩
  | .local _ .vmem, ⟨14, _⟩ => ⟨S1x3448x128, .f32⟩
  | .local _ .vmem, ⟨15, _⟩ => ⟨S1x3448x128, .f32⟩
  | .local _ .vmem, ⟨16, _⟩ => ⟨S9x128x32, .f32⟩
  | .local _ .vmem, ⟨17, _⟩ => ⟨S32x128, .f32⟩
  | .local _ .vmem, ⟨18, _⟩ => ⟨S3448x1, .f32⟩
  | .local _ .vmem, ⟨19, _⟩ => ⟨S1x3448x128, .f32⟩
  | .local _ .vmem, ⟨20, _⟩ => ⟨S1x3448x128, .f32⟩
  | _, _ => ⟨S25088x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_call2_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_c_6 : Ref sig .tc := ⟨.hbm, 39, rfl⟩
abbrev main_v21 : Ref sig .tc := ⟨.hbm, 40, rfl⟩
abbrev main_c_7 : Ref sig .tc := ⟨.hbm, 41, rfl⟩
abbrev main_v22 : Ref sig .tc := ⟨.hbm, 42, rfl⟩
abbrev main_v23 : Ref sig .tc := ⟨.hbm, 43, rfl⟩
abbrev main_cst_8 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_9 : Ref sig .tc := ⟨.hbm, 48, rfl⟩
abbrev main_call3_v0 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_10 : Ref sig .tc := ⟨.hbm, 56, rfl⟩
abbrev main_v33 : Ref sig .tc := ⟨.hbm, 57, rfl⟩
abbrev main_c_11 : Ref sig .tc := ⟨.hbm, 58, rfl⟩
abbrev main_v34 : Ref sig .tc := ⟨.hbm, 59, rfl⟩
abbrev main_c_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_14 : Ref sig .tc := ⟨.hbm, 67, rfl⟩
abbrev main_call4_v0 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3448x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3448x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x3448x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x3448x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S9x128x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3448x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x3448x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x3448x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S9x128x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3448x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x3448x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== DecoderReferenceIdeal.lean ====
abbrev S25088x64 : Shape := ⟨2, ![25088, 64]⟩
abbrev S128x64x3x3 : Shape := ⟨4, ![128, 64, 3, 3]⟩
abbrev S128 : Shape := ⟨1, ![128]⟩
abbrev S32x128x3x3 : Shape := ⟨4, ![32, 128, 3, 3]⟩
abbrev S128x32x1x1 : Shape := ⟨4, ![128, 32, 1, 1]⟩
abbrev S8x56x56x64 : Shape := ⟨4, ![8, 56, 56, 64]⟩
abbrev S8x64x56x56 : Shape := ⟨4, ![8, 64, 56, 56]⟩
abbrev S_ : Shape := ⟨0, ![]⟩
abbrev S8x64x58x58 : Shape := ⟨4, ![8, 64, 58, 58]⟩
abbrev S8x56x56x128 : Shape := ⟨4, ![8, 56, 56, 128]⟩
abbrev S128x64x1x1 : Shape := ⟨4, ![128, 64, 1, 1]⟩
abbrev S128x64 : Shape := ⟨2, ![128, 64]⟩
abbrev S8x128x56x56 : Shape := ⟨4, ![8, 128, 56, 56]⟩
abbrev S1x128x1x1 : Shape := ⟨4, ![1, 128, 1, 1]⟩
abbrev S8x128x58x58 : Shape := ⟨4, ![8, 128, 58, 58]⟩
abbrev S8x56x56x32 : Shape := ⟨4, ![8, 56, 56, 32]⟩
abbrev S32x128x1x1 : Shape := ⟨4, ![32, 128, 1, 1]⟩
abbrev S32x128 : Shape := ⟨2, ![32, 128]⟩
abbrev S8x32x56x56 : Shape := ⟨4, ![8, 32, 56, 56]⟩
abbrev S128x32 : Shape := ⟨2, ![128, 32]⟩

abbrev nBuf : Space → Nat
  | .hbm => 201
  | .vmem => 0
  | .smem => 0
  | _ => 0

abbrev hbmTy0_0 (i : Nat) : BufTy := match i % 128 with
  | 0 => ⟨S25088x64, .f32⟩
  | 1 => ⟨S128x64x3x3, .f32⟩
  | 2 => ⟨S128, .f32⟩
  | 3 => ⟨S32x128x3x3, .f32⟩
  | 4 => ⟨S128x32x1x1, .f32⟩
  | 5 => ⟨S32x128x3x3, .f32⟩
  | 6 => ⟨S128x32x1x1, .f32⟩
  | 7 => ⟨S8x56x56x64, .f32⟩
  | 8 => ⟨S8x64x56x56, .f32⟩
  | 9 => ⟨S_, .i32⟩
  | 10 => ⟨S_, .f32⟩
  | 11 => ⟨S8x64x58x58, .f32⟩
  | 12 => ⟨S_, .f32⟩
  | 13 => ⟨S8x56x56x128, .f32⟩
  | 14 => ⟨S8x64x56x56, .f32⟩
  | 15 => ⟨S128x64x1x1, .f32⟩
  | 16 => ⟨S128x64, .f32⟩
  | 17 => ⟨S8x56x56x128, .f32⟩
  | 18 => ⟨S8x56x56x128, .f32⟩
  | 19 => ⟨S8x64x56x56, .f32⟩
  | 20 => ⟨S128x64x1x1, .f32⟩
  | 21 => ⟨S128x64, .f32⟩
  | 22 => ⟨S8x56x56x128, .f32⟩
  | 23 => ⟨S8x56x56x128, .f32⟩
  | 24 => ⟨S8x64x56x56, .f32⟩
  | 25 => ⟨S128x64x1x1, .f32⟩
  | 26 => ⟨S128x64, .f32⟩
  | 27 => ⟨S8x56x56x128, .f32⟩
  | 28 => ⟨S8x56x56x128, .f32⟩
  | 29 => ⟨S8x64x56x56, .f32⟩
  | 30 => ⟨S128x64x1x1, .f32⟩
  | 31 => ⟨S128x64, .f32⟩
  | 32 => ⟨S8x56x56x128, .f32⟩
  | 33 => ⟨S8x56x56x128, .f32⟩
  | 34 => ⟨S8x64x56x56, .f32⟩
  | 35 => ⟨S128x64x1x1, .f32⟩
  | 36 => ⟨S128x64, .f32⟩
  | 37 => ⟨S8x56x56x128, .f32⟩
  | 38 => ⟨S8x56x56x128, .f32⟩
  | 39 => ⟨S8x64x56x56, .f32⟩
  | 40 => ⟨S128x64x1x1, .f32⟩
  | 41 => ⟨S128x64, .f32⟩
  | 42 => ⟨S8x56x56x128, .f32⟩
  | 43 => ⟨S8x56x56x128, .f32⟩
  | 44 => ⟨S8x64x56x56, .f32⟩
  | 45 => ⟨S128x64x1x1, .f32⟩
  | 46 => ⟨S128x64, .f32⟩
  | 47 => ⟨S8x56x56x128, .f32⟩
  | 48 => ⟨S8x56x56x128, .f32⟩
  | 49 => ⟨S8x64x56x56, .f32⟩
  | 50 => ⟨S128x64x1x1, .f32⟩
  | 51 => ⟨S128x64, .f32⟩
  | 52 => ⟨S8x56x56x128, .f32⟩
  | 53 => ⟨S8x56x56x128, .f32⟩
  | 54 => ⟨S8x64x56x56, .f32⟩
  | 55 => ⟨S128x64x1x1, .f32⟩
  | 56 => ⟨S128x64, .f32⟩
  | 57 => ⟨S8x56x56x128, .f32⟩
  | 58 => ⟨S8x56x56x128, .f32⟩
  | 59 => ⟨S8x128x56x56, .f32⟩
  | 60 => ⟨S1x128x1x1, .f32⟩
  | 61 => ⟨S8x128x56x56, .f32⟩
  | 62 => ⟨S8x128x56x56, .f32⟩
  | 63 => ⟨S_, .f32⟩
  | 64 => ⟨S8x128x56x56, .f32⟩
  | 65 => ⟨S8x128x56x56, .f32⟩
  | 66 => ⟨S_, .i32⟩
  | 67 => ⟨S_, .f32⟩
  | 68 => ⟨S8x128x58x58, .f32⟩
  | 69 => ⟨S_, .f32⟩
  | 70 => ⟨S8x56x56x32, .f32⟩
  | 71 => ⟨S8x128x56x56, .f32⟩
  | 72 => ⟨S32x128x1x1, .f32⟩
  | 73 => ⟨S32x128, .f32⟩
  | 74 => ⟨S8x56x56x32, .f32⟩
  | 75 => ⟨S8x56x56x32, .f32⟩
  | 76 => ⟨S8x128x56x56, .f32⟩
  | 77 => ⟨S32x128x1x1, .f32⟩
  | 78 => ⟨S32x128, .f32⟩
  | 79 => ⟨S8x56x56x32, .f32⟩
  | 80 => ⟨S8x56x56x32, .f32⟩
  | 81 => ⟨S8x128x56x56, .f32⟩
  | 82 => ⟨S32x128x1x1, .f32⟩
  | 83 => ⟨S32x128, .f32⟩
  | 84 => ⟨S8x56x56x32, .f32⟩
  | 85 => ⟨S8x56x56x32, .f32⟩
  | 86 => ⟨S8x128x56x56, .f32⟩
  | 87 => ⟨S32x128x1x1, .f32⟩
  | 88 => ⟨S32x128, .f32⟩
  | 89 => ⟨S8x56x56x32, .f32⟩
  | 90 => ⟨S8x56x56x32, .f32⟩
  | 91 => ⟨S8x128x56x56, .f32⟩
  | 92 => ⟨S32x128x1x1, .f32⟩
  | 93 => ⟨S32x128, .f32⟩
  | 94 => ⟨S8x56x56x32, .f32⟩
  | 95 => ⟨S8x56x56x32, .f32⟩
  | 96 => ⟨S8x128x56x56, .f32⟩
  | 97 => ⟨S32x128x1x1, .f32⟩
  | 98 => ⟨S32x128, .f32⟩
  | 99 => ⟨S8x56x56x32, .f32⟩
  | 100 => ⟨S8x56x56x32, .f32⟩
  | 101 => ⟨S8x128x56x56, .f32⟩
  | 102 => ⟨S32x128x1x1, .f32⟩
  | 103 => ⟨S32x128, .f32⟩
  | 104 => ⟨S8x56x56x32, .f32⟩
  | 105 => ⟨S8x56x56x32, .f32⟩
  | 106 => ⟨S8x128x56x56, .f32⟩
  | 107 => ⟨S32x128x1x1, .f32⟩
  | 108 => ⟨S32x128, .f32⟩
  | 109 => ⟨S8x56x56x32, .f32⟩
  | 110 => ⟨S8x56x56x32, .f32⟩
  | 111 => ⟨S8x128x56x56, .f32⟩
  | 112 => ⟨S32x128x1x1, .f32⟩
  | 113 => ⟨S32x128, .f32⟩
  | 114 => ⟨S8x56x56x32, .f32⟩
  | 115 => ⟨S8x56x56x32, .f32⟩
  | 116 => ⟨S8x32x56x56, .f32⟩
  | 117 => ⟨S_, .f32⟩
  | 118 => ⟨S8x32x56x56, .f32⟩
  | 119 => ⟨S8x32x56x56, .f32⟩
  | 120 => ⟨S_, .i32⟩
  | 121 => ⟨S_, .f32⟩
  | 122 => ⟨S8x32x56x56, .f32⟩
  | 123 => ⟨S_, .f32⟩
  | 124 => ⟨S8x56x56x128, .f32⟩
  | 125 => ⟨S128x32, .f32⟩
  | 126 => ⟨S8x56x56x128, .f32⟩
  | 127 => ⟨S8x56x56x128, .f32⟩
  | _ => ⟨S25088x64, .f32⟩

abbrev hbmTy0_1 (i : Nat) : BufTy := match i % 128 with
  | 0 => ⟨S8x128x56x56, .f32⟩
  | 1 => ⟨S8x128x56x56, .f32⟩
  | 2 => ⟨S_, .f32⟩
  | 3 => ⟨S8x128x56x56, .f32⟩
  | 4 => ⟨S8x128x56x56, .f32⟩
  | 5 => ⟨S_, .i32⟩
  | 6 => ⟨S_, .f32⟩
  | 7 => ⟨S8x128x58x58, .f32⟩
  | 8 => ⟨S_, .f32⟩
  | 9 => ⟨S8x56x56x32, .f32⟩
  | 10 => ⟨S8x128x56x56, .f32⟩
  | 11 => ⟨S32x128x1x1, .f32⟩
  | 12 => ⟨S32x128, .f32⟩
  | 13 => ⟨S8x56x56x32, .f32⟩
  | 14 => ⟨S8x56x56x32, .f32⟩
  | 15 => ⟨S8x128x56x56, .f32⟩
  | 16 => ⟨S32x128x1x1, .f32⟩
  | 17 => ⟨S32x128, .f32⟩
  | 18 => ⟨S8x56x56x32, .f32⟩
  | 19 => ⟨S8x56x56x32, .f32⟩
  | 20 => ⟨S8x128x56x56, .f32⟩
  | 21 => ⟨S32x128x1x1, .f32⟩
  | 22 => ⟨S32x128, .f32⟩
  | 23 => ⟨S8x56x56x32, .f32⟩
  | 24 => ⟨S8x56x56x32, .f32⟩
  | 25 => ⟨S8x128x56x56, .f32⟩
  | 26 => ⟨S32x128x1x1, .f32⟩
  | 27 => ⟨S32x128, .f32⟩
  | 28 => ⟨S8x56x56x32, .f32⟩
  | 29 => ⟨S8x56x56x32, .f32⟩
  | 30 => ⟨S8x128x56x56, .f32⟩
  | 31 => ⟨S32x128x1x1, .f32⟩
  | 32 => ⟨S32x128, .f32⟩
  | 33 => ⟨S8x56x56x32, .f32⟩
  | 34 => ⟨S8x56x56x32, .f32⟩
  | 35 => ⟨S8x128x56x56, .f32⟩
  | 36 => ⟨S32x128x1x1, .f32⟩
  | 37 => ⟨S32x128, .f32⟩
  | 38 => ⟨S8x56x56x32, .f32⟩
  | 39 => ⟨S8x56x56x32, .f32⟩
  | 40 => ⟨S8x128x56x56, .f32⟩
  | 41 => ⟨S32x128x1x1, .f32⟩
  | 42 => ⟨S32x128, .f32⟩
  | 43 => ⟨S8x56x56x32, .f32⟩
  | 44 => ⟨S8x56x56x32, .f32⟩
  | 45 => ⟨S8x128x56x56, .f32⟩
  | 46 => ⟨S32x128x1x1, .f32⟩
  | 47 => ⟨S32x128, .f32⟩
  | 48 => ⟨S8x56x56x32, .f32⟩
  | 49 => ⟨S8x56x56x32, .f32⟩
  | 50 => ⟨S8x128x56x56, .f32⟩
  | 51 => ⟨S32x128x1x1, .f32⟩
  | 52 => ⟨S32x128, .f32⟩
  | 53 => ⟨S8x56x56x32, .f32⟩
  | 54 => ⟨S8x56x56x32, .f32⟩
  | 55 => ⟨S8x32x56x56, .f32⟩
  | 56 => ⟨S_, .f32⟩
  | 57 => ⟨S8x32x56x56, .f32⟩
  | 58 => ⟨S8x32x56x56, .f32⟩
  | 59 => ⟨S_, .i32⟩
  | 60 => ⟨S_, .f32⟩
  | 61 => ⟨S8x32x56x56, .f32⟩
  | 62 => ⟨S_, .f32⟩
  | 63 => ⟨S8x56x56x128, .f32⟩
  | 64 => ⟨S128x32, .f32⟩
  | 65 => ⟨S8x56x56x128, .f32⟩
  | 66 => ⟨S8x56x56x128, .f32⟩
  | 67 => ⟨S8x128x56x56, .f32⟩
  | 68 => ⟨S8x128x56x56, .f32⟩
  | 69 => ⟨S_, .f32⟩
  | 70 => ⟨S8x128x56x56, .f32⟩
  | 71 => ⟨S8x128x56x56, .f32⟩
  | 72 => ⟨S8x56x56x128, .f32⟩
  | _ => ⟨S25088x64, .f32⟩

abbrev hbmTy (i : Nat) : BufTy := match i / 128 with
  | 0 => hbmTy0_0 i
  | 1 => hbmTy0_1 i
  | _ => ⟨S25088x64, .f32⟩

abbrev bufTy : (tb : Table) → Fin (tcTables nBuf tb) → BufTy
  | .hbm, ⟨i, _⟩ => hbmTy i
  | _, _ => ⟨S25088x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_call1_cst : Ref sig .tc := ⟨.hbm, 63, rfl⟩
abbrev main_call1_v0 : Ref sig .tc := ⟨.hbm, 64, rfl⟩
abbrev main_v53 : Ref sig .tc := ⟨.hbm, 65, rfl⟩
abbrev main_c_0 : Ref sig .tc := ⟨.hbm, 66, rfl⟩
abbrev main_call2_v0 : Ref sig .tc := ⟨.hbm, 67, rfl⟩
abbrev main_v54 : Ref sig .tc := ⟨.hbm, 68, rfl⟩
abbrev main_cst_1 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_call3_cst : Ref sig .tc := ⟨.hbm, 117, rfl⟩
abbrev main_call3_v0 : Ref sig .tc := ⟨.hbm, 118, rfl⟩
abbrev main_v102 : Ref sig .tc := ⟨.hbm, 119, rfl⟩
abbrev main_c_2 : Ref sig .tc := ⟨.hbm, 120, rfl⟩
abbrev main_call4_v0 : Ref sig .tc := ⟨.hbm, 121, rfl⟩
abbrev main_v103 : Ref sig .tc := ⟨.hbm, 122, rfl⟩
abbrev main_cst_3 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_call5_cst : Ref sig .tc := ⟨.hbm, 130, rfl⟩
abbrev main_call5_v0 : Ref sig .tc := ⟨.hbm, 131, rfl⟩
abbrev main_v110 : Ref sig .tc := ⟨.hbm, 132, rfl⟩
abbrev main_c_4 : Ref sig .tc := ⟨.hbm, 133, rfl⟩
abbrev main_call6_v0 : Ref sig .tc := ⟨.hbm, 134, rfl⟩
abbrev main_v111 : Ref sig .tc := ⟨.hbm, 135, rfl⟩
abbrev main_cst_5 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_call7_cst : Ref sig .tc := ⟨.hbm, 184, rfl⟩
abbrev main_call7_v0 : Ref sig .tc := ⟨.hbm, 185, rfl⟩
abbrev main_v159 : Ref sig .tc := ⟨.hbm, 186, rfl⟩
abbrev main_c_6 : Ref sig .tc := ⟨.hbm, 187, rfl⟩
abbrev main_call8_v0 : Ref sig .tc := ⟨.hbm, 188, rfl⟩
abbrev main_v160 : Ref sig .tc := ⟨.hbm, 189, rfl⟩
abbrev main_cst_7 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_call9_cst : Ref sig .tc := ⟨.hbm, 197, rfl⟩
abbrev main_call9_v0 : Ref sig .tc := ⟨.hbm, 198, rfl⟩
abbrev main_v167 : Ref sig .tc := ⟨.hbm, 199, rfl⟩
abbrev main_v168 : Ref sig .tc := ⟨.hbm, 200, rfl⟩

abbrev nD : Nat := 1
abbrev τ : Topo := Topo.v7x

variable {F : FTy → Type} [FloatOps F]
-- ==== Proof.KernelIdeal.Vq.lean ====
/- The quantiser's region of `KernelIdeal` (custom call 5): per case of its three conditionals (first point, middle points,
   last point) the triple of the body, then what the output buffers hold point by point, the proof data and the body
   obligation, all at any contents `V` the region is entered from. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

-- membership in a rectangle of large extents recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 5 of @main: custom_call 5, `cc5__vq_kernel` (pipeline 5), at the entry contents `V` — class R -/

/-! ## The windows' blocks -/

/-- Window `w`'s block at point `t`, read off its array as the region finds it (`V`). -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for ANY proof data whose array is `V`'s (`hA`) and whose body leaves the block in place (`hafter`). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for ANY proof data whose array is `V`'s (`hA`) and whose body leaves the block in place (`hafter`). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions -/

/-- The condition of the body's `scf.if` 0 (`k5_h1`), from the grid coordinates (the skeleton's scalar chain substituted). -/
abbrev cond5_0 (i : grid5.Coords) : Prop := k5_cond1 i = 1#1
/-- It holds at the first point only — by arithmetic of the point. -/
theorem hcond5_0 : ∀ t : Fin cfg5.N, cond5_0 (grid5.coords t) ↔ t.val % 49 = 0 :=
  (fun t => by
    have ht : t.val < 49 := Nat.lt_of_lt_of_eq t.isLt N_5
    have e0 : (grid5.coords t 0).val = t.val / 1 % 49 := Pipeline.Grid.coords_val t 0 (by decide) rfl
    simp only [cond5_0, k5_cond1, e0]
    word_cmp
   : ∀ t : Fin grid5.N, cond5_0 (grid5.coords t) ↔ t.val % 49 = 0)

/-- The condition of the body's `scf.if` 1 (`k5_h2`), from the grid coordinates (the skeleton's scalar chain substituted). -/
abbrev cond5_1 (i : grid5.Coords) : Prop := k5_cond2 i = 1#1
/-- It holds at the points from point 1 on — decided over the grid. -/
theorem hcond5_1 : ∀ t : Fin cfg5.N, cond5_1 (grid5.coords t) ↔ 1 ≤ t.val :=
  (by decide +kernel : ∀ t : Fin grid5.N, cond5_1 (grid5.coords t) ↔ 1 ≤ t.val)

/-- The condition of the body's `scf.if` 2 (`k5_h3`), from the grid coordinates (the skeleton's scalar chain substituted). -/
abbrev cond5_2 (i : grid5.Coords) : Prop := k5_cond3 i = 1#1
/-- It holds at the last point only — by arithmetic of the point. -/
theorem hcond5_2 : ∀ t : Fin cfg5.N, cond5_2 (grid5.coords t) ↔ t.val % 49 = 48 :=
  (fun t => by
    have ht : t.val < 49 := Nat.lt_of_lt_of_eq t.isLt N_5
    have e0 : (grid5.coords t 0).val = t.val / 1 % 49 := Pipeline.Grid.coords_val t 0 (by decide) rfl
    simp only [cond5_2, k5_cond3, e0]
    word_cmp
   : ∀ t : Fin grid5.N, cond5_2 (grid5.coords t) ↔ t.val % 49 = 48)

/-! ## Where the windows are idle (the printed configuration's table `Cfg.idle`) -/

/-- Window 0 is never idle (an input). -/
theorem liveAt5_0 : ∀ t : Fin cfg5.N, cfg5.idle 0 (grid5.coords t) = false := fun _ => rfl
/-- Window 1 is never idle (an input). -/
theorem liveAt5_1 : ∀ t : Fin cfg5.N, cfg5.idle 1 (grid5.coords t) = false := fun _ => rfl
/-- Window 2 is never idle (an output stored at every point, under no condition). -/
theorem liveAt5_2 : ∀ t : Fin cfg5.N, cfg5.idle 2 (grid5.coords t) = false := fun _ => rfl
/-- Whether output 3's buffer is FRESH at each position `1 ‥ N` — holds nothing the body stored since the region's entry or the last write-back (written back at the point before, or idle there and fresh before it) —, as a bitmask the classifier computed, bit `n` for position `n + 1`; position 0 is fresh. -/
def freshTab5_3 : ℕ → Bool
  | 0 => true
  | n + 1 => (0x1000000000000 : ℕ).testBit n
theorem freshTab5_3_step : ∀ t : Fin cfg5.N,
    freshTab5_3 (t.val + 1) = ((cfg5.win 3).flush t || (cfg5.idle 3 (cfg5.grid.coords t) && freshTab5_3 t.val)) := by decide +kernel
theorem fresh5_3_eq (t : Fin cfg5.N) : cfg5.fresh 3 t.val = freshTab5_3 t.val :=
  Pipeline.Cfg.fresh_tab cfg5 3 freshTab5_3 rfl freshTab5_3_step t.val (Nat.le_of_lt t.isLt)
/-- At the points of case A the printed configuration (`Cfg.idle`) calls output 3 live. -/
theorem liveAt5_3_A : ∀ t : Fin cfg5.N, cond5_0 (grid5.coords t) → ¬cond5_1 (grid5.coords t) → ¬cond5_2 (grid5.coords t) → cfg5.idle 3 (grid5.coords t) = false := by decide +kernel
/-- At the points of case B the printed configuration (`Cfg.idle`) calls output 3 live. -/
theorem liveAt5_3_B : ∀ t : Fin cfg5.N, ¬cond5_0 (grid5.coords t) → cond5_1 (grid5.coords t) → ¬cond5_2 (grid5.coords t) → cfg5.idle 3 (grid5.coords t) = false := by decide +kernel
/-- At the points of case B, which keeps output 3's prior contents (reads it before covering, or covers it in part), the window's buffer is not FRESH: something was stored into it since the region's entry or its last write-back, idle points between or not. -/
theorem notFresh5_3_B : ∀ t : Fin cfg5.N, ¬cond5_0 (grid5.coords t) → cond5_1 (grid5.coords t) → ¬cond5_2 (grid5.coords t) → cfg5.fresh 3 t.val = false := by
  intro t; rw [fresh5_3_eq t]; revert t; decide +kernel
/-- At the points of case C the printed configuration (`Cfg.idle`) calls output 3 live. -/
theorem liveAt5_3_C : ∀ t : Fin cfg5.N, ¬cond5_0 (grid5.coords t) → cond5_1 (grid5.coords t) → cond5_2 (grid5.coords t) → cfg5.idle 3 (grid5.coords t) = false := by decide +kernel
/-- At the points of case C, which keeps output 3's prior contents (reads it before covering, or covers it in part), the window's buffer is not FRESH: something was stored into it since the region's entry or its last write-back, idle points between or not. -/
theorem notFresh5_3_C : ∀ t : Fin cfg5.N, ¬cond5_0 (grid5.coords t) → cond5_1 (grid5.coords t) → cond5_2 (grid5.coords t) → cfg5.fresh 3 t.val = false := by
  intro t; rw [fresh5_3_eq t]; revert t; decide +kernel
/-- Whether output 4's buffer is FRESH at each position `1 ‥ N` — holds nothing the body stored since the region's entry or the last write-back (written back at the point before, or idle there and fresh before it) —, as a bitmask the classifier computed, bit `n` for position `n + 1`; position 0 is fresh. -/
def freshTab5_4 : ℕ → Bool
  | 0 => true
  | n + 1 => (0x1000000000000 : ℕ).testBit n
theorem freshTab5_4_step : ∀ t : Fin cfg5.N,
    freshTab5_4 (t.val + 1) = ((cfg5.win 4).flush t || (cfg5.idle 4 (cfg5.grid.coords t) && freshTab5_4 t.val)) := by decide +kernel
theorem fresh5_4_eq (t : Fin cfg5.N) : cfg5.fresh 4 t.val = freshTab5_4 t.val :=
  Pipeline.Cfg.fresh_tab cfg5 4 freshTab5_4 rfl freshTab5_4_step t.val (Nat.le_of_lt t.isLt)
/-- At the points of case A the printed configuration (`Cfg.idle`) calls output 4 live. -/
theorem liveAt5_4_A : ∀ t : Fin cfg5.N, cond5_0 (grid5.coords t) → ¬cond5_1 (grid5.coords t) → ¬cond5_2 (grid5.coords t) → cfg5.idle 4 (grid5.coords t) = false := by decide +kernel
/-- At the points of case B the printed configuration (`Cfg.idle`) calls output 4 live. -/
theorem liveAt5_4_B : ∀ t : Fin cfg5.N, ¬cond5_0 (grid5.coords t) → cond5_1 (grid5.coords t) → ¬cond5_2 (grid5.coords t) → cfg5.idle 4 (grid5.coords t) = false := by decide +kernel
/-- At the points of case B, which keeps output 4's prior contents (reads it before covering, or covers it in part), the window's buffer is not FRESH: something was stored into it since the region's entry or its last write-back, idle points between or not. -/
theorem notFresh5_4_B : ∀ t : Fin cfg5.N, ¬cond5_0 (grid5.coords t) → cond5_1 (grid5.coords t) → ¬cond5_2 (grid5.coords t) → cfg5.fresh 4 t.val = false := by
  intro t; rw [fresh5_4_eq t]; revert t; decide +kernel
/-- At the points of case C the printed configuration (`Cfg.idle`) calls output 4 live. -/
theorem liveAt5_4_C : ∀ t : Fin cfg5.N, ¬cond5_0 (grid5.coords t) → cond5_1 (grid5.coords t) → cond5_2 (grid5.coords t) → cfg5.idle 4 (grid5.coords t) = false := by decide +kernel
/-- At the points of case C, which keeps output 4's prior contents (reads it before covering, or covers it in part), the window's buffer is not FRESH: something was stored into it since the region's entry or its last write-back, idle points between or not. -/
theorem notFresh5_4_C : ∀ t : Fin cfg5.N, ¬cond5_0 (grid5.coords t) → cond5_1 (grid5.coords t) → cond5_2 (grid5.coords t) → cfg5.fresh 4 t.val = false := by
  intro t; rw [fresh5_4_eq t]; revert t; decide +kernel
/-- At the points of case A the printed configuration (`Cfg.idle`) calls output 5 idle. -/
theorem idleAt5_5_A : ∀ t : Fin cfg5.N, cond5_0 (grid5.coords t) → ¬cond5_1 (grid5.coords t) → ¬cond5_2 (grid5.coords t) → cfg5.idle 5 (grid5.coords t) = true := by decide +kernel
/-- At the points of case A the pipeline does not write output 5's block back. -/
theorem noFlush5_5_A : ∀ t : Fin cfg5.N, cond5_0 (grid5.coords t) → ¬cond5_1 (grid5.coords t) → ¬cond5_2 (grid5.coords t) → (cfg5.win 5).flush t = false := by decide +kernel
/-- At the points of case B the printed configuration (`Cfg.idle`) calls output 5 idle. -/
theorem idleAt5_5_B : ∀ t : Fin cfg5.N, ¬cond5_0 (grid5.coords t) → cond5_1 (grid5.coords t) → ¬cond5_2 (grid5.coords t) → cfg5.idle 5 (grid5.coords t) = true := by decide +kernel
/-- At the points of case B the pipeline does not write output 5's block back. -/
theorem noFlush5_5_B : ∀ t : Fin cfg5.N, ¬cond5_0 (grid5.coords t) → cond5_1 (grid5.coords t) → ¬cond5_2 (grid5.coords t) → (cfg5.win 5).flush t = false := by decide +kernel
/-- At the points of case C the printed configuration (`Cfg.idle`) calls output 5 live. -/
theorem liveAt5_5_C : ∀ t : Fin cfg5.N, ¬cond5_0 (grid5.coords t) → cond5_1 (grid5.coords t) → cond5_2 (grid5.coords t) → cfg5.idle 5 (grid5.coords t) = false := by decide +kernel

/-! ## The kernel body on any staging memrefs: a subtype the run finds -/

/-- One staging buffer of output window 2, through which its contents are stated (`View.read_writes_of_cover`. -/
abbrev VO5_2 : View sig .tc .vmem S512x64 .f32 := (Memref.whole cc5_stg2_0 : Memref sig .tc .vmem S512x64 .f32).view
/-- One staging buffer of output window 3, through which its contents are stated (`View.read_writes_of_cover`. -/
abbrev VO5_3 : View sig .tc .vmem S1x512 .f32 := (Memref.whole cc5_stg3_0 : Memref sig .tc .vmem S1x512 .f32).view
/-- One staging buffer of output window 4, through which its contents are stated (`View.read_writes_of_cover`. -/
abbrev VO5_4 : View sig .tc .vmem S1x1 .f32 := (Memref.whole cc5_stg4_0 : Memref sig .tc .vmem S1x1 .f32).view
/-- One staging buffer of output window 5, through which its contents are stated (`View.read_writes_of_cover`. -/
abbrev VO5_5 : View sig .tc .vmem S1x1 .f32 := (Memref.whole cc5_stg5_0 : Memref sig .tc .vmem S1x1 .f32).view
/-- Each window's current staging memref at point `t`, spelled as the pipeline passes it (`bodyAt5`), and its wholeness. -/
abbrev ms5_0 (t : Fin cfg5.N) : Memref sig .tc .vmem S512x64 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S512x64 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S512x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x512 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x1 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1x1 .f32 := win5_5.stage (cfg5.slots t 5)
abbrev hs5_5 (t : Fin cfg5.N) : (ms5_5 t).IsWhole := hstage5_5 ((cfg5.slots t 5).cast nbuf5_5)

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken. -/
noncomputable def kernelRun5_A (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (hc0 : cond5_0 i) (hc1 : ¬cond5_1 i) (hc2 : ¬cond5_2 i)
    (x0 : Vec F S512x64 .f32) (x1 : Vec F S512x64 .f32) :
    Σ' (L2 : List (View.Piece (Elt F) S512x64 .f32)), Σ' (L3 : List (View.Piece (Elt F) S1x512 .f32)), Σ' (L4 : List (View.Piece (Elt F) S1x1 .f32)), { L5 : List (View.Piece (Elt F) S1x1 .f32) //
      ∀ (xi5 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xi5
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ owns (c : Thread nD τ) arg6 fullShare xi5) -∗ K ⟨⟩))
          ⊢ wp frame (wpE (defs₀ (F := F)) Variants.none c none) E (cc5__vq_kernel i arg1 harg1 arg2 harg2 arg3 harg3 arg4 harg4 arg5 harg5 arg6 harg6) K } := by
  refine ⟨?_, ?_, ?_, [], fun xi5 E K => ?run⟩
  case run =>
    simp only [cc5__vq_kernel_eq_skeleton]; unfold cc5__vq_kernel_skel
    simp only [k5_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, H5⟩, Hk⟩
    obtain rfl := harg1.eq_unread hf0; obtain rfl := harg2.eq_unread hf1; obtain rfl := harg6.eq_unread hf5
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; isplitr; · ipureintro; exact harg6.read_unread _
    iexact H5

/-- Case A's pieces for output 2 tile its block (1 store of `S512x64`, checked by the kernel's evaluation. -/
theorem cover5_A_2 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (hc0 : cond5_0 i) (hc1 : ¬cond5_1 i) (hc2 : ¬cond5_2 i)
    (x0 : Vec F S512x64 .f32) (x1 : Vec F S512x64 .f32) (y : S512x64.Idx) :
    ∃ pc ∈ (kernelRun5_A c i arg1 harg1 arg2 harg2 arg3 harg3 arg4 harg4 arg5 harg5 arg6 harg6 hc0 hc1 hc2 x0 x1).1, y ∈ pc.1.set :=
  View.cover_of_tiledL (kernelRun5_A c i arg1 harg1 arg2 harg2 arg3 harg3 arg4 harg4 arg5 harg5 arg6 harg6 hc0 hc1 hc2 x0 x1).1 S512x64.size (by sl_kernel_rfl) y

/-- What case A leaves in output 2's staging buffer. -/
def out5_A_2 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (hc0 : cond5_0 i) (hc1 : ¬cond5_1 i) (hc2 : ¬cond5_2 i)
    (x0 : Vec F S512x64 .f32) (x1 : Vec F S512x64 .f32) : Vec F S512x64 .f32 :=
  VO5_2.read (Elt F) (VO5_2.writes (Elt F) VO5_2.junk (kernelRun5_A c i arg1 harg1 arg2 harg2 arg3 harg3 arg4 harg4 arg5 harg5 arg6 harg6 hc0 hc1 hc2 x0 x1).1)

/-- Case A's pieces for output 3 tile its block (1 store of `S1x512`, checked by the kernel's evaluation. -/
theorem cover5_A_3 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (hc0 : cond5_0 i) (hc1 : ¬cond5_1 i) (hc2 : ¬cond5_2 i)
    (x0 : Vec F S512x64 .f32) (x1 : Vec F S512x64 .f32) (y : S1x512.Idx) :
    ∃ pc ∈ (kernelRun5_A c i arg1 harg1 arg2 harg2 arg3 harg3 arg4 harg4 arg5 harg5 arg6 harg6 hc0 hc1 hc2 x0 x1).2.1, y ∈ pc.1.set :=
  View.cover_of_tiledL (kernelRun5_A c i arg1 harg1 arg2 harg2 arg3 harg3 arg4 harg4 arg5 harg5 arg6 harg6 hc0 hc1 hc2 x0 x1).2.1 S1x512.size (by sl_kernel_rfl) y

/-- What case A leaves in output 3's staging buffer. -/
def out5_A_3 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (hc0 : cond5_0 i) (hc1 : ¬cond5_1 i) (hc2 : ¬cond5_2 i)
    (x0 : Vec F S512x64 .f32) (x1 : Vec F S512x64 .f32) : Vec F S1x512 .f32 :=
  VO5_3.read (Elt F) (VO5_3.writes (Elt F) VO5_3.junk (kernelRun5_A c i arg1 harg1 arg2 harg2 arg3 harg3 arg4 harg4 arg5 harg5 arg6 harg6 hc0 hc1 hc2 x0 x1).2.1)

/-- Case A's pieces for output 4 tile its block (1 store of `S1x1`, checked by the kernel's evaluation. -/
theorem cover5_A_4 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (hc0 : cond5_0 i) (hc1 : ¬cond5_1 i) (hc2 : ¬cond5_2 i)
    (x0 : Vec F S512x64 .f32) (x1 : Vec F S512x64 .f32) (y : S1x1.Idx) :
    ∃ pc ∈ (kernelRun5_A c i arg1 harg1 arg2 harg2 arg3 harg3 arg4 harg4 arg5 harg5 arg6 harg6 hc0 hc1 hc2 x0 x1).2.2.1, y ∈ pc.1.set :=
  View.cover_of_tiledL (kernelRun5_A c i arg1 harg1 arg2 harg2 arg3 harg3 arg4 harg4 arg5 harg5 arg6 harg6 hc0 hc1 hc2 x0 x1).2.2.1 S1x1.size (by sl_kernel_rfl) y

/-- What case A leaves in output 4's staging buffer. -/
def out5_A_4 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (hc0 : cond5_0 i) (hc1 : ¬cond5_1 i) (hc2 : ¬cond5_2 i)
    (x0 : Vec F S512x64 .f32) (x1 : Vec F S512x64 .f32) : Vec F S1x1 .f32 :=
  VO5_4.read (Elt F) (VO5_4.writes (Elt F) VO5_4.junk (kernelRun5_A c i arg1 harg1 arg2 harg2 arg3 harg3 arg4 harg4 arg5 harg5 arg6 harg6 hc0 hc1 hc2 x0 x1).2.2.1)

/-- Case A stores nothing into output 5 (the window is idle at its points and not written back there). -/
def out5_A_5 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (hc0 : cond5_0 i) (hc1 : ¬cond5_1 i) (hc2 : ¬cond5_2 i)
    (x0 : Vec F S512x64 .f32) (x1 : Vec F S512x64 .f32) : Vec F S1x1 .f32 :=
  VO5_5.read (Elt F) (VO5_5.writes (Elt F) VO5_5.junk (kernelRun5_A c i arg1 harg1 arg2 harg2 arg3 harg3 arg4 harg4 arg5 harg5 arg6 harg6 hc0 hc1 hc2 x0 x1).2.2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken. -/
noncomputable def kernelRun5_B (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (hc0 : ¬cond5_0 i) (hc1 : cond5_1 i) (hc2 : ¬cond5_2 i)
    (x0 : Vec F S512x64 .f32) (x1 : Vec F S512x64 .f32) (xo3 : Vec F S1x512 .f32) (xo4 : Vec F S1x1 .f32) :
    Σ' (L2 : List (View.Piece (Elt F) S512x64 .f32)), Σ' (L3 : List (View.Piece (Elt F) S1x512 .f32)), Σ' (L4 : List (View.Piece (Elt F) S1x1 .f32)), { L5 : List (View.Piece (Elt F) S1x1 .f32) //
      ∀ (xi5 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3 ∗ owns (c : Thread nD τ) arg5 fullShare xo4 ∗ owns (c : Thread nD τ) arg6 fullShare xi5
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ owns (c : Thread nD τ) arg6 fullShare xi5) -∗ K ⟨⟩))
          ⊢ wp frame (wpE (defs₀ (F := F)) Variants.none c none) E (cc5__vq_kernel i arg1 harg1 arg2 harg2 arg3 harg3 arg4 harg4 arg5 harg5 arg6 harg6) K } := by
  refine ⟨?_, ?_, ?_, [], fun xi5 E K => ?run⟩
  case run =>
    simp only [cc5__vq_kernel_eq_skeleton]; unfold cc5__vq_kernel_skel
    simp only [k5_part1_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%f5, %hf5, H5⟩, Hk⟩
    obtain rfl := harg1.eq_unread hf0; obtain rfl := harg2.eq_unread hf1; obtain rfl := harg4.eq_unread hf3; obtain rfl := harg5.eq_unread hf4; obtain rfl := harg6.eq_unread hf5
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; isplitr; · ipureintro; exact harg6.read_unread _
    iexact H5

/-- Case B's pieces for output 2 tile its block (1 store of `S512x64`, checked by the kernel's evaluation. -/
theorem cover5_B_2 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (hc0 : ¬cond5_0 i) (hc1 : cond5_1 i) (hc2 : ¬cond5_2 i)
    (x0 : Vec F S512x64 .f32) (x1 : Vec F S512x64 .f32) (xo3 : Vec F S1x512 .f32) (xo4 : Vec F S1x1 .f32) (y : S512x64.Idx) :
    ∃ pc ∈ (kernelRun5_B c i arg1 harg1 arg2 harg2 arg3 harg3 arg4 harg4 arg5 harg5 arg6 harg6 hc0 hc1 hc2 x0 x1 xo3 xo4).1, y ∈ pc.1.set :=
  View.cover_of_tiledL (kernelRun5_B c i arg1 harg1 arg2 harg2 arg3 harg3 arg4 harg4 arg5 harg5 arg6 harg6 hc0 hc1 hc2 x0 x1 xo3 xo4).1 S512x64.size (by sl_kernel_rfl) y

/-- What case B leaves in output 2's staging buffer. -/
def out5_B_2 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (hc0 : ¬cond5_0 i) (hc1 : cond5_1 i) (hc2 : ¬cond5_2 i)
    (x0 : Vec F S512x64 .f32) (x1 : Vec F S512x64 .f32) (xo3 : Vec F S1x512 .f32) (xo4 : Vec F S1x1 .f32) : Vec F S512x64 .f32 :=
  VO5_2.read (Elt F) (VO5_2.writes (Elt F) VO5_2.junk (kernelRun5_B c i arg1 harg1 arg2 harg2 arg3 harg3 arg4 harg4 arg5 harg5 arg6 harg6 hc0 hc1 hc2 x0 x1 xo3 xo4).1)

/-- Case B's pieces for output 3 tile its block (1 store of `S1x512`, checked by the kernel's evaluation. -/
theorem cover5_B_3 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (hc0 : ¬cond5_0 i) (hc1 : cond5_1 i) (hc2 : ¬cond5_2 i)
    (x0 : Vec F S512x64 .f32) (x1 : Vec F S512x64 .f32) (xo3 : Vec F S1x512 .f32) (xo4 : Vec F S1x1 .f32) (y : S1x512.Idx) :
    ∃ pc ∈ (kernelRun5_B c i arg1 harg1 arg2 harg2 arg3 harg3 arg4 harg4 arg5 harg5 arg6 harg6 hc0 hc1 hc2 x0 x1 xo3 xo4).2.1, y ∈ pc.1.set :=
  View.cover_of_tiledL (kernelRun5_B c i arg1 harg1 arg2 harg2 arg3 harg3 arg4 harg4 arg5 harg5 arg6 harg6 hc0 hc1 hc2 x0 x1 xo3 xo4).2.1 S1x512.size (by sl_kernel_rfl) y

/-- What case B leaves in output 3's staging buffer. -/
def out5_B_3 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (hc0 : ¬cond5_0 i) (hc1 : cond5_1 i) (hc2 : ¬cond5_2 i)
    (x0 : Vec F S512x64 .f32) (x1 : Vec F S512x64 .f32) (xo3 : Vec F S1x512 .f32) (xo4 : Vec F S1x1 .f32) : Vec F S1x512 .f32 :=
  VO5_3.read (Elt F) (VO5_3.writes (Elt F) VO5_3.junk (kernelRun5_B c i arg1 harg1 arg2 harg2 arg3 harg3 arg4 harg4 arg5 harg5 arg6 harg6 hc0 hc1 hc2 x0 x1 xo3 xo4).2.1)

/-- Case B's pieces for output 4 tile its block (1 store of `S1x1`, checked by the kernel's evaluation. -/
theorem cover5_B_4 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (hc0 : ¬cond5_0 i) (hc1 : cond5_1 i) (hc2 : ¬cond5_2 i)
    (x0 : Vec F S512x64 .f32) (x1 : Vec F S512x64 .f32) (xo3 : Vec F S1x512 .f32) (xo4 : Vec F S1x1 .f32) (y : S1x1.Idx) :
    ∃ pc ∈ (kernelRun5_B c i arg1 harg1 arg2 harg2 arg3 harg3 arg4 harg4 arg5 harg5 arg6 harg6 hc0 hc1 hc2 x0 x1 xo3 xo4).2.2.1, y ∈ pc.1.set :=
  View.cover_of_tiledL (kernelRun5_B c i arg1 harg1 arg2 harg2 arg3 harg3 arg4 harg4 arg5 harg5 arg6 harg6 hc0 hc1 hc2 x0 x1 xo3 xo4).2.2.1 S1x1.size (by sl_kernel_rfl) y

/-- What case B leaves in output 4's staging buffer. -/
def out5_B_4 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (hc0 : ¬cond5_0 i) (hc1 : cond5_1 i) (hc2 : ¬cond5_2 i)
    (x0 : Vec F S512x64 .f32) (x1 : Vec F S512x64 .f32) (xo3 : Vec F S1x512 .f32) (xo4 : Vec F S1x1 .f32) : Vec F S1x1 .f32 :=
  VO5_4.read (Elt F) (VO5_4.writes (Elt F) VO5_4.junk (kernelRun5_B c i arg1 harg1 arg2 harg2 arg3 harg3 arg4 harg4 arg5 harg5 arg6 harg6 hc0 hc1 hc2 x0 x1 xo3 xo4).2.2.1)

/-- Case B stores nothing into output 5 (the window is idle at its points and not written back there). -/
def out5_B_5 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (hc0 : ¬cond5_0 i) (hc1 : cond5_1 i) (hc2 : ¬cond5_2 i)
    (x0 : Vec F S512x64 .f32) (x1 : Vec F S512x64 .f32) (xo3 : Vec F S1x512 .f32) (xo4 : Vec F S1x1 .f32) : Vec F S1x1 .f32 :=
  VO5_5.read (Elt F) (VO5_5.writes (Elt F) VO5_5.junk (kernelRun5_B c i arg1 harg1 arg2 harg2 arg3 harg3 arg4 harg4 arg5 harg5 arg6 harg6 hc0 hc1 hc2 x0 x1 xo3 xo4).2.2.2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken. -/
noncomputable def kernelRun5_C (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (hc0 : ¬cond5_0 i) (hc1 : cond5_1 i) (hc2 : cond5_2 i)
    (x0 : Vec F S512x64 .f32) (x1 : Vec F S512x64 .f32) (xo3 : Vec F S1x512 .f32) (xo4 : Vec F S1x1 .f32) :
    Σ' (L2 : List (View.Piece (Elt F) S512x64 .f32)), Σ' (L3 : List (View.Piece (Elt F) S1x512 .f32)), Σ' (L4 : List (View.Piece (Elt F) S1x1 .f32)), { L5 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3 ∗ owns (c : Thread nD τ) arg5 fullShare xo4 ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc5__vq_kernel i arg1 harg1 arg2 harg2 arg3 harg3 arg4 harg4 arg5 harg5 arg6 harg6) K } := by
  refine ⟨?_, ?_, ?_, ?_, fun E K => ?run⟩
  case run =>
    simp only [cc5__vq_kernel_eq_skeleton]; unfold cc5__vq_kernel_skel
    simp only [k5_part1_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%d5, %f5, -, H5⟩, Hk⟩
    obtain rfl := harg1.eq_unread hf0; obtain rfl := harg2.eq_unread hf1; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact H5

/-- Case C's pieces for output 2 tile its block (1 store of `S512x64`, checked by the kernel's evaluation. -/
theorem cover5_C_2 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (hc0 : ¬cond5_0 i) (hc1 : cond5_1 i) (hc2 : cond5_2 i)
    (x0 : Vec F S512x64 .f32) (x1 : Vec F S512x64 .f32) (xo3 : Vec F S1x512 .f32) (xo4 : Vec F S1x1 .f32) (y : S512x64.Idx) :
    ∃ pc ∈ (kernelRun5_C c i arg1 harg1 arg2 harg2 arg3 harg3 arg4 harg4 arg5 harg5 arg6 harg6 hc0 hc1 hc2 x0 x1 xo3 xo4).1, y ∈ pc.1.set :=
  View.cover_of_tiledL (kernelRun5_C c i arg1 harg1 arg2 harg2 arg3 harg3 arg4 harg4 arg5 harg5 arg6 harg6 hc0 hc1 hc2 x0 x1 xo3 xo4).1 S512x64.size (by sl_kernel_rfl) y

/-- What case C leaves in output 2's staging buffer. -/
def out5_C_2 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (hc0 : ¬cond5_0 i) (hc1 : cond5_1 i) (hc2 : cond5_2 i)
    (x0 : Vec F S512x64 .f32) (x1 : Vec F S512x64 .f32) (xo3 : Vec F S1x512 .f32) (xo4 : Vec F S1x1 .f32) : Vec F S512x64 .f32 :=
  VO5_2.read (Elt F) (VO5_2.writes (Elt F) VO5_2.junk (kernelRun5_C c i arg1 harg1 arg2 harg2 arg3 harg3 arg4 harg4 arg5 harg5 arg6 harg6 hc0 hc1 hc2 x0 x1 xo3 xo4).1)

/-- Case C's pieces for output 3 tile its block (1 store of `S1x512`, checked by the kernel's evaluation. -/
theorem cover5_C_3 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (hc0 : ¬cond5_0 i) (hc1 : cond5_1 i) (hc2 : cond5_2 i)
    (x0 : Vec F S512x64 .f32) (x1 : Vec F S512x64 .f32) (xo3 : Vec F S1x512 .f32) (xo4 : Vec F S1x1 .f32) (y : S1x512.Idx) :
    ∃ pc ∈ (kernelRun5_C c i arg1 harg1 arg2 harg2 arg3 harg3 arg4 harg4 arg5 harg5 arg6 harg6 hc0 hc1 hc2 x0 x1 xo3 xo4).2.1, y ∈ pc.1.set :=
  View.cover_of_tiledL (kernelRun5_C c i arg1 harg1 arg2 harg2 arg3 harg3 arg4 harg4 arg5 harg5 arg6 harg6 hc0 hc1 hc2 x0 x1 xo3 xo4).2.1 S1x512.size (by sl_kernel_rfl) y

/-- What case C leaves in output 3's staging buffer. -/
def out5_C_3 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (hc0 : ¬cond5_0 i) (hc1 : cond5_1 i) (hc2 : cond5_2 i)
    (x0 : Vec F S512x64 .f32) (x1 : Vec F S512x64 .f32) (xo3 : Vec F S1x512 .f32) (xo4 : Vec F S1x1 .f32) : Vec F S1x512 .f32 :=
  VO5_3.read (Elt F) (VO5_3.writes (Elt F) VO5_3.junk (kernelRun5_C c i arg1 harg1 arg2 harg2 arg3 harg3 arg4 harg4 arg5 harg5 arg6 harg6 hc0 hc1 hc2 x0 x1 xo3 xo4).2.1)

/-- Case C's pieces for output 4 tile its block (2 stores of `S1x1`, checked by the kernel's evaluation. -/
theorem cover5_C_4 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (hc0 : ¬cond5_0 i) (hc1 : cond5_1 i) (hc2 : cond5_2 i)
    (x0 : Vec F S512x64 .f32) (x1 : Vec F S512x64 .f32) (xo3 : Vec F S1x512 .f32) (xo4 : Vec F S1x1 .f32) (y : S1x1.Idx) :
    ∃ pc ∈ (kernelRun5_C c i arg1 harg1 arg2 harg2 arg3 harg3 arg4 harg4 arg5 harg5 arg6 harg6 hc0 hc1 hc2 x0 x1 xo3 xo4).2.2.1, y ∈ pc.1.set :=
  View.cover_of_tiledL (kernelRun5_C c i arg1 harg1 arg2 harg2 arg3 harg3 arg4 harg4 arg5 harg5 arg6 harg6 hc0 hc1 hc2 x0 x1 xo3 xo4).2.2.1 S1x1.size (by sl_kernel_rfl) y

/-- What case C leaves in output 4's staging buffer. -/
def out5_C_4 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (hc0 : ¬cond5_0 i) (hc1 : cond5_1 i) (hc2 : cond5_2 i)
    (x0 : Vec F S512x64 .f32) (x1 : Vec F S512x64 .f32) (xo3 : Vec F S1x512 .f32) (xo4 : Vec F S1x1 .f32) : Vec F S1x1 .f32 :=
  VO5_4.read (Elt F) (VO5_4.writes (Elt F) VO5_4.junk (kernelRun5_C c i arg1 harg1 arg2 harg2 arg3 harg3 arg4 harg4 arg5 harg5 arg6 harg6 hc0 hc1 hc2 x0 x1 xo3 xo4).2.2.1)

/-- Case C's pieces for output 5 tile its block (1 store of `S1x1`, checked by the kernel's evaluation. -/
theorem cover5_C_5 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (hc0 : ¬cond5_0 i) (hc1 : cond5_1 i) (hc2 : cond5_2 i)
    (x0 : Vec F S512x64 .f32) (x1 : Vec F S512x64 .f32) (xo3 : Vec F S1x512 .f32) (xo4 : Vec F S1x1 .f32) (y : S1x1.Idx) :
    ∃ pc ∈ (kernelRun5_C c i arg1 harg1 arg2 harg2 arg3 harg3 arg4 harg4 arg5 harg5 arg6 harg6 hc0 hc1 hc2 x0 x1 xo3 xo4).2.2.2.1, y ∈ pc.1.set :=
  View.cover_of_tiledL (kernelRun5_C c i arg1 harg1 arg2 harg2 arg3 harg3 arg4 harg4 arg5 harg5 arg6 harg6 hc0 hc1 hc2 x0 x1 xo3 xo4).2.2.2.1 S1x1.size (by sl_kernel_rfl) y

/-- What case C leaves in output 5's staging buffer. -/
def out5_C_5 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (hc0 : ¬cond5_0 i) (hc1 : cond5_1 i) (hc2 : cond5_2 i)
    (x0 : Vec F S512x64 .f32) (x1 : Vec F S512x64 .f32) (xo3 : Vec F S1x512 .f32) (xo4 : Vec F S1x1 .f32) : Vec F S1x1 .f32 :=
  VO5_5.read (Elt F) (VO5_5.writes (Elt F) VO5_5.junk (kernelRun5_C c i arg1 harg1 arg2 harg2 arg3 harg3 arg4 harg4 arg5 harg5 arg6 harg6 hc0 hc1 hc2 x0 x1 xo3 xo4).2.2.2.1)

/-! ## What the outputs hold after each point -/

/-- THE ACCUMULATION. What the outputs' staging buffers hold after the body at position `n` (a tuple, in window order). -/
def outsAt5 (c : Dev nD) : (n : ℕ) → n < cfg5.N → Vec F S512x64 .f32 × Vec F S1x512 .f32 × Vec F S1x1 .f32 × Vec F S1x1 .f32
  | 0, hn => (out5_A_2 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) ((hcond5_0 ⟨0, hn⟩).mpr (Nat.zero_mod _)) (fun h => (fun h => by (try dsimp only at h); omega) ((hcond5_1 ⟨0, hn⟩).mp h)) (fun h => (fun h => by (try dsimp only at h); omega) ((hcond5_2 ⟨0, hn⟩).mp h)) (iblk5 V c 0 ⟨0, hn⟩) (iblk5 V c 1 ⟨0, hn⟩), out5_A_3 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) ((hcond5_0 ⟨0, hn⟩).mpr (Nat.zero_mod _)) (fun h => (fun h => by (try dsimp only at h); omega) ((hcond5_1 ⟨0, hn⟩).mp h)) (fun h => (fun h => by (try dsimp only at h); omega) ((hcond5_2 ⟨0, hn⟩).mp h)) (iblk5 V c 0 ⟨0, hn⟩) (iblk5 V c 1 ⟨0, hn⟩), out5_A_4 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) ((hcond5_0 ⟨0, hn⟩).mpr (Nat.zero_mod _)) (fun h => (fun h => by (try dsimp only at h); omega) ((hcond5_1 ⟨0, hn⟩).mp h)) (fun h => (fun h => by (try dsimp only at h); omega) ((hcond5_2 ⟨0, hn⟩).mp h)) (iblk5 V c 0 ⟨0, hn⟩) (iblk5 V c 1 ⟨0, hn⟩), out5_A_5 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) ((hcond5_0 ⟨0, hn⟩).mpr (Nat.zero_mod _)) (fun h => (fun h => by (try dsimp only at h); omega) ((hcond5_1 ⟨0, hn⟩).mp h)) (fun h => (fun h => by (try dsimp only at h); omega) ((hcond5_2 ⟨0, hn⟩).mp h)) (iblk5 V c 0 ⟨0, hn⟩) (iblk5 V c 1 ⟨0, hn⟩))
  | n + 1, hn =>
    if h0 : (n + 1) % 49 = 0 then
      if h1 : 1 ≤ (n + 1) then
        False.elim (by have hN : n + 1 < 49 := lt_of_lt_of_eq hn (show cfg5.N = 49 from N_5); omega)
      else
        if h2 : (n + 1) % 49 = 48 then
          False.elim (by have hN : n + 1 < 49 := lt_of_lt_of_eq hn (show cfg5.N = 49 from N_5); omega)
        else
          (out5_A_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) ((hcond5_0 ⟨n + 1, hn⟩).mpr h0) (fun h => h1 ((hcond5_1 ⟨n + 1, hn⟩).mp h)) (fun h => h2 ((hcond5_2 ⟨n + 1, hn⟩).mp h)) (iblk5 V c 0 ⟨n + 1, hn⟩) (iblk5 V c 1 ⟨n + 1, hn⟩), out5_A_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) ((hcond5_0 ⟨n + 1, hn⟩).mpr h0) (fun h => h1 ((hcond5_1 ⟨n + 1, hn⟩).mp h)) (fun h => h2 ((hcond5_2 ⟨n + 1, hn⟩).mp h)) (iblk5 V c 0 ⟨n + 1, hn⟩) (iblk5 V c 1 ⟨n + 1, hn⟩), out5_A_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) ((hcond5_0 ⟨n + 1, hn⟩).mpr h0) (fun h => h1 ((hcond5_1 ⟨n + 1, hn⟩).mp h)) (fun h => h2 ((hcond5_2 ⟨n + 1, hn⟩).mp h)) (iblk5 V c 0 ⟨n + 1, hn⟩) (iblk5 V c 1 ⟨n + 1, hn⟩), out5_A_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) ((hcond5_0 ⟨n + 1, hn⟩).mpr h0) (fun h => h1 ((hcond5_1 ⟨n + 1, hn⟩).mp h)) (fun h => h2 ((hcond5_2 ⟨n + 1, hn⟩).mp h)) (iblk5 V c 0 ⟨n + 1, hn⟩) (iblk5 V c 1 ⟨n + 1, hn⟩))
    else
      if h1 : 1 ≤ (n + 1) then
        if h2 : (n + 1) % 49 = 48 then
          (out5_C_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (fun h => h0 ((hcond5_0 ⟨n + 1, hn⟩).mp h)) ((hcond5_1 ⟨n + 1, hn⟩).mpr h1) ((hcond5_2 ⟨n + 1, hn⟩).mpr h2) (iblk5 V c 0 ⟨n + 1, hn⟩) (iblk5 V c 1 ⟨n + 1, hn⟩) (outsAt5 c n (Nat.lt_of_succ_lt hn)).2.1 (outsAt5 c n (Nat.lt_of_succ_lt hn)).2.2.1, out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (fun h => h0 ((hcond5_0 ⟨n + 1, hn⟩).mp h)) ((hcond5_1 ⟨n + 1, hn⟩).mpr h1) ((hcond5_2 ⟨n + 1, hn⟩).mpr h2) (iblk5 V c 0 ⟨n + 1, hn⟩) (iblk5 V c 1 ⟨n + 1, hn⟩) (outsAt5 c n (Nat.lt_of_succ_lt hn)).2.1 (outsAt5 c n (Nat.lt_of_succ_lt hn)).2.2.1, out5_C_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (fun h => h0 ((hcond5_0 ⟨n + 1, hn⟩).mp h)) ((hcond5_1 ⟨n + 1, hn⟩).mpr h1) ((hcond5_2 ⟨n + 1, hn⟩).mpr h2) (iblk5 V c 0 ⟨n + 1, hn⟩) (iblk5 V c 1 ⟨n + 1, hn⟩) (outsAt5 c n (Nat.lt_of_succ_lt hn)).2.1 (outsAt5 c n (Nat.lt_of_succ_lt hn)).2.2.1, out5_C_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (fun h => h0 ((hcond5_0 ⟨n + 1, hn⟩).mp h)) ((hcond5_1 ⟨n + 1, hn⟩).mpr h1) ((hcond5_2 ⟨n + 1, hn⟩).mpr h2) (iblk5 V c 0 ⟨n + 1, hn⟩) (iblk5 V c 1 ⟨n + 1, hn⟩) (outsAt5 c n (Nat.lt_of_succ_lt hn)).2.1 (outsAt5 c n (Nat.lt_of_succ_lt hn)).2.2.1)
        else
          (out5_B_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (fun h => h0 ((hcond5_0 ⟨n + 1, hn⟩).mp h)) ((hcond5_1 ⟨n + 1, hn⟩).mpr h1) (fun h => h2 ((hcond5_2 ⟨n + 1, hn⟩).mp h)) (iblk5 V c 0 ⟨n + 1, hn⟩) (iblk5 V c 1 ⟨n + 1, hn⟩) (outsAt5 c n (Nat.lt_of_succ_lt hn)).2.1 (outsAt5 c n (Nat.lt_of_succ_lt hn)).2.2.1, out5_B_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (fun h => h0 ((hcond5_0 ⟨n + 1, hn⟩).mp h)) ((hcond5_1 ⟨n + 1, hn⟩).mpr h1) (fun h => h2 ((hcond5_2 ⟨n + 1, hn⟩).mp h)) (iblk5 V c 0 ⟨n + 1, hn⟩) (iblk5 V c 1 ⟨n + 1, hn⟩) (outsAt5 c n (Nat.lt_of_succ_lt hn)).2.1 (outsAt5 c n (Nat.lt_of_succ_lt hn)).2.2.1, out5_B_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (fun h => h0 ((hcond5_0 ⟨n + 1, hn⟩).mp h)) ((hcond5_1 ⟨n + 1, hn⟩).mpr h1) (fun h => h2 ((hcond5_2 ⟨n + 1, hn⟩).mp h)) (iblk5 V c 0 ⟨n + 1, hn⟩) (iblk5 V c 1 ⟨n + 1, hn⟩) (outsAt5 c n (Nat.lt_of_succ_lt hn)).2.1 (outsAt5 c n (Nat.lt_of_succ_lt hn)).2.2.1, out5_B_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (fun h => h0 ((hcond5_0 ⟨n + 1, hn⟩).mp h)) ((hcond5_1 ⟨n + 1, hn⟩).mpr h1) (fun h => h2 ((hcond5_2 ⟨n + 1, hn⟩).mp h)) (iblk5 V c 0 ⟨n + 1, hn⟩) (iblk5 V c 1 ⟨n + 1, hn⟩) (outsAt5 c n (Nat.lt_of_succ_lt hn)).2.1 (outsAt5 c n (Nat.lt_of_succ_lt hn)).2.2.1)
      else
        False.elim (by have hN : n + 1 < 49 := lt_of_lt_of_eq hn (show cfg5.N = 49 from N_5); omega)

/-- `outsAt5` at a point of case A: that case's contents. -/
theorem outsAt5_A (c : Dev nD) (t : Fin cfg5.N) (h0 : t.val % 49 = 0) (h1 : ¬1 ≤ t.val) (h2 : ¬t.val % 49 = 48) :
    outsAt5 V c t.val t.isLt = (out5_A_2 c (grid5.coords t) (ms5_0 t) (hs5_0 t) (ms5_1 t) (hs5_1 t) (ms5_2 t) (hs5_2 t) (ms5_3 t) (hs5_3 t) (ms5_4 t) (hs5_4 t) (ms5_5 t) (hs5_5 t) ((hcond5_0 t).mpr h0) (fun h => h1 ((hcond5_1 t).mp h)) (fun h => h2 ((hcond5_2 t).mp h)) (iblk5 V c 0 t) (iblk5 V c 1 t), out5_A_3 c (grid5.coords t) (ms5_0 t) (hs5_0 t) (ms5_1 t) (hs5_1 t) (ms5_2 t) (hs5_2 t) (ms5_3 t) (hs5_3 t) (ms5_4 t) (hs5_4 t) (ms5_5 t) (hs5_5 t) ((hcond5_0 t).mpr h0) (fun h => h1 ((hcond5_1 t).mp h)) (fun h => h2 ((hcond5_2 t).mp h)) (iblk5 V c 0 t) (iblk5 V c 1 t), out5_A_4 c (grid5.coords t) (ms5_0 t) (hs5_0 t) (ms5_1 t) (hs5_1 t) (ms5_2 t) (hs5_2 t) (ms5_3 t) (hs5_3 t) (ms5_4 t) (hs5_4 t) (ms5_5 t) (hs5_5 t) ((hcond5_0 t).mpr h0) (fun h => h1 ((hcond5_1 t).mp h)) (fun h => h2 ((hcond5_2 t).mp h)) (iblk5 V c 0 t) (iblk5 V c 1 t), out5_A_5 c (grid5.coords t) (ms5_0 t) (hs5_0 t) (ms5_1 t) (hs5_1 t) (ms5_2 t) (hs5_2 t) (ms5_3 t) (hs5_3 t) (ms5_4 t) (hs5_4 t) (ms5_5 t) (hs5_5 t) ((hcond5_0 t).mpr h0) (fun h => h1 ((hcond5_1 t).mp h)) (fun h => h2 ((hcond5_2 t).mp h)) (iblk5 V c 0 t) (iblk5 V c 1 t)) := by
  obtain ⟨n, hn⟩ := t
  cases n with
  | zero => exact rfl
  | succ n => exact (dif_pos h0).trans ((dif_neg h1).trans ((dif_neg h2).trans rfl))

/-- `outsAt5` at a point of case B: that case's contents, over what the point before left. -/
theorem outsAt5_B (c : Dev nD) (t : Fin cfg5.N) (h0 : ¬t.val % 49 = 0) (h1 : 1 ≤ t.val) (h2 : ¬t.val % 49 = 48) :
    outsAt5 V c t.val t.isLt = (out5_B_2 c (grid5.coords t) (ms5_0 t) (hs5_0 t) (ms5_1 t) (hs5_1 t) (ms5_2 t) (hs5_2 t) (ms5_3 t) (hs5_3 t) (ms5_4 t) (hs5_4 t) (ms5_5 t) (hs5_5 t) (fun h => h0 ((hcond5_0 t).mp h)) ((hcond5_1 t).mpr h1) (fun h => h2 ((hcond5_2 t).mp h)) (iblk5 V c 0 t) (iblk5 V c 1 t) (outsAt5 V c (t.val - 1) (Nat.lt_of_le_of_lt (Nat.sub_le _ _) t.isLt)).2.1 (outsAt5 V c (t.val - 1) (Nat.lt_of_le_of_lt (Nat.sub_le _ _) t.isLt)).2.2.1, out5_B_3 c (grid5.coords t) (ms5_0 t) (hs5_0 t) (ms5_1 t) (hs5_1 t) (ms5_2 t) (hs5_2 t) (ms5_3 t) (hs5_3 t) (ms5_4 t) (hs5_4 t) (ms5_5 t) (hs5_5 t) (fun h => h0 ((hcond5_0 t).mp h)) ((hcond5_1 t).mpr h1) (fun h => h2 ((hcond5_2 t).mp h)) (iblk5 V c 0 t) (iblk5 V c 1 t) (outsAt5 V c (t.val - 1) (Nat.lt_of_le_of_lt (Nat.sub_le _ _) t.isLt)).2.1 (outsAt5 V c (t.val - 1) (Nat.lt_of_le_of_lt (Nat.sub_le _ _) t.isLt)).2.2.1, out5_B_4 c (grid5.coords t) (ms5_0 t) (hs5_0 t) (ms5_1 t) (hs5_1 t) (ms5_2 t) (hs5_2 t) (ms5_3 t) (hs5_3 t) (ms5_4 t) (hs5_4 t) (ms5_5 t) (hs5_5 t) (fun h => h0 ((hcond5_0 t).mp h)) ((hcond5_1 t).mpr h1) (fun h => h2 ((hcond5_2 t).mp h)) (iblk5 V c 0 t) (iblk5 V c 1 t) (outsAt5 V c (t.val - 1) (Nat.lt_of_le_of_lt (Nat.sub_le _ _) t.isLt)).2.1 (outsAt5 V c (t.val - 1) (Nat.lt_of_le_of_lt (Nat.sub_le _ _) t.isLt)).2.2.1, out5_B_5 c (grid5.coords t) (ms5_0 t) (hs5_0 t) (ms5_1 t) (hs5_1 t) (ms5_2 t) (hs5_2 t) (ms5_3 t) (hs5_3 t) (ms5_4 t) (hs5_4 t) (ms5_5 t) (hs5_5 t) (fun h => h0 ((hcond5_0 t).mp h)) ((hcond5_1 t).mpr h1) (fun h => h2 ((hcond5_2 t).mp h)) (iblk5 V c 0 t) (iblk5 V c 1 t) (outsAt5 V c (t.val - 1) (Nat.lt_of_le_of_lt (Nat.sub_le _ _) t.isLt)).2.1 (outsAt5 V c (t.val - 1) (Nat.lt_of_le_of_lt (Nat.sub_le _ _) t.isLt)).2.2.1) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt5` at a point of case C: that case's contents, over what the point before left. -/
theorem outsAt5_C (c : Dev nD) (t : Fin cfg5.N) (h0 : ¬t.val % 49 = 0) (h1 : 1 ≤ t.val) (h2 : t.val % 49 = 48) :
    outsAt5 V c t.val t.isLt = (out5_C_2 c (grid5.coords t) (ms5_0 t) (hs5_0 t) (ms5_1 t) (hs5_1 t) (ms5_2 t) (hs5_2 t) (ms5_3 t) (hs5_3 t) (ms5_4 t) (hs5_4 t) (ms5_5 t) (hs5_5 t) (fun h => h0 ((hcond5_0 t).mp h)) ((hcond5_1 t).mpr h1) ((hcond5_2 t).mpr h2) (iblk5 V c 0 t) (iblk5 V c 1 t) (outsAt5 V c (t.val - 1) (Nat.lt_of_le_of_lt (Nat.sub_le _ _) t.isLt)).2.1 (outsAt5 V c (t.val - 1) (Nat.lt_of_le_of_lt (Nat.sub_le _ _) t.isLt)).2.2.1, out5_C_3 c (grid5.coords t) (ms5_0 t) (hs5_0 t) (ms5_1 t) (hs5_1 t) (ms5_2 t) (hs5_2 t) (ms5_3 t) (hs5_3 t) (ms5_4 t) (hs5_4 t) (ms5_5 t) (hs5_5 t) (fun h => h0 ((hcond5_0 t).mp h)) ((hcond5_1 t).mpr h1) ((hcond5_2 t).mpr h2) (iblk5 V c 0 t) (iblk5 V c 1 t) (outsAt5 V c (t.val - 1) (Nat.lt_of_le_of_lt (Nat.sub_le _ _) t.isLt)).2.1 (outsAt5 V c (t.val - 1) (Nat.lt_of_le_of_lt (Nat.sub_le _ _) t.isLt)).2.2.1, out5_C_4 c (grid5.coords t) (ms5_0 t) (hs5_0 t) (ms5_1 t) (hs5_1 t) (ms5_2 t) (hs5_2 t) (ms5_3 t) (hs5_3 t) (ms5_4 t) (hs5_4 t) (ms5_5 t) (hs5_5 t) (fun h => h0 ((hcond5_0 t).mp h)) ((hcond5_1 t).mpr h1) ((hcond5_2 t).mpr h2) (iblk5 V c 0 t) (iblk5 V c 1 t) (outsAt5 V c (t.val - 1) (Nat.lt_of_le_of_lt (Nat.sub_le _ _) t.isLt)).2.1 (outsAt5 V c (t.val - 1) (Nat.lt_of_le_of_lt (Nat.sub_le _ _) t.isLt)).2.2.1, out5_C_5 c (grid5.coords t) (ms5_0 t) (hs5_0 t) (ms5_1 t) (hs5_1 t) (ms5_2 t) (hs5_2 t) (ms5_3 t) (hs5_3 t) (ms5_4 t) (hs5_4 t) (ms5_5 t) (hs5_5 t) (fun h => h0 ((hcond5_0 t).mp h)) ((hcond5_1 t).mpr h1) ((hcond5_2 t).mpr h2) (iblk5 V c 0 t) (iblk5 V c 1 t) (outsAt5 V c (t.val - 1) (Nat.lt_of_le_of_lt (Nat.sub_le _ _) t.isLt)).2.1 (outsAt5 V c (t.val - 1) (Nat.lt_of_le_of_lt (Nat.sub_le _ _) t.isLt)).2.2.1) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-! ## The pipeline's proof data -/

/-- The proof data of pipeline 5 on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
    | ⟨3, _⟩ => (outsAt5 V c t.val t.isLt).2.1
    | ⟨4, _⟩ => (outsAt5 V c t.val t.isLt).2.2.1
    | ⟨5, _⟩ => (outsAt5 V c t.val t.isLt).2.2.2
  Φ _ := Pipeline.ΦA spec5 c
  q _ := fullShare
  owed _ := 0

/-- The proof data's arrays are the region-entry contents, by projecting the definition (`dsimp`). -/
theorem A_eq5 (c : Dev nD) (w : Fin cfg5.W) : (dat5 V c).A w = V c (Pipeline.arrRef spec5 w) := by
  dsimp only [dat5]

/-- What the body leaves, window by window (the proof data's `match` reduced by `dsimp`). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]
theorem after5_3 (c : Dev nD) (t : Fin cfg5.N) : (dat5 V c).after 3 t = (outsAt5 V c t.val t.isLt).2.1 := by dsimp only [dat5]
theorem after5_4 (c : Dev nD) (t : Fin cfg5.N) : (dat5 V c).after 4 t = (outsAt5 V c t.val t.isLt).2.2.1 := by dsimp only [dat5]
theorem after5_5 (c : Dev nD) (t : Fin cfg5.N) : (dat5 V c).after 5 t = (outsAt5 V c t.val t.isLt).2.2.2 := by dsimp only [dat5]

/-- Each input's current staging buffer holds its block at every point, fetched there or not (`beforeK_W_of`). -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- Output 3's contents CARRY through the points that leave it idle. -/
theorem hcarry5_3 (c : Dev nD) : ∀ (t : Fin cfg5.N) (_ : t.val ≠ 0), cfg5.idle 3 (grid5.coords t) = true → cfg5.fresh 3 t.val = false →
    (dat5 V c).after 3 t = (dat5 V c).after 3 ⟨t.val - 1, by omega⟩ := by
  intro t _ hi _
  have hN : t.val < 49 := lt_of_lt_of_eq t.isLt (show cfg5.N = 49 from N_5)
  rw [after5_3, after5_3]
  by_cases h0 : t.val % 49 = 0
  · by_cases h1 : 1 ≤ t.val
    · exfalso; omega
    · by_cases h2 : t.val % 49 = 48
      · exfalso; omega
      · rw [liveAt5_3_A t ((hcond5_0 t).mpr h0) (fun h => h1 ((hcond5_1 t).mp h)) (fun h => h2 ((hcond5_2 t).mp h))] at hi
        exact absurd hi Bool.false_ne_true
  · by_cases h1 : 1 ≤ t.val
    · by_cases h2 : t.val % 49 = 48
      · rw [liveAt5_3_C t (fun h => h0 ((hcond5_0 t).mp h)) ((hcond5_1 t).mpr h1) ((hcond5_2 t).mpr h2)] at hi
        exact absurd hi Bool.false_ne_true
      · rw [liveAt5_3_B t (fun h => h0 ((hcond5_0 t).mp h)) ((hcond5_1 t).mpr h1) (fun h => h2 ((hcond5_2 t).mp h))] at hi
        exact absurd hi Bool.false_ne_true
    · exfalso; omega

/-- Output 4's contents CARRY through the points that leave it idle. -/
theorem hcarry5_4 (c : Dev nD) : ∀ (t : Fin cfg5.N) (_ : t.val ≠ 0), cfg5.idle 4 (grid5.coords t) = true → cfg5.fresh 4 t.val = false →
    (dat5 V c).after 4 t = (dat5 V c).after 4 ⟨t.val - 1, by omega⟩ := by
  intro t _ hi _
  have hN : t.val < 49 := lt_of_lt_of_eq t.isLt (show cfg5.N = 49 from N_5)
  rw [after5_4, after5_4]
  by_cases h0 : t.val % 49 = 0
  · by_cases h1 : 1 ≤ t.val
    · exfalso; omega
    · by_cases h2 : t.val % 49 = 48
      · exfalso; omega
      · rw [liveAt5_4_A t ((hcond5_0 t).mpr h0) (fun h => h1 ((hcond5_1 t).mp h)) (fun h => h2 ((hcond5_2 t).mp h))] at hi
        exact absurd hi Bool.false_ne_true
  · by_cases h1 : 1 ≤ t.val
    · by_cases h2 : t.val % 49 = 48
      · rw [liveAt5_4_C t (fun h => h0 ((hcond5_0 t).mp h)) ((hcond5_1 t).mpr h1) ((hcond5_2 t).mpr h2)] at hi
        exact absurd hi Bool.false_ne_true
      · rw [liveAt5_4_B t (fun h => h0 ((hcond5_0 t).mp h)) ((hcond5_1 t).mpr h1) (fun h => h2 ((hcond5_2 t).mp h))] at hi
        exact absurd hi Bool.false_ne_true
    · exfalso; omega
/-- At a point of case B output 3's current staging buffer holds what the point before left. -/
theorem before5_3_B (c : Dev nD) (t : Fin cfg5.N) (h0 : ¬t.val % 49 = 0) (h1 : 1 ≤ t.val) (h2 : ¬t.val % 49 = 48) (d) :
    (dat5 V c).before 3 t d = (outsAt5 V c (t.val - 1) (Nat.lt_of_le_of_lt (Nat.sub_le _ _) t.isLt)).2.1 := by
  rw [Dat.before_out_traj _ 3 rfl (fun _ _ => rfl) (hcarry5_3 V c) t.val t rfl d,
    if_neg (by rw [notFresh5_3_B t (fun h => h0 ((hcond5_0 t).mp h)) ((hcond5_1 t).mpr h1) (fun h => h2 ((hcond5_2 t).mp h))]; exact Bool.false_ne_true)]
  dsimp only [dat5]
/-- At a point of case B output 4's current staging buffer holds what the point before left. -/
theorem before5_4_B (c : Dev nD) (t : Fin cfg5.N) (h0 : ¬t.val % 49 = 0) (h1 : 1 ≤ t.val) (h2 : ¬t.val % 49 = 48) (d) :
    (dat5 V c).before 4 t d = (outsAt5 V c (t.val - 1) (Nat.lt_of_le_of_lt (Nat.sub_le _ _) t.isLt)).2.2.1 := by
  rw [Dat.before_out_traj _ 4 rfl (fun _ _ => rfl) (hcarry5_4 V c) t.val t rfl d,
    if_neg (by rw [notFresh5_4_B t (fun h => h0 ((hcond5_0 t).mp h)) ((hcond5_1 t).mpr h1) (fun h => h2 ((hcond5_2 t).mp h))]; exact Bool.false_ne_true)]
  dsimp only [dat5]
/-- At a point of case C output 3's current staging buffer holds what the point before left. -/
theorem before5_3_C (c : Dev nD) (t : Fin cfg5.N) (h0 : ¬t.val % 49 = 0) (h1 : 1 ≤ t.val) (h2 : t.val % 49 = 48) (d) :
    (dat5 V c).before 3 t d = (outsAt5 V c (t.val - 1) (Nat.lt_of_le_of_lt (Nat.sub_le _ _) t.isLt)).2.1 := by
  rw [Dat.before_out_traj _ 3 rfl (fun _ _ => rfl) (hcarry5_3 V c) t.val t rfl d,
    if_neg (by rw [notFresh5_3_C t (fun h => h0 ((hcond5_0 t).mp h)) ((hcond5_1 t).mpr h1) ((hcond5_2 t).mpr h2)]; exact Bool.false_ne_true)]
  dsimp only [dat5]
/-- At a point of case C output 4's current staging buffer holds what the point before left. -/
theorem before5_4_C (c : Dev nD) (t : Fin cfg5.N) (h0 : ¬t.val % 49 = 0) (h1 : 1 ≤ t.val) (h2 : t.val % 49 = 48) (d) :
    (dat5 V c).before 4 t d = (outsAt5 V c (t.val - 1) (Nat.lt_of_le_of_lt (Nat.sub_le _ _) t.isLt)).2.2.1 := by
  rw [Dat.before_out_traj _ 4 rfl (fun _ _ => rfl) (hcarry5_4 V c) t.val t rfl d,
    if_neg (by rw [notFresh5_4_C t (fun h => h0 ((hcond5_0 t).mp h)) ((hcond5_1 t).mpr h1) ((hcond5_2 t).mpr h2)]; exact Bool.false_ne_true)]
  dsimp only [dat5]

/-! ## The body obligation, at a generic point -/

/-- What the body is called with at point `t`,. -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)

set_option maxHeartbeats 1200000 in
/-- The body at any point. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl]
  have hN : t.val < 49 := lt_of_lt_of_eq t.isLt (show cfg5.N = 49 from N_5)
  by_cases h0 : t.val % 49 = 0
  · by_cases h1 : 1 ≤ t.val
    · exfalso; omega
    · by_cases h2 : t.val % 49 = 48
      · exfalso; omega
      · rw [show (dat5 V c).leavesExact 0 t = owns (c : Thread nD τ) (ms5_0 t) fullShare ((dat5 V c).after 0 t) from by
      unfold Dat.leavesExact; rw [liveAt5_0 t], after5_0]
        rw [show (dat5 V c).leavesExact 1 t = owns (c : Thread nD τ) (ms5_1 t) fullShare ((dat5 V c).after 1 t) from by
      unfold Dat.leavesExact; rw [liveAt5_1 t], after5_1]
        rw [show (dat5 V c).leavesExact 2 t = owns (c : Thread nD τ) (ms5_2 t) fullShare ((dat5 V c).after 2 t) from by
      unfold Dat.leavesExact; rw [liveAt5_2 t], after5_2]
        rw [show (dat5 V c).leavesExact 3 t = owns (c : Thread nD τ) (ms5_3 t) fullShare ((dat5 V c).after 3 t) from by
      unfold Dat.leavesExact; rw [liveAt5_3_A t ((hcond5_0 t).mpr h0) (fun h => h1 ((hcond5_1 t).mp h)) (fun h => h2 ((hcond5_2 t).mp h))], after5_3]
        rw [show (dat5 V c).leavesExact 4 t = owns (c : Thread nD τ) (ms5_4 t) fullShare ((dat5 V c).after 4 t) from by
      unfold Dat.leavesExact; rw [liveAt5_4_A t ((hcond5_0 t).mpr h0) (fun h => h1 ((hcond5_1 t).mp h)) (fun h => h2 ((hcond5_2 t).mp h))], after5_4]
        rw [Dat.leavesExact_idle (dat5 V c) 5 t (idleAt5_5_A t ((hcond5_0 t).mpr h0) (fun h => h1 ((hcond5_1 t).mp h)) (fun h => h2 ((hcond5_2 t).mp h))) (noFlush5_5_A t ((hcond5_0 t).mpr h0) (fun h => h1 ((hcond5_1 t).mp h)) (fun h => h2 ((hcond5_2 t).mp h)))]
        rw [outsAt5_A V c t h0 h1 h2]
        unfold out5_A_2 out5_A_3 out5_A_4; (try dsimp only)
        iintro ⟨HΦ, Ho, ⟨%d0, H0⟩, ⟨%d1, H1⟩, ⟨%d2, H2⟩, ⟨%d3, H3⟩, ⟨%d4, H4⟩, ⟨%d5, H5⟩⟩
        iapply ((kernelRun5_A c (grid5.coords t) _ _ _ _ _ _ _ _ _ _ _ _ ((hcond5_0 t).mpr h0) (fun h => h1 ((hcond5_1 t).mp h)) (fun h => h2 ((hcond5_2 t).mp h)) (iblk5 V c 0 t) (iblk5 V c 1 t)).2.2.2.2 _ Set.univ _)
        isplitl [H0]; · iexact H0
        isplitl [H1]; · iexact H1
        isplitl [H2]; · iexists _; iexact H2
        isplitl [H3]; · iexists _; iexact H3
        isplitl [H4]; · iexists _; iexact H4
        isplitl [H5]; · iexact H5
        iintro ⟨H0, H1, ⟨%e2, H2⟩, ⟨%e3, H3⟩, ⟨%e4, H4⟩, H5⟩
        isplitl [HΦ]; · iexact HΦ
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover5_A_2 c _ _ _ _ _ _ _ _ _ _ _ _ _ _ _ _ _ _)
        isplitl [H3]
        · unfold owns; iexists _; isplitr
          swap; · iexact H3
          ipureintro; exact View.read_writes_of_cover _ _ _ _ _ (cover5_A_3 c _ _ _ _ _ _ _ _ _ _ _ _ _ _ _ _ _ _)
        isplitl [H4]
        · unfold owns; iexists _; isplitr
          swap; · iexact H4
          ipureintro; exact View.read_writes_of_cover _ _ _ _ _ (cover5_A_4 c _ _ _ _ _ _ _ _ _ _ _ _ _ _ _ _ _ _)
        iexists _; iexact H5
  · by_cases h1 : 1 ≤ t.val
    · by_cases h2 : t.val % 49 = 48
      · rw [show (dat5 V c).leavesExact 0 t = owns (c : Thread nD τ) (ms5_0 t) fullShare ((dat5 V c).after 0 t) from by
      unfold Dat.leavesExact; rw [liveAt5_0 t], after5_0]
        rw [show (dat5 V c).leavesExact 1 t = owns (c : Thread nD τ) (ms5_1 t) fullShare ((dat5 V c).after 1 t) from by
      unfold Dat.leavesExact; rw [liveAt5_1 t], after5_1]
        rw [show (dat5 V c).leavesExact 2 t = owns (c : Thread nD τ) (ms5_2 t) fullShare ((dat5 V c).after 2 t) from by
      unfold Dat.leavesExact; rw [liveAt5_2 t], after5_2]
        rw [show (dat5 V c).leavesExact 3 t = owns (c : Thread nD τ) (ms5_3 t) fullShare ((dat5 V c).after 3 t) from by
      unfold Dat.leavesExact; rw [liveAt5_3_C t (fun h => h0 ((hcond5_0 t).mp h)) ((hcond5_1 t).mpr h1) ((hcond5_2 t).mpr h2)], after5_3]
        rw [show (dat5 V c).leavesExact 4 t = owns (c : Thread nD τ) (ms5_4 t) fullShare ((dat5 V c).after 4 t) from by
      unfold Dat.leavesExact; rw [liveAt5_4_C t (fun h => h0 ((hcond5_0 t).mp h)) ((hcond5_1 t).mpr h1) ((hcond5_2 t).mpr h2)], after5_4]
        rw [show (dat5 V c).leavesExact 5 t = owns (c : Thread nD τ) (ms5_5 t) fullShare ((dat5 V c).after 5 t) from by
      unfold Dat.leavesExact; rw [liveAt5_5_C t (fun h => h0 ((hcond5_0 t).mp h)) ((hcond5_1 t).mpr h1) ((hcond5_2 t).mpr h2)], after5_5]
        rw [outsAt5_C V c t h0 h1 h2]
        simp only [before5_3_C V c t h0 h1 h2, before5_4_C V c t h0 h1 h2]
        unfold out5_C_2 out5_C_3 out5_C_4 out5_C_5; (try dsimp only)
        iintro ⟨HΦ, Ho, ⟨%d0, H0⟩, ⟨%d1, H1⟩, ⟨%d2, H2⟩, ⟨%d3, H3⟩, ⟨%d4, H4⟩, ⟨%d5, H5⟩⟩
        iapply ((kernelRun5_C c (grid5.coords t) _ _ _ _ _ _ _ _ _ _ _ _ (fun h => h0 ((hcond5_0 t).mp h)) ((hcond5_1 t).mpr h1) ((hcond5_2 t).mpr h2) (iblk5 V c 0 t) (iblk5 V c 1 t) _ _).2.2.2.2 Set.univ _)
        isplitl [H0]; · iexact H0
        isplitl [H1]; · iexact H1
        isplitl [H2]; · iexists _; iexact H2
        isplitl [H3]; · iexact H3
        isplitl [H4]; · iexact H4
        isplitl [H5]; · iexists _; iexact H5
        iintro ⟨H0, H1, ⟨%e2, H2⟩, ⟨%e3, H3⟩, ⟨%e4, H4⟩, ⟨%e5, H5⟩⟩
        isplitl [HΦ]; · iexact HΦ
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover5_C_2 c _ _ _ _ _ _ _ _ _ _ _ _ _ _ _ _ _ _ _ _)
        isplitl [H3]
        · unfold owns; iexists _; isplitr
          swap; · iexact H3
          ipureintro; exact View.read_writes_of_cover _ _ _ _ _ (cover5_C_3 c _ _ _ _ _ _ _ _ _ _ _ _ _ _ _ _ _ _ _ _)
        isplitl [H4]
        · unfold owns; iexists _; isplitr
          swap; · iexact H4
          ipureintro; exact View.read_writes_of_cover _ _ _ _ _ (cover5_C_4 c _ _ _ _ _ _ _ _ _ _ _ _ _ _ _ _ _ _ _ _)
        unfold owns; iexists _; isplitr
        swap; · iexact H5
        ipureintro; exact View.read_writes_of_cover _ _ _ _ _ (cover5_C_5 c _ _ _ _ _ _ _ _ _ _ _ _ _ _ _ _ _ _ _ _)
      · rw [show (dat5 V c).leavesExact 0 t = owns (c : Thread nD τ) (ms5_0 t) fullShare ((dat5 V c).after 0 t) from by
      unfold Dat.leavesExact; rw [liveAt5_0 t], after5_0]
        rw [show (dat5 V c).leavesExact 1 t = owns (c : Thread nD τ) (ms5_1 t) fullShare ((dat5 V c).after 1 t) from by
      unfold Dat.leavesExact; rw [liveAt5_1 t], after5_1]
        rw [show (dat5 V c).leavesExact 2 t = owns (c : Thread nD τ) (ms5_2 t) fullShare ((dat5 V c).after 2 t) from by
      unfold Dat.leavesExact; rw [liveAt5_2 t], after5_2]
        rw [show (dat5 V c).leavesExact 3 t = owns (c : Thread nD τ) (ms5_3 t) fullShare ((dat5 V c).after 3 t) from by
      unfold Dat.leavesExact; rw [liveAt5_3_B t (fun h => h0 ((hcond5_0 t).mp h)) ((hcond5_1 t).mpr h1) (fun h => h2 ((hcond5_2 t).mp h))], after5_3]
        rw [show (dat5 V c).leavesExact 4 t = owns (c : Thread nD τ) (ms5_4 t) fullShare ((dat5 V c).after 4 t) from by
      unfold Dat.leavesExact; rw [liveAt5_4_B t (fun h => h0 ((hcond5_0 t).mp h)) ((hcond5_1 t).mpr h1) (fun h => h2 ((hcond5_2 t).mp h))], after5_4]
        rw [Dat.leavesExact_idle (dat5 V c) 5 t (idleAt5_5_B t (fun h => h0 ((hcond5_0 t).mp h)) ((hcond5_1 t).mpr h1) (fun h => h2 ((hcond5_2 t).mp h))) (noFlush5_5_B t (fun h => h0 ((hcond5_0 t).mp h)) ((hcond5_1 t).mpr h1) (fun h => h2 ((hcond5_2 t).mp h)))]
        rw [outsAt5_B V c t h0 h1 h2]
        simp only [before5_3_B V c t h0 h1 h2, before5_4_B V c t h0 h1 h2]
        unfold out5_B_2 out5_B_3 out5_B_4; (try dsimp only)
        iintro ⟨HΦ, Ho, ⟨%d0, H0⟩, ⟨%d1, H1⟩, ⟨%d2, H2⟩, ⟨%d3, H3⟩, ⟨%d4, H4⟩, ⟨%d5, H5⟩⟩
        iapply ((kernelRun5_B c (grid5.coords t) _ _ _ _ _ _ _ _ _ _ _ _ (fun h => h0 ((hcond5_0 t).mp h)) ((hcond5_1 t).mpr h1) (fun h => h2 ((hcond5_2 t).mp h)) (iblk5 V c 0 t) (iblk5 V c 1 t) _ _).2.2.2.2 _ Set.univ _)
        isplitl [H0]; · iexact H0
        isplitl [H1]; · iexact H1
        isplitl [H2]; · iexists _; iexact H2
        isplitl [H3]; · iexact H3
        isplitl [H4]; · iexact H4
        isplitl [H5]; · iexact H5
        iintro ⟨H0, H1, ⟨%e2, H2⟩, ⟨%e3, H3⟩, ⟨%e4, H4⟩, H5⟩
        isplitl [HΦ]; · iexact HΦ
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover5_B_2 c _ _ _ _ _ _ _ _ _ _ _ _ _ _ _ _ _ _ _ _)
        isplitl [H3]
        · unfold owns; iexists _; isplitr
          swap; · iexact H3
          ipureintro; exact View.read_writes_of_cover _ _ _ _ _ (cover5_B_3 c _ _ _ _ _ _ _ _ _ _ _ _ _ _ _ _ _ _ _ _)
        isplitl [H4]
        · unfold owns; iexists _; isplitr
          swap; · iexact H4
          ipureintro; exact View.read_writes_of_cover _ _ _ _ _ (cover5_B_4 c _ _ _ _ _ _ _ _ _ _ _ _ _ _ _ _ _ _ _ _)
        iexists _; iexact H5
    · exfalso; omega

/-- The body table's row at point `t`'s slots is the body as `bodyAt5` spells it. -/
theorem defs₀_row5 (t : Fin cfg5.N) :
    defs₀ (F := F) .tc cfg5.body (cfg5.bodyArgs t (cfg5.slots t)) = bodyAt5 t := by
  unfold defs₀; rw [Defs.onTc_tc]

/-- The library's body obligation, at every point. -/
theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

end Regions

end Cert.KernelIdeal.Run

end
-- ==== Proof.Spec.lean ====
/- The mathematics both programs are read to: arrays read at natural coordinates, and the network's layers as functions
   of natural indices. -/
module

public import Idealize.ShloMosaic.Lib.Pipeline.ValueKit
public import Idealize.ShloMosaic.Lib.Pointwise

@[expose] public section

noncomputable section

namespace Cert.Spec

open Idealize.ShloMosaic

/-- An array read at natural coordinates; 0 outside it. -/
def rd {s : Shape} (A : s.Idx → EReal) (v : Fin s.rank → ℕ) : EReal :=
  if h : ∀ a, v a < s.size a then A fun a => ⟨v a, h a⟩ else 0

/-- Inside the array it is the element with these coordinates. -/
theorem rd_of {s : Shape} (A : s.Idx → EReal) (v : Fin s.rank → ℕ) (x : s.Idx) (h : ∀ a, (x a).val = v a) : rd A v = A x := by
  unfold rd
  rw [dif_pos fun a => by rw [← h a]; exact (x a).isLt]
  exact congrArg A (funext fun a => Fin.ext (h a).symm)

/-- One axis. -/
theorem rd1 {n0 : ℕ} (A : (⟨1, ![n0]⟩ : Shape).Idx → EReal) (i : ℕ) (x : (⟨1, ![n0]⟩ : Shape).Idx)
    (h0 : (x 0).val = i) : A x = rd A ![i] :=
  (rd_of A _ x fun a => by fin_cases a; exact h0).symm

/-- Two axes. -/
theorem rd2 {n0 n1 : ℕ} (A : (⟨2, ![n0, n1]⟩ : Shape).Idx → EReal) (i j : ℕ) (x : (⟨2, ![n0, n1]⟩ : Shape).Idx)
    (h0 : (x 0).val = i) (h1 : (x 1).val = j) : A x = rd A ![i, j] :=
  (rd_of A _ x fun a => by fin_cases a; exacts [h0, h1]).symm

/-- Three axes. -/
theorem rd3 {n0 n1 n2 : ℕ} (A : (⟨3, ![n0, n1, n2]⟩ : Shape).Idx → EReal) (i j k : ℕ) (x : (⟨3, ![n0, n1, n2]⟩ : Shape).Idx)
    (h0 : (x 0).val = i) (h1 : (x 1).val = j) (h2 : (x 2).val = k) : A x = rd A ![i, j, k] :=
  (rd_of A _ x fun a => by fin_cases a; exacts [h0, h1, h2]).symm

/-- Four axes. -/
theorem rd4 {n0 n1 n2 n3 : ℕ} (A : (⟨4, ![n0, n1, n2, n3]⟩ : Shape).Idx → EReal) (i j k l : ℕ)
    (x : (⟨4, ![n0, n1, n2, n3]⟩ : Shape).Idx)
    (h0 : (x 0).val = i) (h1 : (x 1).val = j) (h2 : (x 2).val = k) (h3 : (x 3).val = l) : A x = rd A ![i, j, k, l] :=
  (rd_of A _ x fun a => by fin_cases a; exacts [h0, h1, h2, h3]).symm

/-- A block that is row `n` of an array, read at natural coordinates. -/
theorem rd_lead {N b c : ℕ} (X : (⟨3, ![1, b, c]⟩ : Shape).Idx → EReal) (A : (⟨3, ![N, b, c]⟩ : Shape).Idx → EReal) (n : ℕ) (hn : n < N)
    (h : ∀ (y : (⟨3, ![1, b, c]⟩ : Shape).Idx) (j : (⟨3, ![N, b, c]⟩ : Shape).Idx), (j 0).val = n → (j 1).val = (y 1).val →
      (j 2).val = (y 2).val → X y = A j) (p q : ℕ) : rd X ![0, p, q] = rd A ![n, p, q] := by
  by_cases hpq : p < b ∧ q < c
  · obtain ⟨hp, hq⟩ := hpq
    rw [← rd3 X 0 p q (ix3 (n0 := 1) (n1 := b) (n2 := c) 0 ⟨p, hp⟩ ⟨q, hq⟩) rfl rfl rfl,
      ← rd3 A n p q (ix3 (n0 := N) (n1 := b) (n2 := c) ⟨n, hn⟩ ⟨p, hp⟩ ⟨q, hq⟩) rfl rfl rfl]
    exact h _ _ rfl rfl rfl
  · unfold rd
    rw [dif_neg fun H => hpq ⟨H 1, H 2⟩, dif_neg fun H => hpq ⟨H 1, H 2⟩]

/-- A sum over a product of extents as the double sum over quotient and remainder. -/
theorem sum_split {M : Type} [AddCommMonoid M] {N : ℕ} (A B : ℕ) (hN : N = A * B) (f : ℕ → ℕ → M) :
    ∑ t : Fin N, f (t.val / B) (t.val % B) = ∑ a : Fin A, ∑ b : Fin B, f a.val b.val := by
  subst hN; exact Fin.sum_univ_mul_divmod A B f

/-! ## The layers -/

/-- A four-axis activation or weight at natural coordinates. -/
abbrev N4 := ℕ → ℕ → ℕ → ℕ → EReal

/-- Rectification. -/
def relu (v : EReal) : EReal := max v 0

/-- The plane padded by one zero on each side, at padded coordinates. -/
def padAt (H : ℕ) (f : N4) (n c Y X : ℕ) : EReal :=
  if 1 ≤ Y ∧ Y ≤ H ∧ 1 ≤ X ∧ X ≤ H then f n c (Y - 1) (X - 1) else 0

/-- The convolution of stride `s` and a `k` by `k` window over the plane of extent `H` padded by one. -/
def conv (s k C H : ℕ) (f w : N4) : N4 := fun n o y x =>
  ∑ ky : Fin k, ∑ kx : Fin k, ∑ c : Fin C, padAt H f n c (s * y + ky.val) (s * x + kx.val) * w o c ky.val kx.val

/-- The one by one convolution. -/
def conv1 (C : ℕ) (f w : N4) : N4 := fun n o y x => ∑ c : Fin C, f n c.val y x * w o c.val 0 0

/-- A rectified activation. -/
def reluN (f : N4) : N4 := fun n c y x => relu (f n c y x)

/-- A bias per channel added. -/
def addB (f : N4) (b : ℕ → EReal) : N4 := fun n c y x => f n c y x + b c

/-- The residual block over 128 channels through 32, on the 56 by 56 plane. -/
def res (f w1 w2 : N4) : N4 := fun n c y x =>
  f n c y x + conv1 32 (reluN (conv 1 3 128 56 (reluN f) w1)) w2 n c y x

/-- The padded plane of extent 56 laid out row by row, 58 positions a row, after 8 front positions. -/
def flatAt (f : N4) (n p c : ℕ) : EReal :=
  if 8 ≤ p then padAt 56 f n c ((p - 8) / 58) ((p - 8) % 58) else 0

/-- Padding depends on the plane's interior alone. -/
theorem padAt_congr {H : ℕ} {f g : N4} (n c Y X : ℕ)
    (h : ∀ y x, y < H → x < H → f n c y x = g n c y x) : padAt H f n c Y X = padAt H g n c Y X := by
  unfold padAt
  split
  · exact h _ _ (by omega) (by omega)
  · rfl

/-- Two convolutions agree where their operands agree on the plane and their weights on the window. -/
theorem conv_congr {s k C H : ℕ} {f g w w' : N4} (n o y x : ℕ)
    (hf : ∀ c y x, c < C → y < H → x < H → f n c y x = g n c y x)
    (hw : ∀ c ky kx, c < C → ky < k → kx < k → w o c ky kx = w' o c ky kx) :
    conv s k C H f w n o y x = conv s k C H g w' n o y x := by
  unfold conv
  refine Finset.sum_congr rfl fun ky _ => Finset.sum_congr rfl fun kx _ => Finset.sum_congr rfl fun c _ => ?_
  rw [padAt_congr n c.val _ _ fun y x hy hx => hf c.val y x c.isLt hy hx, hw c.val _ _ c.isLt ky.isLt kx.isLt]

/-- Two one by one convolutions likewise. -/
theorem conv1_congr {C : ℕ} {f g w w' : N4} (n o y x : ℕ)
    (hf : ∀ c, c < C → f n c y x = g n c y x) (hw : ∀ c, c < C → w o c 0 0 = w' o c 0 0) :
    conv1 C f w n o y x = conv1 C g w' n o y x := by
  unfold conv1
  exact Finset.sum_congr rfl fun c _ => by rw [hf _ c.isLt, hw _ c.isLt]

/-- Rectified zero is zero. -/
theorem relu_zero : relu 0 = 0 := max_self 0

/-- Rectifying a padded plane is padding the rectified plane. -/
theorem relu_padAt (H : ℕ) (f : N4) (n c Y X : ℕ) : relu (padAt H f n c Y X) = padAt H (reluN f) n c Y X := by
  unfold padAt
  split
  · rfl
  · exact relu_zero

end Cert.Spec

end
-- ==== Proof.Net.lean ====
module
public import proofs.«01_k».proof.Proof.Spec

/-!
# The encoder's layers

The encoder as functions of the fourteen arguments read at natural coordinates: two strided convolutions, one plain one,
two residual blocks, and the one by one convolution in front of the quantiser.
-/

@[expose] public section

set_option maxRecDepth 16384

noncomputable section

namespace Cert.Spec

open Idealize.ShloMosaic

/-- Inside an array of one axis. -/
theorem rdi1 {n0 : ℕ} (A : (⟨1, ![n0]⟩ : Shape).Idx → EReal) (i : ℕ) (hi : i < n0) : rd A ![i] = A (ix1 ⟨i, hi⟩) := (rd1 A i _ rfl).symm

/-- Inside an array of two axes. -/
theorem rdi2 {n0 n1 : ℕ} (A : (⟨2, ![n0, n1]⟩ : Shape).Idx → EReal) (i j : ℕ) (hi : i < n0) (hj : j < n1) :
    rd A ![i, j] = A (ix2 ⟨i, hi⟩ ⟨j, hj⟩) := (rd2 A i j _ rfl rfl).symm

/-- Inside an array of three axes. -/
theorem rdi3 {n0 n1 n2 : ℕ} (A : (⟨3, ![n0, n1, n2]⟩ : Shape).Idx → EReal) (i j k : ℕ) (hi : i < n0) (hj : j < n1) (hk : k < n2) :
    rd A ![i, j, k] = A (ix3 ⟨i, hi⟩ ⟨j, hj⟩ ⟨k, hk⟩) := (rd3 A i j k _ rfl rfl rfl).symm

/-- Inside an array of four axes. -/
theorem rdi4 {n0 n1 n2 n3 : ℕ} (A : (⟨4, ![n0, n1, n2, n3]⟩ : Shape).Idx → EReal) (i j k l : ℕ) (hi : i < n0) (hj : j < n1) (hk : k < n2)
    (hl : l < n3) : rd A ![i, j, k, l] = A (ix4 ⟨i, hi⟩ ⟨j, hj⟩ ⟨k, hk⟩ ⟨l, hl⟩) := (rd4 A i j k l _ rfl rfl rfl rfl).symm

/-- The fourteen arguments at natural coordinates. -/
structure In where
  x : N4
  w1 : N4
  b1 : ℕ → EReal
  w2 : N4
  b2 : ℕ → EReal
  w3 : N4
  b3 : ℕ → EReal
  r11 : N4
  r12 : N4
  r21 : N4
  r22 : N4
  pw : N4
  pb : ℕ → EReal
  cb : ℕ → ℕ → EReal

/-- The arguments read from fourteen arrays. -/
def In.of (x0 : (⟨4, ![8, 1, 224, 224]⟩ : Shape).Idx → EReal) (x1 : (⟨4, ![64, 1, 4, 4]⟩ : Shape).Idx → EReal)
    (x2 : (⟨1, ![64]⟩ : Shape).Idx → EReal) (x3 : (⟨4, ![128, 64, 4, 4]⟩ : Shape).Idx → EReal) (x4 : (⟨1, ![128]⟩ : Shape).Idx → EReal)
    (x5 : (⟨4, ![128, 128, 3, 3]⟩ : Shape).Idx → EReal) (x6 : (⟨1, ![128]⟩ : Shape).Idx → EReal)
    (x7 : (⟨4, ![32, 128, 3, 3]⟩ : Shape).Idx → EReal) (x8 : (⟨4, ![128, 32, 1, 1]⟩ : Shape).Idx → EReal)
    (x9 : (⟨4, ![32, 128, 3, 3]⟩ : Shape).Idx → EReal) (x10 : (⟨4, ![128, 32, 1, 1]⟩ : Shape).Idx → EReal)
    (x11 : (⟨4, ![64, 128, 1, 1]⟩ : Shape).Idx → EReal) (x12 : (⟨1, ![64]⟩ : Shape).Idx → EReal)
    (x13 : (⟨2, ![512, 64]⟩ : Shape).Idx → EReal) : In where
  x := fun a b c d => rd x0 ![a, b, c, d]
  w1 := fun a b c d => rd x1 ![a, b, c, d]
  b1 := fun a => rd x2 ![a]
  w2 := fun a b c d => rd x3 ![a, b, c, d]
  b2 := fun a => rd x4 ![a]
  w3 := fun a b c d => rd x5 ![a, b, c, d]
  b3 := fun a => rd x6 ![a]
  r11 := fun a b c d => rd x7 ![a, b, c, d]
  r12 := fun a b c d => rd x8 ![a, b, c, d]
  r21 := fun a b c d => rd x9 ![a, b, c, d]
  r22 := fun a b c d => rd x10 ![a, b, c, d]
  pw := fun a b c d => rd x11 ![a, b, c, d]
  pb := fun a => rd x12 ![a]
  cb := fun a b => rd x13 ![a, b]

/-- After the first convolution: 64 channels of 112 by 112. -/
def In.h1 (a : In) : N4 := reluN (addB (conv 2 4 1 224 a.x a.w1) a.b1)
/-- After the second: 128 channels of 56 by 56. -/
def In.h2 (a : In) : N4 := reluN (addB (conv 2 4 64 112 a.h1 a.w2) a.b2)
/-- After the third. -/
def In.h3 (a : In) : N4 := addB (conv 1 3 128 56 a.h2 a.w3) a.b3
/-- After the first residual block. -/
def In.h4 (a : In) : N4 := res a.h3 a.r11 a.r12
/-- After the second residual block. -/
def In.h5 (a : In) : N4 := res a.h4 a.r21 a.r22
/-- In front of the quantiser: 64 channels. -/
def In.z (a : In) : N4 := addB (conv1 128 (reluN a.h5) a.pw) a.pb

/-- The encoder's output one row per position: row `r` is image `r / 3136`, line `r / 56 % 56`, column `r % 56`. -/
def In.zrow (a : In) (r o : ℕ) : EReal := a.z (r / 3136) o (r / 56 % 56) (r % 56)

end Cert.Spec

end
-- ==== Proof.VqSpec.lean ====
/- The vector quantiser as mathematics: distances to the codewords, the least of them, the least codeword attaining it, and the two scalars of the whole batch. -/
module

public import proofs.«01_k».proof.Proof.Net
public import Idealize.ShloMosaic.Lib.Pointwise
public import Idealize.ShloMosaic.Lib.WordCmp

@[expose] public section

set_option maxRecDepth 16384

noncomputable section

namespace Cert.Spec

open Idealize.ShloMosaic Idealize.ShloMosaic.Tactic

/-- The extended real a 32-bit float pattern stands for. -/
def lit (b : BitVec 32) : EReal := FloatOps.ofBits (F := Ideal) .f32 b

/-- Squared distance of the vector `z` to codeword `j`, expanded. -/
def dist (z : ℕ → EReal) (e : ℕ → ℕ → EReal) (j : ℕ) : EReal :=
  (∑ k : Fin 64, z k.val * z k.val + ∑ k : Fin 64, e j k.val * e j k.val) - lit 0x40000000#32 * ∑ k : Fin 64, z k.val * e j k.val

/-- The least of 512 distances. -/
def least (d : ℕ → EReal) : EReal := (Finset.univ : Finset (Fin 512)).fold min (lit 0x7F800000#32) fun j => d j.val

/-- The least index at which the least distance is attained, as a word. -/
def nearest (d : ℕ → EReal) : BitVec 32 :=
  (Finset.univ : Finset (Fin 512)).fold IntOp.minsi 2147483647#32 fun j =>
    Scalar.select (FloatOps.cmpf (F := Ideal) (φ := .f32) .oeq (d j.val) (least d)) (BitVec.ofNat 32 j.val) 512#32

/-- One at the nearest codeword's index, zero elsewhere. -/
def hot (d : ℕ → EReal) (j : ℕ) : EReal := if BitVec.ofNat 32 j = nearest d then 1 else 0

/-- The quantised vector. -/
def quant (z : ℕ → EReal) (e : ℕ → ℕ → EReal) (o : ℕ) : EReal := ∑ j : Fin 512, hot (dist z e) j.val * e j.val o

/-- The squared error of the quantised vector. -/
def sqErr (z : ℕ → EReal) (e : ℕ → ℕ → EReal) : EReal :=
  ∑ o : Fin 64, (quant z e o.val - z o.val) * (quant z e o.val - z o.val)

/-- How many of the vectors `Z 0`, …, `Z (n - 1)` go to codeword `j`. -/
def tally (n : ℕ) (Z : ℕ → ℕ → EReal) (e : ℕ → ℕ → EReal) (j : ℕ) : EReal := ∑ r : Fin n, hot (dist (Z r.val) e) j

/-- The squared errors of the vectors `Z 0`, …, `Z (n - 1)` together. -/
def errSum (n : ℕ) (Z : ℕ → ℕ → EReal) (e : ℕ → ℕ → EReal) : EReal := ∑ r : Fin n, sqErr (Z r.val) e

/-- The perplexity of a count of 25088 vectors. -/
def perplexity (cnt : ℕ → EReal) : EReal :=
  Ideal.exp (-(∑ j : Fin 512, Ideal.div (cnt j.val) (lit 0x46C40000#32) * Ideal.log (Ideal.div (cnt j.val) (lit 0x46C40000#32) + lit 0x2EDBE6FF#32)))

/-- The nearest index depends on the 512 distances alone. -/
theorem nearest_congr {d d' : ℕ → EReal} (h : ∀ j < 512, d j = d' j) : nearest d = nearest d' := by
  have e : (fun j : Fin 512 => d j.val) = fun j : Fin 512 => d' j.val := funext fun j => h j.val j.isLt
  have e' : least d = least d' := by unfold least; rw [e]
  unfold nearest
  rw [e']
  exact congrArg (fun f : Fin 512 → EReal => (Finset.univ : Finset (Fin 512)).fold IntOp.minsi 2147483647#32 fun j =>
    Scalar.select (FloatOps.cmpf (F := Ideal) (φ := .f32) .oeq (f j) (least d')) (BitVec.ofNat 32 j.val) 512#32) e

theorem hot_congr {d d' : ℕ → EReal} (h : ∀ j < 512, d j = d' j) (j : ℕ) : hot d j = hot d' j := by
  unfold hot
  rw [nearest_congr h]

/-- A distance depends on 64 entries alone. -/
theorem dist_congr {z z' : ℕ → EReal} {e e' : ℕ → ℕ → EReal} (hz : ∀ k < 64, z k = z' k) (j : ℕ) (he : ∀ k < 64, e j k = e' j k) :
    dist z e j = dist z' e' j := by
  unfold dist
  have h1 : ∀ k : Fin 64, z k.val = z' k.val := fun k => hz k.val k.isLt
  have h2 : ∀ k : Fin 64, e j k.val = e' j k.val := fun k => he k.val k.isLt
  simp only [h1, h2]

/-- Counts depend on the entries in range alone. -/
theorem tally_congr (n : ℕ) {Z Z' e e' : ℕ → ℕ → EReal} (hz : ∀ r k, r < n → k < 64 → Z r k = Z' r k)
    (he : ∀ j k, j < 512 → k < 64 → e j k = e' j k) (j : ℕ) : tally n Z e j = tally n Z' e' j :=
  Finset.sum_congr rfl fun r _ => hot_congr (fun j hj => dist_congr (fun k hk => hz r.val k r.isLt hk) j fun k hk => he j k hj hk) j

/-- A squared error depends on the entries in range alone. -/
theorem sqErr_congr {z z' : ℕ → EReal} {e e' : ℕ → ℕ → EReal} (hz : ∀ k < 64, z k = z' k)
    (he : ∀ j k, j < 512 → k < 64 → e j k = e' j k) : sqErr z e = sqErr z' e' := by
  have q : ∀ o : Fin 64, quant z e o.val = quant z' e' o.val := fun o =>
    Finset.sum_congr rfl fun j _ => congrArg₂ (· * ·) (hot_congr (fun j hj => dist_congr hz j fun k hk => he j k hj hk) _) (he j.val o.val j.isLt o.isLt)
  have h1 : ∀ k : Fin 64, z k.val = z' k.val := fun k => hz k.val k.isLt
  unfold sqErr
  simp only [q, h1]

/-- The squared errors depend on the entries in range alone. -/
theorem errSum_congr (n : ℕ) {Z Z' e e' : ℕ → ℕ → EReal} (hz : ∀ r k, r < n → k < 64 → Z r k = Z' r k)
    (he : ∀ j k, j < 512 → k < 64 → e j k = e' j k) : errSum n Z e = errSum n Z' e' :=
  Finset.sum_congr rfl fun r _ => sqErr_congr (fun k hk => hz r.val k r.isLt hk) he

/-- The perplexity depends on the 512 counts alone. -/
theorem perplexity_congr {f g : ℕ → EReal} (h : ∀ j < 512, f j = g j) : perplexity f = perplexity g := by
  have e : ∀ j : Fin 512, f j.val = g j.val := fun j => h j.val j.isLt
  unfold perplexity
  simp only [e]

/-- Two words compared for equality. -/
theorem cmpi_eq_one {w : ℕ} (x y : BitVec w) : IntOp.cmpi .eq x y = 1#1 ↔ x = y := by
  rw [WordCmp.cmpi_eq_eq]
  by_cases h : x = y <;> simp [h]

/-- A signed reading of a bit widened to a word is one or zero. -/
theorem sitofp_bit (p : Prop) [Decidable p] (b : BitVec 1) (hb : b = 1#1 ↔ p) :
    FloatOps.sitofp (F := Ideal) .f32 (b.setWidth 32) = (if p then 1 else 0 : EReal) := by
  by_cases h : p
  · rw [if_pos h, hb.2 h]
    exact congrArg Real.toEReal (by norm_num : (((BitVec.setWidth 32 1#1).toInt : ℤ) : ℝ) = 1)
  · have h0 : b = 0#1 := by
      rcases BitVec.eq_zero_or_eq_one b with e | e
      · exact e
      · exact absurd (hb.1 e) h
    rw [if_neg h, h0]
    exact congrArg Real.toEReal (by norm_num : (((BitVec.setWidth 32 0#1).toInt : ℤ) : ℝ) = 0)

/-- An unsigned reading of a bit is one or zero. -/
theorem uitofp_bit (p : Prop) [Decidable p] (b : BitVec 1) (hb : b = 1#1 ↔ p) :
    FloatOps.uitofp (F := Ideal) .f32 b = (if p then 1 else 0 : EReal) := by
  by_cases h : p
  · rw [if_pos h, hb.2 h]
    exact congrArg Real.toEReal (by norm_num : (((1#1 : BitVec 1).toNat : ℕ) : ℝ) = 1)
  · have h0 : b = 0#1 := by
      rcases BitVec.eq_zero_or_eq_one b with e | e
      · exact e
      · exact absurd (hb.1 e) h
    rw [if_neg h, h0]
    exact congrArg Real.toEReal (by norm_num : (((0#1 : BitVec 1).toNat : ℕ) : ℝ) = 0)

end Cert.Spec

end
-- ==== Proof.KernelIdeal.Taps.lean ====
/- What the three by three convolutions' blocks share: nine shifted loads side by side times the stacked weights is the
   sum over the taps and the channels. -/
module

public import proofs.«01_k».proof.Proof.Gen.KernelIdeal.Skeleton
public import proofs.«01_k».proof.Proof.Spec
public import Idealize.ShloMosaic.Lib.Pipeline.ValueKit
public import Idealize.ShloMosaic.Lib.Pointwise

@[expose] public section

set_option maxRecDepth 16384

noncomputable section

namespace Cert.KernelIdeal.Val

open Cert.KernelIdeal Cert.KernelIdeal.Gen Cert.Spec
open Idealize.ShloMosaic Idealize.ShloMosaic.TcCoe Idealize.ShloMosaic.Tactic

/-- Tap `t`'s offset in the flat layout: its row times the row length, and its column. -/
def tapOff (t : ℕ) : ℕ := t / 3 * 58 + t % 3

/-- One of nine arrays. -/
def pick (f0 f1 f2 f3 f4 f5 f6 f7 f8 : FVec Ideal S812x128 .f32) : Fin 9 → FVec Ideal S812x128 .f32 :=
  ![f0, f1, f2, f3, f4, f5, f6, f7, f8]

/-- Nine arrays side by side. -/
def nine (f0 f1 f2 f3 f4 f5 f6 f7 f8 : FVec Ideal S812x128 .f32) : FVec Ideal S812x1152 .f32 :=
  concatenate S812x1152 1 [⟨S812x128, f0⟩, ⟨S812x128, f1⟩, ⟨S812x128, f2⟩, ⟨S812x128, f3⟩, ⟨S812x128, f4⟩, ⟨S812x128, f5⟩,
    ⟨S812x128, f6⟩, ⟨S812x128, f7⟩, ⟨S812x128, f8⟩]
    concatenates_S812x128_S812x128_S812x128_S812x128_S812x128_S812x128_S812x128_S812x128_S812x128_S812x1152_d1

/-- Lane `k` of nine arrays side by side is lane `k % 128` of array `k / 128`. -/
theorem nine_apply (f0 f1 f2 f3 f4 f5 f6 f7 f8 : FVec Ideal S812x128 .f32) (r : Fin 812) (k : Fin 1152) :
    nine f0 f1 f2 f3 f4 f5 f6 f7 f8 (ix2 r k)
      = rd (s := S812x128) ((pick f0 f1 f2 f3 f4 f5 f6 f7 f8) (Fin.ofNat 9 (k.val / 128)))
          ![r.val, k.val % 128] := by
  have hk : k.val / 128 < 9 := by have := k.isLt; omega
  have h := concatenate_ofFn_apply (t := S812x1152) (s₁ := S812x128) 1
    (pick f0 f1 f2 f3 f4 f5 f6 f7 f8)
    concatenates_S812x128_S812x128_S812x128_S812x128_S812x128_S812x128_S812x128_S812x128_S812x128_S812x1152_d1
    rfl 128 rfl (ix2 r k) (Fin.ofNat 9 (k.val / 128)) (by
      show k.val / 128 = k.val / 128 % 9
      omega) (ix2 r ⟨k.val % 128, by omega⟩) rfl (fun b hb => by
        have : b = 0 := by
          rcases b with ⟨b, hb'⟩
          have h2 : b < 2 := hb'
          rcases (by omega : b = 0 ∨ b = 1) with rfl | rfl
          · rfl
          · exact absurd rfl hb
        subst this; rfl)
  exact h.trans (rd2 _ _ _ _ rfl rfl)

/-- The product with the stacked weights, as the sum over taps and channels (128 output channels). -/
theorem taps128 (f0 f1 f2 f3 f4 f5 f6 f7 f8 : FVec Ideal S812x128 .f32) (w : FVec Ideal S9x128x128 .f32) :
    matmul dot_S812x1152_S1152x128_S812x128_1_0_0_1_n_n none
      (concatenate S812x1152 1 [⟨S812x128, f0⟩, ⟨S812x128, f1⟩, ⟨S812x128, f2⟩, ⟨S812x128, f3⟩, ⟨S812x128, f4⟩, ⟨S812x128, f5⟩,
        ⟨S812x128, f6⟩, ⟨S812x128, f7⟩, ⟨S812x128, f8⟩]
        concatenates_S812x128_S812x128_S812x128_S812x128_S812x128_S812x128_S812x128_S812x128_S812x128_S812x1152_d1)
      (shapeCast S1152x128 (shapeCast S9x128x128 w shapeCasts_S9x128x128_S9x128x128) shapeCasts_S9x128x128_S1152x128)
      (constant S812x128 FTy.f32 0#32)
    = fun x => ∑ t : Fin 9, ∑ c : Fin 128,
        (pick f0 f1 f2 f3 f4 f5 f6 f7 f8) t (ix2 (x 0) c) * w (ix3 t c (x 1)) := by
  funext x
  show matmul dot_S812x1152_S1152x128_S812x128_1_0_0_1_n_n none (nine f0 f1 f2 f3 f4 f5 f6 f7 f8) _ _ x = _
  pointwise
  have hw : ∀ k : Fin 1152, w (ix3 ⟨k.val / 128, by omega⟩ ⟨k.val % 128, by omega⟩ (x 1)) = rd (s := S9x128x128) w ![k.val / 128, k.val % 128, (x 1).val] :=
    fun k => rd3 _ _ _ _ _ rfl rfl rfl
  refine (Finset.sum_congr rfl fun k _ => congrArg₂ (· * ·) (nine_apply f0 f1 f2 f3 f4 f5 f6 f7 f8 (x 0) k) (hw k)).trans ?_
  refine (sum_split 9 128 rfl (fun t c => rd (s := S812x128) ((pick f0 f1 f2 f3 f4 f5 f6 f7 f8) (Fin.ofNat 9 t))
          ![(x 0).val, c] * rd (s := S9x128x128) w ![t, c, (x 1).val])).trans ?_
  refine Finset.sum_congr rfl fun t _ => Finset.sum_congr rfl fun c _ => ?_
  rw [show Fin.ofNat 9 t.val = t from Fin.ext (Nat.mod_eq_of_lt t.isLt)]
  exact congrArg₂ (· * ·) (rd2 _ _ _ (ix2 (x 0) c) rfl rfl).symm (rd3 w _ _ _ (ix3 t c (x 1)) rfl rfl rfl).symm

/-- The same with 32 output channels. -/
theorem taps32 (f0 f1 f2 f3 f4 f5 f6 f7 f8 : FVec Ideal S812x128 .f32) (w : FVec Ideal S9x128x32 .f32) :
    matmul dot_S812x1152_S1152x32_S812x32_1_0_0_1_n_n none
      (concatenate S812x1152 1 [⟨S812x128, f0⟩, ⟨S812x128, f1⟩, ⟨S812x128, f2⟩, ⟨S812x128, f3⟩, ⟨S812x128, f4⟩, ⟨S812x128, f5⟩,
        ⟨S812x128, f6⟩, ⟨S812x128, f7⟩, ⟨S812x128, f8⟩]
        concatenates_S812x128_S812x128_S812x128_S812x128_S812x128_S812x128_S812x128_S812x128_S812x128_S812x1152_d1)
      (shapeCast S1152x32 (shapeCast S9x128x32 w shapeCasts_S9x128x32_S9x128x32) shapeCasts_S9x128x32_S1152x32)
      (constant S812x32 FTy.f32 0#32)
    = fun x => ∑ t : Fin 9, ∑ c : Fin 128,
        (pick f0 f1 f2 f3 f4 f5 f6 f7 f8) t (ix2 (x 0) c) * w (ix3 t c (x 1)) := by
  funext x
  show matmul dot_S812x1152_S1152x32_S812x32_1_0_0_1_n_n none (nine f0 f1 f2 f3 f4 f5 f6 f7 f8) _ _ x = _
  pointwise
  have hw : ∀ k : Fin 1152, w (ix3 ⟨k.val / 128, by omega⟩ ⟨k.val % 128, by omega⟩ (x 1)) = rd (s := S9x128x32) w ![k.val / 128, k.val % 128, (x 1).val] :=
    fun k => rd3 _ _ _ _ _ rfl rfl rfl
  refine (Finset.sum_congr rfl fun k _ => congrArg₂ (· * ·) (nine_apply f0 f1 f2 f3 f4 f5 f6 f7 f8 (x 0) k) (hw k)).trans ?_
  refine (sum_split 9 128 rfl (fun t c => rd (s := S812x128) ((pick f0 f1 f2 f3 f4 f5 f6 f7 f8) (Fin.ofNat 9 t))
          ![(x 0).val, c] * rd (s := S9x128x32) w ![t, c, (x 1).val])).trans ?_
  refine Finset.sum_congr rfl fun t _ => Finset.sum_congr rfl fun c _ => ?_
  rw [show Fin.ofNat 9 t.val = t from Fin.ext (Nat.mod_eq_of_lt t.isLt)]
  exact congrArg₂ (· * ·) (rd2 _ _ _ (ix2 (x 0) c) rfl rfl).symm (rd3 w _ _ _ (ix3 t c (x 1)) rfl rfl rfl).symm

/-- The 812-row load at row `off` of a flat block. -/
def row {sg : RefSig} (m : Memref sg .tc .vmem S1x3448x128 .f32) (h : m.IsWhole) (X : FVec Ideal S1x3448x128 .f32) (off : ℕ)
    (inb : ∀ a, (![0, off, 0] : Fin 3 → ℕ) a + S1x812x128.size a ≤ S1x3448x128.size a) : FVec Ideal S1x812x128 .f32 :=
  View.readAt (Elt Ideal) m.view (Rect.unit (s := S1x3448x128) ![0, off, 0] S1x812x128.size inb).toLoadRect (h.unread X)

/-- Its element (row `r`, channel `c`). -/
theorem row_apply {sg : RefSig} (m : Memref sg .tc .vmem S1x3448x128 .f32) (h : m.IsWhole) (X : FVec Ideal S1x3448x128 .f32) (off : ℕ)
    (inb : ∀ a, (![0, off, 0] : Fin 3 → ℕ) a + S1x812x128.size a ≤ S1x3448x128.size a) (z : Fin 1) (r : Fin 812) (c : Fin 128) (q : ℕ) (hq : q = off + r.val) :
    row m h X off inb (ix3 z r c) = rd (s := S1x3448x128) X ![0, q, c.val] := by
  unfold row
  rw [View.readAt_eq_ld, h.read_unread, View.ld_apply]
  subst hq
  refine rd3 (n0 := 1) (n1 := 3448) (n2 := 128) X _ _ _ _ ?_ ?_ ?_
  · rw [Rect.idx_unit_val]; simp
  · rw [Rect.idx_unit_val]; simp
  · rw [Rect.idx_unit_val]; simp

/-- The nine loads of a chunk: tap `t` at (row `r`, channel `c`). -/
theorem rows_apply {sg : RefSig} (a1 : Memref sg .tc .vmem S1x3448x128 .f32) (h1 : a1.IsWhole) (X : FVec Ideal S1x3448x128 .f32)
    (o0 : ℕ) (i0 i1 i2 i3 i4 i5 i6 i7 i8) (t : Fin 9) (r : Fin 812) (c : Fin 128) (q : ℕ) (hq : q = o0 + tapOff t.val + r.val) :
    pick (shapeCast S812x128 (row a1 h1 X o0 i0) shapeCasts_S1x812x128_S812x128)
      (shapeCast S812x128 (row a1 h1 X (o0 + 1) i1) shapeCasts_S1x812x128_S812x128)
      (shapeCast S812x128 (row a1 h1 X (o0 + 2) i2) shapeCasts_S1x812x128_S812x128)
      (shapeCast S812x128 (row a1 h1 X (o0 + 58) i3) shapeCasts_S1x812x128_S812x128)
      (shapeCast S812x128 (row a1 h1 X (o0 + 59) i4) shapeCasts_S1x812x128_S812x128)
      (shapeCast S812x128 (row a1 h1 X (o0 + 60) i5) shapeCasts_S1x812x128_S812x128)
      (shapeCast S812x128 (row a1 h1 X (o0 + 116) i6) shapeCasts_S1x812x128_S812x128)
      (shapeCast S812x128 (row a1 h1 X (o0 + 117) i7) shapeCasts_S1x812x128_S812x128)
      (shapeCast S812x128 (row a1 h1 X (o0 + 118) i8) shapeCasts_S1x812x128_S812x128) t (ix2 r c) = rd (s := S1x3448x128) X ![0, q, c.val] := by
  have key : ∀ (off : ℕ) (i) (hq : q = off + r.val), shapeCast S812x128 (row a1 h1 X off i) shapeCasts_S1x812x128_S812x128 (ix2 r c)
      = rd (s := S1x3448x128) X ![0, q, c.val] := fun off i hq => by
    pointwise
    exact row_apply a1 h1 X off i _ r c q hq
  rcases t with ⟨t, ht⟩
  rcases (by omega : t = 0 ∨ t = 1 ∨ t = 2 ∨ t = 3 ∨ t = 4 ∨ t = 5 ∨ t = 6 ∨ t = 7 ∨ t = 8) with rfl | rfl | rfl | rfl | rfl | rfl | rfl | rfl | rfl
  exacts [key _ i0 (hq.trans (by simp [tapOff])), key _ i1 (hq.trans (by simp [tapOff])), key _ i2 (hq.trans (by simp [tapOff])),
    key _ i3 (hq.trans (by simp [tapOff])), key _ i4 (hq.trans (by simp [tapOff])), key _ i5 (hq.trans (by simp [tapOff])),
    key _ i6 (hq.trans (by simp [tapOff])), key _ i7 (hq.trans (by simp [tapOff])), key _ i8 (hq.trans (by simp [tapOff]))]

/-- The nine loads rectified (`zz` is zero). -/
theorem rowsRelu_apply {sg : RefSig} (a1 : Memref sg .tc .vmem S1x3448x128 .f32) (h1 : a1.IsWhole) (X : FVec Ideal S1x3448x128 .f32)
    (o0 : ℕ) (i0 i1 i2 i3 i4 i5 i6 i7 i8) (t : Fin 9) (r : Fin 812) (c : Fin 128) (q : ℕ)
    (zz : Ideal .f32) (hz : zz = (0 : EReal)) (hq : q = o0 + tapOff t.val + r.val) :
    pick (maximumf (shapeCast S812x128 (row a1 h1 X o0 i0) shapeCasts_S1x812x128_S812x128) (broadcast S812x128 zz))
      (maximumf (shapeCast S812x128 (row a1 h1 X (o0 + 1) i1) shapeCasts_S1x812x128_S812x128) (broadcast S812x128 zz))
      (maximumf (shapeCast S812x128 (row a1 h1 X (o0 + 2) i2) shapeCasts_S1x812x128_S812x128) (broadcast S812x128 zz))
      (maximumf (shapeCast S812x128 (row a1 h1 X (o0 + 58) i3) shapeCasts_S1x812x128_S812x128) (broadcast S812x128 zz))
      (maximumf (shapeCast S812x128 (row a1 h1 X (o0 + 59) i4) shapeCasts_S1x812x128_S812x128) (broadcast S812x128 zz))
      (maximumf (shapeCast S812x128 (row a1 h1 X (o0 + 60) i5) shapeCasts_S1x812x128_S812x128) (broadcast S812x128 zz))
      (maximumf (shapeCast S812x128 (row a1 h1 X (o0 + 116) i6) shapeCasts_S1x812x128_S812x128) (broadcast S812x128 zz))
      (maximumf (shapeCast S812x128 (row a1 h1 X (o0 + 117) i7) shapeCasts_S1x812x128_S812x128) (broadcast S812x128 zz))
      (maximumf (shapeCast S812x128 (row a1 h1 X (o0 + 118) i8) shapeCasts_S1x812x128_S812x128) (broadcast S812x128 zz)) t (ix2 r c) = relu (rd (s := S1x3448x128) X ![0, q, c.val]) := by
  have key : ∀ (off : ℕ) (i) (hq : q = off + r.val), maximumf (shapeCast S812x128 (row a1 h1 X off i) shapeCasts_S1x812x128_S812x128)
      (broadcast S812x128 zz) (ix2 r c) = relu (rd (s := S1x3448x128) X ![0, q, c.val]) := fun off i hq => by
    subst hz
    pointwise
    exact congrArg relu (row_apply a1 h1 X off i _ r c q hq)
  rcases t with ⟨t, ht⟩
  rcases (by omega : t = 0 ∨ t = 1 ∨ t = 2 ∨ t = 3 ∨ t = 4 ∨ t = 5 ∨ t = 6 ∨ t = 7 ∨ t = 8) with rfl | rfl | rfl | rfl | rfl | rfl | rfl | rfl | rfl
  exacts [key _ i0 (hq.trans (by simp [tapOff])), key _ i1 (hq.trans (by simp [tapOff])), key _ i2 (hq.trans (by simp [tapOff])),
    key _ i3 (hq.trans (by simp [tapOff])), key _ i4 (hq.trans (by simp [tapOff])), key _ i5 (hq.trans (by simp [tapOff])),
    key _ i6 (hq.trans (by simp [tapOff])), key _ i7 (hq.trans (by simp [tapOff])), key _ i8 (hq.trans (by simp [tapOff]))]

/-- A load of a whole two-axis block from row `off` on. -/
def load2 {sg : RefSig} {n0 n1 m0 : ℕ} (m : Memref sg .tc .vmem ⟨2, ![n0, n1]⟩ .f32) (h : m.IsWhole) (X : FVec Ideal ⟨2, ![n0, n1]⟩ .f32) (off : ℕ)
    (inb : ∀ a, (![off, 0] : Fin 2 → ℕ) a + (![m0, n1] : Fin 2 → ℕ) a ≤ (![n0, n1] : Fin 2 → ℕ) a) : FVec Ideal ⟨2, ![m0, n1]⟩ .f32 :=
  View.readAt (Elt Ideal) m.view (Rect.unit (s := ⟨2, ![n0, n1]⟩) ![off, 0] ![m0, n1] inb).toLoadRect (h.unread X)

/-- Its element. -/
theorem load2_apply {sg : RefSig} {n0 n1 m0 : ℕ} (m : Memref sg .tc .vmem ⟨2, ![n0, n1]⟩ .f32) (h : m.IsWhole) (X : FVec Ideal ⟨2, ![n0, n1]⟩ .f32) (off : ℕ)
    (inb : ∀ a, (![off, 0] : Fin 2 → ℕ) a + (![m0, n1] : Fin 2 → ℕ) a ≤ (![n0, n1] : Fin 2 → ℕ) a) (i : Fin m0) (j : Fin n1) (p q : ℕ)
    (hp : p = off + i.val) (hq : q = j.val) :
    load2 m h X off inb (ix2 i j) = rd (s := ⟨2, ![n0, n1]⟩) X ![p, q] := by
  unfold load2
  rw [View.readAt_eq_ld, h.read_unread, View.ld_apply]
  subst hp hq
  refine rd2 X _ _ _ ?_ ?_
  · rw [Rect.idx_unit_val]; simp
  · rw [Rect.idx_unit_val]; simp

/-- A load of a whole three-axis block. -/
def load3 {sg : RefSig} {n0 n1 n2 : ℕ} (m : Memref sg .tc .vmem ⟨3, ![n0, n1, n2]⟩ .f32) (h : m.IsWhole) (X : FVec Ideal ⟨3, ![n0, n1, n2]⟩ .f32)
    (inb : ∀ a, (![0, 0, 0] : Fin 3 → ℕ) a + (![n0, n1, n2] : Fin 3 → ℕ) a ≤ (![n0, n1, n2] : Fin 3 → ℕ) a) : FVec Ideal ⟨3, ![n0, n1, n2]⟩ .f32 :=
  View.readAt (Elt Ideal) m.view (Rect.unit (s := ⟨3, ![n0, n1, n2]⟩) ![0, 0, 0] ![n0, n1, n2] inb).toLoadRect (h.unread X)

/-- Its element. -/
theorem load3_apply {sg : RefSig} {n0 n1 n2 : ℕ} (m : Memref sg .tc .vmem ⟨3, ![n0, n1, n2]⟩ .f32) (h : m.IsWhole) (X : FVec Ideal ⟨3, ![n0, n1, n2]⟩ .f32)
    (inb : ∀ a, (![0, 0, 0] : Fin 3 → ℕ) a + (![n0, n1, n2] : Fin 3 → ℕ) a ≤ (![n0, n1, n2] : Fin 3 → ℕ) a) (i : Fin n0) (j : Fin n1) (k : Fin n2) (q : ℕ)
    (hq : q = k.val) :
    load3 m h X inb (ix3 i j k) = rd (s := ⟨3, ![n0, n1, n2]⟩) X ![i.val, j.val, q] := by
  unfold load3
  rw [View.readAt_eq_ld, h.read_unread, View.ld_apply]
  subst hq
  refine rd3 X _ _ _ _ ?_ ?_ ?_
  · rw [Rect.idx_unit_val]; simp
  · rw [Rect.idx_unit_val]; simp
  · rw [Rect.idx_unit_val]; simp

/-- A load of rows from row `off` on of a one-image block. -/
def load3r {sg : RefSig} {n1 n2 m1 : ℕ} (m : Memref sg .tc .vmem ⟨3, ![1, n1, n2]⟩ .f32) (h : m.IsWhole) (X : FVec Ideal ⟨3, ![1, n1, n2]⟩ .f32) (off : ℕ)
    (inb : ∀ a, (![0, off, 0] : Fin 3 → ℕ) a + (![1, m1, n2] : Fin 3 → ℕ) a ≤ (![1, n1, n2] : Fin 3 → ℕ) a) : FVec Ideal ⟨3, ![1, m1, n2]⟩ .f32 :=
  View.readAt (Elt Ideal) m.view (Rect.unit (s := ⟨3, ![1, n1, n2]⟩) ![0, off, 0] ![1, m1, n2] inb).toLoadRect (h.unread X)

/-- Its element. -/
theorem load3r_apply {sg : RefSig} {n1 n2 m1 : ℕ} (m : Memref sg .tc .vmem ⟨3, ![1, n1, n2]⟩ .f32) (h : m.IsWhole) (X : FVec Ideal ⟨3, ![1, n1, n2]⟩ .f32) (off : ℕ)
    (inb : ∀ a, (![0, off, 0] : Fin 3 → ℕ) a + (![1, m1, n2] : Fin 3 → ℕ) a ≤ (![1, n1, n2] : Fin 3 → ℕ) a) (z : Fin 1) (r : Fin m1) (c : Fin n2) (q : ℕ)
    (hq : q = off + r.val) :
    load3r m h X off inb (ix3 z r c) = rd (s := ⟨3, ![1, n1, n2]⟩) X ![0, q, c.val] := by
  unfold load3r
  rw [View.readAt_eq_ld, h.read_unread, View.ld_apply]
  subst hq
  refine rd3 X _ _ _ _ ?_ ?_ ?_
  · rw [Rect.idx_unit_val]; simp
  · rw [Rect.idx_unit_val]; simp
  · rw [Rect.idx_unit_val]; simp

end Cert.KernelIdeal.Val

end
-- ==== Proof.KernelIdeal.VqChunk.lean ====
/- What the quantiser's body computes from a block of 512 vectors and the codebook, read as mathematics. -/
module

public import proofs.«01_k».proof.Proof.KernelIdeal.Vq
public import proofs.«01_k».proof.Proof.VqSpec
public import proofs.«01_k».proof.Proof.KernelIdeal.Taps

@[expose] public section

set_option maxRecDepth 16384

noncomputable section

namespace Cert.KernelIdeal.Val

open Cert.KernelIdeal Cert.KernelIdeal.Gen Cert.Spec
open Idealize.ShloMosaic Idealize.ShloMosaic.TcCoe Idealize.ShloMosaic.Tactic
open Idealize.SL Idealize.SL.RA

/-- A two-axis array at literal coordinates. -/
theorem rdf2 {n0 n1 : ℕ} (A : FVec Ideal ⟨2, ![n0, n1]⟩ .f32) (i : Fin n0) (j : Fin n1) :
    rd (s := ⟨2, ![n0, n1]⟩) A ![i.val, j.val] = A (ix2 i j) := rdi2 A i.val j.val i.isLt j.isLt

/-- The distances of the block's vectors to the codewords. -/
def distB (Z E : FVec Ideal S512x64 .f32) : FVec Ideal S512x512 .f32 :=
  subf (addf
    (broadcastTo S512x512 (shapeCast S512x1 (multiReduction .add [1] S512 (mulf Z Z) 0x00000000#32 reduces_S512x64_S512 (.inl rfl) rfl) shapeCasts_S512_S512x1) broadcasts_S512x1_S512x512)
    (broadcastTo S512x512 (matmul (φ₁ := .f32) (φ₂ := .f32) dot_S1x64_S512x64_S1x512_1_1_0_0_n_n (some .fp32) (broadcast S1x64 (Scalar.ofBits .f32 0x3F800000#32)) (mulf E E) (constant S1x512 .f32 0x00000000#32)) broadcasts_S1x512_S512x512))
    (mulf (broadcast S512x512 (Scalar.ofBits .f32 0x40000000#32))
      (matmul (φ₁ := .f32) (φ₂ := .f32) dot_S512x64_S512x64_S512x512_1_1_0_0_n_n none Z E (constant S512x512 .f32 0x00000000#32)))

theorem distB_apply (Z E : FVec Ideal S512x64 .f32) (r j : Fin 512) :
    distB Z E (ix2 r j) = Spec.dist (fun k => rd (s := S512x64) Z ![r.val, k]) (fun j k => rd (s := S512x64) E ![j, k]) j.val := by
  unfold distB Spec.dist
  pointwise
  simp only [← rdf2 (n0 := 512) (n1 := 64) Z, ← rdf2 (n0 := 512) (n1 := 64) E]
  rfl

/-- The indices of the nearest codewords, one per vector. -/
def nearB (D : FVec Ideal S512x512 .f32) : IVec S512 32 :=
  multiReductionI .minsi [1] S512
    (select (cmpf .oeq D (broadcastTo S512x512 (shapeCast S512x1 (multiReduction .minimumf [1] S512 D 0x7F800000#32 reduces_S512x512_S512 (.inl rfl) rfl) shapeCasts_S512_S512x1) broadcasts_S512x1_S512x512))
      (iota .tc S512x512 32 [1] iota_S512x512_d1_w32) (broadcast S512x512 512#32)) 2147483647#32 reduces_S512x512_S512 rfl

theorem nearB_apply (D : FVec Ideal S512x512 .f32) (r : Fin 512) :
    nearB D (ix1 r) = nearest (fun j => rd (s := S512x512) D ![r.val, j]) := by
  unfold nearB nearest least
  pointwise
  simp only [rdf2 (n0 := 512) (n1 := 512) D]
  rfl

/-- One at each vector's nearest codeword, zero elsewhere. -/
def hotB (D : FVec Ideal S512x512 .f32) : FVec Ideal S512x512 .f32 :=
  sitofp .f32 (extui 32 (cmpi .eq (iota .tc S512x512 32 [1] iota_S512x512_d1_w32)
    (broadcastTo S512x512 (shapeCast S512x1 (nearB D) shapeCasts_S512_S512x1) broadcasts_S512x1_S512x512)) natLt_1_32)

theorem hotB_apply (D : FVec Ideal S512x512 .f32) (r j : Fin 512) :
    hotB D (ix2 r j) = hot (fun j => rd (s := S512x512) D ![r.val, j]) j.val := by
  unfold hotB hot
  pointwise
  have e : (IntOp.cmpi CmpIPredicate.eq (BitVec.ofNat 32 j.val) (nearB D (ix1 r)) = 1#1)
      ↔ BitVec.ofNat 32 j.val = nearest fun j => rd (s := S512x512) D ![r.val, j] := by
    rw [nearB_apply]
    exact cmpi_eq_one _ _
  exact sitofp_bit _ _ e

/-- The one-hot rows over the distances. -/
theorem hotB_distB (Z E : FVec Ideal S512x64 .f32) (r j : Fin 512) :
    hotB (distB Z E) (ix2 r j) = hot (Spec.dist (fun k => rd (s := S512x64) Z ![r.val, k]) (fun j k => rd (s := S512x64) E ![j, k])) j.val :=
  (hotB_apply _ r j).trans (hot_congr (fun j hj => (rdf2 (n0 := 512) (n1 := 512) (distB Z E) r ⟨j, hj⟩).trans (distB_apply Z E r ⟨j, hj⟩)) _)

/-- The quantised vectors of the block. -/
def quantB (Z E : FVec Ideal S512x64 .f32) : FVec Ideal S512x64 .f32 :=
  matmul (φ₁ := .f32) (φ₂ := .f32) dot_S512x512_S512x64_S512x64_1_0_0_1_n_n none (hotB (distB Z E)) E (constant S512x64 .f32 0x00000000#32)

/-- The block's counts. -/
def countB (Z E : FVec Ideal S512x64 .f32) : FVec Ideal S1x512 .f32 :=
  shapeCast S1x512 (multiReduction .add [0] S512 (hotB (distB Z E)) 0x00000000#32 reduces_S512x512_S512_2 (.inl rfl) rfl) shapeCasts_S512_S1x512

/-- The block's squared error. -/
def errB (Z E : FVec Ideal S512x64 .f32) : FVec Ideal S1x1 .f32 :=
  broadcast S1x1 (extractAt ![0, 0, 0] (shapeCast S1x1x1 (multiReduction .add [1, 2] S1
    (shapeCast S1x512x64 (mulf (subf (quantB Z E) Z) (subf (quantB Z E) Z)) shapeCasts_S512x64_S1x512x64)
    0x00000000#32 reduces_S1x512x64_S1 (.inl rfl) rfl) shapeCasts_S1_S1x1x1) inpos_S1x1x1_p0_0_0)

theorem quantB_apply (Z E : FVec Ideal S512x64 .f32) (r : Fin 512) (o : Fin 64) :
    quantB Z E (ix2 r o) = quant (fun k => rd (s := S512x64) Z ![r.val, k]) (fun j k => rd (s := S512x64) E ![j, k]) o.val := by
  unfold quantB quant
  pointwise
  exact Finset.sum_congr rfl fun j _ => congrArg₂ (· * ·) (hotB_distB Z E r j) (rdf2 (n0 := 512) (n1 := 64) E j o).symm

theorem countB_apply (Z E : FVec Ideal S512x64 .f32) (i : Fin 1) (j : Fin 512) :
    countB Z E (ix2 i j) = tally 512 (fun r k => rd (s := S512x64) Z ![r, k]) (fun j k => rd (s := S512x64) E ![j, k]) j.val := by
  unfold countB tally
  pointwise
  exact Finset.sum_congr rfl fun r _ => hotB_distB Z E r j

theorem errB_apply (Z E : FVec Ideal S512x64 .f32) (i j : Fin 1) :
    errB Z E (ix2 i j) = errSum 512 (fun r k => rd (s := S512x64) Z ![r, k]) (fun j k => rd (s := S512x64) E ![j, k]) := by
  unfold errB errSum sqErr
  pointwise
  simp only [quantB_apply, ← rdf2 (n0 := 512) (n1 := 64) Z]

/-- The perplexity of the counts. -/
def perpB (C : FVec Ideal S1x512 .f32) : FVec Ideal S1x1 .f32 :=
  broadcast S1x1 (Scalar.exp (Scalar.subf (Scalar.ofBits .f32 0x00000000#32) (extractAt ![0, 0, 0] (shapeCast S1x1x1 (multiReduction .add [1, 2] S1
    (shapeCast S1x1x512 (mulf (divf C (broadcast S1x512 (Scalar.ofBits .f32 0x46C40000#32)))
      (log (addf (divf C (broadcast S1x512 (Scalar.ofBits .f32 0x46C40000#32))) (broadcast S1x512 (Scalar.ofBits .f32 0x2EDBE6FF#32))))) shapeCasts_S1x512_S1x1x512)
    0x00000000#32 reduces_S1x1x512_S1 (.inl rfl) rfl) shapeCasts_S1_S1x1x1) inpos_S1x1x1_p0_0_0)))

theorem perpB_apply (C : FVec Ideal S1x512 .f32) (i j : Fin 1) :
    perpB C (ix2 i j) = perplexity fun j => rd (s := S1x512) C ![0, j] := by
  unfold perpB perplexity
  pointwise
  simp only [rdf2 (n0 := 1) (n1 := 512) C, Fin.sum_univ_one, zero_sub]
  simp only [← rdf2 (n0 := 1) (n1 := 512) C]
  rfl

end Cert.KernelIdeal.Val

end
-- ==== Proof.KernelIdeal.VqCase.lean ====
/- What the quantiser's body leaves in its accumulators at the first, a middle and the last point. -/
module

public import proofs.«01_k».proof.Proof.KernelIdeal.VqChunk

@[expose] public section

set_option maxRecDepth 16384

noncomputable section

namespace Cert.KernelIdeal.Val

open Cert.KernelIdeal Cert.KernelIdeal.Gen Cert.KernelIdeal.Run Cert.Spec
open Idealize.ShloMosaic Idealize.ShloMosaic.TcCoe Idealize.ShloMosaic.Tactic
open Idealize.SL Idealize.SL.RA

/-- A load of a whole two-axis block is the block. -/
theorem readAt_whole {sg : RefSig} {s : Shape} (m : Memref sg .tc .vmem s .f32) (h : m.IsWhole) (X : FVec Ideal s .f32)
    {off : Fin s.rank → ℕ} (inb : ∀ a, off a + s.size a ≤ s.size a) (h0 : ∀ a, off a = 0) :
    View.readAt (Elt Ideal) m.view (Rect.unit (s := s) off s.size inb).toLoadRect (h.unread X) = X := by
  rw [View.readAt_eq_ld, h.read_unread]
  exact View.ld_unit_lit (Val := Elt Ideal) (e := .f32) inb X h0

/-- The body's first value is its operand. -/
theorem pay_operand (Z : FVec Ideal S512x64 .f32) : k5_pay5 (F := Ideal) Z = Z := by
  unfold k5_pay5
  exact shapeCast_id _ _

/-- The body's one-hot rows are those of the distances. -/
theorem pay_hot (Z E : FVec Ideal S512x64 .f32) : k5_pay6 (F := Ideal) Z E = hotB (distB Z E) := by
  unfold k5_pay6 hotB nearB distB
  simp only [pay_operand]

/-- The stored counts are the block's. -/
theorem pay_count (Z E : FVec Ideal S512x64 .f32) : k5_pay8 (F := Ideal) Z E = countB Z E := by
  unfold k5_pay8 countB
  simp only [pay_hot]

/-- The stored error is the block's. -/
theorem pay_err (Z E : FVec Ideal S512x64 .f32) : k5_pay9 (F := Ideal) Z E = errB Z E := by
  unfold k5_pay9 k5_pay7 errB quantB
  simp only [pay_hot, pay_operand]

/-- The counts added to those before. -/
theorem pay_addCount (A B : FVec Ideal S1x512 .f32) : k5_pay1 (F := Ideal) A B = addf B A := by
  unfold k5_pay1
  simp only [shapeCast_id]

/-- The error added to that before. -/
theorem pay_addErr (A B : FVec Ideal S1x1 .f32) : k5_pay2 (F := Ideal) A B = addf B A := by
  unfold k5_pay2
  simp only [shapeCast_id]

/-- The stored perplexity. -/
theorem pay_perp (A : FVec Ideal S1x512 .f32) : k5_pay3 (F := Ideal) A = perpB A := by
  unfold k5_pay3
  simp only [shapeCast_id]
  rfl

/-- The stored loss. -/
theorem pay_loss (A : FVec Ideal S1x1 .f32) : k5_pay4 (F := Ideal) A = mulf A (broadcast S1x1 (Named.named (F := Ideal) κ "loss_scale" 0x34272F05#32)) := by
  unfold k5_pay4
  simp only [shapeCast_id]

/-- The first point's counts. -/
theorem out_A_3 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole)
    (hc0 : cond5_0 i) (hc1 : ¬cond5_1 i) (hc2 : ¬cond5_2 i) (x0 : Vec Ideal S512x64 .f32) (x1 : Vec Ideal S512x64 .f32) :
    out5_A_3 (F := Ideal) c i arg1 harg1 arg2 harg2 arg3 harg3 arg4 harg4 arg5 harg5 arg6 harg6 hc0 hc1 hc2 x0 x1 = countB x0 x1 := by
  unfold out5_A_3
  rw [View.read_writes_junk_eq_canon]
  frame_open
  refine (View.canon_cons_unit_lit _ _ _ (by decide)).trans ?_
  rw [readAt_whole arg1 harg1 x0 _ (by decide), readAt_whole arg2 harg2 x1 _ (by decide), pay_count]

/-- The first point's error. -/
theorem out_A_4 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole)
    (hc0 : cond5_0 i) (hc1 : ¬cond5_1 i) (hc2 : ¬cond5_2 i) (x0 : Vec Ideal S512x64 .f32) (x1 : Vec Ideal S512x64 .f32) :
    out5_A_4 (F := Ideal) c i arg1 harg1 arg2 harg2 arg3 harg3 arg4 harg4 arg5 harg5 arg6 harg6 hc0 hc1 hc2 x0 x1 = errB x0 x1 := by
  unfold out5_A_4
  rw [View.read_writes_junk_eq_canon]
  frame_open
  refine (View.canon_cons_unit_lit _ _ _ (by decide)).trans ?_
  rw [readAt_whole arg1 harg1 x0 _ (by decide), readAt_whole arg2 harg2 x1 _ (by decide), pay_err]

/-- A middle point's counts, over those before. -/
theorem out_B_3 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole)
    (hc0 : ¬cond5_0 i) (hc1 : cond5_1 i) (hc2 : ¬cond5_2 i) (x0 : Vec Ideal S512x64 .f32) (x1 : Vec Ideal S512x64 .f32) (xo3 : Vec Ideal S1x512 .f32) (xo4 : Vec Ideal S1x1 .f32) :
    out5_B_3 (F := Ideal) c i arg1 harg1 arg2 harg2 arg3 harg3 arg4 harg4 arg5 harg5 arg6 harg6 hc0 hc1 hc2 x0 x1 xo3 xo4 = addf xo3 (countB x0 x1) := by
  unfold out5_B_3
  rw [View.read_writes_junk_eq_canon]
  frame_open
  refine (View.canon_cons_unit_lit _ _ _ (by decide)).trans ?_
  rw [pay_addCount, readAt_whole arg1 harg1 x0 _ (by decide), readAt_whole arg2 harg2 x1 _ (by decide), pay_count, readAt_whole arg4 harg4 xo3 _ (by decide)]

/-- A middle point's error, over that before. -/
theorem out_B_4 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole)
    (hc0 : ¬cond5_0 i) (hc1 : cond5_1 i) (hc2 : ¬cond5_2 i) (x0 : Vec Ideal S512x64 .f32) (x1 : Vec Ideal S512x64 .f32) (xo3 : Vec Ideal S1x512 .f32) (xo4 : Vec Ideal S1x1 .f32) :
    out5_B_4 (F := Ideal) c i arg1 harg1 arg2 harg2 arg3 harg3 arg4 harg4 arg5 harg5 arg6 harg6 hc0 hc1 hc2 x0 x1 xo3 xo4 = addf xo4 (errB x0 x1) := by
  unfold out5_B_4
  rw [View.read_writes_junk_eq_canon]
  frame_open
  refine (View.canon_cons_unit_lit _ _ _ (by decide)).trans ?_
  rw [pay_addErr, readAt_whole arg1 harg1 x0 _ (by decide), readAt_whole arg2 harg2 x1 _ (by decide), pay_err, readAt_whole arg5 harg5 xo4 _ (by decide)]

/-- The last point's counts, over those before. -/
theorem out_C_3 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole)
    (hc0 : ¬cond5_0 i) (hc1 : cond5_1 i) (hc2 : cond5_2 i) (x0 : Vec Ideal S512x64 .f32) (x1 : Vec Ideal S512x64 .f32) (xo3 : Vec Ideal S1x512 .f32) (xo4 : Vec Ideal S1x1 .f32) :
    out5_C_3 (F := Ideal) c i arg1 harg1 arg2 harg2 arg3 harg3 arg4 harg4 arg5 harg5 arg6 harg6 hc0 hc1 hc2 x0 x1 xo3 xo4 = addf xo3 (countB x0 x1) := by
  unfold out5_C_3
  rw [View.read_writes_junk_eq_canon]
  frame_open
  refine (View.canon_cons_unit_lit _ _ _ (by decide)).trans ?_
  rw [pay_addCount, readAt_whole arg1 harg1 x0 _ (by decide), readAt_whole arg2 harg2 x1 _ (by decide), pay_count, readAt_whole arg4 harg4 xo3 _ (by decide)]

/-- The loss the last point leaves. -/
theorem out_C_4 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole)
    (hc0 : ¬cond5_0 i) (hc1 : cond5_1 i) (hc2 : cond5_2 i) (x0 : Vec Ideal S512x64 .f32) (x1 : Vec Ideal S512x64 .f32) (xo3 : Vec Ideal S1x512 .f32) (xo4 : Vec Ideal S1x1 .f32) :
    out5_C_4 (F := Ideal) c i arg1 harg1 arg2 harg2 arg3 harg3 arg4 harg4 arg5 harg5 arg6 harg6 hc0 hc1 hc2 x0 x1 xo3 xo4 = mulf (addf xo4 (errB x0 x1)) (broadcast S1x1 (Named.named κ "loss_scale" 0x34272F05#32)) := by
  unfold out5_C_4
  rw [View.read_writes_junk_eq_canon]
  frame_open
  refine (View.canon_cons_unit_lit _ _ _ (by decide)).trans ?_
  rw [pay_loss, View.readCov_unit_lit _ _ _ (by decide), pay_addErr, readAt_whole arg1 harg1 x0 _ (by decide), readAt_whole arg2 harg2 x1 _ (by decide), pay_err, readAt_whole arg5 harg5 xo4 _ (by decide)]

/-- The perplexity the last point leaves. -/
theorem out_C_5 (c : Dev nD) (i : grid5.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole)
    (hc0 : ¬cond5_0 i) (hc1 : cond5_1 i) (hc2 : cond5_2 i) (x0 : Vec Ideal S512x64 .f32) (x1 : Vec Ideal S512x64 .f32) (xo3 : Vec Ideal S1x512 .f32) (xo4 : Vec Ideal S1x1 .f32) :
    out5_C_5 (F := Ideal) c i arg1 harg1 arg2 harg2 arg3 harg3 arg4 harg4 arg5 harg5 arg6 harg6 hc0 hc1 hc2 x0 x1 xo3 xo4 = perpB (addf xo3 (countB x0 x1)) := by
  unfold out5_C_5
  rw [View.read_writes_junk_eq_canon]
  frame_open
  refine (View.canon_cons_unit_lit _ _ _ (by decide)).trans ?_
  rw [pay_perp, View.readCov_unit_lit _ _ _ (by decide), pay_addCount, readAt_whole arg1 harg1 x0 _ (by decide), readAt_whole arg2 harg2 x1 _ (by decide), pay_count, readAt_whole arg4 harg4 xo3 _ (by decide)]

end Cert.KernelIdeal.Val

end
-- ==== Proof.KernelIdeal.VqAcc.lean ====
/- The quantiser's accumulators after every point: the counts and the squared error of all vectors so far, and at the last point the loss and the perplexity. -/
module

public import proofs.«01_k».proof.Proof.KernelIdeal.VqCase

@[expose] public section

set_option maxRecDepth 16384

noncomputable section

namespace Cert.KernelIdeal.Val

open Cert.KernelIdeal Cert.KernelIdeal.Gen Cert.KernelIdeal.Run Cert.Spec
open Idealize.ShloMosaic Idealize.ShloMosaic.TcCoe Idealize.ShloMosaic.Tactic
open Idealize.SL Idealize.SL.RA

/-- The windows' block indices at a point. -/
theorem idx5 : ∀ t : Fin cfg5.N, win5_0.index t = ![t.val, 0] ∧ win5_1.index t = ![0, 0] :=
  (by decide +kernel : ∀ t : Fin grid5.N, win5_0.index t = ![t.val, 0] ∧ win5_1.index t = ![0, 0])

section Blocks
variable (V : (c : Dev nD) → (b : Ref sig .tc) → Buf (Elt Ideal) ((c : Thread nD τ).loc b)) (c : Dev nD)

/-- The vectors, by row. -/
def rows (r k : ℕ) : EReal := rd (s := S25088x64) (V c (Pipeline.arrRef spec5 0)) ![r, k]
/-- The codebook. -/
def book (j k : ℕ) : EReal := rd (s := S512x64) (V c (Pipeline.arrRef spec5 1)) ![j, k]

/-- The vectors' block at a point: 512 rows from row `512 t` on. -/
theorem blk5_0 (t : Fin cfg5.N) (r k : ℕ) (hr : r < 512) (hk : k < 64) :
    rd (s := S512x64) (iblk5 V c 0 t) ![r, k] = rows V c (512 * t.val + r) k := by
  refine (rdi2 (n0 := 512) (n1 := 64) (iblk5 V c 0 t) r k hr hk).trans ?_
  have ht : t.val < 49 := t.isLt
  unfold rows
  rw [rdi2 (n0 := 25088) (n1 := 64) _ _ _ (by omega) hk]
  refine congrArg (V c (Pipeline.arrRef spec5 0)) (funext fun a => Fin.ext ?_)
  blk_simp [(idx5 t).1]
  fin_cases a <;> simp <;> omega

/-- The codebook's block is the whole codebook. -/
theorem blk5_1 (t : Fin cfg5.N) : iblk5 V c 1 t = V c (Pipeline.arrRef spec5 1) := by
  funext y
  refine congrArg (V c (Pipeline.arrRef spec5 1)) (funext fun a => Fin.ext ?_)
  blk_simp [(idx5 t).2]
  fin_cases a <;> simp

/-- Counts of two stretches of vectors together. -/
theorem tally_add (n m : ℕ) (Z e : ℕ → ℕ → EReal) (j : ℕ) : tally (n + m) Z e j = tally n Z e j + tally m (fun r => Z (n + r)) e j := by
  unfold tally
  rw [Fin.sum_univ_eq_sum_range (fun r => hot (Spec.dist (Z r) e) j), Fin.sum_univ_eq_sum_range (fun r => hot (Spec.dist (Z r) e) j),
    Fin.sum_univ_eq_sum_range (fun r => hot (Spec.dist (Z (n + r)) e) j), Finset.sum_range_add]

/-- Squared errors of two stretches of vectors together. -/
theorem errSum_add (n m : ℕ) (Z e : ℕ → ℕ → EReal) : errSum (n + m) Z e = errSum n Z e + errSum m (fun r => Z (n + r)) e := by
  unfold errSum
  rw [Fin.sum_univ_eq_sum_range (fun r => sqErr (Z r) e), Fin.sum_univ_eq_sum_range (fun r => sqErr (Z r) e),
    Fin.sum_univ_eq_sum_range (fun r => sqErr (Z (n + r)) e), Finset.sum_range_add]

/-- A point's own counts. -/
theorem count_point (t : Fin cfg5.N) (i : Fin 1) (j : Fin 512) :
    countB (iblk5 V c 0 t) (iblk5 V c 1 t) (ix2 i j) = tally 512 (fun r => rows V c (512 * t.val + r)) (book V c) j.val := by
  refine (countB_apply _ _ i j).trans ?_
  rw [blk5_1]
  unfold tally
  refine Finset.sum_congr rfl fun r _ => hot_congr (fun j _ => ?_) _
  unfold Spec.dist
  have e : ∀ k : Fin 64, rd (s := S512x64) (iblk5 V c 0 t) ![r.val, k.val] = rows V c (512 * t.val + r.val) k.val :=
    fun k => blk5_0 V c t r.val k.val r.isLt k.isLt
  simp only [e]
  rfl

/-- A point's own squared error. -/
theorem err_point (t : Fin cfg5.N) (i j : Fin 1) :
    errB (iblk5 V c 0 t) (iblk5 V c 1 t) (ix2 i j) = errSum 512 (fun r => rows V c (512 * t.val + r)) (book V c) := by
  refine (errB_apply _ _ i j).trans ?_
  rw [blk5_1]
  unfold errSum sqErr quant
  have e : ∀ (r : Fin 512) (k : Fin 64), rd (s := S512x64) (iblk5 V c 0 t) ![r.val, k.val] = rows V c (512 * t.val + r.val) k.val :=
    fun r k => blk5_0 V c t r.val k.val r.isLt k.isLt
  refine Finset.sum_congr rfl fun r _ => Finset.sum_congr rfl fun o _ => ?_
  have q : ∀ j' : Fin 512, hot (Spec.dist (fun k => rd (s := S512x64) (iblk5 V c 0 t) ![r.val, k]) (fun j k => rd (s := S512x64) (V c (Pipeline.arrRef spec5 1)) ![j, k])) j'.val
      = hot (Spec.dist (rows V c (512 * t.val + r.val)) (book V c)) j'.val := fun j' => hot_congr (fun j _ => by
    unfold Spec.dist
    simp only [e]
    rfl) _
  simp only [q, e]
  rfl

/-- The counts and, before the last point, the squared error of all vectors so far. -/
theorem acc5 : ∀ (n : ℕ) (hn : n < cfg5.N),
    (∀ (i : Fin 1) (j : Fin 512), (outsAt5 V c n hn).2.1 (ix2 i j) = tally (512 * (n + 1)) (rows V c) (book V c) j.val)
    ∧ (n < 48 → ∀ i j : Fin 1, (outsAt5 V c n hn).2.2.1 (ix2 i j) = errSum (512 * (n + 1)) (rows V c) (book V c))
    ∧ (n = 48 → ∀ i j : Fin 1, (outsAt5 V c n hn).2.2.1 (ix2 i j) = errSum 25088 (rows V c) (book V c) * Named.named (F := Ideal) (φ := .f32) κ "loss_scale" 0x34272F05#32)
    ∧ (n = 48 → ∀ i j : Fin 1, (outsAt5 V c n hn).2.2.2 (ix2 i j) = perplexity (tally 25088 (rows V c) (book V c))) := by
  intro n
  induction n with
  | zero =>
    intro hn
    have e := outsAt5_A V c ⟨0, hn⟩ rfl (by simp) (by simp)
    dsimp only at e
    refine ⟨fun i j => ?_, fun _ i j => ?_, fun h => absurd h (by decide), fun h => absurd h (by decide)⟩
    · rw [e]; dsimp only; rw [out_A_3]
      refine (count_point V c ⟨0, hn⟩ i j).trans ?_
      simp
    · rw [e]; dsimp only; rw [out_A_4]
      refine (err_point V c ⟨0, hn⟩ i j).trans ?_
      simp
  | succ n ih =>
    intro hn
    obtain ⟨ih1, ih2, -, -⟩ := ih (by omega)
    have hN : n + 1 < 49 := hn
    have hC : ∀ (i : Fin 1) (j : Fin 512), addf ((outsAt5 V c n (by omega)).2.1) (countB (iblk5 V c 0 ⟨n + 1, hn⟩) (iblk5 V c 1 ⟨n + 1, hn⟩)) (ix2 i j)
        = tally (512 * (n + 1 + 1)) (rows V c) (book V c) j.val := by
      intro i j
      rw [show 512 * (n + 1 + 1) = 512 * (n + 1) + 512 by ring, tally_add]
      exact congrArg₂ (· + ·) (ih1 i j) (count_point V c ⟨n + 1, hn⟩ i j)
    have hE : n < 48 → ∀ (i j : Fin 1), addf ((outsAt5 V c n (by omega)).2.2.1) (errB (iblk5 V c 0 ⟨n + 1, hn⟩) (iblk5 V c 1 ⟨n + 1, hn⟩)) (ix2 i j)
        = errSum (512 * (n + 1 + 1)) (rows V c) (book V c) := by
      intro h i j
      rw [show 512 * (n + 1 + 1) = 512 * (n + 1) + 512 by ring, errSum_add]
      exact congrArg₂ (· + ·) (ih2 h i j) (err_point V c ⟨n + 1, hn⟩ i j)
    by_cases h48 : n + 1 = 48
    · have e := outsAt5_C V c ⟨n + 1, hn⟩ (by simp only; omega) (by simp only; omega) (by simp only; omega)
      dsimp only at e
      refine ⟨fun i j => ?_, fun h => absurd h (by omega), fun _ i j => ?_, fun _ i j => ?_⟩
      · rw [e]; dsimp only; rw [out_C_3]
        exact hC i j
      · rw [e]; dsimp only; rw [out_C_4]
        refine congrArg₂ (· * ·) ((hE (by omega) i j).trans ?_) rfl
        rw [h48]
      · rw [e]; dsimp only; rw [out_C_5]
        refine (perpB_apply _ i j).trans ?_
        have q : ∀ j' : Fin 512, rd (s := S1x512) (addf ((outsAt5 V c n (by omega)).2.1) (countB (iblk5 V c 0 ⟨n + 1, hn⟩) (iblk5 V c 1 ⟨n + 1, hn⟩))) ![0, j'.val]
            = tally 25088 (rows V c) (book V c) j'.val := fun j' => by
          refine (rdf2 (n0 := 1) (n1 := 512) _ 0 j').trans ((hC 0 j').trans ?_)
          rw [h48]
        unfold perplexity
        simp only [← q]
        rfl
    · have e := outsAt5_B V c ⟨n + 1, hn⟩ (by simp only; omega) (by simp only; omega) (by simp only; omega)
      dsimp only at e
      refine ⟨fun i j => ?_, fun h i j => ?_, fun h => absurd h h48, fun h => absurd h h48⟩
      · rw [e]; dsimp only; rw [out_B_3]
        exact hC i j
      · rw [e]; dsimp only; rw [out_B_4]
        exact hE (by omega) i j

end Blocks

end Cert.KernelIdeal.Val

end
-- ==== Proof.KernelIdeal.Run.lean ====
/- The run of `KernelIdeal`: @main as host stretches and six regions, the buffer contents at every boundary (`WJ`), and
   the frame, from a launch whose final state holds every unscoped buffer at the last boundary's contents. -/
module

public import proofs.«01_k».proof.Proof.Gen.KernelIdeal.Regions
public import proofs.«01_k».proof.Proof.Gen.Own.KernelIdeal.K0.Frame
public import proofs.«01_k».proof.Proof.Gen.Own.KernelIdeal.K1.Frame
public import proofs.«01_k».proof.Proof.Gen.Own.KernelIdeal.K2.Frame
public import proofs.«01_k».proof.Proof.Gen.Own.KernelIdeal.K3.Frame
public import proofs.«01_k».proof.Proof.Gen.Own.KernelIdeal.K4.Frame
public import proofs.«01_k».proof.Proof.KernelIdeal.Vq
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of large extents recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The convolution regions' proof data, owing nothing -/

abbrev dat0 (V : (c : Dev nD) → (b : Ref sig .tc) → Buf (Elt F) ((c : Thread nD τ).loc b)) (c : Dev nD) :
    Dat τ (Elt F) Unit ℕ (UR sig nD τ) ℕ cfg0 c := Own.K0.dat Variants.none V (fun _ => 0) c
theorem A_eq0 (V : (c : Dev nD) → (b : Ref sig .tc) → Buf (Elt F) ((c : Thread nD τ).loc b)) (c : Dev nD) (w : Fin cfg0.W) :
    (dat0 V c).A w = V c (Pipeline.arrRef spec0 w) := Own.K0.A_eq Variants.none V (fun _ => 0) c w
theorem body_obligation0 (V : (c : Dev nD) → (b : Ref sig .tc) → Buf (Elt F) ((c : Thread nD τ).loc b)) (c : Dev nD) :
    BodyObligation (dat0 V c) (defs₀ (F := F)) Variants.none () Set.univ := Own.K0.body_obligation Variants.none V (fun _ => 0) () c
abbrev dat1 (V : (c : Dev nD) → (b : Ref sig .tc) → Buf (Elt F) ((c : Thread nD τ).loc b)) (c : Dev nD) :
    Dat τ (Elt F) Unit ℕ (UR sig nD τ) ℕ cfg1 c := Own.K1.dat Variants.none V (fun _ => 0) c
theorem A_eq1 (V : (c : Dev nD) → (b : Ref sig .tc) → Buf (Elt F) ((c : Thread nD τ).loc b)) (c : Dev nD) (w : Fin cfg1.W) :
    (dat1 V c).A w = V c (Pipeline.arrRef spec1 w) := Own.K1.A_eq Variants.none V (fun _ => 0) c w
theorem body_obligation1 (V : (c : Dev nD) → (b : Ref sig .tc) → Buf (Elt F) ((c : Thread nD τ).loc b)) (c : Dev nD) :
    BodyObligation (dat1 V c) (defs₀ (F := F)) Variants.none () Set.univ := Own.K1.body_obligation Variants.none V (fun _ => 0) () c
abbrev dat2 (V : (c : Dev nD) → (b : Ref sig .tc) → Buf (Elt F) ((c : Thread nD τ).loc b)) (c : Dev nD) :
    Dat τ (Elt F) Unit ℕ (UR sig nD τ) ℕ cfg2 c := Own.K2.dat Variants.none V (fun _ => 0) c
theorem A_eq2 (V : (c : Dev nD) → (b : Ref sig .tc) → Buf (Elt F) ((c : Thread nD τ).loc b)) (c : Dev nD) (w : Fin cfg2.W) :
    (dat2 V c).A w = V c (Pipeline.arrRef spec2 w) := Own.K2.A_eq Variants.none V (fun _ => 0) c w
theorem body_obligation2 (V : (c : Dev nD) → (b : Ref sig .tc) → Buf (Elt F) ((c : Thread nD τ).loc b)) (c : Dev nD) :
    BodyObligation (dat2 V c) (defs₀ (F := F)) Variants.none () Set.univ := Own.K2.body_obligation Variants.none V (fun _ => 0) () c
abbrev dat3 (V : (c : Dev nD) → (b : Ref sig .tc) → Buf (Elt F) ((c : Thread nD τ).loc b)) (c : Dev nD) :
    Dat τ (Elt F) Unit ℕ (UR sig nD τ) ℕ cfg3 c := Own.K3.dat Variants.none V (fun _ => 0) c
theorem A_eq3 (V : (c : Dev nD) → (b : Ref sig .tc) → Buf (Elt F) ((c : Thread nD τ).loc b)) (c : Dev nD) (w : Fin cfg3.W) :
    (dat3 V c).A w = V c (Pipeline.arrRef spec3 w) := Own.K3.A_eq Variants.none V (fun _ => 0) c w
theorem body_obligation3 (V : (c : Dev nD) → (b : Ref sig .tc) → Buf (Elt F) ((c : Thread nD τ).loc b)) (c : Dev nD) :
    BodyObligation (dat3 V c) (defs₀ (F := F)) Variants.none () Set.univ := Own.K3.body_obligation Variants.none V (fun _ => 0) () c
abbrev dat4 (V : (c : Dev nD) → (b : Ref sig .tc) → Buf (Elt F) ((c : Thread nD τ).loc b)) (c : Dev nD) :
    Dat τ (Elt F) Unit ℕ (UR sig nD τ) ℕ cfg4 c := Own.K4.dat Variants.none V (fun _ => 0) c
theorem A_eq4 (V : (c : Dev nD) → (b : Ref sig .tc) → Buf (Elt F) ((c : Thread nD τ).loc b)) (c : Dev nD) (w : Fin cfg4.W) :
    (dat4 V c).A w = V c (Pipeline.arrRef spec4 w) := Own.K4.A_eq Variants.none V (fun _ => 0) c w
theorem body_obligation4 (V : (c : Dev nD) → (b : Ref sig .tc) → Buf (Elt F) ((c : Thread nD τ).loc b)) (c : Dev nD) :
    BodyObligation (dat4 V c) (defs₀ (F := F)) Variants.none () Set.univ := Own.K4.body_obligation Variants.none V (fun _ => 0) () c

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13]

/-- `hostOps0` writes none of the argument arrays (checked. -/
theorem hostOps0_args : ∀ a ∈ argRefs, a ∉ hostOps0_W := ListAll.forall_mem_of_all_decide (by decide +kernel)
/-- `hostOps0_1` writes none of the argument arrays (checked. -/
theorem hostOps0_1_args : ∀ a ∈ argRefs, a ∉ hostOps0_1_W := ListAll.forall_mem_of_all_decide (by decide +kernel)
/-- `hostOps0_2` writes none of the argument arrays (checked. -/
theorem hostOps0_2_args : ∀ a ∈ argRefs, a ∉ hostOps0_2_W := ListAll.forall_mem_of_all_decide (by decide +kernel)
/-- `hostOps1` writes none of the argument arrays (checked. -/
theorem hostOps1_args : ∀ a ∈ argRefs, a ∉ hostOps1_W := ListAll.forall_mem_of_all_decide (by decide +kernel)
/-- `hostOps1_1` writes none of the argument arrays (checked. -/
theorem hostOps1_1_args : ∀ a ∈ argRefs, a ∉ hostOps1_1_W := ListAll.forall_mem_of_all_decide (by decide +kernel)
/-- `hostOps1_2` writes none of the argument arrays (checked. -/
theorem hostOps1_2_args : ∀ a ∈ argRefs, a ∉ hostOps1_2_W := ListAll.forall_mem_of_all_decide (by decide +kernel)
/-- `hostOps2` writes none of the argument arrays (checked. -/
theorem hostOps2_args : ∀ a ∈ argRefs, a ∉ hostOps2_W := ListAll.forall_mem_of_all_decide (by decide +kernel)
/-- `hostOps2_1` writes none of the argument arrays (checked. -/
theorem hostOps2_1_args : ∀ a ∈ argRefs, a ∉ hostOps2_1_W := ListAll.forall_mem_of_all_decide (by decide +kernel)
/-- `hostOps2_2` writes none of the argument arrays (checked. -/
theorem hostOps2_2_args : ∀ a ∈ argRefs, a ∉ hostOps2_2_W := ListAll.forall_mem_of_all_decide (by decide +kernel)
/-- `hostOps2_3` writes none of the argument arrays (checked. -/
theorem hostOps2_3_args : ∀ a ∈ argRefs, a ∉ hostOps2_3_W := ListAll.forall_mem_of_all_decide (by decide +kernel)
/-- `hostOps2_4` writes none of the argument arrays (checked. -/
theorem hostOps2_4_args : ∀ a ∈ argRefs, a ∉ hostOps2_4_W := ListAll.forall_mem_of_all_decide (by decide +kernel)
/-- `hostOps2_5` writes none of the argument arrays (checked. -/
theorem hostOps2_5_args : ∀ a ∈ argRefs, a ∉ hostOps2_5_W := ListAll.forall_mem_of_all_decide (by decide +kernel)
/-- `hostOps3` writes none of the argument arrays (checked. -/
theorem hostOps3_args : ∀ a ∈ argRefs, a ∉ hostOps3_W := ListAll.forall_mem_of_all_decide (by decide +kernel)
/-- `hostOps3_1` writes none of the argument arrays (checked. -/
theorem hostOps3_1_args : ∀ a ∈ argRefs, a ∉ hostOps3_1_W := ListAll.forall_mem_of_all_decide (by decide +kernel)
/-- `hostOps4` writes none of the argument arrays (checked. -/
theorem hostOps4_args : ∀ a ∈ argRefs, a ∉ hostOps4_W := ListAll.forall_mem_of_all_decide (by decide +kernel)
/-- `hostOps5` writes none of the argument arrays (checked. -/
theorem hostOps5_args : ∀ a ∈ argRefs, a ∉ hostOps5_W := ListAll.forall_mem_of_all_decide (by decide +kernel)
/-- `hostOps6` writes none of the argument arrays (checked. -/
theorem hostOps6_args : ∀ a ∈ argRefs, a ∉ hostOps6_W := ListAll.forall_mem_of_all_decide (by decide +kernel)

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked. -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it held at entry (`hrest0`). -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1`. -/
abbrev W5 : Dev nD → Valuation τ sig (Elt F) := fun c => StableHlo.after hostOps1 (W4 m ρ c)
/-- A reference `hostOps1` does not write keeps its contents across it. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W5_args (c : Dev nD) : ∀ a ∈ argRefs, W5 m ρ c (Proc.devRef .tc a) = m ((c : Thread nD τ).loc a) :=
  fun a ha => (W5_of m ρ c a (hostOps1_args a ha)).trans (W4_args m ρ c a ha)
/-- After `hostOps1_1`. -/
abbrev W6 : Dev nD → Valuation τ sig (Elt F) := fun c => StableHlo.after hostOps1_1 (W5 m ρ c)
/-- A reference `hostOps1_1` does not write keeps its contents across it. -/
theorem W6_of (c : Dev nD) (r : Ref sig .tc) (h : r ∉ hostOps1_1_W) : W6 m ρ c (Proc.devRef .tc r) = W5 m ρ c (Proc.devRef .tc r) :=
  StableHlo.after_of_writes_sub hostOps1_1 _ hostOps1_1_writes h
theorem W6_args (c : Dev nD) : ∀ a ∈ argRefs, W6 m ρ c (Proc.devRef .tc a) = m ((c : Thread nD τ).loc a) :=
  fun a ha => (W6_of m ρ c a (hostOps1_1_args a ha)).trans (W5_args m ρ c a ha)
/-- After `hostOps1_2` (region 1's entry). -/
abbrev W7 : Dev nD → Valuation τ sig (Elt F) := fun c => StableHlo.after hostOps1_2 (W6 m ρ c)
/-- A reference `hostOps1_2` does not write keeps its contents across it. -/
theorem W7_of (c : Dev nD) (r : Ref sig .tc) (h : r ∉ hostOps1_2_W) : W7 m ρ c (Proc.devRef .tc r) = W6 m ρ c (Proc.devRef .tc r) :=
  StableHlo.after_of_writes_sub hostOps1_2 _ hostOps1_2_writes h
theorem W7_args (c : Dev nD) : ∀ a ∈ argRefs, W7 m ρ c (Proc.devRef .tc a) = m ((c : Thread nD τ).loc a) :=
  fun a ha => (W7_of m ρ c a (hostOps1_2_args a ha)).trans (W6_args m ρ c a ha)
/-- The same read at the TensorCore's references (what region 1's proof data take). -/
abbrev V7 : (c : Dev nD) → (b : Ref sig .tc) → Buf (Elt F) ((c : Thread nD τ).loc b) := fun c b => W7 m ρ c b
/-- At region 1's exit. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- A reference that is none of region 1's OUTPUT arrays keeps its entry contents across it. -/
theorem W8_of (c : Dev nD) (r : Ref sig .tc) (h : ∀ w : Fin cfg1.W, Pipeline.arrRef spec1 w = r → (cfg1.win w).isOut = false) :
    W8 m ρ c (Proc.devRef .tc r) = W7 m ρ c (Proc.devRef .tc r) := by
  by_cases hw : ∃ w : Fin cfg1.W, Pipeline.arrRef spec1 w = r
  · obtain ⟨w, rfl⟩ := hw
    exact (W8_arr m ρ c w).trans (((dat1 (V7 m ρ) c).arrAt_in w (h w rfl) _).trans (A_eq1 (V7 m ρ) c w))
  · exact W8_of_ne m ρ c r fun w e => hw ⟨w, e⟩
/-- Every argument among region 1's arrays is an input window's (checked. -/
theorem argsIn1 : ∀ a ∈ argRefs, ∀ w : Fin cfg1.W, Pipeline.arrRef spec1 w = a → (cfg1.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn1 a ha)).trans (W7_args m ρ c a ha)
/-- The same read at the TensorCore's references (region 1's exit contents). -/
abbrev V8 : (c : Dev nD) → (b : Ref sig .tc) → Buf (Elt F) ((c : Thread nD τ).loc b) := fun c b => W8 m ρ c b
/-- At region 1's exit each of its arrays holds what the pipeline leaves (`hF1`) and every other buffer what it held at entry (`hrest1`). -/
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After `hostOps2`. -/
abbrev W9 : Dev nD → Valuation τ sig (Elt F) := fun c => StableHlo.after hostOps2 (W8 m ρ c)
/-- A reference `hostOps2` does not write keeps its contents across it. -/
theorem W9_of (c : Dev nD) (r : Ref sig .tc) (h : r ∉ hostOps2_W) : W9 m ρ c (Proc.devRef .tc r) = W8 m ρ c (Proc.devRef .tc r) :=
  StableHlo.after_of_writes_sub hostOps2 _ hostOps2_writes h
theorem W9_args (c : Dev nD) : ∀ a ∈ argRefs, W9 m ρ c (Proc.devRef .tc a) = m ((c : Thread nD τ).loc a) :=
  fun a ha => (W9_of m ρ c a (hostOps2_args a ha)).trans (W8_args m ρ c a ha)
/-- After `hostOps2_1`. -/
abbrev W10 : Dev nD → Valuation τ sig (Elt F) := fun c => StableHlo.after hostOps2_1 (W9 m ρ c)
/-- A reference `hostOps2_1` does not write keeps its contents across it. -/
theorem W10_of (c : Dev nD) (r : Ref sig .tc) (h : r ∉ hostOps2_1_W) : W10 m ρ c (Proc.devRef .tc r) = W9 m ρ c (Proc.devRef .tc r) :=
  StableHlo.after_of_writes_sub hostOps2_1 _ hostOps2_1_writes h
theorem W10_args (c : Dev nD) : ∀ a ∈ argRefs, W10 m ρ c (Proc.devRef .tc a) = m ((c : Thread nD τ).loc a) :=
  fun a ha => (W10_of m ρ c a (hostOps2_1_args a ha)).trans (W9_args m ρ c a ha)
/-- After `hostOps2_2`. -/
abbrev W11 : Dev nD → Valuation τ sig (Elt F) := fun c => StableHlo.after hostOps2_2 (W10 m ρ c)
/-- A reference `hostOps2_2` does not write keeps its contents across it. -/
theorem W11_of (c : Dev nD) (r : Ref sig .tc) (h : r ∉ hostOps2_2_W) : W11 m ρ c (Proc.devRef .tc r) = W10 m ρ c (Proc.devRef .tc r) :=
  StableHlo.after_of_writes_sub hostOps2_2 _ hostOps2_2_writes h
theorem W11_args (c : Dev nD) : ∀ a ∈ argRefs, W11 m ρ c (Proc.devRef .tc a) = m ((c : Thread nD τ).loc a) :=
  fun a ha => (W11_of m ρ c a (hostOps2_2_args a ha)).trans (W10_args m ρ c a ha)
/-- After `hostOps2_3`. -/
abbrev W12 : Dev nD → Valuation τ sig (Elt F) := fun c => StableHlo.after hostOps2_3 (W11 m ρ c)
/-- A reference `hostOps2_3` does not write keeps its contents across it. -/
theorem W12_of (c : Dev nD) (r : Ref sig .tc) (h : r ∉ hostOps2_3_W) : W12 m ρ c (Proc.devRef .tc r) = W11 m ρ c (Proc.devRef .tc r) :=
  StableHlo.after_of_writes_sub hostOps2_3 _ hostOps2_3_writes h
theorem W12_args (c : Dev nD) : ∀ a ∈ argRefs, W12 m ρ c (Proc.devRef .tc a) = m ((c : Thread nD τ).loc a) :=
  fun a ha => (W12_of m ρ c a (hostOps2_3_args a ha)).trans (W11_args m ρ c a ha)
/-- After `hostOps2_4`. -/
abbrev W13 : Dev nD → Valuation τ sig (Elt F) := fun c => StableHlo.after hostOps2_4 (W12 m ρ c)
/-- A reference `hostOps2_4` does not write keeps its contents across it. -/
theorem W13_of (c : Dev nD) (r : Ref sig .tc) (h : r ∉ hostOps2_4_W) : W13 m ρ c (Proc.devRef .tc r) = W12 m ρ c (Proc.devRef .tc r) :=
  StableHlo.after_of_writes_sub hostOps2_4 _ hostOps2_4_writes h
theorem W13_args (c : Dev nD) : ∀ a ∈ argRefs, W13 m ρ c (Proc.devRef .tc a) = m ((c : Thread nD τ).loc a) :=
  fun a ha => (W13_of m ρ c a (hostOps2_4_args a ha)).trans (W12_args m ρ c a ha)
/-- After `hostOps2_5` (region 2's entry). -/
abbrev W14 : Dev nD → Valuation τ sig (Elt F) := fun c => StableHlo.after hostOps2_5 (W13 m ρ c)
/-- A reference `hostOps2_5` does not write keeps its contents across it. -/
theorem W14_of (c : Dev nD) (r : Ref sig .tc) (h : r ∉ hostOps2_5_W) : W14 m ρ c (Proc.devRef .tc r) = W13 m ρ c (Proc.devRef .tc r) :=
  StableHlo.after_of_writes_sub hostOps2_5 _ hostOps2_5_writes h
theorem W14_args (c : Dev nD) : ∀ a ∈ argRefs, W14 m ρ c (Proc.devRef .tc a) = m ((c : Thread nD τ).loc a) :=
  fun a ha => (W14_of m ρ c a (hostOps2_5_args a ha)).trans (W13_args m ρ c a ha)
/-- The same read at the TensorCore's references (what region 2's proof data take). -/
abbrev V14 : (c : Dev nD) → (b : Ref sig .tc) → Buf (Elt F) ((c : Thread nD τ).loc b) := fun c b => W14 m ρ c b
/-- At region 2's exit. -/
def W15 (c : Dev nD) : Valuation τ sig (Elt F) :=
  Pipeline.withArrays spec2 c (W14 m ρ c) fun w => (dat2 (V14 m ρ) c).arrAt w cfg2.N
theorem W15_arr (c : Dev nD) (w : Fin cfg2.W) :
    W15 m ρ c (Proc.devRef .tc (Pipeline.arrRef spec2 w)) = (dat2 (V14 m ρ) c).arrAt w cfg2.N := by
  unfold W15; exact Pipeline.withArrays_arr spec2 launch2.win.arr_inj c _ _ w
theorem W15_of_ne (c : Dev nD) (b : Ref sig .tc) (hb : ∀ w, Pipeline.arrRef spec2 w ≠ b) :
    W15 m ρ c (Proc.devRef .tc b) = W14 m ρ c (Proc.devRef .tc b) := by
  unfold W15; exact Pipeline.withArrays_of_ne spec2 c _ _ b hb
/-- A reference that is none of region 2's OUTPUT arrays keeps its entry contents across it. -/
theorem W15_of (c : Dev nD) (r : Ref sig .tc) (h : ∀ w : Fin cfg2.W, Pipeline.arrRef spec2 w = r → (cfg2.win w).isOut = false) :
    W15 m ρ c (Proc.devRef .tc r) = W14 m ρ c (Proc.devRef .tc r) := by
  by_cases hw : ∃ w : Fin cfg2.W, Pipeline.arrRef spec2 w = r
  · obtain ⟨w, rfl⟩ := hw
    exact (W15_arr m ρ c w).trans (((dat2 (V14 m ρ) c).arrAt_in w (h w rfl) _).trans (A_eq2 (V14 m ρ) c w))
  · exact W15_of_ne m ρ c r fun w e => hw ⟨w, e⟩
/-- Every argument among region 2's arrays is an input window's (checked. -/
theorem argsIn2 : ∀ a ∈ argRefs, ∀ w : Fin cfg2.W, Pipeline.arrRef spec2 w = a → (cfg2.win w).isOut = false :=
  ListAll.forall_mem_of_all_decide (by decide +kernel)
theorem W15_args (c : Dev nD) : ∀ a ∈ argRefs, W15 m ρ c (Proc.devRef .tc a) = m ((c : Thread nD τ).loc a) :=
  fun a ha => (W15_of m ρ c a (argsIn2 a ha)).trans (W14_args m ρ c a ha)
/-- The same read at the TensorCore's references (region 2's exit contents). -/
abbrev V15 : (c : Dev nD) → (b : Ref sig .tc) → Buf (Elt F) ((c : Thread nD τ).loc b) := fun c b => W15 m ρ c b
/-- At region 2's exit each of its arrays holds what the pipeline leaves (`hF2`) and every other buffer what it held at entry (`hrest2`). -/
theorem hF2 (c : Dev nD) (w : Fin cfg2.W) : (dat2 (V14 m ρ) c).arrAt w cfg2.N = V15 m ρ c (Pipeline.arrRef spec2 w) :=
  (W15_arr m ρ c w).symm
theorem hrest2 (c : Dev nD) : ∀ b, b ∉ Finset.univ.image (Pipeline.arrRef spec2) → V15 m ρ c b = V14 m ρ c b :=
  fun b hb => W15_of_ne m ρ c b fun w e => hb (Finset.mem_image.mpr ⟨w, Finset.mem_univ _, e⟩)

/-- After `hostOps3`. -/
abbrev W16 : Dev nD → Valuation τ sig (Elt F) := fun c => StableHlo.after hostOps3 (W15 m ρ c)
/-- A reference `hostOps3` does not write keeps its contents across it. -/
theorem W16_of (c : Dev nD) (r : Ref sig .tc) (h : r ∉ hostOps3_W) : W16 m ρ c (Proc.devRef .tc r) = W15 m ρ c (Proc.devRef .tc r) :=
  StableHlo.after_of_writes_sub hostOps3 _ hostOps3_writes h
theorem W16_args (c : Dev nD) : ∀ a ∈ argRefs, W16 m ρ c (Proc.devRef .tc a) = m ((c : Thread nD τ).loc a) :=
  fun a ha => (W16_of m ρ c a (hostOps3_args a ha)).trans (W15_args m ρ c a ha)
/-- After `hostOps3_1` (region 3's entry). -/
abbrev W17 : Dev nD → Valuation τ sig (Elt F) := fun c => StableHlo.after hostOps3_1 (W16 m ρ c)
/-- A reference `hostOps3_1` does not write keeps its contents across it. -/
theorem W17_of (c : Dev nD) (r : Ref sig .tc) (h : r ∉ hostOps3_1_W) : W17 m ρ c (Proc.devRef .tc r) = W16 m ρ c (Proc.devRef .tc r) :=
  StableHlo.after_of_writes_sub hostOps3_1 _ hostOps3_1_writes h
theorem W17_args (c : Dev nD) : ∀ a ∈ argRefs, W17 m ρ c (Proc.devRef .tc a) = m ((c : Thread nD τ).loc a) :=
  fun a ha => (W17_of m ρ c a (hostOps3_1_args a ha)).trans (W16_args m ρ c a ha)
/-- The same read at the TensorCore's references (what region 3's proof data take). -/
abbrev V17 : (c : Dev nD) → (b : Ref sig .tc) → Buf (Elt F) ((c : Thread nD τ).loc b) := fun c b => W17 m ρ c b
/-- At region 3's exit. -/
def W18 (c : Dev nD) : Valuation τ sig (Elt F) :=
  Pipeline.withArrays spec3 c (W17 m ρ c) fun w => (dat3 (V17 m ρ) c).arrAt w cfg3.N
theorem W18_arr (c : Dev nD) (w : Fin cfg3.W) :
    W18 m ρ c (Proc.devRef .tc (Pipeline.arrRef spec3 w)) = (dat3 (V17 m ρ) c).arrAt w cfg3.N := by
  unfold W18; exact Pipeline.withArrays_arr spec3 launch3.win.arr_inj c _ _ w
theorem W18_of_ne (c : Dev nD) (b : Ref sig .tc) (hb : ∀ w, Pipeline.arrRef spec3 w ≠ b) :
    W18 m ρ c (Proc.devRef .tc b) = W17 m ρ c (Proc.devRef .tc b) := by
  unfold W18; exact Pipeline.withArrays_of_ne spec3 c _ _ b hb
/-- A reference that is none of region 3's OUTPUT arrays keeps its entry contents across it. -/
theorem W18_of (c : Dev nD) (r : Ref sig .tc) (h : ∀ w : Fin cfg3.W, Pipeline.arrRef spec3 w = r → (cfg3.win w).isOut = false) :
    W18 m ρ c (Proc.devRef .tc r) = W17 m ρ c (Proc.devRef .tc r) := by
  by_cases hw : ∃ w : Fin cfg3.W, Pipeline.arrRef spec3 w = r
  · obtain ⟨w, rfl⟩ := hw
    exact (W18_arr m ρ c w).trans (((dat3 (V17 m ρ) c).arrAt_in w (h w rfl) _).trans (A_eq3 (V17 m ρ) c w))
  · exact W18_of_ne m ρ c r fun w e => hw ⟨w, e⟩
/-- Every argument among region 3's arrays is an input window's (checked. -/
theorem argsIn3 : ∀ a ∈ argRefs, ∀ w : Fin cfg3.W, Pipeline.arrRef spec3 w = a → (cfg3.win w).isOut = false :=
  ListAll.forall_mem_of_all_decide (by decide +kernel)
theorem W18_args (c : Dev nD) : ∀ a ∈ argRefs, W18 m ρ c (Proc.devRef .tc a) = m ((c : Thread nD τ).loc a) :=
  fun a ha => (W18_of m ρ c a (argsIn3 a ha)).trans (W17_args m ρ c a ha)
/-- The same read at the TensorCore's references (region 3's exit contents). -/
abbrev V18 : (c : Dev nD) → (b : Ref sig .tc) → Buf (Elt F) ((c : Thread nD τ).loc b) := fun c b => W18 m ρ c b
/-- At region 3's exit each of its arrays holds what the pipeline leaves (`hF3`) and every other buffer what it held at entry (`hrest3`). -/
theorem hF3 (c : Dev nD) (w : Fin cfg3.W) : (dat3 (V17 m ρ) c).arrAt w cfg3.N = V18 m ρ c (Pipeline.arrRef spec3 w) :=
  (W18_arr m ρ c w).symm
theorem hrest3 (c : Dev nD) : ∀ b, b ∉ Finset.univ.image (Pipeline.arrRef spec3) → V18 m ρ c b = V17 m ρ c b :=
  fun b hb => W18_of_ne m ρ c b fun w e => hb (Finset.mem_image.mpr ⟨w, Finset.mem_univ _, e⟩)

/-- After `hostOps4` (region 4's entry). -/
abbrev W19 : Dev nD → Valuation τ sig (Elt F) := fun c => StableHlo.after hostOps4 (W18 m ρ c)
/-- A reference `hostOps4` does not write keeps its contents across it. -/
theorem W19_of (c : Dev nD) (r : Ref sig .tc) (h : r ∉ hostOps4_W) : W19 m ρ c (Proc.devRef .tc r) = W18 m ρ c (Proc.devRef .tc r) :=
  StableHlo.after_of_writes_sub hostOps4 _ hostOps4_writes h
theorem W19_args (c : Dev nD) : ∀ a ∈ argRefs, W19 m ρ c (Proc.devRef .tc a) = m ((c : Thread nD τ).loc a) :=
  fun a ha => (W19_of m ρ c a (hostOps4_args a ha)).trans (W18_args m ρ c a ha)
/-- The same read at the TensorCore's references (what region 4's proof data take). -/
abbrev V19 : (c : Dev nD) → (b : Ref sig .tc) → Buf (Elt F) ((c : Thread nD τ).loc b) := fun c b => W19 m ρ c b
/-- At region 4's exit. -/
def W20 (c : Dev nD) : Valuation τ sig (Elt F) :=
  Pipeline.withArrays spec4 c (W19 m ρ c) fun w => (dat4 (V19 m ρ) c).arrAt w cfg4.N
theorem W20_arr (c : Dev nD) (w : Fin cfg4.W) :
    W20 m ρ c (Proc.devRef .tc (Pipeline.arrRef spec4 w)) = (dat4 (V19 m ρ) c).arrAt w cfg4.N := by
  unfold W20; exact Pipeline.withArrays_arr spec4 launch4.win.arr_inj c _ _ w
theorem W20_of_ne (c : Dev nD) (b : Ref sig .tc) (hb : ∀ w, Pipeline.arrRef spec4 w ≠ b) :
    W20 m ρ c (Proc.devRef .tc b) = W19 m ρ c (Proc.devRef .tc b) := by
  unfold W20; exact Pipeline.withArrays_of_ne spec4 c _ _ b hb
/-- A reference that is none of region 4's OUTPUT arrays keeps its entry contents across it. -/
theorem W20_of (c : Dev nD) (r : Ref sig .tc) (h : ∀ w : Fin cfg4.W, Pipeline.arrRef spec4 w = r → (cfg4.win w).isOut = false) :
    W20 m ρ c (Proc.devRef .tc r) = W19 m ρ c (Proc.devRef .tc r) := by
  by_cases hw : ∃ w : Fin cfg4.W, Pipeline.arrRef spec4 w = r
  · obtain ⟨w, rfl⟩ := hw
    exact (W20_arr m ρ c w).trans (((dat4 (V19 m ρ) c).arrAt_in w (h w rfl) _).trans (A_eq4 (V19 m ρ) c w))
  · exact W20_of_ne m ρ c r fun w e => hw ⟨w, e⟩
/-- Every argument among region 4's arrays is an input window's (checked. -/
theorem argsIn4 : ∀ a ∈ argRefs, ∀ w : Fin cfg4.W, Pipeline.arrRef spec4 w = a → (cfg4.win w).isOut = false :=
  ListAll.forall_mem_of_all_decide (by decide +kernel)
theorem W20_args (c : Dev nD) : ∀ a ∈ argRefs, W20 m ρ c (Proc.devRef .tc a) = m ((c : Thread nD τ).loc a) :=
  fun a ha => (W20_of m ρ c a (argsIn4 a ha)).trans (W19_args m ρ c a ha)
/-- The same read at the TensorCore's references (region 4's exit contents). -/
abbrev V20 : (c : Dev nD) → (b : Ref sig .tc) → Buf (Elt F) ((c : Thread nD τ).loc b) := fun c b => W20 m ρ c b
/-- At region 4's exit each of its arrays holds what the pipeline leaves (`hF4`) and every other buffer what it held at entry (`hrest4`). -/
theorem hF4 (c : Dev nD) (w : Fin cfg4.W) : (dat4 (V19 m ρ) c).arrAt w cfg4.N = V20 m ρ c (Pipeline.arrRef spec4 w) :=
  (W20_arr m ρ c w).symm
theorem hrest4 (c : Dev nD) : ∀ b, b ∉ Finset.univ.image (Pipeline.arrRef spec4) → V20 m ρ c b = V19 m ρ c b :=
  fun b hb => W20_of_ne m ρ c b fun w e => hb (Finset.mem_image.mpr ⟨w, Finset.mem_univ _, e⟩)

/-- After `hostOps5` (region 5's entry). -/
abbrev W21 : Dev nD → Valuation τ sig (Elt F) := fun c => StableHlo.after hostOps5 (W20 m ρ c)
/-- A reference `hostOps5` does not write keeps its contents across it. -/
theorem W21_of (c : Dev nD) (r : Ref sig .tc) (h : r ∉ hostOps5_W) : W21 m ρ c (Proc.devRef .tc r) = W20 m ρ c (Proc.devRef .tc r) :=
  StableHlo.after_of_writes_sub hostOps5 _ hostOps5_writes h
theorem W21_args (c : Dev nD) : ∀ a ∈ argRefs, W21 m ρ c (Proc.devRef .tc a) = m ((c : Thread nD τ).loc a) :=
  fun a ha => (W21_of m ρ c a (hostOps5_args a ha)).trans (W20_args m ρ c a ha)
/-- The same read at the TensorCore's references (what region 5's proof data take). -/
abbrev V21 : (c : Dev nD) → (b : Ref sig .tc) → Buf (Elt F) ((c : Thread nD τ).loc b) := fun c b => W21 m ρ c b
/-- At region 5's exit. -/
def W22 (c : Dev nD) : Valuation τ sig (Elt F) :=
  Pipeline.withArrays spec5 c (W21 m ρ c) fun w => (dat5 (V21 m ρ) c).arrAt w cfg5.N
theorem W22_arr (c : Dev nD) (w : Fin cfg5.W) :
    W22 m ρ c (Proc.devRef .tc (Pipeline.arrRef spec5 w)) = (dat5 (V21 m ρ) c).arrAt w cfg5.N := by
  unfold W22; exact Pipeline.withArrays_arr spec5 launch5.win.arr_inj c _ _ w
theorem W22_of_ne (c : Dev nD) (b : Ref sig .tc) (hb : ∀ w, Pipeline.arrRef spec5 w ≠ b) :
    W22 m ρ c (Proc.devRef .tc b) = W21 m ρ c (Proc.devRef .tc b) := by
  unfold W22; exact Pipeline.withArrays_of_ne spec5 c _ _ b hb
/-- A reference that is none of region 5's OUTPUT arrays keeps its entry contents across it. -/
theorem W22_of (c : Dev nD) (r : Ref sig .tc) (h : ∀ w : Fin cfg5.W, Pipeline.arrRef spec5 w = r → (cfg5.win w).isOut = false) :
    W22 m ρ c (Proc.devRef .tc r) = W21 m ρ c (Proc.devRef .tc r) := by
  by_cases hw : ∃ w : Fin cfg5.W, Pipeline.arrRef spec5 w = r
  · obtain ⟨w, rfl⟩ := hw
    exact (W22_arr m ρ c w).trans (((dat5 (V21 m ρ) c).arrAt_in w (h w rfl) _).trans (A_eq5 (V21 m ρ) c w))
  · exact W22_of_ne m ρ c r fun w e => hw ⟨w, e⟩
/-- Every argument among region 5's arrays is an input window's (checked. -/
theorem argsIn5 : ∀ a ∈ argRefs, ∀ w : Fin cfg5.W, Pipeline.arrRef spec5 w = a → (cfg5.win w).isOut = false :=
  ListAll.forall_mem_of_all_decide (by decide +kernel)
theorem W22_args (c : Dev nD) : ∀ a ∈ argRefs, W22 m ρ c (Proc.devRef .tc a) = m ((c : Thread nD τ).loc a) :=
  fun a ha => (W22_of m ρ c a (argsIn5 a ha)).trans (W21_args m ρ c a ha)
/-- The same read at the TensorCore's references (region 5's exit contents). -/
abbrev V22 : (c : Dev nD) → (b : Ref sig .tc) → Buf (Elt F) ((c : Thread nD τ).loc b) := fun c b => W22 m ρ c b
/-- At region 5's exit each of its arrays holds what the pipeline leaves (`hF5`) and every other buffer what it held at entry (`hrest5`). -/
theorem hF5 (c : Dev nD) (w : Fin cfg5.W) : (dat5 (V21 m ρ) c).arrAt w cfg5.N = V22 m ρ c (Pipeline.arrRef spec5 w) :=
  (W22_arr m ρ c w).symm
theorem hrest5 (c : Dev nD) : ∀ b, b ∉ Finset.univ.image (Pipeline.arrRef spec5) → V22 m ρ c b = V21 m ρ c b :=
  fun b hb => W22_of_ne m ρ c b fun w e => hb (Finset.mem_image.mpr ⟨w, Finset.mem_univ _, e⟩)

/-- After `hostOps6`. -/
abbrev W23 : Dev nD → Valuation τ sig (Elt F) := fun c => StableHlo.after hostOps6 (W22 m ρ c)
/-- A reference `hostOps6` does not write keeps its contents across it. -/
theorem W23_of (c : Dev nD) (r : Ref sig .tc) (h : r ∉ hostOps6_W) : W23 m ρ c (Proc.devRef .tc r) = W22 m ρ c (Proc.devRef .tc r) :=
  StableHlo.after_of_writes_sub hostOps6 _ hostOps6_writes h
theorem W23_args (c : Dev nD) : ∀ a ∈ argRefs, W23 m ρ c (Proc.devRef .tc a) = m ((c : Thread nD τ).loc a) :=
  fun a ha => (W23_of m ρ c a (hostOps6_args a ha)).trans (W22_args m ρ c a ha)

/-! ### The arguments end as launched: no host stretch writes one and no region may change one (a region reads it
    through an input window or bypasses it) -/

theorem W23_main_arg0 (c : Dev nD) : W23 m ρ c (Proc.devRef .tc main_arg0) = m ((c : Thread nD τ).loc main_arg0) :=
  W23_args m ρ c main_arg0 (by decide)
theorem W23_main_arg1 (c : Dev nD) : W23 m ρ c (Proc.devRef .tc main_arg1) = m ((c : Thread nD τ).loc main_arg1) :=
  W23_args m ρ c main_arg1 (by decide)
theorem W23_main_arg2 (c : Dev nD) : W23 m ρ c (Proc.devRef .tc main_arg2) = m ((c : Thread nD τ).loc main_arg2) :=
  W23_args m ρ c main_arg2 (by decide)
theorem W23_main_arg3 (c : Dev nD) : W23 m ρ c (Proc.devRef .tc main_arg3) = m ((c : Thread nD τ).loc main_arg3) :=
  W23_args m ρ c main_arg3 (by decide)
theorem W23_main_arg4 (c : Dev nD) : W23 m ρ c (Proc.devRef .tc main_arg4) = m ((c : Thread nD τ).loc main_arg4) :=
  W23_args m ρ c main_arg4 (by decide)
theorem W23_main_arg5 (c : Dev nD) : W23 m ρ c (Proc.devRef .tc main_arg5) = m ((c : Thread nD τ).loc main_arg5) :=
  W23_args m ρ c main_arg5 (by decide)
theorem W23_main_arg6 (c : Dev nD) : W23 m ρ c (Proc.devRef .tc main_arg6) = m ((c : Thread nD τ).loc main_arg6) :=
  W23_args m ρ c main_arg6 (by decide)
theorem W23_main_arg7 (c : Dev nD) : W23 m ρ c (Proc.devRef .tc main_arg7) = m ((c : Thread nD τ).loc main_arg7) :=
  W23_args m ρ c main_arg7 (by decide)
theorem W23_main_arg8 (c : Dev nD) : W23 m ρ c (Proc.devRef .tc main_arg8) = m ((c : Thread nD τ).loc main_arg8) :=
  W23_args m ρ c main_arg8 (by decide)
theorem W23_main_arg9 (c : Dev nD) : W23 m ρ c (Proc.devRef .tc main_arg9) = m ((c : Thread nD τ).loc main_arg9) :=
  W23_args m ρ c main_arg9 (by decide)
theorem W23_main_arg10 (c : Dev nD) : W23 m ρ c (Proc.devRef .tc main_arg10) = m ((c : Thread nD τ).loc main_arg10) :=
  W23_args m ρ c main_arg10 (by decide)
theorem W23_main_arg11 (c : Dev nD) : W23 m ρ c (Proc.devRef .tc main_arg11) = m ((c : Thread nD τ).loc main_arg11) :=
  W23_args m ρ c main_arg11 (by decide)
theorem W23_main_arg12 (c : Dev nD) : W23 m ρ c (Proc.devRef .tc main_arg12) = m ((c : Thread nD τ).loc main_arg12) :=
  W23_args m ρ c main_arg12 (by decide)
theorem W23_main_arg13 (c : Dev nD) : W23 m ρ c (Proc.devRef .tc main_arg13) = m ((c : Thread nD τ).loc main_arg13) :=
  W23_args m ρ c main_arg13 (by decide)

/-! ## The proof data family and the thread state -/

/-- The prefetched tables' admissible contents. -/
abbrev adm : (p : Fin 6) → (pcfgs (F := F) p).Adm := fun p => (cfgs p).toPCfg_adm
/-- Every pipeline's proof data, each at its region's entry contents — a literal `match`, so that the kit's `Pipeline.pin pcfgs adm p` at a numeral reduces to the printed configuration. -/
def pdats : (p : Fin 6) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V7 m ρ) c
  | ⟨2, _⟩ => fun c => dat2 (V14 m ρ) c
  | ⟨3, _⟩ => fun c => dat3 (V17 m ρ) c
  | ⟨4, _⟩ => fun c => dat4 (V19 m ρ) c
  | ⟨5, _⟩ => fun c => dat5 (V21 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing). -/
abbrev Tₙ (c : Dev nD) : sProp 𝕄 := iprop(StableHlo.held (c : Thread nD τ) (Pipeline.ucRefs τ sig) (W23 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Own.K0.ΦK c from rfl]; unfold Own.K0.ΦK
    iintro ⟨Hp, -, Hr⟩
    isplitl [Hr]; · iexact Hr
    iexact Hp
  hout c := by
    rw [Pipeline.ownSems0_none, show (pdats m ρ 0 c).Φ (Fin.last _) = Own.K0.ΦK c from rfl]; unfold Own.K0.ΦK
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) (A_eq1 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Own.K1.ΦK c from rfl]; unfold Own.K1.ΦK
    iintro ⟨Hp, -, Hr⟩
    isplitl [Hr]; · iexact Hr
    iexact Hp
  hout c := by
    rw [Pipeline.ownSems0_none, show (pdats m ρ 1 c).Φ (Fin.last _) = Own.K1.ΦK c from rfl]; unfold Own.K1.ΦK
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V14 m ρ) c).loose
  hwaits := Pipeline.hwaits_of_owed_zero _ _ _ _ L lv 2 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec2 c (V14 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V14 m ρ c) (A_eq2 (V14 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Own.K2.ΦK c from rfl]; unfold Own.K2.ΦK
    iintro ⟨Hp, -, Hr⟩
    isplitl [Hr]; · iexact Hr
    iexact Hp
  hout c := by
    rw [Pipeline.ownSems0_none, show (pdats m ρ 2 c).Φ (Fin.last _) = Own.K2.ΦK c from rfl]; unfold Own.K2.ΦK
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V14 m ρ c) (V15 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V17 m ρ) c).loose
  hwaits := Pipeline.hwaits_of_owed_zero _ _ _ _ L lv 3 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec3 c (V17 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V17 m ρ c) (A_eq3 (V17 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Own.K3.ΦK c from rfl]; unfold Own.K3.ΦK
    iintro ⟨Hp, -, Hr⟩
    isplitl [Hr]; · iexact Hr
    iexact Hp
  hout c := by
    rw [Pipeline.ownSems0_none, show (pdats m ρ 3 c).Φ (Fin.last _) = Own.K3.ΦK c from rfl]; unfold Own.K3.ΦK
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V17 m ρ c) (V18 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 4 (custom_call 4) over the thread state. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V19 m ρ) c).loose
  hwaits := Pipeline.hwaits_of_owed_zero _ _ _ _ L lv 4 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec4 c (V19 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V19 m ρ c) (A_eq4 (V19 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Own.K4.ΦK c from rfl]; unfold Own.K4.ΦK
    iintro ⟨Hp, -, Hr⟩
    isplitl [Hr]; · iexact Hr
    iexact Hp
  hout c := by
    rw [Pipeline.ownSems0_none, show (pdats m ρ 4 c).Φ (Fin.last _) = Own.K4.ΦK c from rfl]; unfold Own.K4.ΦK
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V19 m ρ c) (V20 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 5 (custom_call 5) over the thread state. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V21 m ρ) c).loose
  hwaits := Pipeline.hwaits_of_owed_zero _ _ _ _ L lv 5 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec5 c (V21 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V21 m ρ c) (A_eq5 (V21 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V21 m ρ c) (V22 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 23 segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (reg1 m ρ),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)),
    .host (hseg hostOps2_3 hostOps2_3_sub hostOps2_3_fresh (W11 m ρ)),
    .host (hseg hostOps2_4 hostOps2_4_sub hostOps2_4_fresh (W12 m ρ)),
    .host (hseg hostOps2_5 hostOps2_5_sub hostOps2_5_fresh (W13 m ρ)),
    .region (reg2 m ρ),
    .host (hseg hostOps3 hostOps3_sub hostOps3_fresh (W15 m ρ)),
    .host (hseg hostOps3_1 hostOps3_1_sub hostOps3_1_fresh (W16 m ρ)),
    .region (reg3 m ρ),
    .host (hseg hostOps4 hostOps4_sub hostOps4_fresh (W18 m ρ)),
    .region (reg4 m ρ),
    .host (hseg hostOps5 hostOps5_sub hostOps5_fresh (W20 m ρ)),
    .region (reg5 m ρ),
    .host (hseg hostOps6 hostOps6_sub hostOps6_fresh (W22 m ρ)) ]
/-- @main IS the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters every weakly fair execution of @main on the TensorCores terminates, nothing
    faulting, and every final state has every unscoped buffer at the last boundary's contents `W23` and every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W23 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h hz => ⟨h, funext fun g => hz g (.inr (no_unscoped g.2))⟩)

/-- The frame: the argument arrays end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c =>
      ⟨(h.1 c _ (mem_uc main_arg0 (by decide))).trans (W23_main_arg0 m ρ c),
       (h.1 c _ (mem_uc main_arg1 (by decide))).trans (W23_main_arg1 m ρ c),
       (h.1 c _ (mem_uc main_arg2 (by decide))).trans (W23_main_arg2 m ρ c),
       (h.1 c _ (mem_uc main_arg3 (by decide))).trans (W23_main_arg3 m ρ c),
       (h.1 c _ (mem_uc main_arg4 (by decide))).trans (W23_main_arg4 m ρ c),
       (h.1 c _ (mem_uc main_arg5 (by decide))).trans (W23_main_arg5 m ρ c),
       (h.1 c _ (mem_uc main_arg6 (by decide))).trans (W23_main_arg6 m ρ c),
       (h.1 c _ (mem_uc main_arg7 (by decide))).trans (W23_main_arg7 m ρ c),
       (h.1 c _ (mem_uc main_arg8 (by decide))).trans (W23_main_arg8 m ρ c),
       (h.1 c _ (mem_uc main_arg9 (by decide))).trans (W23_main_arg9 m ρ c),
       (h.1 c _ (mem_uc main_arg10 (by decide))).trans (W23_main_arg10 m ρ c),
       (h.1 c _ (mem_uc main_arg11 (by decide))).trans (W23_main_arg11 m ρ c),
       (h.1 c _ (mem_uc main_arg12 (by decide))).trans (W23_main_arg12 m ρ c),
       (h.1 c _ (mem_uc main_arg13 (by decide))).trans (W23_main_arg13 m ρ c)⟩, h.2⟩) (run m ρ)

end Cert.KernelIdeal.Run

end
-- ==== Proof.KernelIdeal.Conv.lean ====
module
public import proofs.«01_k».proof.Proof.KernelIdeal.Run
public import proofs.«01_k».proof.Proof.Spec
public import Idealize.ShloMosaic.Lib.Pointwise
public import Idealize.ShloMosaic.Lib.KernelVsHost
public import Idealize.ShloMosaic.Lib.Pipeline.Value

/-!
# The host's window gathering, read at an index

Before each of the two strided convolutions the host pads the activation by one, folds two by two blocks of positions
into the channels, takes sixteen shifted slices and lays them end to end along the channels.  Read at an index, column
`(ky*4 + kx)*C + c` of a row is the padded activation at `(2y + ky, 2x + kx)`, channel `c`.
-/

@[expose] public section

set_option maxRecDepth 16384

noncomputable section

namespace Cert.KernelIdeal.Val

open Cert.KernelIdeal Cert.KernelIdeal.Gen Cert.Spec
open Idealize.ShloMosaic Idealize.ShloMosaic.TcCoe Idealize.ShloMosaic.Tactic

/-- Sixteen arrays of one shape, given as a function of their number, laid end to end. -/
def cat16 {α : Type} {s : Shape} (t : Shape) (a : Fin t.rank) (f : Fin 16 → s.Idx → α) (h : Shape.Concatenates (List.replicate 16 s) t a) : t.Idx → α :=
  concatenate t a (List.ofFn fun n => (⟨s, f n⟩ : (s : Shape) × (s.Idx → α)))
    (by simpa only [List.map_ofFn, Function.comp_def, List.ofFn_const] using h)

/-- Sixteen arrays listed one by one and laid end to end are `cat16` of the function that lists them. -/
theorem cat16_eq {α : Type} {s : Shape} (t : Shape) (a : Fin t.rank) (h : Shape.Concatenates (List.replicate 16 s) t a) (f : Fin 16 → s.Idx → α)
    {u0 u1 u2 u3 u4 u5 u6 u7 u8 u9 u10 u11 u12 u13 u14 u15 : s.Idx → α} (h0 : u0 = f 0) (h1 : u1 = f 1) (h2 : u2 = f 2) (h3 : u3 = f 3) (h4 : u4 = f 4) (h5 : u5 = f 5) (h6 : u6 = f 6) (h7 : u7 = f 7) (h8 : u8 = f 8) (h9 : u9 = f 9) (h10 : u10 = f 10) (h11 : u11 = f 11) (h12 : u12 = f 12) (h13 : u13 = f 13) (h14 : u14 = f 14) (h15 : u15 = f 15) :
    concatenate t a [⟨s, u0⟩, ⟨s, u1⟩, ⟨s, u2⟩, ⟨s, u3⟩, ⟨s, u4⟩, ⟨s, u5⟩, ⟨s, u6⟩, ⟨s, u7⟩, ⟨s, u8⟩, ⟨s, u9⟩, ⟨s, u10⟩, ⟨s, u11⟩, ⟨s, u12⟩, ⟨s, u13⟩, ⟨s, u14⟩, ⟨s, u15⟩] h = cat16 t a f h := by
  subst h0 h1 h2 h3 h4 h5 h6 h7 h8 h9 h10 h11 h12 h13 h14 h15
  rfl

/-- `cat16` along an axis of pieces of length `K`: position `j` is at place `j % K` of piece `j / K`. -/
theorem cat16_apply {α : Type} {s : Shape} (t : Shape) (a : Fin t.rank) (h : Shape.Concatenates (List.replicate 16 s) t a) (f : Fin 16 → s.Idx → α)
    (hr : s.rank = t.rank) (K : ℕ) (hK : s.size (a.cast hr.symm) = K) (j : t.Idx) (n : Fin 16) (hn : (j a).val / K = n.val)
    (i : s.Idx) (hia : (i (a.cast hr.symm)).val = (j a).val % K) (hi : ∀ b : Fin s.rank, b.cast hr ≠ a → (i b).val = (j (b.cast hr)).val) :
    cat16 t a f h j = f n i :=
  concatenate_ofFn_apply a f _ hr K hK j n hn i hia hi

/-- A plane padded by one zero on each side, channels last, is `padAt`. -/
theorem pad_nhwc (H H2 C : ℕ) (hH : H2 = H + 2) (A : (⟨4, ![8, H, H, C]⟩ : Shape).Idx → EReal) (v : S_.Idx → EReal) (hv : ∀ i, v i = 0)
    (hp : (⟨4, ![8, H, H, C]⟩ : Shape).Pads ![0, 1, 1, 0] ![0, 1, 1, 0] ![0, 0, 0, 0] ⟨4, ![8, H2, H2, C]⟩) (hs : 0 < S_.numel) (f : N4)
    (hA : ∀ n y x c, n < 8 → y < H → x < H → c < C → rd A ![n, y, x, c] = f n c y x)
    (i : (⟨4, ![8, H2, H2, C]⟩ : Shape).Idx) :
    pad ⟨4, ![8, H2, H2, C]⟩ ![0, 1, 1, 0] ![0, 1, 1, 0] ![0, 0, 0, 0] A v hp hs i = padAt H f (i 0).val (i 3).val (i 1).val (i 2).val := by
  have i0 : (i 0).val < 8 := (i 0).isLt
  have i1 : (i 1).val < H2 := (i 1).isLt
  have i2 : (i 2).val < H2 := (i 2).isLt
  have i3 : (i 3).val < C := (i 3).isLt
  unfold padAt
  split
  · rename_i h
    have e := pad_apply_of_inside ![0, 1, 1, 0] ![0, 1, 1, 0] ![0, 0, 0, 0] A v hp hs i
      (ix4 (n0 := 8) (n1 := H) (n2 := H) (n3 := C) ⟨(i 0).val, i0⟩ ⟨(i 1).val - 1, by omega⟩ ⟨(i 2).val - 1, by omega⟩ ⟨(i 3).val, i3⟩)
      (fun a => by
        fin_cases a
        · show (i 0).val = 0 + (i 0).val * (0 + 1); omega
        · show (i 1).val = 1 + ((i 1).val - 1) * (0 + 1); omega
        · show (i 2).val = 1 + ((i 2).val - 1) * (0 + 1); omega
        · show (i 3).val = 0 + (i 3).val * (0 + 1); omega)
    rw [e, rd4 A (i 0).val ((i 1).val - 1) ((i 2).val - 1) (i 3).val _ rfl rfl rfl rfl]
    exact hA _ _ _ _ i0 (by omega) (by omega) i3
  · rename_i h
    by_cases h1 : 1 ≤ (i 1).val ∧ (i 1).val ≤ H
    · rw [pad_apply_of_not_inside ![0, 1, 1, 0] ![0, 1, 1, 0] ![0, 0, 0, 0] A v hp hs i 2 fun g => h ?_, hv]
      obtain ⟨g1, -, g2⟩ := g
      change 1 ≤ (i 2).val at g1
      change ((i 2).val - 1) / (0 + 1) < H at g2
      omega
    · rw [pad_apply_of_not_inside ![0, 1, 1, 0] ![0, 1, 1, 0] ![0, 0, 0, 0] A v hp hs i 1 fun g => h1 ?_, hv]
      obtain ⟨g1, -, g2⟩ := g
      change 1 ≤ (i 1).val at g1
      change ((i 1).val - 1) / (0 + 1) < H at g2
      omega

/-! ## The gathering of 112 by 112 positions -/

/-- Where slice `n` starts. -/
def sl1 (n : Fin 16) : Fin 4 → ℕ := ![0, n.val / 4 / 2, n.val % 4 / 2, (n.val / 4 % 2 * 2 + n.val % 4 % 2) * 1]

theorem sl1_slices : ∀ n : Fin 16, S8x113x113x4.Slices (sl1 n) S8x112x112x1 := by decide +kernel

/-- Two by two blocks of positions folded into the channels. -/
def s2d1 (P : FVec Ideal S8x226x226x1 .f32) : FVec Ideal S8x113x113x4 .f32 :=
  shapeCast S8x113x113x4 (transpose S8x113x113x2x2x1 [0, 1, 3, 2, 4, 5] (shapeCast S8x113x2x113x2x1 P
    shapeCasts_S8x226x226x1_S8x113x2x113x2x1) transposes_S8x113x2x113x2x1_S8x113x113x2x2x1_0_1_3_2_4_5) shapeCasts_S8x113x113x2x2x1_S8x113x113x4

/-- The sixteen slices laid end to end, one row per position. -/
def cols1 (P : FVec Ideal S8x226x226x1 .f32) : FVec Ideal S8x12544x16 .f32 :=
  shapeCast S8x12544x16 (cat16 S8x112x112x16 3
    (fun n : Fin 16 => extractStridedSlice S8x112x112x1 (sl1 n) (s2d1 P) (sl1_slices n))
    concatenates_S8x112x112x1_S8x112x112x1_S8x112x112x1_S8x112x112x1_S8x112x112x1_S8x112x112x1_S8x112x112x1_S8x112x112x1_S8x112x112x1_S8x112x112x1_S8x112x112x1_S8x112x112x1_S8x112x112x1_S8x112x112x1_S8x112x112x1_S8x112x112x1_S8x112x112x16_d3) shapeCasts_S8x112x112x16_S8x12544x16

/-- Column `q` of row `p` is the padded activation at the window's position. -/
theorem cols1_apply (P : FVec Ideal S8x226x226x1 .f32) (i : S8x12544x16.Idx) :
    cols1 P i = rd P ![(i 0).val, 2 * ((i 1).val / 112) + (i 2).val / 1 / 4, 2 * ((i 1).val % 112) + (i 2).val / 1 % 4, (i 2).val % 1] := by
  have i0 : (i 0).val < 8 := (i 0).isLt
  have i1 : (i 1).val < 12544 := (i 1).isLt
  have i2 : (i 2).val < 16 := (i 2).isLt
  unfold cols1
  pointwise
  refine (cat16_apply (s := S8x112x112x1) S8x112x112x16 3 _ _ rfl 1 rfl _ ⟨(i 2).val / 1, by omega⟩ rfl
    (ix4 (n0 := 8) (n1 := 112) (n2 := 112) (n3 := 1) ⟨(i 0).val, i0⟩ ⟨(i 1).val / 112, by omega⟩ ⟨(i 1).val % 112, by omega⟩ ⟨(i 2).val % 1, by omega⟩)
    rfl (fun b hb => by fin_cases b; exacts [rfl, rfl, rfl, absurd rfl hb])).trans ?_
  unfold s2d1 sl1
  pointwise
  refine rd4 P _ _ _ _ _ rfl ?_ ?_ ?_ <;>
    first | (simp only [ix4]; done) | (simp only [ix4]; omega) | (show (0 : ℕ) = _; omega)

/-! ## The gathering of 56 by 56 positions -/

/-- Where slice `n` starts. -/
def sl2 (n : Fin 16) : Fin 4 → ℕ := ![0, n.val / 4 / 2, n.val % 4 / 2, (n.val / 4 % 2 * 2 + n.val % 4 % 2) * 64]

theorem sl2_slices : ∀ n : Fin 16, S8x57x57x256.Slices (sl2 n) S8x56x56x64 := by decide +kernel

/-- Two by two blocks of positions folded into the channels. -/
def s2d2 (P : FVec Ideal S8x114x114x64 .f32) : FVec Ideal S8x57x57x256 .f32 :=
  shapeCast S8x57x57x256 (transpose S8x57x57x2x2x64 [0, 1, 3, 2, 4, 5] (shapeCast S8x57x2x57x2x64 P
    shapeCasts_S8x114x114x64_S8x57x2x57x2x64) transposes_S8x57x2x57x2x64_S8x57x57x2x2x64_0_1_3_2_4_5) shapeCasts_S8x57x57x2x2x64_S8x57x57x256

/-- The sixteen slices laid end to end, one row per position. -/
def cols2 (P : FVec Ideal S8x114x114x64 .f32) : FVec Ideal S8x3136x1024 .f32 :=
  shapeCast S8x3136x1024 (cat16 S8x56x56x1024 3
    (fun n : Fin 16 => extractStridedSlice S8x56x56x64 (sl2 n) (s2d2 P) (sl2_slices n))
    concatenates_S8x56x56x64_S8x56x56x64_S8x56x56x64_S8x56x56x64_S8x56x56x64_S8x56x56x64_S8x56x56x64_S8x56x56x64_S8x56x56x64_S8x56x56x64_S8x56x56x64_S8x56x56x64_S8x56x56x64_S8x56x56x64_S8x56x56x64_S8x56x56x64_S8x56x56x1024_d3) shapeCasts_S8x56x56x1024_S8x3136x1024

/-- Column `q` of row `p` is the padded activation at the window's position. -/
theorem cols2_apply (P : FVec Ideal S8x114x114x64 .f32) (i : S8x3136x1024.Idx) :
    cols2 P i = rd P ![(i 0).val, 2 * ((i 1).val / 56) + (i 2).val / 64 / 4, 2 * ((i 1).val % 56) + (i 2).val / 64 % 4, (i 2).val % 64] := by
  have i0 : (i 0).val < 8 := (i 0).isLt
  have i1 : (i 1).val < 3136 := (i 1).isLt
  have i2 : (i 2).val < 1024 := (i 2).isLt
  unfold cols2
  pointwise
  refine (cat16_apply (s := S8x56x56x64) S8x56x56x1024 3 _ _ rfl 64 rfl _ ⟨(i 2).val / 64, by omega⟩ rfl
    (ix4 (n0 := 8) (n1 := 56) (n2 := 56) (n3 := 64) ⟨(i 0).val, i0⟩ ⟨(i 1).val / 56, by omega⟩ ⟨(i 1).val % 56, by omega⟩ ⟨(i 2).val % 64, by omega⟩)
    rfl (fun b hb => by fin_cases b; exacts [rfl, rfl, rfl, absurd rfl hb])).trans ?_
  unfold s2d2 sl2
  pointwise
  refine rd4 P _ _ _ _ _ rfl ?_ ?_ ?_ <;>
    first | (simp only [ix4]; done) | (simp only [ix4]; omega) | (show (0 : ℕ) = _; omega)

/-! ## The weights and the whole convolution -/

/-- The first convolution's weights, laid out to match the columns. -/
theorem wcol1_apply (w : FVec Ideal S64x1x4x4 .f32) (i : S1x16x64.Idx) :
    shapeCast S1x16x64 (transpose S4x4x1x64 [2, 3, 1, 0] w transposes_S64x1x4x4_S4x4x1x64_2_3_1_0) shapeCasts_S4x4x1x64_S1x16x64 i
      = rd w ![(i 2).val, (i 1).val % 1, (i 1).val / 1 / 4, (i 1).val / 1 % 4] := by
  have i1 : (i 1).val < 16 := (i 1).isLt
  pointwise
  refine rd4 w _ _ _ _ _ rfl ?_ ?_ ?_ <;>
    first | (simp only [ix4]; done) | (simp only [ix4]; omega) | (show (0 : ℕ) = _; omega)

/-- The second convolution's weights, laid out to match the columns. -/
theorem wcol2_apply (w : FVec Ideal S128x64x4x4 .f32) (i : S1x1024x128.Idx) :
    shapeCast S1x1024x128 (transpose S4x4x64x128 [2, 3, 1, 0] w transposes_S128x64x4x4_S4x4x64x128_2_3_1_0) shapeCasts_S4x4x64x128_S1x1024x128 i
      = rd w ![(i 2).val, (i 1).val % 64, (i 1).val / 64 / 4, (i 1).val / 64 % 4] := by
  have i1 : (i 1).val < 1024 := (i 1).isLt
  pointwise
  refine rd4 w _ _ _ _ _ rfl ?_ ?_ ?_ <;>
    first | (simp only [ix4]; done) | (simp only [ix4]; omega) | (show (0 : ℕ) = _; omega)

/-- The sum over all columns is the four by four convolution of stride two. -/
theorem conv_cols (C H N : ℕ) (hN : N = 16 * C) (f w : N4) (n o y x : ℕ) :
    ∑ q : Fin N, padAt H f n (q.val % C) (2 * y + q.val / C / 4) (2 * x + q.val / C % 4) * w o (q.val % C) (q.val / C / 4) (q.val / C % 4)
      = conv 2 4 C H f w n o y x :=
  (sum_split 16 C hN fun t c => padAt H f n c (2 * y + t / 4) (2 * x + t % 4) * w o c (t / 4) (t % 4)).trans
    (sum_split 4 4 rfl fun ky kx => ∑ c : Fin C, padAt H f n c.val (2 * y + ky) (2 * x + kx) * w o c.val ky kx)

end Cert.KernelIdeal.Val

end
-- ==== Proof.KernelIdeal.Val0.lean ====
/- What the call of strided convolution 1 leaves, as a product of patch rows with the stacked weights: its block in closed form, then its array. -/
module

public import proofs.«01_k».proof.Proof.Gen.Own.KernelIdeal.K0.Frame
public import proofs.«01_k».proof.Proof.KernelIdeal.Taps

@[expose] public section

set_option maxRecDepth 16384

noncomputable section

namespace Cert.KernelIdeal.Val

open Cert.KernelIdeal Cert.KernelIdeal.Gen Cert.Spec
open Idealize.ShloMosaic Idealize.ShloMosaic.TcCoe Idealize.ShloMosaic.Tactic
open Idealize.SL Idealize.SL.RA

variable {Ix : Type} [DecidableEq Ix] {U : Type} [URA U] {Lvl : Type} [Preorder Lvl]
variable (𝒱₀ : Variants)

/-- The block in closed form: row `p`, channel `o` is the rectified product of the row with the weights plus the bias. -/
def K0 (X w : ℕ → ℕ → EReal) (b : ℕ → EReal) (p o : ℕ) : EReal :=
  relu (∑ c : Fin 16, X p c.val * w c.val o + b o)

/-- A chunk of 3136 rows, from row `o0` on. -/
theorem chunk0 (X : FVec Ideal S1x12544x16 .f32) (w : FVec Ideal S1x16x64 .f32) (b : FVec Ideal S1x64 .f32)
    (a1 : Memref sig .tc .vmem S1x12544x16 .f32) (h1 : a1.IsWhole)
    (a2 : Memref sig .tc .vmem S1x16x64 .f32) (h2 : a2.IsWhole)
    (a3 : Memref sig .tc .vmem S1x64 .f32) (h3 : a3.IsWhole)
    (o0 : ℕ) (ix iw ib) (x : S1x3136x64.Idx) (p o : ℕ) (hp : p = o0 + (x 1).val) (ho : o = (x 2).val) :
    shapeCast S1x3136x64 (maximumf (addf
      (matmul (φ₁ := .f32) (φ₂ := .f32) dot_S3136x16_S16x64_S3136x64_1_0_0_1_n_n none
        (shapeCast S3136x16 (load3r (m1 := 3136) a1 h1 X o0 ix) shapeCasts_S1x3136x16_S3136x16)
        (shapeCast S16x64 (load3 a2 h2 w iw) shapeCasts_S1x16x64_S16x64) (constant S3136x64 FTy.f32 0#32))
      (broadcastTo S3136x64 (shapeCast S1x64 (shapeCast S64 (load2 (m0 := 1) a3 h3 b 0 ib) shapeCasts_S1x64_S64) shapeCasts_S64_S1x64) broadcasts_S1x64_S3136x64))
      (broadcast S3136x64 (Scalar.ofBits .f32 0x00000000#32))) shapeCasts_S3136x64_S1x3136x64 x
    = K0 (fun p c => rd (s := S1x12544x16) X ![0, p, c]) (fun c o => rd (s := S1x16x64) w ![0, c, o]) (fun o => rd (s := S1x64) b ![0, o]) p o := by
  unfold K0
  pointwise
  refine congrArg relu (congrArg₂ (· + ·) (Finset.sum_congr rfl fun c _ => congrArg₂ (· * ·) ?_ ?_) ?_)
  · exact load3r_apply (m1 := 3136) a1 h1 X o0 ix _ _ _ _ hp
  · exact load3_apply a2 h2 w iw _ _ _ _ ho
  · exact load2_apply (m0 := 1) a3 h3 b 0 ib _ _ _ _ rfl ho

/-- The block the body leaves at a point. -/
theorem out0 (c : Dev nD) (i : grid0.Coords) (arg1 : Memref sig .tc .vmem S1x12544x16 .f32) (harg1 : arg1.IsWhole) (arg2 : Memref sig .tc .vmem S1x16x64 .f32) (harg2 : arg2.IsWhole) (arg3 : Memref sig .tc .vmem S1x64 .f32) (harg3 : arg3.IsWhole) (arg4 : Memref sig .tc .vmem S1x12544x64 .f32) (harg4 : arg4.IsWhole)
    (x0 : Vec Ideal S1x12544x16 .f32) (x1 : Vec Ideal S1x16x64 .f32) (x2 : Vec Ideal S1x64 .f32) (y : S1x12544x64.Idx) :
    Own.K0.out0_A_3 (F := Ideal) (Ix := Ix) (U := U) (Lvl := Lvl) 𝒱₀ c i arg1 harg1 arg2 harg2 arg3 harg3 arg4 harg4 x0 x1 x2 y
      = K0 (fun p c => rd (s := S1x12544x16) x0 ![0, p, c]) (fun c o => rd (s := S1x16x64) x1 ![0, c, o]) (fun o => rd (s := S1x64) x2 ![0, o]) (y 1).val (y 2).val := by
  have hc := Own.K0.cover0_A_3 (F := Ideal) (Ix := Ix) (U := U) (Lvl := Lvl) 𝒱₀ c i arg1 harg1 arg2 harg2 arg3 harg3 arg4 harg4 x0 x1 x2 y
  unfold Own.K0.out0_A_3
  rw [View.read_writes_junk_eq_canon]
  refine View.canon_eq_of_allAt _ y _ hc ?_
  clear hc
  frame_open
  refine View.allAt_cons_unit _ _ _ _ _ ?_ <| View.allAt_cons_unit _ _ _ _ _ ?_ <| View.allAt_cons_unit _ _ _ _ _ ?_ <| View.allAt_cons_unit _ _ _ _ _ ?_ <| View.allAt_nil _ _
  all_goals tile_intro x h
  all_goals
    exact chunk0 x0 x1 x2 arg1 harg1 arg2 harg2 arg3 harg3 _ _ _ _ x _ _ (by omega) (by omega)

/-! ## The array after the run -/

/-- The windows' block indices at a point. -/
theorem idx0 : ∀ t : Fin cfg0.N, win0_0.index t = ![t.val, 0, 0] ∧ win0_1.index t = ![0, 0, 0] ∧ win0_2.index t = ![0, 0] ∧ win0_3.index t = ![t.val, 0, 0] :=
  (by decide +kernel : ∀ t : Fin grid0.N, win0_0.index t = ![t.val, 0, 0] ∧ win0_1.index t = ![0, 0, 0] ∧ win0_2.index t = ![0, 0] ∧ win0_3.index t = ![t.val, 0, 0])

section Blocks
variable (V : (c : Dev nD) → (b : Ref sig .tc) → Buf (Elt Ideal) ((c : Thread nD τ).loc b)) (c : Dev nD) (t : Fin cfg0.N)

/-- The patch array's block at a point is that image's. -/
theorem blk0_0 (p q : ℕ) : rd (s := S1x12544x16) (Own.K0.iblk V c 0 t) ![0, p, q]
    = rd (s := S8x12544x16) (V c (Pipeline.arrRef spec0 0)) ![t.val, p, q] := by
  refine rd_lead _ _ t.val (show t.val < 8 from t.isLt) (fun y j h0 h1 h2 => ?_) p q
  refine congrArg (V c (Pipeline.arrRef spec0 0)) (funext fun a => Fin.ext ?_)
  blk_simp [(idx0 t).1]
  have : (y 0).val < 1 := (y 0).isLt
  fin_cases a <;> simp <;> omega
/-- Operand 1's block is the whole array. -/
theorem blk0_1 : Own.K0.iblk V c 1 t = V c (Pipeline.arrRef spec0 1) := by
  funext y
  refine congrArg (V c (Pipeline.arrRef spec0 1)) (funext fun a => Fin.ext ?_)
  blk_simp [(idx0 t).2.1]
  fin_cases a <;> simp
/-- Operand 2's block is the whole array. -/
theorem blk0_2 : Own.K0.iblk V c 2 t = V c (Pipeline.arrRef spec0 2) := by
  funext y
  refine congrArg (V c (Pipeline.arrRef spec0 2)) (funext fun a => Fin.ext ?_)
  blk_simp [(idx0 t).2.2.1]
  fin_cases a <;> simp

/-- The block left at a point, over the whole arrays. -/
theorem point0 (y : S1x12544x64.Idx) :
    Own.K0.outsAt0 (F := Ideal) (Ix := Unit) (U := UR sig nD τ) (Lvl := ℕ) Variants.none V c t y
      = K0 (fun p c' => rd (s := S8x12544x16) (V c (Pipeline.arrRef spec0 0)) ![t.val, p, c']) (fun c' o => rd (s := S1x16x64) (V c (Pipeline.arrRef spec0 1)) ![0, c', o]) (fun o => rd (s := S1x64) (V c (Pipeline.arrRef spec0 2)) ![0, o]) (y 1).val (y 2).val := by
  unfold Own.K0.outsAt0
  refine (out0 Variants.none c _ _ _ _ _ _ _ _ _ _ _ _ _).trans ?_
  rw [blk0_1, blk0_2]
  simp only [blk0_0]

/-- The array after the run: image `n`'s row is the closed form over image `n`'s operand. -/
theorem arr0 (X : FVec Ideal S8x12544x16 .f32) (w : FVec Ideal S1x16x64 .f32) (b : FVec Ideal S1x64 .f32)
    (hX : V c (Pipeline.arrRef spec0 0) = X) (hw : V c (Pipeline.arrRef spec0 1) = w) (hb : V c (Pipeline.arrRef spec0 2) = b) :
    (Own.K0.dat (F := Ideal) (Ix := Unit) (U := UR sig nD τ) (Lvl := ℕ) Variants.none V (fun _ => 0) c).arrAt 3 cfg0.N
      = fun y : S8x12544x64.Idx => K0 (fun p c => rd (s := S8x12544x16) X ![(y 0).val, p, c]) (fun c o => rd (s := S1x16x64) w ![0, c, o]) (fun o => rd (s := S1x64) b ![0, o]) (y 1).val (y 2).val := by
  subst hX hw hb
  refine (Own.K0.dat (F := Ideal) (Ix := Unit) (U := UR sig nD τ) (Lvl := ℕ) Variants.none V (fun _ => 0) c).arrAt_eq_of_covers 3
    _ (by decide +kernel) fun t hf y => ?_
  rw [Own.K0.after0_3]
  have e0 : ((((cfg0.win 3).blk t).view.emb y) 0 : ℕ) = t.val := by blk_simp [(idx0 t).2.2.2]
  have e1 : ((((cfg0.win 3).blk t).view.emb y) 1 : ℕ) = (y 1).val := by blk_simp [(idx0 t).2.2.2]
  have e2 : ((((cfg0.win 3).blk t).view.emb y) 2 : ℕ) = (y 2).val := by blk_simp [(idx0 t).2.2.2]
  rw [cast_eq]
  refine (point0 V c t ((cfg0.win 3).xinj (cfg0.grid.coords t) y)).trans ?_
  have fin : ∀ (Y : S8x12544x64.Idx) (n p o : ℕ) (f : ℕ → ℕ → ℕ → EReal), (Y 0).val = n → (Y 1).val = p → (Y 2).val = o →
      f n p o = (fun Y : S8x12544x64.Idx => f (Y 0).val (Y 1).val (Y 2).val) Y := by
    rintro Y _ _ _ f rfl rfl rfl; rfl
  exact fin _ _ _ _ (fun n p o => K0 (fun p c' => rd (s := S8x12544x16) (V c (Pipeline.arrRef spec0 0)) ![n, p, c']) (fun c' o => rd (s := S1x16x64) (V c (Pipeline.arrRef spec0 1)) ![0, c', o]) (fun o => rd (s := S1x64) (V c (Pipeline.arrRef spec0 2)) ![0, o]) p o) e0 e1 e2
end Blocks

end Cert.KernelIdeal.Val

end
-- ==== Proof.KernelIdeal.Val1.lean ====
/- What the call of strided convolution 2 leaves, as a product of patch rows with the stacked weights: its block in closed form, then its array. -/
module

public import proofs.«01_k».proof.Proof.Gen.Own.KernelIdeal.K1.Frame
public import proofs.«01_k».proof.Proof.KernelIdeal.Taps

@[expose] public section

set_option maxRecDepth 16384

noncomputable section

namespace Cert.KernelIdeal.Val

open Cert.KernelIdeal Cert.KernelIdeal.Gen Cert.Spec
open Idealize.ShloMosaic Idealize.ShloMosaic.TcCoe Idealize.ShloMosaic.Tactic
open Idealize.SL Idealize.SL.RA

variable {Ix : Type} [DecidableEq Ix] {U : Type} [URA U] {Lvl : Type} [Preorder Lvl]
variable (𝒱₀ : Variants)

/-- The block in closed form: row `p`, channel `o` is the rectified product of the row with the weights plus the bias. -/
def K1 (X w : ℕ → ℕ → EReal) (b : ℕ → EReal) (p o : ℕ) : EReal :=
  relu (∑ c : Fin 1024, X p c.val * w c.val o + b o)

/-- A chunk of 3136 rows, from row `o0` on. -/
theorem chunk1 (X : FVec Ideal S1x3136x1024 .f32) (w : FVec Ideal S1x1024x128 .f32) (b : FVec Ideal S1x128 .f32)
    (a1 : Memref sig .tc .vmem S1x3136x1024 .f32) (h1 : a1.IsWhole)
    (a2 : Memref sig .tc .vmem S1x1024x128 .f32) (h2 : a2.IsWhole)
    (a3 : Memref sig .tc .vmem S1x128 .f32) (h3 : a3.IsWhole)
    (o0 : ℕ) (ix iw ib) (x : S1x3136x128.Idx) (p o : ℕ) (hp : p = o0 + (x 1).val) (ho : o = (x 2).val) :
    shapeCast S1x3136x128 (maximumf (addf
      (matmul (φ₁ := .f32) (φ₂ := .f32) dot_S3136x1024_S1024x128_S3136x128_1_0_0_1_n_n none
        (shapeCast S3136x1024 (load3r (m1 := 3136) a1 h1 X o0 ix) shapeCasts_S1x3136x1024_S3136x1024)
        (shapeCast S1024x128 (load3 a2 h2 w iw) shapeCasts_S1x1024x128_S1024x128) (constant S3136x128 FTy.f32 0#32))
      (broadcastTo S3136x128 (shapeCast S1x128 (shapeCast S128 (load2 (m0 := 1) a3 h3 b 0 ib) shapeCasts_S1x128_S128) shapeCasts_S128_S1x128) broadcasts_S1x128_S3136x128))
      (broadcast S3136x128 (Scalar.ofBits .f32 0x00000000#32))) shapeCasts_S3136x128_S1x3136x128 x
    = K1 (fun p c => rd (s := S1x3136x1024) X ![0, p, c]) (fun c o => rd (s := S1x1024x128) w ![0, c, o]) (fun o => rd (s := S1x128) b ![0, o]) p o := by
  unfold K1
  pointwise
  refine congrArg relu (congrArg₂ (· + ·) (Finset.sum_congr rfl fun c _ => congrArg₂ (· * ·) ?_ ?_) ?_)
  · exact load3r_apply (m1 := 3136) a1 h1 X o0 ix _ _ _ _ hp
  · exact load3_apply a2 h2 w iw _ _ _ _ ho
  · exact load2_apply (m0 := 1) a3 h3 b 0 ib _ _ _ _ rfl ho

/-- The block the body leaves at a point. -/
theorem out1 (c : Dev nD) (i : grid1.Coords) (arg1 : Memref sig .tc .vmem S1x3136x1024 .f32) (harg1 : arg1.IsWhole) (arg2 : Memref sig .tc .vmem S1x1024x128 .f32) (harg2 : arg2.IsWhole) (arg3 : Memref sig .tc .vmem S1x128 .f32) (harg3 : arg3.IsWhole) (arg4 : Memref sig .tc .vmem S1x3136x128 .f32) (harg4 : arg4.IsWhole)
    (x0 : Vec Ideal S1x3136x1024 .f32) (x1 : Vec Ideal S1x1024x128 .f32) (x2 : Vec Ideal S1x128 .f32) (y : S1x3136x128.Idx) :
    Own.K1.out1_A_3 (F := Ideal) (Ix := Ix) (U := U) (Lvl := Lvl) 𝒱₀ c i arg1 harg1 arg2 harg2 arg3 harg3 arg4 harg4 x0 x1 x2 y
      = K1 (fun p c => rd (s := S1x3136x1024) x0 ![0, p, c]) (fun c o => rd (s := S1x1024x128) x1 ![0, c, o]) (fun o => rd (s := S1x128) x2 ![0, o]) (y 1).val (y 2).val := by
  have hc := Own.K1.cover1_A_3 (F := Ideal) (Ix := Ix) (U := U) (Lvl := Lvl) 𝒱₀ c i arg1 harg1 arg2 harg2 arg3 harg3 arg4 harg4 x0 x1 x2 y
  unfold Own.K1.out1_A_3
  rw [View.read_writes_junk_eq_canon]
  refine View.canon_eq_of_allAt _ y _ hc ?_
  clear hc
  frame_open
  refine View.allAt_cons_unit _ _ _ _ _ ?_ <| View.allAt_nil _ _
  all_goals tile_intro x h
  all_goals
    exact chunk1 x0 x1 x2 arg1 harg1 arg2 harg2 arg3 harg3 _ _ _ _ x _ _ (by omega) (by omega)

/-! ## The array after the run -/

/-- The windows' block indices at a point. -/
theorem idx1 : ∀ t : Fin cfg1.N, win1_0.index t = ![t.val, 0, 0] ∧ win1_1.index t = ![0, 0, 0] ∧ win1_2.index t = ![0, 0] ∧ win1_3.index t = ![t.val, 0, 0] :=
  (by decide +kernel : ∀ t : Fin grid1.N, win1_0.index t = ![t.val, 0, 0] ∧ win1_1.index t = ![0, 0, 0] ∧ win1_2.index t = ![0, 0] ∧ win1_3.index t = ![t.val, 0, 0])

section Blocks
variable (V : (c : Dev nD) → (b : Ref sig .tc) → Buf (Elt Ideal) ((c : Thread nD τ).loc b)) (c : Dev nD) (t : Fin cfg1.N)

/-- The patch array's block at a point is that image's. -/
theorem blk1_0 (p q : ℕ) : rd (s := S1x3136x1024) (Own.K1.iblk V c 0 t) ![0, p, q]
    = rd (s := S8x3136x1024) (V c (Pipeline.arrRef spec1 0)) ![t.val, p, q] := by
  refine rd_lead _ _ t.val (show t.val < 8 from t.isLt) (fun y j h0 h1 h2 => ?_) p q
  refine congrArg (V c (Pipeline.arrRef spec1 0)) (funext fun a => Fin.ext ?_)
  blk_simp [(idx1 t).1]
  have : (y 0).val < 1 := (y 0).isLt
  fin_cases a <;> simp <;> omega
/-- Operand 1's block is the whole array. -/
theorem blk1_1 : Own.K1.iblk V c 1 t = V c (Pipeline.arrRef spec1 1) := by
  funext y
  refine congrArg (V c (Pipeline.arrRef spec1 1)) (funext fun a => Fin.ext ?_)
  blk_simp [(idx1 t).2.1]
  fin_cases a <;> simp
/-- Operand 2's block is the whole array. -/
theorem blk1_2 : Own.K1.iblk V c 2 t = V c (Pipeline.arrRef spec1 2) := by
  funext y
  refine congrArg (V c (Pipeline.arrRef spec1 2)) (funext fun a => Fin.ext ?_)
  blk_simp [(idx1 t).2.2.1]
  fin_cases a <;> simp

/-- The block left at a point, over the whole arrays. -/
theorem point1 (y : S1x3136x128.Idx) :
    Own.K1.outsAt1 (F := Ideal) (Ix := Unit) (U := UR sig nD τ) (Lvl := ℕ) Variants.none V c t y
      = K1 (fun p c' => rd (s := S8x3136x1024) (V c (Pipeline.arrRef spec1 0)) ![t.val, p, c']) (fun c' o => rd (s := S1x1024x128) (V c (Pipeline.arrRef spec1 1)) ![0, c', o]) (fun o => rd (s := S1x128) (V c (Pipeline.arrRef spec1 2)) ![0, o]) (y 1).val (y 2).val := by
  unfold Own.K1.outsAt1
  refine (out1 Variants.none c _ _ _ _ _ _ _ _ _ _ _ _ _).trans ?_
  rw [blk1_1, blk1_2]
  simp only [blk1_0]

/-- The array after the run: image `n`'s row is the closed form over image `n`'s operand. -/
theorem arr1 (X : FVec Ideal S8x3136x1024 .f32) (w : FVec Ideal S1x1024x128 .f32) (b : FVec Ideal S1x128 .f32)
    (hX : V c (Pipeline.arrRef spec1 0) = X) (hw : V c (Pipeline.arrRef spec1 1) = w) (hb : V c (Pipeline.arrRef spec1 2) = b) :
    (Own.K1.dat (F := Ideal) (Ix := Unit) (U := UR sig nD τ) (Lvl := ℕ) Variants.none V (fun _ => 0) c).arrAt 3 cfg1.N
      = fun y : S8x3136x128.Idx => K1 (fun p c => rd (s := S8x3136x1024) X ![(y 0).val, p, c]) (fun c o => rd (s := S1x1024x128) w ![0, c, o]) (fun o => rd (s := S1x128) b ![0, o]) (y 1).val (y 2).val := by
  subst hX hw hb
  refine (Own.K1.dat (F := Ideal) (Ix := Unit) (U := UR sig nD τ) (Lvl := ℕ) Variants.none V (fun _ => 0) c).arrAt_eq_of_covers 3
    _ (by decide +kernel) fun t hf y => ?_
  rw [Own.K1.after1_3]
  have e0 : ((((cfg1.win 3).blk t).view.emb y) 0 : ℕ) = t.val := by blk_simp [(idx1 t).2.2.2]
  have e1 : ((((cfg1.win 3).blk t).view.emb y) 1 : ℕ) = (y 1).val := by blk_simp [(idx1 t).2.2.2]
  have e2 : ((((cfg1.win 3).blk t).view.emb y) 2 : ℕ) = (y 2).val := by blk_simp [(idx1 t).2.2.2]
  rw [cast_eq]
  refine (point1 V c t ((cfg1.win 3).xinj (cfg1.grid.coords t) y)).trans ?_
  have fin : ∀ (Y : S8x3136x128.Idx) (n p o : ℕ) (f : ℕ → ℕ → ℕ → EReal), (Y 0).val = n → (Y 1).val = p → (Y 2).val = o →
      f n p o = (fun Y : S8x3136x128.Idx => f (Y 0).val (Y 1).val (Y 2).val) Y := by
    rintro Y _ _ _ f rfl rfl rfl; rfl
  exact fin _ _ _ _ (fun n p o => K1 (fun p c' => rd (s := S8x3136x1024) (V c (Pipeline.arrRef spec1 0)) ![n, p, c']) (fun c' o => rd (s := S1x1024x128) (V c (Pipeline.arrRef spec1 1)) ![0, c', o]) (fun o => rd (s := S1x128) (V c (Pipeline.arrRef spec1 2)) ![0, o]) p o) e0 e1 e2
end Blocks

end Cert.KernelIdeal.Val

end
-- ==== Proof.KernelIdeal.Val2.lean ====
/- What the plain three by three convolution's call leaves: its block in closed form, then its array. -/
module

public import proofs.«01_k».proof.Proof.Gen.Own.KernelIdeal.K2.Frame
public import proofs.«01_k».proof.Proof.KernelIdeal.Taps

@[expose] public section

set_option maxRecDepth 16384

noncomputable section

namespace Cert.KernelIdeal.Val

open Cert.KernelIdeal Cert.KernelIdeal.Gen Cert.Spec
open Idealize.ShloMosaic Idealize.ShloMosaic.TcCoe Idealize.ShloMosaic.Tactic
open Idealize.SL Idealize.SL.RA

variable {Ix : Type} [DecidableEq Ix] {U : Type} [URA U] {Lvl : Type} [Preorder Lvl]
variable (𝒱₀ : Variants)

/-- One block of the convolution: position `p` of the interior rows is the sum over taps and channels plus the bias, times
    the mask; the rows around are 0. -/
def G2 (X : FVec Ideal S1x3448x128 .f32) (w : FVec Ideal S9x128x128 .f32) (b : FVec Ideal S1x128 .f32) (m : FVec Ideal S3448x1 .f32)
    (p o : ℕ) : EReal :=
  if 66 ≤ p ∧ p < 3314 then
    (∑ t : Fin 9, ∑ c : Fin 128, rd (s := S1x3448x128) X ![0, p - 59 + tapOff t.val, c.val] * rd (s := S9x128x128) w ![t.val, c.val, o]
      + rd (s := S1x128) b ![0, o]) * rd (s := S3448x1) m ![p, 0]
  else 0

/-- The 812-row chunk whose rows begin at `o0 + 59`. -/
theorem chunk2 (X : FVec Ideal S1x3448x128 .f32) (w : FVec Ideal S9x128x128 .f32) (b : FVec Ideal S1x128 .f32) (m : FVec Ideal S3448x1 .f32)
    (a1 : Memref sig .tc .vmem S1x3448x128 .f32) (h1 : a1.IsWhole) (a2 : Memref sig .tc .vmem S9x128x128 .f32) (h2 : a2.IsWhole)
    (a3 : Memref sig .tc .vmem S1x128 .f32) (h3 : a3.IsWhole) (a4 : Memref sig .tc .vmem S3448x1 .f32) (h4 : a4.IsWhole)
    (o0 : ℕ) (i0 i1 i2 i3 i4 i5 i6 i7 i8 iw ib im) (hb : 7 ≤ o0 ∧ o0 + 871 ≤ 3314)
    (x : S1x812x128.Idx) (p o : ℕ) (hp : p = o0 + 59 + (x 1).val) (ho : o = (x 2).val) :
    shapeCast S1x812x128 (mulf (addf
      (matmul (φ₁ := .f32) (φ₂ := .f32) dot_S812x1152_S1152x128_S812x128_1_0_0_1_n_n none
      (concatenate S812x1152 1
        [⟨S812x128, shapeCast S812x128 (row a1 h1 X o0 i0) shapeCasts_S1x812x128_S812x128⟩,
         ⟨S812x128, shapeCast S812x128 (row a1 h1 X (o0 + 1) i1) shapeCasts_S1x812x128_S812x128⟩,
         ⟨S812x128, shapeCast S812x128 (row a1 h1 X (o0 + 2) i2) shapeCasts_S1x812x128_S812x128⟩,
         ⟨S812x128, shapeCast S812x128 (row a1 h1 X (o0 + 58) i3) shapeCasts_S1x812x128_S812x128⟩,
         ⟨S812x128, shapeCast S812x128 (row a1 h1 X (o0 + 59) i4) shapeCasts_S1x812x128_S812x128⟩,
         ⟨S812x128, shapeCast S812x128 (row a1 h1 X (o0 + 60) i5) shapeCasts_S1x812x128_S812x128⟩,
         ⟨S812x128, shapeCast S812x128 (row a1 h1 X (o0 + 116) i6) shapeCasts_S1x812x128_S812x128⟩,
         ⟨S812x128, shapeCast S812x128 (row a1 h1 X (o0 + 117) i7) shapeCasts_S1x812x128_S812x128⟩,
         ⟨S812x128, shapeCast S812x128 (row a1 h1 X (o0 + 118) i8) shapeCasts_S1x812x128_S812x128⟩]
        concatenates_S812x128_S812x128_S812x128_S812x128_S812x128_S812x128_S812x128_S812x128_S812x128_S812x1152_d1)
      (shapeCast S1152x128 (shapeCast S9x128x128 (load3 a2 h2 w iw) shapeCasts_S9x128x128_S9x128x128) shapeCasts_S9x128x128_S1152x128)
      (constant S812x128 FTy.f32 0#32))
      (broadcastTo S812x128 (shapeCast S1x128 (shapeCast S128 (load2 (m0 := 1) a3 h3 b 0 ib) shapeCasts_S1x128_S128) shapeCasts_S128_S1x128) broadcasts_S1x128_S812x128))
      (broadcastTo S812x128 (shapeCast S812x1 (load2 (m0 := 812) a4 h4 m (o0 + 59) im)
        shapeCasts_S812x1_S812x1) broadcasts_S812x1_S812x128)) shapeCasts_S812x128_S1x812x128 x
    = G2 X w b m p o := by
  rw [taps128]
  have hx1 : (x 1).val < 812 := (x 1).isLt
  unfold G2
  rw [if_pos (by omega)]
  pointwise
  refine congrArg₂ (· * ·) (congrArg₂ (· + ·) (Finset.sum_congr rfl fun t _ => Finset.sum_congr rfl fun c _ => congrArg₂ (· * ·) ?_ ?_) ?_) ?_
  · exact rows_apply a1 h1 X o0 i0 i1 i2 i3 i4 i5 i6 i7 i8 t _ c _ (by omega)
  · exact load3_apply a2 h2 w iw _ _ _ _ ho
  · exact load2_apply (m0 := 1) a3 h3 b 0 ib _ _ _ _ rfl ho
  · exact load2_apply (m0 := 812) a4 h4 m _ im _ _ _ _ hp rfl

/-- The block the body leaves at a point. -/
theorem out2 (c : Dev nD) (i : grid2.Coords) (arg1 : Memref sig .tc .vmem S1x3448x128 .f32) (harg1 : arg1.IsWhole) (arg2 : Memref sig .tc .vmem S9x128x128 .f32) (harg2 : arg2.IsWhole) (arg3 : Memref sig .tc .vmem S1x128 .f32) (harg3 : arg3.IsWhole) (arg4 : Memref sig .tc .vmem S3448x1 .f32) (harg4 : arg4.IsWhole) (arg5 : Memref sig .tc .vmem S1x3448x128 .f32) (harg5 : arg5.IsWhole)
    (x0 : Vec Ideal S1x3448x128 .f32) (x1 : Vec Ideal S9x128x128 .f32) (x2 : Vec Ideal S1x128 .f32) (x3 : Vec Ideal S3448x1 .f32) (y : S1x3448x128.Idx) :
    Own.K2.out2_A_4 (F := Ideal) (Ix := Ix) (U := U) (Lvl := Lvl) 𝒱₀ c i arg1 harg1 arg2 harg2 arg3 harg3 arg4 harg4 arg5 harg5 x0 x1 x2 x3 y
      = G2 x0 x1 x2 x3 (y 1).val (y 2).val := by
  have hc := Own.K2.cover2_A_4 (F := Ideal) (Ix := Ix) (U := U) (Lvl := Lvl) 𝒱₀ c i arg1 harg1 arg2 harg2 arg3 harg3 arg4 harg4 arg5 harg5 x0 x1 x2 x3 y
  unfold Own.K2.out2_A_4
  rw [View.read_writes_junk_eq_canon]
  refine View.canon_eq_of_allAt _ y _ hc ?_
  clear hc
  frame_open
  refine View.allAt_cons_unit _ _ _ _ _ ?_ <| View.allAt_cons_unit _ _ _ _ _ ?_ <| View.allAt_cons_unit _ _ _ _ _ ?_ <|
    View.allAt_cons_unit _ _ _ _ _ ?_ <| View.allAt_cons_unit _ _ _ _ _ ?_ <| View.allAt_cons_unit _ _ _ _ _ ?_ <| View.allAt_nil _ _
  all_goals tile_intro x h
  · unfold G2; rw [if_neg (by omega)]; exact Ideal.ofBits_zero_f32
  · unfold G2; rw [if_neg (by omega)]; exact Ideal.ofBits_zero_f32
  all_goals
    exact chunk2 x0 x1 x2 x3 arg1 harg1 arg2 harg2 arg3 harg3 arg4 harg4 _ _ _ _ _ _ _ _ _ _ _ _ _ (by omega) x _ _ h1 h2

/-! ## The array after the run -/

/-- The closed form over natural coordinates: `X` one image's flat array, `w` the tap weights, `b` the bias, `m` the mask. -/
def K2 (X : ℕ → ℕ → EReal) (w : ℕ → ℕ → ℕ → EReal) (b m : ℕ → EReal) (p o : ℕ) : EReal :=
  if 66 ≤ p ∧ p < 3314 then
    (∑ t : Fin 9, ∑ c : Fin 128, X (p - 59 + tapOff t.val) c.val * w t.val c.val o + b o) * m p
  else 0

/-- The windows' block indices at a point. -/
theorem idx2 : ∀ t : Fin cfg2.N, win2_0.index t = ![t.val, 0, 0] ∧ win2_1.index t = ![0, 0, 0] ∧ win2_2.index t = ![0, 0]
    ∧ win2_3.index t = ![0, 0] ∧ win2_4.index t = ![t.val, 0, 0] :=
  (by decide +kernel : ∀ t : Fin grid2.N, win2_0.index t = ![t.val, 0, 0] ∧ win2_1.index t = ![0, 0, 0] ∧ win2_2.index t = ![0, 0]
    ∧ win2_3.index t = ![0, 0] ∧ win2_4.index t = ![t.val, 0, 0])

section Blocks
variable (V : (c : Dev nD) → (b : Ref sig .tc) → Buf (Elt Ideal) ((c : Thread nD τ).loc b)) (c : Dev nD) (t : Fin cfg2.N)

/-- The flat array's block at a point is that image. -/
theorem blk2_0 (p q : ℕ) : rd (s := S1x3448x128) (Own.K2.iblk V c 0 t) ![0, p, q]
    = rd (s := S8x3448x128) (V c (Pipeline.arrRef spec2 0)) ![t.val, p, q] := by
  refine rd_lead _ _ t.val (show t.val < 8 from t.isLt) (fun y j h0 h1 h2 => ?_) p q
  refine congrArg (V c (Pipeline.arrRef spec2 0)) (funext fun a => Fin.ext ?_)
  blk_simp [(idx2 t).1]
  have : (y 0).val < 1 := (y 0).isLt
  fin_cases a <;> simp <;> omega
/-- The weights' block is the whole array. -/
theorem blk2_1 : Own.K2.iblk V c 1 t = V c (Pipeline.arrRef spec2 1) := by
  funext y
  refine congrArg (V c (Pipeline.arrRef spec2 1)) (funext fun a => Fin.ext ?_)
  blk_simp [(idx2 t).2.1]
  fin_cases a <;> simp
/-- The bias' block is the whole array. -/
theorem blk2_2 : Own.K2.iblk V c 2 t = V c (Pipeline.arrRef spec2 2) := by
  funext y
  refine congrArg (V c (Pipeline.arrRef spec2 2)) (funext fun a => Fin.ext ?_)
  blk_simp [(idx2 t).2.2.1]
  fin_cases a <;> simp
/-- The mask's block is the whole array. -/
theorem blk2_3 : Own.K2.iblk V c 3 t = V c (Pipeline.arrRef spec2 3) := by
  funext y
  refine congrArg (V c (Pipeline.arrRef spec2 3)) (funext fun a => Fin.ext ?_)
  blk_simp [(idx2 t).2.2.2.1]
  fin_cases a <;> simp

/-- The block left at a point, over the whole arrays. -/
theorem point2 (y : S1x3448x128.Idx) :
    Own.K2.outsAt2 (F := Ideal) (Ix := Unit) (U := UR sig nD τ) (Lvl := ℕ) Variants.none V c t y
      = K2 (fun p c' => rd (s := S8x3448x128) (V c (Pipeline.arrRef spec2 0)) ![t.val, p, c'])
          (fun t c' o => rd (s := S9x128x128) (V c (Pipeline.arrRef spec2 1)) ![t, c', o])
          (fun o => rd (s := S1x128) (V c (Pipeline.arrRef spec2 2)) ![0, o]) (fun p => rd (s := S3448x1) (V c (Pipeline.arrRef spec2 3)) ![p, 0])
          (y 1).val (y 2).val := by
  unfold Own.K2.outsAt2
  refine (out2 Variants.none c _ _ _ _ _ _ _ _ _ _ _ _ _ _ _ _).trans ?_
  rw [blk2_1, blk2_2, blk2_3]
  unfold G2 K2
  simp only [blk2_0]

/-- The convolution's array: image `n`'s row is the closed form over image `n`'s operand. -/
theorem arr2 (A : FVec Ideal S8x3448x128 .f32) (w : FVec Ideal S9x128x128 .f32) (b : FVec Ideal S1x128 .f32) (m : FVec Ideal S3448x1 .f32)
    (hA : V c (Pipeline.arrRef spec2 0) = A) (hw : V c (Pipeline.arrRef spec2 1) = w) (hb : V c (Pipeline.arrRef spec2 2) = b)
    (hm : V c (Pipeline.arrRef spec2 3) = m) :
    (Own.K2.dat (F := Ideal) (Ix := Unit) (U := UR sig nD τ) (Lvl := ℕ) Variants.none V (fun _ => 0) c).arrAt 4 cfg2.N
      = fun y : S8x3448x128.Idx => K2 (fun p c => rd (s := S8x3448x128) A ![(y 0).val, p, c]) (fun t c o => rd (s := S9x128x128) w ![t, c, o])
          (fun o => rd (s := S1x128) b ![0, o]) (fun p => rd (s := S3448x1) m ![p, 0]) (y 1).val (y 2).val := by
  subst hA hw hb hm
  refine (Own.K2.dat (F := Ideal) (Ix := Unit) (U := UR sig nD τ) (Lvl := ℕ) Variants.none V (fun _ => 0) c).arrAt_eq_of_covers 4
    _ (by decide +kernel) fun t hf y => ?_
  rw [Own.K2.after2_4]
  have e0 : ((((cfg2.win 4).blk t).view.emb y) 0 : ℕ) = t.val := by blk_simp [(idx2 t).2.2.2.2]
  have e1 : ((((cfg2.win 4).blk t).view.emb y) 1 : ℕ) = (y 1).val := by blk_simp [(idx2 t).2.2.2.2]
  have e2 : ((((cfg2.win 4).blk t).view.emb y) 2 : ℕ) = (y 2).val := by blk_simp [(idx2 t).2.2.2.2]
  refine (point2 V c t y).trans ?_
  have fin : ∀ (Y : S8x3448x128.Idx) (n p o : ℕ) (f : ℕ → ℕ → ℕ → EReal), (Y 0).val = n → (Y 1).val = p → (Y 2).val = o →
      f n p o = (fun Y : S8x3448x128.Idx => f (Y 0).val (Y 1).val (Y 2).val) Y := by
    rintro Y _ _ _ f rfl rfl rfl; rfl
  exact fin _ _ _ _ (fun n p o => K2 (fun p c' => rd (s := S8x3448x128) (V c (Pipeline.arrRef spec2 0)) ![n, p, c']) _ _ _ p o) e0 e1 e2
end Blocks

end Cert.KernelIdeal.Val

end
-- ==== Proof.KernelIdeal.Res.lean ====
/- What the two residual calls' blocks share: a chunk of rows of the residual block, in closed form. -/
module

public import proofs.«01_k».proof.Proof.KernelIdeal.Taps

@[expose] public section

set_option maxRecDepth 16384

noncomputable section

namespace Cert.KernelIdeal.Val

open Cert.KernelIdeal Cert.KernelIdeal.Gen Cert.Spec
open Idealize.ShloMosaic Idealize.ShloMosaic.TcCoe Idealize.ShloMosaic.Tactic

/-- The residual block at position `p`, channel `o` of a flat image `X`: the position itself plus the one by one
    convolution of the rectified three by three convolution of the rectified image. -/
def resF (X : ℕ → ℕ → EReal) (w1 : ℕ → ℕ → ℕ → EReal) (w2 : ℕ → ℕ → EReal) (p o : ℕ) : EReal :=
  X p o + ∑ h : Fin 32, relu (∑ t : Fin 9, ∑ c : Fin 128, relu (X (p - 59 + tapOff t.val) c.val) * w1 t.val c.val h.val) * w2 h.val o

/-- A load of 812 rows from row `off` on stays inside a flat image. -/
abbrev InB (off : ℕ) : Prop := ∀ a, (![0, off, 0] : Fin 3 → ℕ) a + S1x812x128.size a ≤ S1x3448x128.size a

/-- A chunk of 812 rows of the residual block, whose rows begin at `o0 + 59`. -/
def resBlock {sg : RefSig} (a1 : Memref sg .tc .vmem S1x3448x128 .f32) (h1 : a1.IsWhole) (X : FVec Ideal S1x3448x128 .f32)
    (w1 : FVec Ideal S9x128x32 .f32) (w2 : FVec Ideal S32x128 .f32) (o0 : ℕ)
    (i0 : InB o0) (i1 : InB (o0 + 1)) (i2 : InB (o0 + 2)) (i3 : InB (o0 + 58)) (i4 : InB (o0 + 59)) (i5 : InB (o0 + 60)) (i6 : InB (o0 + 116))
    (i7 : InB (o0 + 117)) (i8 : InB (o0 + 118)) (i9 : InB (o0 + 59)) : FVec Ideal S812x128 .f32 :=
  addf (shapeCast S812x128 (row a1 h1 X (o0 + 59) i9) shapeCasts_S1x812x128_S812x128)
    (matmul (φ₁ := .f32) (φ₂ := .f32) dot_S812x32_S32x128_S812x128_1_0_0_1_n_n none
      (maximumf
        (matmul (φ₁ := .f32) (φ₂ := .f32) dot_S812x1152_S1152x32_S812x32_1_0_0_1_n_n none
          (concatenate S812x1152 1
            [⟨S812x128, maximumf (shapeCast S812x128 (row a1 h1 X o0 i0) shapeCasts_S1x812x128_S812x128) (broadcast S812x128 (Scalar.ofBits .f32 0x00000000#32))⟩,
             ⟨S812x128, maximumf (shapeCast S812x128 (row a1 h1 X (o0 + 1) i1) shapeCasts_S1x812x128_S812x128) (broadcast S812x128 (Scalar.ofBits .f32 0x00000000#32))⟩,
             ⟨S812x128, maximumf (shapeCast S812x128 (row a1 h1 X (o0 + 2) i2) shapeCasts_S1x812x128_S812x128) (broadcast S812x128 (Scalar.ofBits .f32 0x00000000#32))⟩,
             ⟨S812x128, maximumf (shapeCast S812x128 (row a1 h1 X (o0 + 58) i3) shapeCasts_S1x812x128_S812x128) (broadcast S812x128 (Scalar.ofBits .f32 0x00000000#32))⟩,
             ⟨S812x128, maximumf (shapeCast S812x128 (row a1 h1 X (o0 + 59) i4) shapeCasts_S1x812x128_S812x128) (broadcast S812x128 (Scalar.ofBits .f32 0x00000000#32))⟩,
             ⟨S812x128, maximumf (shapeCast S812x128 (row a1 h1 X (o0 + 60) i5) shapeCasts_S1x812x128_S812x128) (broadcast S812x128 (Scalar.ofBits .f32 0x00000000#32))⟩,
             ⟨S812x128, maximumf (shapeCast S812x128 (row a1 h1 X (o0 + 116) i6) shapeCasts_S1x812x128_S812x128) (broadcast S812x128 (Scalar.ofBits .f32 0x00000000#32))⟩,
             ⟨S812x128, maximumf (shapeCast S812x128 (row a1 h1 X (o0 + 117) i7) shapeCasts_S1x812x128_S812x128) (broadcast S812x128 (Scalar.ofBits .f32 0x00000000#32))⟩,
             ⟨S812x128, maximumf (shapeCast S812x128 (row a1 h1 X (o0 + 118) i8) shapeCasts_S1x812x128_S812x128) (broadcast S812x128 (Scalar.ofBits .f32 0x00000000#32))⟩]
            concatenates_S812x128_S812x128_S812x128_S812x128_S812x128_S812x128_S812x128_S812x128_S812x128_S812x1152_d1)
          (shapeCast S1152x32 (shapeCast S9x128x32 w1 shapeCasts_S9x128x32_S9x128x32) shapeCasts_S9x128x32_S1152x32)
          (constant S812x32 FTy.f32 0#32))
        (broadcast S812x32 (Scalar.ofBits .f32 0x00000000#32)))
      (shapeCast S32x128 w2 shapeCasts_S32x128_S32x128) (constant S812x128 FTy.f32 0#32))

/-- Its element. -/
theorem resBlock_apply {sg : RefSig} (a1 : Memref sg .tc .vmem S1x3448x128 .f32) (h1 : a1.IsWhole) (X : FVec Ideal S1x3448x128 .f32)
    (w1 : FVec Ideal S9x128x32 .f32) (w2 : FVec Ideal S32x128 .f32) (o0 : ℕ)
    (i0 : InB o0) (i1 : InB (o0 + 1)) (i2 : InB (o0 + 2)) (i3 : InB (o0 + 58)) (i4 : InB (o0 + 59)) (i5 : InB (o0 + 60)) (i6 : InB (o0 + 116))
    (i7 : InB (o0 + 117)) (i8 : InB (o0 + 118)) (i9 : InB (o0 + 59))
    (r : Fin 812) (c : Fin 128) (p : ℕ) (hp : p = o0 + 59 + r.val) (W1 : ℕ → ℕ → ℕ → EReal) (W2 : ℕ → ℕ → EReal)
    (hW1 : ∀ (t : Fin 9) (c : Fin 128) (h : Fin 32), w1 (ix3 t c h) = W1 t.val c.val h.val)
    (hW2 : ∀ (h : Fin 32) (c : Fin 128), w2 (ix2 h c) = W2 h.val c.val) :
    resBlock a1 h1 X w1 w2 o0 i0 i1 i2 i3 i4 i5 i6 i7 i8 i9 (ix2 r c)
      = resF (fun p c => rd (s := S1x3448x128) X ![0, p, c]) W1 W2 p c.val := by
  unfold resBlock resF
  rw [taps32]
  pointwise
  refine congrArg₂ (· + ·) (row_apply a1 h1 X _ i9 _ r c _ hp) (Finset.sum_congr rfl fun h _ => congrArg₂ (· * ·) ?_ (hW2 h c))
  refine congrArg relu (Finset.sum_congr rfl fun t _ => Finset.sum_congr rfl fun c _ => congrArg₂ (· * ·) ?_ (hW1 t c h))
  exact rowsRelu_apply a1 h1 X o0 i0 i1 i2 i3 i4 i5 i6 i7 i8 t r c (p - 59 + tapOff t.val) _ rfl (by omega)

end Cert.KernelIdeal.Val

end
-- ==== Proof.KernelIdeal.Val3.lean ====
/- What the first residual block's call leaves: its block in closed form, then its array. -/
module

public import proofs.«01_k».proof.Proof.Gen.Own.KernelIdeal.K3.Frame
public import proofs.«01_k».proof.Proof.KernelIdeal.Res

@[expose] public section

set_option maxRecDepth 16384

noncomputable section

namespace Cert.KernelIdeal.Val

open Cert.KernelIdeal Cert.KernelIdeal.Gen Cert.Spec
open Idealize.ShloMosaic Idealize.ShloMosaic.TcCoe Idealize.ShloMosaic.Tactic
open Idealize.SL Idealize.SL.RA

variable {Ix : Type} [DecidableEq Ix] {U : Type} [URA U] {Lvl : Type} [Preorder Lvl]
variable (𝒱₀ : Variants)

/-- The block in closed form: interior rows hold the residual block times the mask, the rows around 0. -/
def K3 (X : ℕ → ℕ → EReal) (w1 : ℕ → ℕ → ℕ → EReal) (w2 : ℕ → ℕ → EReal) (m : ℕ → EReal) (p o : ℕ) : EReal :=
  if 66 ≤ p ∧ p < 3314 then resF X w1 w2 p o * m p else 0

/-- The 812-row chunk whose rows begin at `o0 + 59`. -/
theorem chunk3 {sg : RefSig} (X : FVec Ideal S1x3448x128 .f32) (w1 : FVec Ideal S9x128x32 .f32) (w2 : FVec Ideal S32x128 .f32) (m : FVec Ideal S3448x1 .f32)
    (a1 : Memref sg .tc .vmem S1x3448x128 .f32) (h1 : a1.IsWhole)
    (a2 : Memref sg .tc .vmem S9x128x32 .f32) (h2 : a2.IsWhole)
    (a3 : Memref sg .tc .vmem S32x128 .f32) (h3 : a3.IsWhole)
    (a4 : Memref sg .tc .vmem S3448x1 .f32) (h4 : a4.IsWhole)
    (o0 : ℕ) (i0 : InB o0) (i1 : InB (o0 + 1)) (i2 : InB (o0 + 2)) (i3 : InB (o0 + 58)) (i4 : InB (o0 + 59)) (i5 : InB (o0 + 60)) (i6 : InB (o0 + 116))
    (i7 : InB (o0 + 117)) (i8 : InB (o0 + 118)) (i9 : InB (o0 + 59))
    (iw iv im) (hb : 7 ≤ o0 ∧ o0 + 871 ≤ 3314)
    (x : S1x812x128.Idx) (p o : ℕ) (hp : p = o0 + 59 + (x 1).val) (ho : o = (x 2).val) :
    shapeCast S1x812x128 (mulf (resBlock a1 h1 X (load3 a2 h2 w1 iw) (load2 (m0 := 32) a3 h3 w2 0 iv) o0 i0 i1 i2 i3 i4 i5 i6 i7 i8 i9)
      (broadcastTo S812x128 (shapeCast S812x1 (load2 (m0 := 812) a4 h4 m (o0 + 59) im)
        shapeCasts_S812x1_S812x1) broadcasts_S812x1_S812x128)) shapeCasts_S812x128_S1x812x128 x
    = K3 (fun p c => rd (s := S1x3448x128) X ![0, p, c]) (fun t c o => rd (s := S9x128x32) w1 ![t, c, o]) (fun h o => rd (s := S32x128) w2 ![h, o]) (fun p => rd (s := S3448x1) m ![p, 0]) p o := by
  have hx1 : (x 1).val < 812 := (x 1).isLt
  unfold K3
  rw [if_pos (by omega)]
  pointwise
  refine congrArg₂ (· * ·) ?_ ?_
  · subst ho
    exact resBlock_apply a1 h1 X _ _ o0 i0 i1 i2 i3 i4 i5 i6 i7 i8 i9 (x 1) (x 2) p hp _ _
      (fun t c h => load3_apply a2 h2 w1 iw t c h _ rfl) (fun h c => load2_apply (m0 := 32) a3 h3 w2 0 iv h c _ _ (by simp) rfl)
  · exact load2_apply (m0 := 812) a4 h4 m _ im _ _ _ _ hp rfl

/-- The block the body leaves at a point. -/
theorem out3 (c : Dev nD) (i : grid3.Coords) (arg1 : Memref sig .tc .vmem S1x3448x128 .f32) (harg1 : arg1.IsWhole) (arg2 : Memref sig .tc .vmem S9x128x32 .f32) (harg2 : arg2.IsWhole) (arg3 : Memref sig .tc .vmem S32x128 .f32) (harg3 : arg3.IsWhole) (arg4 : Memref sig .tc .vmem S3448x1 .f32) (harg4 : arg4.IsWhole) (arg5 : Memref sig .tc .vmem S1x3448x128 .f32) (harg5 : arg5.IsWhole)
    (x0 : Vec Ideal S1x3448x128 .f32) (x1 : Vec Ideal S9x128x32 .f32) (x2 : Vec Ideal S32x128 .f32) (x3 : Vec Ideal S3448x1 .f32) (y : S1x3448x128.Idx) :
    Own.K3.out3_A_4 (F := Ideal) (Ix := Ix) (U := U) (Lvl := Lvl) 𝒱₀ c i arg1 harg1 arg2 harg2 arg3 harg3 arg4 harg4 arg5 harg5 x0 x1 x2 x3 y
      = K3 (fun p c => rd (s := S1x3448x128) x0 ![0, p, c]) (fun t c o => rd (s := S9x128x32) x1 ![t, c, o]) (fun h o => rd (s := S32x128) x2 ![h, o]) (fun p => rd (s := S3448x1) x3 ![p, 0]) (y 1).val (y 2).val := by
  have hc := Own.K3.cover3_A_4 (F := Ideal) (Ix := Ix) (U := U) (Lvl := Lvl) 𝒱₀ c i arg1 harg1 arg2 harg2 arg3 harg3 arg4 harg4 arg5 harg5 x0 x1 x2 x3 y
  unfold Own.K3.out3_A_4
  rw [View.read_writes_junk_eq_canon]
  refine View.canon_eq_of_allAt _ y _ hc ?_
  clear hc
  frame_open
  refine View.allAt_cons_unit _ _ _ _ _ ?_ <| View.allAt_cons_unit _ _ _ _ _ ?_ <| View.allAt_cons_unit _ _ _ _ _ ?_ <|
    View.allAt_cons_unit _ _ _ _ _ ?_ <| View.allAt_cons_unit _ _ _ _ _ ?_ <| View.allAt_cons_unit _ _ _ _ _ ?_ <| View.allAt_nil _ _
  all_goals tile_intro x h
  · unfold K3; rw [if_neg (by omega)]; exact Ideal.ofBits_zero_f32
  · unfold K3; rw [if_neg (by omega)]; exact Ideal.ofBits_zero_f32
  all_goals
    exact chunk3 x0 x1 x2 x3 arg1 harg1 arg2 harg2 arg3 harg3 arg4 harg4 _ _ _ _ _ _ _ _ _ _ _ _ _ _ (by omega) x _ _ h1 h2

/-! ## The array after the run -/

/-- The windows' block indices at a point. -/
theorem idx3 : ∀ t : Fin cfg3.N, win3_0.index t = ![t.val, 0, 0] ∧ win3_1.index t = ![0, 0, 0] ∧ win3_2.index t = ![0, 0] ∧ win3_3.index t = ![0, 0] ∧ win3_4.index t = ![t.val, 0, 0] :=
  (by decide +kernel : ∀ t : Fin grid3.N, win3_0.index t = ![t.val, 0, 0] ∧ win3_1.index t = ![0, 0, 0] ∧ win3_2.index t = ![0, 0] ∧ win3_3.index t = ![0, 0] ∧ win3_4.index t = ![t.val, 0, 0])

section Blocks
variable (V : (c : Dev nD) → (b : Ref sig .tc) → Buf (Elt Ideal) ((c : Thread nD τ).loc b)) (c : Dev nD) (t : Fin cfg3.N)

/-- The flat array's block at a point is that image. -/
theorem blk3_0 (p q : ℕ) : rd (s := S1x3448x128) (Own.K3.iblk V c 0 t) ![0, p, q]
    = rd (s := S8x3448x128) (V c (Pipeline.arrRef spec3 0)) ![t.val, p, q] := by
  refine rd_lead _ _ t.val (show t.val < 8 from t.isLt) (fun y j h0 h1 h2 => ?_) p q
  refine congrArg (V c (Pipeline.arrRef spec3 0)) (funext fun a => Fin.ext ?_)
  blk_simp [(idx3 t).1]
  have : (y 0).val < 1 := (y 0).isLt
  fin_cases a <;> simp <;> omega
/-- Operand 1's block is the whole array. -/
theorem blk3_1 : Own.K3.iblk V c 1 t = V c (Pipeline.arrRef spec3 1) := by
  funext y
  refine congrArg (V c (Pipeline.arrRef spec3 1)) (funext fun a => Fin.ext ?_)
  blk_simp [(idx3 t).2.1]
  fin_cases a <;> simp
/-- Operand 2's block is the whole array. -/
theorem blk3_2 : Own.K3.iblk V c 2 t = V c (Pipeline.arrRef spec3 2) := by
  funext y
  refine congrArg (V c (Pipeline.arrRef spec3 2)) (funext fun a => Fin.ext ?_)
  blk_simp [(idx3 t).2.2.1]
  fin_cases a <;> simp
/-- Operand 3's block is the whole array. -/
theorem blk3_3 : Own.K3.iblk V c 3 t = V c (Pipeline.arrRef spec3 3) := by
  funext y
  refine congrArg (V c (Pipeline.arrRef spec3 3)) (funext fun a => Fin.ext ?_)
  blk_simp [(idx3 t).2.2.2.1]
  fin_cases a <;> simp

/-- The block left at a point, over the whole arrays. -/
theorem point3 (y : S1x3448x128.Idx) :
    Own.K3.outsAt3 (F := Ideal) (Ix := Unit) (U := UR sig nD τ) (Lvl := ℕ) Variants.none V c t y
      = K3 (fun p c' => rd (s := S8x3448x128) (V c (Pipeline.arrRef spec3 0)) ![t.val, p, c']) (fun t c' o => rd (s := S9x128x32) (V c (Pipeline.arrRef spec3 1)) ![t, c', o]) (fun h o => rd (s := S32x128) (V c (Pipeline.arrRef spec3 2)) ![h, o]) (fun p => rd (s := S3448x1) (V c (Pipeline.arrRef spec3 3)) ![p, 0]) (y 1).val (y 2).val := by
  unfold Own.K3.outsAt3
  refine (out3 Variants.none c _ _ _ _ _ _ _ _ _ _ _ _ _ _ _ _).trans ?_
  rw [blk3_1, blk3_2, blk3_3]
  simp only [blk3_0]

/-- The array after the run: image `n`'s row is the closed form over image `n`'s operand. -/
theorem arr3 (X : FVec Ideal S8x3448x128 .f32) (w1 : FVec Ideal S9x128x32 .f32) (w2 : FVec Ideal S32x128 .f32) (m : FVec Ideal S3448x1 .f32)
    (hX : V c (Pipeline.arrRef spec3 0) = X) (hw1 : V c (Pipeline.arrRef spec3 1) = w1) (hw2 : V c (Pipeline.arrRef spec3 2) = w2) (hm : V c (Pipeline.arrRef spec3 3) = m) :
    (Own.K3.dat (F := Ideal) (Ix := Unit) (U := UR sig nD τ) (Lvl := ℕ) Variants.none V (fun _ => 0) c).arrAt 4 cfg3.N
      = fun y : S8x3448x128.Idx => K3 (fun p c => rd (s := S8x3448x128) X ![(y 0).val, p, c]) (fun t c o => rd (s := S9x128x32) w1 ![t, c, o]) (fun h o => rd (s := S32x128) w2 ![h, o]) (fun p => rd (s := S3448x1) m ![p, 0]) (y 1).val (y 2).val := by
  subst hX hw1 hw2 hm
  refine (Own.K3.dat (F := Ideal) (Ix := Unit) (U := UR sig nD τ) (Lvl := ℕ) Variants.none V (fun _ => 0) c).arrAt_eq_of_covers 4
    _ (by decide +kernel) fun t hf y => ?_
  rw [Own.K3.after3_4]
  have e0 : ((((cfg3.win 4).blk t).view.emb y) 0 : ℕ) = t.val := by blk_simp [(idx3 t).2.2.2.2]
  have e1 : ((((cfg3.win 4).blk t).view.emb y) 1 : ℕ) = (y 1).val := by blk_simp [(idx3 t).2.2.2.2]
  have e2 : ((((cfg3.win 4).blk t).view.emb y) 2 : ℕ) = (y 2).val := by blk_simp [(idx3 t).2.2.2.2]
  refine (point3 V c t y).trans ?_
  have fin : ∀ (Y : S8x3448x128.Idx) (n p o : ℕ) (f : ℕ → ℕ → ℕ → EReal), (Y 0).val = n → (Y 1).val = p → (Y 2).val = o →
      f n p o = (fun Y : S8x3448x128.Idx => f (Y 0).val (Y 1).val (Y 2).val) Y := by
    rintro Y _ _ _ f rfl rfl rfl; rfl
  exact fin _ _ _ _ (fun n p o => K3 (fun p c' => rd (s := S8x3448x128) (V c (Pipeline.arrRef spec3 0)) ![n, p, c']) _ _ _ p o) e0 e1 e2
end Blocks

end Cert.KernelIdeal.Val

end
-- ==== Proof.KernelIdeal.Val4.lean ====
/- What the second residual block's call (with the projection to the code width) leaves: its block in closed form, then its array. -/
module

public import proofs.«01_k».proof.Proof.Gen.Own.KernelIdeal.K4.Frame
public import proofs.«01_k».proof.Proof.KernelIdeal.Res

@[expose] public section

set_option maxRecDepth 16384

noncomputable section

namespace Cert.KernelIdeal.Val

open Cert.KernelIdeal Cert.KernelIdeal.Gen Cert.Spec
open Idealize.ShloMosaic Idealize.ShloMosaic.TcCoe Idealize.ShloMosaic.Tactic
open Idealize.SL Idealize.SL.RA

variable {Ix : Type} [DecidableEq Ix] {U : Type} [URA U] {Lvl : Type} [Preorder Lvl]
variable (𝒱₀ : Variants)

/-- The block in closed form: interior rows hold the projection of the rectified residual block plus its bias, the rows
    around 0. -/
def K4 (X : ℕ → ℕ → EReal) (w1 : ℕ → ℕ → ℕ → EReal) (w2 pw : ℕ → ℕ → EReal) (pb : ℕ → EReal) (p o : ℕ) : EReal :=
  if 66 ≤ p ∧ p < 3314 then ∑ c : Fin 128, relu (resF X w1 w2 p c.val) * pw c.val o + pb o else 0

/-- The 812-row chunk whose rows begin at `o0 + 59`. -/
theorem chunk4 (X : FVec Ideal S1x3448x128 .f32) (w1 : FVec Ideal S9x128x32 .f32) (w2 : FVec Ideal S32x128 .f32) (pw : FVec Ideal S128x64 .f32) (pb : FVec Ideal S1x64 .f32)
    (a1 : Memref sig .tc .vmem S1x3448x128 .f32) (h1 : a1.IsWhole)
    (a2 : Memref sig .tc .vmem S9x128x32 .f32) (h2 : a2.IsWhole)
    (a3 : Memref sig .tc .vmem S32x128 .f32) (h3 : a3.IsWhole)
    (a4 : Memref sig .tc .vmem S128x64 .f32) (h4 : a4.IsWhole)
    (a5 : Memref sig .tc .vmem S1x64 .f32) (h5 : a5.IsWhole)
    (o0 : ℕ) (i0 : InB o0) (i1 : InB (o0 + 1)) (i2 : InB (o0 + 2)) (i3 : InB (o0 + 58)) (i4 : InB (o0 + 59)) (i5 : InB (o0 + 60)) (i6 : InB (o0 + 116))
    (i7 : InB (o0 + 117)) (i8 : InB (o0 + 118)) (i9 : InB (o0 + 59))
    (iw iv im ib) (hb : 7 ≤ o0 ∧ o0 + 871 ≤ 3314)
    (x : S1x812x64.Idx) (p o : ℕ) (hp : p = o0 + 59 + (x 1).val) (ho : o = (x 2).val) :
    shapeCast S1x812x64 (addf
      (matmul (φ₁ := .f32) (φ₂ := .f32) dot_S812x128_S128x64_S812x64_1_0_0_1_n_n none
        (maximumf (resBlock a1 h1 X (load3 a2 h2 w1 iw) (load2 (m0 := 32) a3 h3 w2 0 iv) o0 i0 i1 i2 i3 i4 i5 i6 i7 i8 i9)
          (broadcast S812x128 (Scalar.ofBits .f32 0x00000000#32)))
        (shapeCast S128x64 (load2 (m0 := 128) a4 h4 pw 0 im) shapeCasts_S128x64_S128x64) (constant S812x64 FTy.f32 0#32))
      (broadcastTo S812x64 (shapeCast S1x64 (shapeCast S64 (load2 (m0 := 1) a5 h5 pb 0 ib) shapeCasts_S1x64_S64) shapeCasts_S64_S1x64) broadcasts_S1x64_S812x64))
      shapeCasts_S812x64_S1x812x64 x
    = K4 (fun p c => rd (s := S1x3448x128) X ![0, p, c]) (fun t c o => rd (s := S9x128x32) w1 ![t, c, o]) (fun h o => rd (s := S32x128) w2 ![h, o]) (fun c o => rd (s := S128x64) pw ![c, o]) (fun o => rd (s := S1x64) pb ![0, o]) p o := by
  have hx1 : (x 1).val < 812 := (x 1).isLt
  unfold K4
  rw [if_pos (by omega)]
  pointwise
  refine congrArg₂ (· + ·) (Finset.sum_congr rfl fun c _ => congrArg₂ (· * ·) (congrArg relu ?_) ?_) ?_
  · exact resBlock_apply a1 h1 X _ _ o0 i0 i1 i2 i3 i4 i5 i6 i7 i8 i9 (x 1) c p hp _ _
      (fun t c h => load3_apply a2 h2 w1 iw t c h _ rfl) (fun h c => load2_apply (m0 := 32) a3 h3 w2 0 iv h c _ _ (by simp) rfl)
  · exact load2_apply (m0 := 128) a4 h4 pw 0 im _ _ _ _ (by simp) ho
  · exact load2_apply (m0 := 1) a5 h5 pb 0 ib _ _ _ _ rfl ho

/-- The block the body leaves at a point. -/
theorem out4 (c : Dev nD) (i : grid4.Coords) (arg1 : Memref sig .tc .vmem S1x3448x128 .f32) (harg1 : arg1.IsWhole) (arg2 : Memref sig .tc .vmem S9x128x32 .f32) (harg2 : arg2.IsWhole) (arg3 : Memref sig .tc .vmem S32x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1x3448x64 .f32) (harg6 : arg6.IsWhole)
    (x0 : Vec Ideal S1x3448x128 .f32) (x1 : Vec Ideal S9x128x32 .f32) (x2 : Vec Ideal S32x128 .f32) (x3 : Vec Ideal S128x64 .f32) (x4 : Vec Ideal S1x64 .f32) (y : S1x3448x64.Idx) :
    Own.K4.out4_A_5 (F := Ideal) (Ix := Ix) (U := U) (Lvl := Lvl) 𝒱₀ c i arg1 harg1 arg2 harg2 arg3 harg3 arg4 harg4 arg5 harg5 arg6 harg6 x0 x1 x2 x3 x4 y
      = K4 (fun p c => rd (s := S1x3448x128) x0 ![0, p, c]) (fun t c o => rd (s := S9x128x32) x1 ![t, c, o]) (fun h o => rd (s := S32x128) x2 ![h, o]) (fun c o => rd (s := S128x64) x3 ![c, o]) (fun o => rd (s := S1x64) x4 ![0, o]) (y 1).val (y 2).val := by
  have hc := Own.K4.cover4_A_5 (F := Ideal) (Ix := Ix) (U := U) (Lvl := Lvl) 𝒱₀ c i arg1 harg1 arg2 harg2 arg3 harg3 arg4 harg4 arg5 harg5 arg6 harg6 x0 x1 x2 x3 x4 y
  unfold Own.K4.out4_A_5
  rw [View.read_writes_junk_eq_canon]
  refine View.canon_eq_of_allAt _ y _ hc ?_
  clear hc
  frame_open
  refine View.allAt_cons_unit _ _ _ _ _ ?_ <| View.allAt_cons_unit _ _ _ _ _ ?_ <| View.allAt_cons_unit _ _ _ _ _ ?_ <|
    View.allAt_cons_unit _ _ _ _ _ ?_ <| View.allAt_cons_unit _ _ _ _ _ ?_ <| View.allAt_cons_unit _ _ _ _ _ ?_ <| View.allAt_nil _ _
  all_goals tile_intro x h
  · unfold K4; rw [if_neg (by omega)]; exact Ideal.ofBits_zero_f32
  · unfold K4; rw [if_neg (by omega)]; exact Ideal.ofBits_zero_f32
  all_goals
    exact chunk4 x0 x1 x2 x3 x4 arg1 harg1 arg2 harg2 arg3 harg3 arg4 harg4 arg5 harg5 _ _ _ _ _ _ _ _ _ _ _ _ _ _ _ (by omega) x _ _ h1 h2

/-! ## The array after the run -/

/-- The windows' block indices at a point. -/
theorem idx4 : ∀ t : Fin cfg4.N, win4_0.index t = ![t.val, 0, 0] ∧ win4_1.index t = ![0, 0, 0] ∧ win4_2.index t = ![0, 0] ∧ win4_3.index t = ![0, 0] ∧ win4_4.index t = ![0, 0] ∧ win4_5.index t = ![t.val, 0, 0] :=
  (by decide +kernel : ∀ t : Fin grid4.N, win4_0.index t = ![t.val, 0, 0] ∧ win4_1.index t = ![0, 0, 0] ∧ win4_2.index t = ![0, 0] ∧ win4_3.index t = ![0, 0] ∧ win4_4.index t = ![0, 0] ∧ win4_5.index t = ![t.val, 0, 0])

section Blocks
variable (V : (c : Dev nD) → (b : Ref sig .tc) → Buf (Elt Ideal) ((c : Thread nD τ).loc b)) (c : Dev nD) (t : Fin cfg4.N)

/-- The flat array's block at a point is that image. -/
theorem blk4_0 (p q : ℕ) : rd (s := S1x3448x128) (Own.K4.iblk V c 0 t) ![0, p, q]
    = rd (s := S8x3448x128) (V c (Pipeline.arrRef spec4 0)) ![t.val, p, q] := by
  refine rd_lead _ _ t.val (show t.val < 8 from t.isLt) (fun y j h0 h1 h2 => ?_) p q
  refine congrArg (V c (Pipeline.arrRef spec4 0)) (funext fun a => Fin.ext ?_)
  blk_simp [(idx4 t).1]
  have : (y 0).val < 1 := (y 0).isLt
  fin_cases a <;> simp <;> omega
/-- Operand 1's block is the whole array. -/
theorem blk4_1 : Own.K4.iblk V c 1 t = V c (Pipeline.arrRef spec4 1) := by
  funext y
  refine congrArg (V c (Pipeline.arrRef spec4 1)) (funext fun a => Fin.ext ?_)
  blk_simp [(idx4 t).2.1]
  fin_cases a <;> simp
/-- Operand 2's block is the whole array. -/
theorem blk4_2 : Own.K4.iblk V c 2 t = V c (Pipeline.arrRef spec4 2) := by
  funext y
  refine congrArg (V c (Pipeline.arrRef spec4 2)) (funext fun a => Fin.ext ?_)
  blk_simp [(idx4 t).2.2.1]
  fin_cases a <;> simp
/-- Operand 3's block is the whole array. -/
theorem blk4_3 : Own.K4.iblk V c 3 t = V c (Pipeline.arrRef spec4 3) := by
  funext y
  refine congrArg (V c (Pipeline.arrRef spec4 3)) (funext fun a => Fin.ext ?_)
  blk_simp [(idx4 t).2.2.2.1]
  fin_cases a <;> simp
/-- Operand 4's block is the whole array. -/
theorem blk4_4 : Own.K4.iblk V c 4 t = V c (Pipeline.arrRef spec4 4) := by
  funext y
  refine congrArg (V c (Pipeline.arrRef spec4 4)) (funext fun a => Fin.ext ?_)
  blk_simp [(idx4 t).2.2.2.2.1]
  fin_cases a <;> simp

/-- The block left at a point, over the whole arrays. -/
theorem point4 (y : S1x3448x64.Idx) :
    Own.K4.outsAt4 (F := Ideal) (Ix := Unit) (U := UR sig nD τ) (Lvl := ℕ) Variants.none V c t y
      = K4 (fun p c' => rd (s := S8x3448x128) (V c (Pipeline.arrRef spec4 0)) ![t.val, p, c']) (fun t c' o => rd (s := S9x128x32) (V c (Pipeline.arrRef spec4 1)) ![t, c', o]) (fun h o => rd (s := S32x128) (V c (Pipeline.arrRef spec4 2)) ![h, o]) (fun c' o => rd (s := S128x64) (V c (Pipeline.arrRef spec4 3)) ![c', o]) (fun o => rd (s := S1x64) (V c (Pipeline.arrRef spec4 4)) ![0, o]) (y 1).val (y 2).val := by
  unfold Own.K4.outsAt4
  refine (out4 Variants.none c _ _ _ _ _ _ _ _ _ _ _ _ _ _ _ _ _ _ _).trans ?_
  rw [blk4_1, blk4_2, blk4_3, blk4_4]
  simp only [blk4_0]

/-- The array after the run: image `n`'s row is the closed form over image `n`'s operand. -/
theorem arr4 (X : FVec Ideal S8x3448x128 .f32) (w1 : FVec Ideal S9x128x32 .f32) (w2 : FVec Ideal S32x128 .f32) (pw : FVec Ideal S128x64 .f32) (pb : FVec Ideal S1x64 .f32)
    (hX : V c (Pipeline.arrRef spec4 0) = X) (hw1 : V c (Pipeline.arrRef spec4 1) = w1) (hw2 : V c (Pipeline.arrRef spec4 2) = w2) (hpw : V c (Pipeline.arrRef spec4 3) = pw) (hpb : V c (Pipeline.arrRef spec4 4) = pb) :
    (Own.K4.dat (F := Ideal) (Ix := Unit) (U := UR sig nD τ) (Lvl := ℕ) Variants.none V (fun _ => 0) c).arrAt 5 cfg4.N
      = fun y : S8x3448x64.Idx => K4 (fun p c => rd (s := S8x3448x128) X ![(y 0).val, p, c]) (fun t c o => rd (s := S9x128x32) w1 ![t, c, o]) (fun h o => rd (s := S32x128) w2 ![h, o]) (fun c o => rd (s := S128x64) pw ![c, o]) (fun o => rd (s := S1x64) pb ![0, o]) (y 1).val (y 2).val := by
  subst hX hw1 hw2 hpw hpb
  refine (Own.K4.dat (F := Ideal) (Ix := Unit) (U := UR sig nD τ) (Lvl := ℕ) Variants.none V (fun _ => 0) c).arrAt_eq_of_covers 5
    _ (by decide +kernel) fun t hf y => ?_
  rw [Own.K4.after4_5]
  have e0 : ((((cfg4.win 5).blk t).view.emb y) 0 : ℕ) = t.val := by blk_simp [(idx4 t).2.2.2.2.2]
  have e1 : ((((cfg4.win 5).blk t).view.emb y) 1 : ℕ) = (y 1).val := by blk_simp [(idx4 t).2.2.2.2.2]
  have e2 : ((((cfg4.win 5).blk t).view.emb y) 2 : ℕ) = (y 2).val := by blk_simp [(idx4 t).2.2.2.2.2]
  refine (point4 V c t y).trans ?_
  have fin : ∀ (Y : S8x3448x64.Idx) (n p o : ℕ) (f : ℕ → ℕ → ℕ → EReal), (Y 0).val = n → (Y 1).val = p → (Y 2).val = o →
      f n p o = (fun Y : S8x3448x64.Idx => f (Y 0).val (Y 1).val (Y 2).val) Y := by
    rintro Y _ _ _ f rfl rfl rfl; rfl
  exact fin _ _ _ _ (fun n p o => K4 (fun p c' => rd (s := S8x3448x128) (V c (Pipeline.arrRef spec4 0)) ![n, p, c']) _ _ _ _ p o) e0 e1 e2
end Blocks

end Cert.KernelIdeal.Val

end
-- ==== Proof.KernelIdeal.Flat.lean ====
module
public import proofs.«01_k».proof.Proof.KernelIdeal.Conv
public import proofs.«01_k».proof.Proof.KernelIdeal.Val0
public import proofs.«01_k».proof.Proof.KernelIdeal.Val1
public import proofs.«01_k».proof.Proof.KernelIdeal.Val2
public import proofs.«01_k».proof.Proof.KernelIdeal.Val3
public import proofs.«01_k».proof.Proof.KernelIdeal.Val4

/-!
# The kernels' closed forms are the layers

Each of the five encoder kernels, on inputs laid out as the host lays them out, computes the layer of `Spec`: the two
gathered convolutions directly, the three kernels on flat images position by position.
-/

@[expose] public section

set_option maxRecDepth 16384

noncomputable section

namespace Cert.KernelIdeal.Val

open Cert.Spec

/-- The first kernel is the first convolution with its bias, rectified. -/
theorem K0_layer (X w : ℕ → ℕ → EReal) (b b' : ℕ → EReal) (f w' : N4) (n p o : ℕ)
    (hX : ∀ q, q < 16 → X p q = padAt 224 f n (q % 1) (2 * (p / 112) + q / 1 / 4) (2 * (p % 112) + q / 1 % 4))
    (hw : ∀ q, q < 16 → w q o = w' o (q % 1) (q / 1 / 4) (q / 1 % 4)) (hb : b o = b' o) :
    K0 X w b p o = reluN (addB (conv 2 4 1 224 f w') b') n o (p / 112) (p % 112) := by
  unfold K0 reluN addB
  rw [hb]
  rw [← conv_cols 1 224 16 rfl f w' n o (p / 112) (p % 112)]
  exact congrArg relu (congrArg (· + b' o) (Finset.sum_congr rfl fun q _ => by rw [hX q.val q.isLt, hw q.val q.isLt]))

/-- The second kernel is the second convolution with its bias, rectified. -/
theorem K1_layer (X w : ℕ → ℕ → EReal) (b b' : ℕ → EReal) (f w' : N4) (n p o : ℕ)
    (hX : ∀ q, q < 1024 → X p q = padAt 112 f n (q % 64) (2 * (p / 56) + q / 64 / 4) (2 * (p % 56) + q / 64 % 4))
    (hw : ∀ q, q < 1024 → w q o = w' o (q % 64) (q / 64 / 4) (q / 64 % 4)) (hb : b o = b' o) :
    K1 X w b p o = reluN (addB (conv 2 4 64 112 f w') b') n o (p / 56) (p % 56) := by
  unfold K1 reluN addB
  rw [hb]
  rw [← conv_cols 64 112 1024 rfl f w' n o (p / 56) (p % 56)]
  exact congrArg relu (congrArg (· + b' o) (Finset.sum_congr rfl fun q _ => by rw [hX q.val q.isLt, hw q.val q.isLt]))

/-- A position of the flat image that is a position of the plane. -/
def Inner (p : ℕ) : Prop := 8 ≤ p ∧ 1 ≤ (p - 8) / 58 ∧ (p - 8) / 58 ≤ 56 ∧ 1 ≤ (p - 8) % 58 ∧ (p - 8) % 58 ≤ 56

instance (p : ℕ) : Decidable (Inner p) := by unfold Inner; infer_instance

theorem Inner.range {p : ℕ} (h : Inner p) : 66 ≤ p ∧ p < 3314 := by unfold Inner at h; omega

theorem flatAt_inner (f : N4) (n c : ℕ) {p : ℕ} (h : Inner p) : flatAt f n p c = f n c ((p - 8) / 58 - 1) ((p - 8) % 58 - 1) := by
  unfold Inner at h
  unfold flatAt padAt
  rw [if_pos h.1, if_pos ⟨h.2.1, h.2.2.1, h.2.2.2.1, h.2.2.2.2⟩]

theorem flatAt_outer (f : N4) (n c : ℕ) {p : ℕ} (h : ¬ Inner p) : flatAt f n p c = 0 := by
  unfold Inner at h
  unfold flatAt padAt
  split
  · rw [if_neg fun g => h ⟨by assumption, g⟩]
  · rfl

/-- A tap of the three by three window around an inner position. -/
theorem flatAt_tap (f : N4) (n c t : ℕ) (ht : t < 9) {p : ℕ} (h : Inner p) :
    flatAt f n (p - 59 + tapOff t) c = padAt 56 f n c (1 * ((p - 8) / 58 - 1) + t / 3) (1 * ((p - 8) % 58 - 1) + t % 3) := by
  unfold Inner at h
  unfold flatAt tapOff
  obtain ⟨h8, h1, h2, h3, h4⟩ := h
  have e1 : (p - 59 + (t / 3 * 58 + t % 3) - 8) / 58 = 1 * ((p - 8) / 58 - 1) + t / 3 := by omega
  have e2 : (p - 59 + (t / 3 * 58 + t % 3) - 8) % 58 = 1 * ((p - 8) % 58 - 1) + t % 3 := by omega
  rw [if_pos (by omega), e1, e2]

/-- Nine taps are the three by three convolution. -/
theorem taps_conv (f w : N4) (n o y x : ℕ) :
    ∑ t : Fin 9, ∑ c : Fin 128, padAt 56 f n c.val (1 * y + t.val / 3) (1 * x + t.val % 3) * w o c.val (t.val / 3) (t.val % 3)
      = conv 1 3 128 56 f w n o y x :=
  sum_split 3 3 rfl fun ky kx => ∑ c : Fin 128, padAt 56 f n c.val (1 * y + ky) (1 * x + kx) * w o c.val ky kx

/-- The third kernel is the third convolution with its bias, laid out flat. -/
theorem K2_layer (X : ℕ → ℕ → EReal) (w : ℕ → ℕ → ℕ → EReal) (b b' m : ℕ → EReal) (f w' : N4) (n p o : ℕ)
    (hX : ∀ p c, p < 3448 → c < 128 → X p c = flatAt f n p c)
    (hw : ∀ t c, t < 9 → c < 128 → w t c o = w' o c (t / 3) (t % 3)) (hm : m p = if Inner p then 1 else 0) (hb : b o = b' o) :
    K2 X w b m p o = flatAt (addB (conv 1 3 128 56 f w') b') n p o := by
  unfold K2
  rw [hb]
  by_cases h : Inner p
  · rw [if_pos h.range, hm, if_pos h, mul_one, flatAt_inner _ _ _ h]
    unfold addB
    rw [← taps_conv]
    refine congrArg (· + b' o) (Finset.sum_congr rfl fun t _ => Finset.sum_congr rfl fun c _ => ?_)
    rw [hX _ _ (by have := h.range; have := t.isLt; unfold tapOff; omega) c.isLt, flatAt_tap _ _ _ _ t.isLt h, hw _ _ t.isLt c.isLt]
  · rw [hm, if_neg h, mul_zero, flatAt_outer _ _ _ h, ite_self]

/-- The residual block at an inner position of a flat image is the residual block of the layer. -/
theorem resF_layer (X : ℕ → ℕ → EReal) (w1 : ℕ → ℕ → ℕ → EReal) (w2 : ℕ → ℕ → EReal) (f w1' w2' : N4) (n p o : ℕ) (ho : o < 128)
    (hX : ∀ p c, p < 3448 → c < 128 → X p c = flatAt f n p c)
    (hw1 : ∀ t c h, t < 9 → c < 128 → h < 32 → w1 t c h = w1' h c (t / 3) (t % 3)) (hw2 : ∀ h o, h < 32 → o < 128 → w2 h o = w2' o h 0 0)
    (h : Inner p) : resF X w1 w2 p o = res f w1' w2' n o ((p - 8) / 58 - 1) ((p - 8) % 58 - 1) := by
  unfold resF res conv1 reluN
  rw [hX _ _ (by have := h.range; omega) ho, flatAt_inner _ _ _ h]
  refine congrArg₂ (· + ·) rfl (Finset.sum_congr rfl fun k _ => ?_)
  rw [hw2 _ _ k.isLt ho, ← taps_conv]
  refine congrArg (relu · * _) (Finset.sum_congr rfl fun t _ => Finset.sum_congr rfl fun c _ => ?_)
  rw [hX _ _ (by have := h.range; have := t.isLt; unfold tapOff; omega) c.isLt, flatAt_tap _ _ _ _ t.isLt h, relu_padAt,
    hw1 _ _ _ t.isLt c.isLt k.isLt]
  rfl

/-- The fourth kernel is the first residual block, laid out flat. -/
theorem K3_layer (X : ℕ → ℕ → EReal) (w1 : ℕ → ℕ → ℕ → EReal) (w2 : ℕ → ℕ → EReal) (m : ℕ → EReal) (f w1' w2' : N4) (n p o : ℕ) (ho : o < 128)
    (hX : ∀ p c, p < 3448 → c < 128 → X p c = flatAt f n p c)
    (hw1 : ∀ t c h, t < 9 → c < 128 → h < 32 → w1 t c h = w1' h c (t / 3) (t % 3)) (hw2 : ∀ h o, h < 32 → o < 128 → w2 h o = w2' o h 0 0)
    (hm : m p = if Inner p then 1 else 0) :
    K3 X w1 w2 m p o = flatAt (res f w1' w2') n p o := by
  unfold K3
  by_cases h : Inner p
  · rw [if_pos h.range, hm, if_pos h, mul_one, flatAt_inner _ _ _ h, resF_layer X w1 w2 f w1' w2' n p o ho hX hw1 hw2 h]
  · rw [hm, if_neg h, mul_zero, flatAt_outer _ _ _ h, ite_self]

/-- The fifth kernel at an inner position is the second residual block, rectified, under the one by one convolution. -/
theorem K4_layer (X : ℕ → ℕ → EReal) (w1 : ℕ → ℕ → ℕ → EReal) (w2 pw : ℕ → ℕ → EReal) (pb pb' : ℕ → EReal) (f w1' w2' pw' : N4) (n p o : ℕ)
    (hX : ∀ p c, p < 3448 → c < 128 → X p c = flatAt f n p c)
    (hw1 : ∀ t c h, t < 9 → c < 128 → h < 32 → w1 t c h = w1' h c (t / 3) (t % 3)) (hw2 : ∀ h o, h < 32 → o < 128 → w2 h o = w2' o h 0 0)
    (hpw : ∀ c, c < 128 → pw c o = pw' o c 0 0) (h : Inner p) (hb : pb o = pb' o) :
    K4 X w1 w2 pw pb p o = addB (conv1 128 (reluN (res f w1' w2')) pw') pb' n o ((p - 8) / 58 - 1) ((p - 8) % 58 - 1) := by
  unfold K4 addB conv1
  rw [if_pos h.range, hb]
  refine congrArg (· + pb' o) (Finset.sum_congr rfl fun c _ => ?_)
  rw [resF_layer X w1 w2 f w1' w2' n p c.val c.isLt hX hw1 hw2 h, hpw _ c.isLt]
  rfl

end Cert.KernelIdeal.Val

end
-- ==== Proof.KernelIdeal.Layer1.lean ====
module
public import proofs.«01_k».proof.Proof.KernelIdeal.Run
public import proofs.«01_k».proof.Proof.KernelIdeal.Flat
public import proofs.«01_k».proof.Proof.Net
public import Idealize.ShloMosaic.Lib.StableHlo.RunRead

/-!
# The first layer

What the host leaves in the inputs of the first kernel, and with it what that kernel leaves: row `y*112 + x` of the output
is the layer at `(y, x)`.
-/

@[expose] public section

set_option maxRecDepth 16384

noncomputable section

namespace Cert.KernelIdeal.Val

open Cert.KernelIdeal Cert.KernelIdeal.Gen Cert.KernelIdeal.Run Cert.Spec
open Idealize.ShloMosaic Idealize.ShloMosaic.TcCoe Idealize.ShloMosaic.Tactic

section Stretches

variable (V : Valuation τ sig (Elt Ideal))

theorem ops0_v0 : StableHlo.after (hostOps0 (F := Ideal)) V (Proc.devRef .tc main_v0)
    = transpose S8x224x224x1 [0, 2, 3, 1] (V (Proc.devRef .tc main_arg0) : FVec Ideal S8x1x224x224 .f32) transposes_S8x1x224x224_S8x224x224x1_0_2_3_1 := by
  after_reads_simp

theorem ops0_c : StableHlo.after (hostOps0 (F := Ideal)) V (Proc.devRef .tc main_c) = constantI S_ 32 0#32 := by
  after_reads_simp

theorem ops0_1_v1 : StableHlo.after (hostOps0_1 (F := Ideal)) V (Proc.devRef .tc main_v1)
    = pad S8x226x226x1 ![0, 1, 1, 0] ![0, 1, 1, 0] ![0, 0, 0, 0] (V (Proc.devRef .tc main_v0) : FVec Ideal S8x224x224x1 .f32)
        (sitofp (F := Ideal) .f32 (V (Proc.devRef .tc main_c) : IVec S_ 32)) pads_S8x224x224x1_S8x226x226x1_000_110_110_000 h_S_ := by
  after_reads_simp
  rfl

theorem ops0_2_v24 : StableHlo.after (hostOps0_2 (F := Ideal)) V (Proc.devRef .tc main_v24) = cols1 (V (Proc.devRef .tc main_v1)) := by
  after_reads_simp
  dsimp only [Matrix.cons_val]
  refine congrArg (fun z => shapeCast S8x12544x16 z shapeCasts_S8x112x112x16_S8x12544x16)
    (cat16_eq S8x112x112x16 3 _ _ ?_ ?_ ?_ ?_ ?_ ?_ ?_ ?_ ?_ ?_ ?_ ?_ ?_ ?_ ?_ ?_)
  all_goals
    after_reads_simp
    rfl

theorem ops0_2_v23 : StableHlo.after (hostOps0_2 (F := Ideal)) V (Proc.devRef .tc main_v23)
    = shapeCast S1x16x64 (transpose S4x4x1x64 [2, 3, 1, 0] (V (Proc.devRef .tc main_arg1) : FVec Ideal S64x1x4x4 .f32)
        transposes_S64x1x4x4_S4x4x1x64_2_3_1_0) shapeCasts_S4x4x1x64_S1x16x64 := by
  after_reads_simp
  rfl

theorem ops0_2_v25 : StableHlo.after (hostOps0_2 (F := Ideal)) V (Proc.devRef .tc main_v25)
    = shapeCast S1x64 (V (Proc.devRef .tc main_arg2) : FVec Ideal S64 .f32) shapeCasts_S64_S1x64 := by
  after_reads_simp
  rfl

end Stretches

variable (m : (ℓ : Loc nD τ sig) → Buf (Elt Ideal) ℓ) (ρ : Dev nD → PrngReg) (c : Dev nD)

/-- The arguments in memory, at natural coordinates. -/
def args : In :=
  In.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13))

/-- The padding value, the integer zero made a float, is zero. -/
theorem zero_pad (v : IVec S_ 32) (hv : v = constantI S_ 32 0#32) (i : S_.Idx) : sitofp (F := Ideal) .f32 v i = 0 := by
  subst hv
  simp [sitofp, constantI, FloatOps.sitofp]

/-- The padded input. -/
theorem W2_v1 (i : S8x226x226x1.Idx) : (W2 m ρ c (Proc.devRef .tc main_v1) : FVec Ideal S8x226x226x1 .f32) i
    = padAt 224 (args m c).x (i 0).val (i 3).val (i 1).val (i 2).val := by
  have e : W2 m ρ c (Proc.devRef .tc main_v1) = _ := ops0_1_v1 (W1 m ρ c)
  rw [e]
  refine pad_nhwc 224 226 1 rfl _ _ (zero_pad _ (ops0_c _)) _ _ _ (fun n y x k hn hy hx hk => ?_) i
  have e0 : W1 m ρ c (Proc.devRef .tc main_v0) = _ := ops0_v0 (W0 m ρ c)
  rw [e0, rdi4 _ n y x k hn hy hx hk]
  pointwise
  exact rd4 _ n k y x _ rfl rfl rfl rfl

/-- The first layer. -/
theorem W4_v26 (n p o : ℕ) (hn : n < 8) (hp : p < 12544) (ho : o < 64) :
    rd (s := S8x12544x64) (W4 m ρ c (Proc.devRef .tc main_v26)) ![n, p, o] = (args m c).h1 n o (p / 112) (p % 112) := by
  have e : W4 m ρ c (Proc.devRef .tc main_v26) = _ := (W4_arr m ρ c 3).trans (arr0 (V3 m ρ) c _ _ _ (ops0_2_v24 (W2 m ρ c)) (ops0_2_v23 (W2 m ρ c)) (ops0_2_v25 (W2 m ρ c)))
  rw [e, rdi3 _ n p o hn hp ho]
  refine K0_layer _ _ _ _ _ _ n p o (fun q hq => ?_) (fun q hq => ?_) ?_
  · rw [rdi3 _ _ p q (by exact hn) hp hq, cols1_apply]
    refine (rdi4 (n0 := 8) (n1 := 226) (n2 := 226) (n3 := 1) _ _ _ _ _ hn ?_ ?_ ?_).trans (W2_v1 m ρ c _) <;> simp only [ix3] <;> omega
  · rw [rdi3 _ 0 q o (by omega) hq ho, wcol1_apply]
    rw [W2_args m ρ c main_arg1 (by decide)]
    rfl
  · rw [rdi2 _ 0 o (by omega) ho]
    pointwise
    rw [W2_args m ρ c main_arg2 (by decide)]
    exact rd1 _ o _ rfl

end Cert.KernelIdeal.Val

end
-- ==== Proof.KernelIdeal.Layer2.lean ====
module
public import proofs.«01_k».proof.Proof.KernelIdeal.Run
public import proofs.«01_k».proof.Proof.KernelIdeal.Layer1
public import Idealize.ShloMosaic.Lib.StableHlo.RunRead

/-!
# The second layer

What the host leaves in the inputs of the second kernel, and with it what that kernel leaves: row `y*56 + x` of the output
is the layer at `(y, x)`.
-/

@[expose] public section

set_option maxRecDepth 16384

noncomputable section

namespace Cert.KernelIdeal.Val

open Cert.KernelIdeal Cert.KernelIdeal.Gen Cert.KernelIdeal.Run Cert.Spec
open Idealize.ShloMosaic Idealize.ShloMosaic.TcCoe Idealize.ShloMosaic.Tactic

section Stretches

variable (V : Valuation τ sig (Elt Ideal))

theorem ops1_v27 : StableHlo.after (hostOps1 (F := Ideal)) V (Proc.devRef .tc main_v27)
    = shapeCast S8x112x112x64 (V (Proc.devRef .tc main_v26) : FVec Ideal S8x12544x64 .f32) shapeCasts_S8x12544x64_S8x112x112x64 := by
  after_reads_simp
  rfl

theorem ops1_c : StableHlo.after (hostOps1 (F := Ideal)) V (Proc.devRef .tc main_c_0) = constantI S_ 32 0#32 := by
  after_reads_simp

theorem ops1_1_v28 : StableHlo.after (hostOps1_1 (F := Ideal)) V (Proc.devRef .tc main_v28)
    = pad S8x114x114x64 ![0, 1, 1, 0] ![0, 1, 1, 0] ![0, 0, 0, 0] (V (Proc.devRef .tc main_v27) : FVec Ideal S8x112x112x64 .f32)
        (sitofp (F := Ideal) .f32 (V (Proc.devRef .tc main_c_0) : IVec S_ 32)) pads_S8x112x112x64_S8x114x114x64_000_110_110_000 h_S_ := by
  after_reads_simp
  rfl

theorem ops1_2_v51 : StableHlo.after (hostOps1_2 (F := Ideal)) V (Proc.devRef .tc main_v51) = cols2 (V (Proc.devRef .tc main_v28)) := by
  after_reads_simp
  dsimp only [Matrix.cons_val]
  refine congrArg (fun z => shapeCast S8x3136x1024 z shapeCasts_S8x56x56x1024_S8x3136x1024)
    (cat16_eq S8x56x56x1024 3 _ _ ?_ ?_ ?_ ?_ ?_ ?_ ?_ ?_ ?_ ?_ ?_ ?_ ?_ ?_ ?_ ?_)
  all_goals
    after_reads_simp
    rfl

theorem ops1_2_v50 : StableHlo.after (hostOps1_2 (F := Ideal)) V (Proc.devRef .tc main_v50)
    = shapeCast S1x1024x128 (transpose S4x4x64x128 [2, 3, 1, 0] (V (Proc.devRef .tc main_arg3) : FVec Ideal S128x64x4x4 .f32)
        transposes_S128x64x4x4_S4x4x64x128_2_3_1_0) shapeCasts_S4x4x64x128_S1x1024x128 := by
  after_reads_simp
  rfl

theorem ops1_2_v52 : StableHlo.after (hostOps1_2 (F := Ideal)) V (Proc.devRef .tc main_v52)
    = shapeCast S1x128 (V (Proc.devRef .tc main_arg4) : FVec Ideal S128 .f32) shapeCasts_S128_S1x128 := by
  after_reads_simp
  rfl

end Stretches

variable (m : (ℓ : Loc nD τ sig) → Buf (Elt Ideal) ℓ) (ρ : Dev nD → PrngReg) (c : Dev nD)

/-- The padded first layer. -/
theorem W6_v28 (i : S8x114x114x64.Idx) : (W6 m ρ c (Proc.devRef .tc main_v28) : FVec Ideal S8x114x114x64 .f32) i
    = padAt 112 (args m c).h1 (i 0).val (i 3).val (i 1).val (i 2).val := by
  have e : W6 m ρ c (Proc.devRef .tc main_v28) = _ := ops1_1_v28 (W5 m ρ c)
  rw [e]
  refine pad_nhwc 112 114 64 rfl _ _ (zero_pad _ (ops1_c _)) _ _ _ (fun n y x k hn hy hx hk => ?_) i
  have e0 : W5 m ρ c (Proc.devRef .tc main_v27) = _ := ops1_v27 (W4 m ρ c)
  rw [e0, rdi4 _ n y x k hn hy hx hk]
  pointwise
  refine (rd3 _ n (y * 112 + x) k _ rfl ?_ rfl).trans ((W4_v26 m ρ c n (y * 112 + x) k hn (by omega) hk).trans ?_)
  · simp only [ix3]
  · congr 1 <;> omega

/-- The second layer. -/
theorem W8_v53 (n p o : ℕ) (hn : n < 8) (hp : p < 3136) (ho : o < 128) :
    rd (s := S8x3136x128) (W8 m ρ c (Proc.devRef .tc main_v53)) ![n, p, o] = (args m c).h2 n o (p / 56) (p % 56) := by
  have e : W8 m ρ c (Proc.devRef .tc main_v53) = _ := (W8_arr m ρ c 3).trans (arr1 (V7 m ρ) c _ _ _ (ops1_2_v51 (W6 m ρ c)) (ops1_2_v50 (W6 m ρ c)) (ops1_2_v52 (W6 m ρ c)))
  rw [e, rdi3 _ n p o hn hp ho]
  refine K1_layer _ _ _ _ _ _ n p o (fun q hq => ?_) (fun q hq => ?_) ?_
  · rw [rdi3 _ _ p q (by exact hn) hp hq, cols2_apply]
    refine (rdi4 (n0 := 8) (n1 := 114) (n2 := 114) (n3 := 64) _ _ _ _ _ hn ?_ ?_ ?_).trans (W6_v28 m ρ c _) <;> simp only [ix3] <;> omega
  · rw [rdi3 _ 0 q o (by omega) hq ho, wcol2_apply]
    rw [W6_args m ρ c main_arg3 (by decide)]
    rfl
  · rw [rdi2 _ 0 o (by omega) ho]
    pointwise
    rw [W6_args m ρ c main_arg4 (by decide)]
    exact rd1 _ o _ rfl

end Cert.KernelIdeal.Val

end
-- ==== Proof.KernelIdeal.Mask.lean ====
module
public import proofs.«01_k».proof.Proof.KernelIdeal.Layer2
public import Idealize.ShloMosaic.Lib.Routing.OpsSet
public import Idealize.ShloMosaic.Lib.Routing.OpsPair

/-!
# Flat images and their mask

The host lays an image of 56 by 56 positions out flat: padded by one, its rows of 58 one after another, 8 positions in front
and 76 behind.  The mask is made by writing a square of ones into a square of zeros; laid out the same way it is one at the
positions of the image and zero elsewhere.
-/

@[expose] public section

set_option maxRecDepth 16384

noncomputable section

namespace Cert.KernelIdeal.Val

open Cert.KernelIdeal Cert.KernelIdeal.Gen Cert.KernelIdeal.Run Cert.Spec
open Idealize.ShloMosaic Idealize.ShloMosaic.TcCoe Idealize.ShloMosaic.Tactic Idealize.ShloMosaic.Routing

/-- The corner at which the square of ones is written: one, one. -/
def corner : IVec S2 32 :=
  concatenate S2 0 [⟨S1, broadcastInDim S1 ![] bcast_S_S1 (constantI S_ 32 1#32)⟩, ⟨S1, broadcastInDim S1 ![] bcast_S_S1 (constantI S_ 32 1#32)⟩] concatenates_S1_S1_S2_d0

theorem corner_apply (i : S2.Idx) : corner i = 1#32 := by
  unfold corner
  pointwise
  exact ite_self _

/-- The mask, as a square. -/
def maskSq : FVec Ideal S58x58 .f32 :=
  Host.scatter scatter_S58x58_S2_S56x56_01_n_01_0 (fun _ b => b)
    (broadcastInDim S58x58 ![] bcast_S_S58x58 (constant (F := Ideal) S_ .f32 0x00000000#32)) corner
    (broadcastInDim S56x56 ![] bcast_S_S56x56 (constant (F := Ideal) S_ .f32 0x3F800000#32))

theorem start_corner (k : S56x56.Idx) (a : Fin 2) : scatter_S58x58_S2_S56x56_01_n_01_0.start k corner a = 1 := by
  unfold ScatterDims.start
  rw [dif_pos (by fin_cases a <;> decide), corner_apply]
  rfl

theorem window_corner (k : S56x56.Idx) (a : Fin 2) : scatter_S58x58_S2_S56x56_01_n_01_0.window k a = (k a).val := by
  fin_cases a <;> rfl

/-- One inside the frame of width one, zero on it. -/
theorem maskSq_apply (i : S58x58.Idx) : maskSq i = if 1 ≤ (i 0).val ∧ (i 0).val ≤ 56 ∧ 1 ≤ (i 1).val ∧ (i 1).val ≤ 56 then 1 else 0 := by
  unfold maskSq
  split
  · rename_i h
    refine scatter_set_hit _ _ _ _ i 1 (fun k _ => ?_) (ix2 (n0 := 56) (n1 := 56) ⟨(i 0).val - 1, by omega⟩ ⟨(i 1).val - 1, by omega⟩) ?_
    · pointwise
    · rw [resultIdx?_eq_some]
      intro a
      rw [start_corner, window_corner]
      fin_cases a
      · show (1 : ℤ) + (((i 0).val - 1 : ℕ) : ℤ) = ((i 0).val : ℤ); omega
      · show (1 : ℤ) + (((i 1).val - 1 : ℕ) : ℤ) = ((i 1).val : ℤ); omega
  · rename_i h
    rw [scatter_set_miss]
    · pointwise
    · intro k hk
      rw [resultIdx?_eq_some] at hk
      have k0 := hk 0
      have k1 := hk 1
      rw [start_corner, window_corner] at k0 k1
      have l0 : (k 0).val < 56 := (k 0).isLt
      have l1 : (k 1).val < 56 := (k 1).isLt
      omega

/-- Eight positions in front and 76 behind, one column. -/
theorem pad_col (A : FVec Ideal S3364x1 .f32) (v : S_.Idx → EReal) (hv : ∀ i, v i = 0) (p : ℕ) (hp : p < 3448) :
    rd (s := S3448x1) (pad S3448x1 ![8, 0] ![76, 0] ![0, 0] A v pads_S3364x1_S3448x1_8760_000 h_S_) ![p, 0]
      = if 8 ≤ p ∧ p < 3372 then rd (s := S3364x1) A ![p - 8, 0] else 0 := by
  rw [rdi2 _ p 0 hp (by omega)]
  split
  · rename_i h
    rw [rdi2 _ (p - 8) 0 (by omega) (by omega)]
    exact pad_apply_of_inside ![8, 0] ![76, 0] ![0, 0] A v _ _ (ix2 (n0 := 3448) (n1 := 1) ⟨p, hp⟩ ⟨0, by omega⟩)
      (ix2 (n0 := 3364) (n1 := 1) ⟨p - 8, by omega⟩ ⟨0, by omega⟩) fun a => by
      fin_cases a
      · show p = 8 + (p - 8) * (0 + 1); omega
      · rfl
  · rename_i h
    rw [pad_apply_of_not_inside ![8, 0] ![76, 0] ![0, 0] A v _ _ _ 0 fun g => h ?_, hv]
    obtain ⟨g1, -, g2⟩ := g
    change 8 ≤ p at g1
    change (p - 8) / (0 + 1) < 3364 at g2
    omega

/-- Eight rows in front and 76 behind, 128 channels. -/
theorem pad_rows (A : FVec Ideal S8x3364x128 .f32) (v : S_.Idx → EReal) (hv : ∀ i, v i = 0) (n p c : ℕ) (hn : n < 8) (hp : p < 3448) (hc : c < 128) :
    rd (s := S8x3448x128) (pad S8x3448x128 ![0, 8, 0] ![0, 76, 0] ![0, 0, 0] A v pads_S8x3364x128_S8x3448x128_000_8760_000 h_S_) ![n, p, c]
      = if 8 ≤ p ∧ p < 3372 then rd (s := S8x3364x128) A ![n, p - 8, c] else 0 := by
  rw [rdi3 _ n p c hn hp hc]
  split
  · rename_i h
    rw [rdi3 _ n (p - 8) c hn (by omega) hc]
    exact pad_apply_of_inside ![0, 8, 0] ![0, 76, 0] ![0, 0, 0] A v _ _ (ix3 (n0 := 8) (n1 := 3448) (n2 := 128) ⟨n, hn⟩ ⟨p, hp⟩ ⟨c, hc⟩)
      (ix3 (n0 := 8) (n1 := 3364) (n2 := 128) ⟨n, hn⟩ ⟨p - 8, by omega⟩ ⟨c, hc⟩) fun a => by
      fin_cases a
      · show n = 0 + n * (0 + 1); omega
      · show p = 8 + (p - 8) * (0 + 1); omega
      · show c = 0 + c * (0 + 1); omega
  · rename_i h
    rw [pad_apply_of_not_inside ![0, 8, 0] ![0, 76, 0] ![0, 0, 0] A v _ _ _ 1 fun g => h ?_, hv]
    obtain ⟨g1, -, g2⟩ := g
    change 8 ≤ p at g1
    change (p - 8) / (0 + 1) < 3364 at g2
    omega

/-- The mask as the kernels read it. -/
theorem maskCol_apply (v : S_.Idx → EReal) (hv : ∀ i, v i = 0) (p : ℕ) (hp : p < 3448) :
    rd (s := S3448x1) (pad S3448x1 ![8, 0] ![76, 0] ![0, 0] (shapeCast S3364x1 maskSq shapeCasts_S58x58_S3364x1) v pads_S3364x1_S3448x1_8760_000 h_S_) ![p, 0]
      = if Inner p then 1 else 0 := by
  rw [pad_col _ v hv p hp]
  split
  · rename_i h
    rw [rdi2 _ (p - 8) 0 (by omega) (by omega)]
    pointwise
    rw [maskSq_apply]
    simp only [ix2]
    exact if_congr (by unfold Inner; omega) rfl rfl
  · rw [if_neg fun g => by unfold Inner at g; omega]

/-- Three by three weights to 128 channels, one tap after another. -/
theorem wtap128_apply (w : FVec Ideal S128x128x3x3 .f32) (t c o : ℕ) (ht : t < 9) (hc : c < 128) (ho : o < 128) :
    rd (s := S9x128x128) (shapeCast S9x128x128 (transpose S3x3x128x128 [2, 3, 1, 0] w transposes_S128x128x3x3_S3x3x128x128_2_3_1_0)
      shapeCasts_S3x3x128x128_S9x128x128) ![t, c, o] = rd w ![o, c, t / 3, t % 3] := by
  rw [rdi3 _ t c o ht hc ho]
  pointwise
  exact rd4 w _ _ _ _ _ rfl rfl rfl rfl

/-- Three by three weights to 32 channels, one tap after another. -/
theorem wtap32_apply (w : FVec Ideal S32x128x3x3 .f32) (t c o : ℕ) (ht : t < 9) (hc : c < 128) (ho : o < 32) :
    rd (s := S9x128x32) (shapeCast S9x128x32 (transpose S3x3x128x32 [2, 3, 1, 0] w transposes_S32x128x3x3_S3x3x128x32_2_3_1_0)
      shapeCasts_S3x3x128x32_S9x128x32) ![t, c, o] = rd w ![o, c, t / 3, t % 3] := by
  rw [rdi3 _ t c o ht hc ho]
  pointwise
  exact rd4 w _ _ _ _ _ rfl rfl rfl rfl

/-- One by one weights from 32 to 128 channels, transposed. -/
theorem w1x1_apply (w : FVec Ideal S128x32x1x1 .f32) (h o : ℕ) (hh : h < 32) (ho : o < 128) :
    rd (s := S32x128) (transpose S32x128 [1, 0] (shapeCast S128x32 w shapeCasts_S128x32x1x1_S128x32) transposes_S128x32_S32x128_1_0) ![h, o]
      = rd w ![o, h, 0, 0] := by
  rw [rdi2 _ h o hh ho]
  pointwise
  exact rd4 w _ _ _ _ _ rfl rfl rfl rfl

end Cert.KernelIdeal.Val

end
-- ==== Proof.KernelIdeal.Layer3.lean ====
module
public import proofs.«01_k».proof.Proof.KernelIdeal.Run
public import proofs.«01_k».proof.Proof.KernelIdeal.Mask
public import Idealize.ShloMosaic.Lib.StableHlo.RunRead

/-!
# The third layer

The second layer laid out flat, the mask, the third kernel's weights, and with them what the third kernel leaves: the third
layer laid out flat.
-/

@[expose] public section

set_option maxRecDepth 16384

noncomputable section

namespace Cert.KernelIdeal.Val

open Cert.KernelIdeal Cert.KernelIdeal.Gen Cert.KernelIdeal.Run Cert.Spec
open Idealize.ShloMosaic Idealize.ShloMosaic.TcCoe Idealize.ShloMosaic.Tactic

section Stretches

variable (V : Valuation τ sig (Elt Ideal))

theorem ops2_v54 : StableHlo.after (hostOps2 (F := Ideal)) V (Proc.devRef .tc main_v54)
    = shapeCast S8x56x56x128 (V (Proc.devRef .tc main_v53) : FVec Ideal S8x3136x128 .f32) shapeCasts_S8x3136x128_S8x56x56x128 := by
  after_reads_simp
  rfl

theorem ops2_c : StableHlo.after (hostOps2 (F := Ideal)) V (Proc.devRef .tc main_c_1)
    = constantI S_ 32 0#32 := by
  after_reads_simp

theorem ops2_1_v55 : StableHlo.after (hostOps2_1 (F := Ideal)) V (Proc.devRef .tc main_v55)
    = pad S8x58x58x128 ![0, 1, 1, 0] ![0, 1, 1, 0] ![0, 0, 0, 0] (V (Proc.devRef .tc main_v54) : FVec Ideal S8x56x56x128 .f32)
        (sitofp (F := Ideal) .f32 (V (Proc.devRef .tc main_c_1) : IVec S_ 32)) pads_S8x56x56x128_S8x58x58x128_000_110_110_000 h_S_ := by
  after_reads_simp
  rfl

theorem ops2_2_v56 : StableHlo.after (hostOps2_2 (F := Ideal)) V (Proc.devRef .tc main_v56)
    = shapeCast S8x3364x128 (V (Proc.devRef .tc main_v55) : FVec Ideal S8x58x58x128 .f32) shapeCasts_S8x58x58x128_S8x3364x128 := by
  after_reads_simp
  rfl

theorem ops2_2_c : StableHlo.after (hostOps2_2 (F := Ideal)) V (Proc.devRef .tc main_c_2)
    = constantI S_ 32 0#32 := by
  after_reads_simp

theorem ops2_3_v57 : StableHlo.after (hostOps2_3 (F := Ideal)) V (Proc.devRef .tc main_v57)
    = pad S8x3448x128 ![0, 8, 0] ![0, 76, 0] ![0, 0, 0] (V (Proc.devRef .tc main_v56) : FVec Ideal S8x3364x128 .f32)
        (sitofp (F := Ideal) .f32 (V (Proc.devRef .tc main_c_2) : IVec S_ 32)) pads_S8x3364x128_S8x3448x128_000_8760_000 h_S_ := by
  after_reads_simp
  rfl

theorem ops2_4_v59 : StableHlo.after (hostOps2_4 (F := Ideal)) V (Proc.devRef .tc main_v59)
    = shapeCast S9x128x128 (transpose S3x3x128x128 [2, 3, 1, 0] (V (Proc.devRef .tc main_arg5) : FVec Ideal S128x128x3x3 .f32)
        transposes_S128x128x3x3_S3x3x128x128_2_3_1_0) shapeCasts_S3x3x128x128_S9x128x128 := by
  after_reads_simp
  rfl

theorem ops2_4_v60 : StableHlo.after (hostOps2_4 (F := Ideal)) V (Proc.devRef .tc main_v60)
    = shapeCast S1x128 (V (Proc.devRef .tc main_arg6) : FVec Ideal S128 .f32) shapeCasts_S128_S1x128 := by
  after_reads_simp
  rfl

theorem ops2_4_v67 : StableHlo.after (hostOps2_4 (F := Ideal)) V (Proc.devRef .tc main_v67)
    = shapeCast S3364x1 maskSq shapeCasts_S58x58_S3364x1 := by
  after_reads_simp
  rfl

theorem ops2_4_c : StableHlo.after (hostOps2_4 (F := Ideal)) V (Proc.devRef .tc main_c_6)
    = constantI S_ 32 0#32 := by
  after_reads_simp

theorem ops2_5_v68 : StableHlo.after (hostOps2_5 (F := Ideal)) V (Proc.devRef .tc main_v68)
    = pad S3448x1 ![8, 0] ![76, 0] ![0, 0] (V (Proc.devRef .tc main_v67) : FVec Ideal S3364x1 .f32)
        (sitofp (F := Ideal) .f32 (V (Proc.devRef .tc main_c_6) : IVec S_ 32)) pads_S3364x1_S3448x1_8760_000 h_S_ := by
  after_reads_simp
  rfl

end Stretches

variable (m : (ℓ : Loc nD τ sig) → Buf (Elt Ideal) ℓ) (ρ : Dev nD → PrngReg) (c : Dev nD)

/-- The padded second layer. -/
theorem W10_v55 (i : S8x58x58x128.Idx) : (W10 m ρ c (Proc.devRef .tc main_v55) : FVec Ideal S8x58x58x128 .f32) i
    = padAt 56 (args m c).h2 (i 0).val (i 3).val (i 1).val (i 2).val := by
  have e : W10 m ρ c (Proc.devRef .tc main_v55) = _ := ops2_1_v55 (W9 m ρ c)
  rw [e]
  refine pad_nhwc 56 58 128 rfl _ _ (zero_pad _ (ops2_c _)) _ _ _ (fun n y x k hn hy hx hk => ?_) i
  have e0 : W9 m ρ c (Proc.devRef .tc main_v54) = _ := ops2_v54 (W8 m ρ c)
  rw [e0, rdi4 _ n y x k hn hy hx hk]
  pointwise
  refine (rd3 _ n (y * 56 + x) k _ rfl ?_ rfl).trans ((W8_v53 m ρ c n (y * 56 + x) k hn (by omega) hk).trans ?_)
  · simp only [ix3]
  · congr 1 <;> omega

/-- The second layer laid out flat. -/
theorem W12_v57 (n p k : ℕ) (hn : n < 8) (hp : p < 3448) (hk : k < 128) :
    rd (s := S8x3448x128) (W12 m ρ c (Proc.devRef .tc main_v57)) ![n, p, k] = flatAt (args m c).h2 n p k := by
  have e : W12 m ρ c (Proc.devRef .tc main_v57) = _ := ops2_3_v57 (W11 m ρ c)
  rw [e, pad_rows _ _ (zero_pad _ (ops2_2_c _)) n p k hn hp hk]
  have e0 : W11 m ρ c (Proc.devRef .tc main_v56) = _ := ops2_2_v56 (W10 m ρ c)
  by_cases h : 8 ≤ p ∧ p < 3372
  · rw [if_pos h, e0, rdi3 _ n (p - 8) k hn (by omega) hk]
    pointwise
    rw [W10_v55]
    unfold flatAt
    rw [if_pos h.1]
    simp only [ix4]
  · rw [if_neg h, flatAt_outer _ _ _ (fun g => by unfold Inner at g; omega)]

/-- The mask in front of the third kernel. -/
theorem W14_v68 (p : ℕ) (hp : p < 3448) :
    rd (s := S3448x1) (W14 m ρ c (Proc.devRef .tc main_v68)) ![p, 0] = if Inner p then 1 else 0 := by
  have e : W14 m ρ c (Proc.devRef .tc main_v68) = _ := ops2_5_v68 (W13 m ρ c)
  have e0 : W13 m ρ c (Proc.devRef .tc main_v67) = _ := ops2_4_v67 (W12 m ρ c)
  rw [e, e0]
  exact maskCol_apply _ (zero_pad _ (ops2_4_c _)) p hp

/-- The third layer. -/
theorem W15_v69 (n p o : ℕ) (hn : n < 8) (hp : p < 3448) (ho : o < 128) :
    rd (s := S8x3448x128) (W15 m ρ c (Proc.devRef .tc main_v69)) ![n, p, o] = flatAt (args m c).h3 n p o := by
  have e : W15 m ρ c (Proc.devRef .tc main_v69) = _ := (W15_arr m ρ c 4).trans (arr2 (V14 m ρ) c _ _ _ _
    ((W14_of m ρ c main_v57 (by decide)).trans (W13_of m ρ c main_v57 (by decide)))
    ((W14_of m ρ c main_v59 (by decide)).trans (ops2_4_v59 (W12 m ρ c)))
    ((W14_of m ρ c main_v60 (by decide)).trans (ops2_4_v60 (W12 m ρ c))) rfl)
  rw [e, rdi3 _ n p o hn hp ho]
  refine K2_layer _ _ _ _ _ _ _ n p o (fun p k hp hk => W12_v57 m ρ c n p k hn hp hk) (fun t k ht hk => ?_) (W14_v68 m ρ c p hp) ?_
  · refine (wtap128_apply _ t k o ht hk ho).trans ?_
    rw [W12_args m ρ c main_arg5 (by decide)]
    rfl
  · refine (rdi2 _ 0 o (by omega) ho).trans ?_
    pointwise
    rw [W12_args m ρ c main_arg6 (by decide)]
    exact rd1 _ o _ rfl

end Cert.KernelIdeal.Val

end
-- ==== Proof.KernelIdeal.Layer4.lean ====
module
public import proofs.«01_k».proof.Proof.KernelIdeal.Run
public import proofs.«01_k».proof.Proof.KernelIdeal.Layer3
public import Idealize.ShloMosaic.Lib.StableHlo.RunRead

/-!
# The fourth layer and the quantiser's input

The two residual blocks, and with the second the one by one convolution: what the fourth and the fifth kernel leave, and the
rows that the host then cuts out for the quantiser.
-/

@[expose] public section

set_option maxRecDepth 16384

noncomputable section

namespace Cert.KernelIdeal.Val

open Cert.KernelIdeal Cert.KernelIdeal.Gen Cert.KernelIdeal.Run Cert.Spec
open Idealize.ShloMosaic Idealize.ShloMosaic.TcCoe Idealize.ShloMosaic.Tactic

section Stretches

variable (V : Valuation τ sig (Elt Ideal))

theorem ops3_v71 : StableHlo.after (hostOps3 (F := Ideal)) V (Proc.devRef .tc main_v71)
    = shapeCast S9x128x32 (transpose S3x3x128x32 [2, 3, 1, 0] (V (Proc.devRef .tc main_arg7) : FVec Ideal S32x128x3x3 .f32)
        transposes_S32x128x3x3_S3x3x128x32_2_3_1_0) shapeCasts_S3x3x128x32_S9x128x32 := by
  after_reads_simp
  rfl

theorem ops3_v73 : StableHlo.after (hostOps3 (F := Ideal)) V (Proc.devRef .tc main_v73)
    = transpose S32x128 [1, 0] (shapeCast S128x32 (V (Proc.devRef .tc main_arg8) : FVec Ideal S128x32x1x1 .f32) shapeCasts_S128x32x1x1_S128x32)
        transposes_S128x32_S32x128_1_0 := by
  after_reads_simp
  rfl

theorem ops3_v80 : StableHlo.after (hostOps3 (F := Ideal)) V (Proc.devRef .tc main_v80)
    = shapeCast S3364x1 maskSq shapeCasts_S58x58_S3364x1 := by
  after_reads_simp
  rfl

theorem ops3_c : StableHlo.after (hostOps3 (F := Ideal)) V (Proc.devRef .tc main_c_11)
    = constantI S_ 32 0#32 := by
  after_reads_simp

theorem ops3_1_v81 : StableHlo.after (hostOps3_1 (F := Ideal)) V (Proc.devRef .tc main_v81)
    = pad S3448x1 ![8, 0] ![76, 0] ![0, 0] (V (Proc.devRef .tc main_v80) : FVec Ideal S3364x1 .f32)
        (sitofp (F := Ideal) .f32 (V (Proc.devRef .tc main_c_11) : IVec S_ 32)) pads_S3364x1_S3448x1_8760_000 h_S_ := by
  after_reads_simp
  rfl

theorem ops4_v84 : StableHlo.after (hostOps4 (F := Ideal)) V (Proc.devRef .tc main_v84)
    = shapeCast S9x128x32 (transpose S3x3x128x32 [2, 3, 1, 0] (V (Proc.devRef .tc main_arg9) : FVec Ideal S32x128x3x3 .f32)
        transposes_S32x128x3x3_S3x3x128x32_2_3_1_0) shapeCasts_S3x3x128x32_S9x128x32 := by
  after_reads_simp
  rfl

theorem ops4_v86 : StableHlo.after (hostOps4 (F := Ideal)) V (Proc.devRef .tc main_v86)
    = transpose S32x128 [1, 0] (shapeCast S128x32 (V (Proc.devRef .tc main_arg10) : FVec Ideal S128x32x1x1 .f32) shapeCasts_S128x32x1x1_S128x32)
        transposes_S128x32_S32x128_1_0 := by
  after_reads_simp
  rfl

theorem ops4_v88 : StableHlo.after (hostOps4 (F := Ideal)) V (Proc.devRef .tc main_v88)
    = transpose S128x64 [1, 0] (shapeCast S64x128 (V (Proc.devRef .tc main_arg11) : FVec Ideal S64x128x1x1 .f32) shapeCasts_S64x128x1x1_S64x128)
        transposes_S64x128_S128x64_1_0 := by
  after_reads_simp
  rfl

theorem ops4_v89 : StableHlo.after (hostOps4 (F := Ideal)) V (Proc.devRef .tc main_v89)
    = shapeCast S1x64 (V (Proc.devRef .tc main_arg12) : FVec Ideal S64 .f32) shapeCasts_S64_S1x64 := by
  after_reads_simp
  rfl

theorem ops5_v94 : StableHlo.after (hostOps5 (F := Ideal)) V (Proc.devRef .tc main_v94)
    = shapeCast S25088x64 (extractStridedSlice S8x56x56x64 ![0, 1, 1, 0] (shapeCast S8x58x58x64
        (extractStridedSlice S8x3364x64 ![0, 8, 0] (V (Proc.devRef .tc main_v90) : FVec Ideal S8x3448x64 .f32) slices_S8x3448x64_S8x3364x64_0_8_0)
        shapeCasts_S8x3364x64_S8x58x58x64) slices_S8x58x58x64_S8x56x56x64_0_1_1_0) shapeCasts_S8x56x56x64_S25088x64 := by
  after_reads_simp
  rfl

end Stretches

variable (m : (ℓ : Loc nD τ sig) → Buf (Elt Ideal) ℓ) (ρ : Dev nD → PrngReg) (c : Dev nD)

/-- The fourth layer. -/
theorem W18_v82 (n p o : ℕ) (hn : n < 8) (hp : p < 3448) (ho : o < 128) :
    rd (s := S8x3448x128) (W18 m ρ c (Proc.devRef .tc main_v82)) ![n, p, o] = flatAt (args m c).h4 n p o := by
  have e : W18 m ρ c (Proc.devRef .tc main_v82) = _ := (W18_arr m ρ c 4).trans (arr3 (V17 m ρ) c _ _ _ _
    ((W17_of m ρ c main_v69 (by decide)).trans (W16_of m ρ c main_v69 (by decide)))
    ((W17_of m ρ c main_v71 (by decide)).trans (ops3_v71 (W15 m ρ c)))
    ((W17_of m ρ c main_v73 (by decide)).trans (ops3_v73 (W15 m ρ c))) (ops3_1_v81 (W16 m ρ c)))
  have e0 : W16 m ρ c (Proc.devRef .tc main_v80) = _ := ops3_v80 (W15 m ρ c)
  rw [e, rdi3 _ n p o hn hp ho, e0]
  refine K3_layer _ _ _ _ _ _ _ n p o ho (fun p k hp hk => W15_v69 m ρ c n p k hn hp hk) (fun t k h ht hk hh => ?_) (fun h o hh ho => ?_)
    (maskCol_apply _ (zero_pad _ (ops3_c _)) p hp)
  · refine (wtap32_apply _ t k h ht hk hh).trans ?_
    rw [W15_args m ρ c main_arg7 (by decide)]
    rfl
  · refine (w1x1_apply _ h o hh ho).trans ?_
    rw [W15_args m ρ c main_arg8 (by decide)]
    rfl

/-- The quantiser's input on the flat image. -/
theorem W20_v90 (n p o : ℕ) (hn : n < 8) (hp : p < 3448) (ho : o < 64) (h : Inner p) :
    rd (s := S8x3448x64) (W20 m ρ c (Proc.devRef .tc main_v90)) ![n, p, o] = (args m c).z n o ((p - 8) / 58 - 1) ((p - 8) % 58 - 1) := by
  have e : W20 m ρ c (Proc.devRef .tc main_v90) = _ := (W20_arr m ρ c 5).trans (arr4 (V19 m ρ) c _ _ _ _ _
    (W19_of m ρ c main_v82 (by decide)) (ops4_v84 (W18 m ρ c)) (ops4_v86 (W18 m ρ c)) (ops4_v88 (W18 m ρ c)) (ops4_v89 (W18 m ρ c)))
  rw [e, rdi3 _ n p o hn hp ho]
  refine K4_layer _ _ _ _ _ _ _ _ _ _ n p o (fun p k hp hk => W18_v82 m ρ c n p k hn hp hk) (fun t k h ht hk hh => ?_) (fun h o hh ho => ?_)
    (fun k hk => ?_) h ?_
  · refine (wtap32_apply _ t k h ht hk hh).trans ?_
    rw [W18_args m ρ c main_arg9 (by decide)]
    rfl
  · refine (w1x1_apply _ h o hh ho).trans ?_
    rw [W18_args m ρ c main_arg10 (by decide)]
    rfl
  · refine (rdi2 _ k o hk ho).trans ?_
    pointwise
    rw [W18_args m ρ c main_arg11 (by decide)]
    exact rd4 _ o k 0 0 _ rfl rfl rfl rfl
  · refine (rdi2 _ 0 o (by omega) ho).trans ?_
    pointwise
    rw [W18_args m ρ c main_arg12 (by decide)]
    exact rd1 _ o _ rfl

/-- The quantiser's input, one row per position. -/
theorem W21_v94 (r o : ℕ) (hr : r < 25088) (ho : o < 64) :
    rd (s := S25088x64) (W21 m ρ c (Proc.devRef .tc main_v94)) ![r, o] = (args m c).z (r / 3136) o (r / 56 % 56) (r % 56) := by
  have e : W21 m ρ c (Proc.devRef .tc main_v94) = _ := ops5_v94 (W20 m ρ c)
  rw [e, rdi2 _ r o hr ho]
  pointwise
  refine (rd3 _ (r / 3136) (8 + ((1 + r / 56 % 56) * 58 + (1 + r % 56))) o _ rfl rfl rfl).trans
    ((W20_v90 m ρ c _ _ o (by omega) (by omega) ho (by unfold Inner; omega)).trans ?_)
  congr 1 <;> omega

end Cert.KernelIdeal.Val

end
-- ==== Proof.KernelIdeal.VqLayer.lean ====
/- The two scalars the kernel's program returns: the loss and the perplexity, over the encoder's output and the codebook. -/
module

public import proofs.«01_k».proof.Proof.KernelIdeal.VqAcc
public import proofs.«01_k».proof.Proof.KernelIdeal.Layer4

@[expose] public section

set_option maxRecDepth 16384

noncomputable section

namespace Cert.KernelIdeal.Val

open Cert.KernelIdeal Cert.KernelIdeal.Gen Cert.KernelIdeal.Run Cert.Spec
open Idealize.ShloMosaic Idealize.ShloMosaic.TcCoe Idealize.ShloMosaic.Tactic
open Idealize.SL Idealize.SL.RA

section Arrays
variable (V : (c : Dev nD) → (b : Ref sig .tc) → Buf (Elt Ideal) ((c : Thread nD τ).loc b)) (c : Dev nD)

/-- The last point of the grid. -/
def last5 : Fin cfg5.N := ⟨48, by decide⟩

/-- A one by one array has one index. -/
theorem one_idx (y : S1x1.Idx) : y = ix2 0 0 := by
  funext a
  fin_cases a <;> exact Fin.ext (Nat.lt_one_iff.mp (y _).isLt)

/-- The loss array after the run. -/
theorem arr5_4 : (dat5 V c).arrAt 4 cfg5.N = fun _ : S1x1.Idx => errSum 25088 (rows V c) (book V c) * Named.named (F := Ideal) (φ := .f32) κ "loss_scale" 0x34272F05#32 := by
  refine (dat5 V c).arrAt_eq_of_after_last 4 last5 (by decide +kernel) _ fun j => ?_
  rw [after5_4]
  blk_simp
  refine (congrArg (outsAt5 V c last5.val last5.isLt).2.2.1 (one_idx _)).trans ?_
  exact (acc5 V c 48 last5.isLt).2.2.1 rfl 0 0

/-- The perplexity array after the run. -/
theorem arr5_5 : (dat5 V c).arrAt 5 cfg5.N = fun _ : S1x1.Idx => perplexity (tally 25088 (rows V c) (book V c)) := by
  refine (dat5 V c).arrAt_eq_of_after_last 5 last5 (by decide +kernel) _ fun j => ?_
  rw [after5_5]
  blk_simp
  refine (congrArg (outsAt5 V c last5.val last5.isLt).2.2.2 (one_idx _)).trans ?_
  exact (acc5 V c 48 last5.isLt).2.2.2 rfl 0 0

end Arrays

/-- The exact value of the named scale. -/
theorem scale_exact : Named.named (F := Ideal) (φ := .f32) κ "loss_scale" 0x34272F05#32 = ((1 / 6422528 : ℝ) : EReal) := by
  rfl

section Stretch
theorem ops6_v96 (V : Valuation τ sig (Elt Ideal)) : StableHlo.after (hostOps6 (F := Ideal)) V (Proc.devRef .tc main_v96)
    = shapeCast S_ (V (Proc.devRef .tc main_v95_2)) shapeCasts_S1x1_S_ := by
  after_reads_simp
  rfl
theorem ops6_v97 (V : Valuation τ sig (Elt Ideal)) : StableHlo.after (hostOps6 (F := Ideal)) V (Proc.devRef .tc main_v97)
    = shapeCast S_ (V (Proc.devRef .tc main_v95_3)) shapeCasts_S1x1_S_ := by
  after_reads_simp
  rfl
end Stretch

variable (m : (ℓ : Loc nD τ sig) → Buf (Elt Ideal) ℓ) (ρ : Dev nD → PrngReg) (c : Dev nD)

/-- The quantiser's vectors are the encoder's output. -/
theorem rows_eq (r k : ℕ) (hr : r < 25088) (hk : k < 64) : rows (V21 m ρ) c r k = (args m c).zrow r k :=
  W21_v94 m ρ c r k hr hk

/-- The codebook is the last argument. -/
theorem book_eq (j k : ℕ) : book (V21 m ρ) c j k = (args m c).cb j k := by
  unfold book
  exact congrArg (fun A => rd (s := S512x64) A ![j, k]) (W21_args m ρ c main_arg13 (by decide))

/-- The loss. -/
theorem W23_v96 (i : S_.Idx) : (W23 m ρ c (Proc.devRef .tc main_v96) : S_.Idx → EReal) i
    = errSum 25088 (args m c).zrow (args m c).cb * ((1 / 6422528 : ℝ) : EReal) := by
  have e : W23 m ρ c (Proc.devRef .tc main_v96) = _ := ops6_v96 (W22 m ρ c)
  have e2 : W22 m ρ c (Proc.devRef .tc main_v95_2) = _ := (W22_arr m ρ c 4).trans (arr5_4 (V21 m ρ) c)
  rw [e, e2]
  show errSum 25088 (rows (V21 m ρ) c) (book (V21 m ρ) c) * _ = _
  rw [scale_exact]
  rw [errSum_congr 25088 (fun r k hr hk => rows_eq m ρ c r k hr hk) (fun j k _ _ => book_eq m ρ c j k)]

/-- The perplexity. -/
theorem W23_v97 (i : S_.Idx) : (W23 m ρ c (Proc.devRef .tc main_v97) : S_.Idx → EReal) i
    = perplexity (tally 25088 (args m c).zrow (args m c).cb) := by
  have e : W23 m ρ c (Proc.devRef .tc main_v97) = _ := ops6_v97 (W22 m ρ c)
  have e2 : W22 m ρ c (Proc.devRef .tc main_v95_3) = _ := (W22_arr m ρ c 5).trans (arr5_5 (V21 m ρ) c)
  rw [e, e2]
  show perplexity (tally 25088 (rows (V21 m ρ) c) (book (V21 m ρ) c)) = _
  exact perplexity_congr fun j _ => tally_congr _ (fun r k hr hk => rows_eq m ρ c r k hr hk) (fun j k _ _ => book_eq m ρ c j k) j

end Cert.KernelIdeal.Val

end
-- ==== Proof.ReferenceIdeal.Pad.lean ====
module
public import proofs.«01_k».proof.Proof.Gen.ReferenceIdeal.Read
public import proofs.«01_k».proof.Proof.Net
public import Idealize.ShloMosaic.Lib.Pointwise
public import Idealize.ShloMosaic.Lib.KernelVsHost
public import Idealize.ShloMosaic.Lib.Pipeline.Value

/-!
# The reference's paddings and sums of taps

The reference writes a convolution as a padded image and a sum of contractions, one for each tap of the window.  Here the
padding is read at an index, and the chain of additions over the taps is read as a double sum.
-/

@[expose] public section

set_option maxRecDepth 16384

noncomputable section

namespace Cert.ReferenceIdeal.Val

open Cert.ReferenceIdeal Cert.ReferenceIdeal.Gen Cert.Spec
open Idealize.ShloMosaic Idealize.ShloMosaic.TcCoe Idealize.ShloMosaic.Tactic

/-- A plane padded by one zero on each side, channels before rows, is `padAt`. -/
theorem pad_nchw (H H2 C : ℕ) (hH : H2 = H + 2) (A : (⟨4, ![8, C, H, H]⟩ : Shape).Idx → EReal) (v : S_.Idx → EReal) (hv : ∀ i, v i = 0)
    (hp : (⟨4, ![8, C, H, H]⟩ : Shape).Pads ![0, 0, 1, 1] ![0, 0, 1, 1] ![0, 0, 0, 0] ⟨4, ![8, C, H2, H2]⟩) (hs : 0 < S_.numel) (f : N4)
    (hA : ∀ n c y x, n < 8 → c < C → y < H → x < H → rd A ![n, c, y, x] = f n c y x)
    (i : (⟨4, ![8, C, H2, H2]⟩ : Shape).Idx) :
    pad ⟨4, ![8, C, H2, H2]⟩ ![0, 0, 1, 1] ![0, 0, 1, 1] ![0, 0, 0, 0] A v hp hs i = padAt H f (i 0).val (i 1).val (i 2).val (i 3).val := by
  have i0 : (i 0).val < 8 := (i 0).isLt
  have i1 : (i 1).val < C := (i 1).isLt
  have i2 : (i 2).val < H2 := (i 2).isLt
  have i3 : (i 3).val < H2 := (i 3).isLt
  unfold padAt
  split
  · rename_i h
    have e := pad_apply_of_inside ![0, 0, 1, 1] ![0, 0, 1, 1] ![0, 0, 0, 0] A v hp hs i
      (ix4 (n0 := 8) (n1 := C) (n2 := H) (n3 := H) ⟨(i 0).val, i0⟩ ⟨(i 1).val, i1⟩ ⟨(i 2).val - 1, by omega⟩ ⟨(i 3).val - 1, by omega⟩)
      (fun a => by
        fin_cases a
        · show (i 0).val = 0 + (i 0).val * (0 + 1); omega
        · show (i 1).val = 0 + (i 1).val * (0 + 1); omega
        · show (i 2).val = 1 + ((i 2).val - 1) * (0 + 1); omega
        · show (i 3).val = 1 + ((i 3).val - 1) * (0 + 1); omega)
    rw [e, rd4 A (i 0).val (i 1).val ((i 2).val - 1) ((i 3).val - 1) _ rfl rfl rfl rfl]
    exact hA _ _ _ _ i0 i1 (by omega) (by omega)
  · rename_i h
    by_cases h1 : 1 ≤ (i 2).val ∧ (i 2).val ≤ H
    · rw [pad_apply_of_not_inside ![0, 0, 1, 1] ![0, 0, 1, 1] ![0, 0, 0, 0] A v hp hs i 3 fun g => h ?_, hv]
      obtain ⟨g1, -, g2⟩ := g
      change 1 ≤ (i 3).val at g1
      change ((i 3).val - 1) / (0 + 1) < H at g2
      omega
    · rw [pad_apply_of_not_inside ![0, 0, 1, 1] ![0, 0, 1, 1] ![0, 0, 0, 0] A v hp hs i 2 fun g => h1 ?_, hv]
      obtain ⟨g1, -, g2⟩ := g
      change 1 ≤ (i 2).val at g1
      change ((i 2).val - 1) / (0 + 1) < H at g2
      omega

/-- The integer zero read as a float. -/
theorem zero_fill (i : S_.Idx) : (sitofp .f32 (constantI S_ 32 0#32) : FVec Ideal S_ .f32) i = 0 := by
  show (((0#32 : BitVec 32).toInt : ℝ) : EReal) = 0
  simp

/-! ## The taps of a window added in order -/

/-- A start array and nine arrays added to it, line by line of a 3 by 3 window. -/
def add9 {s : Shape} (z : FVec Ideal s .f32) (T : Fin 3 → Fin 3 → FVec Ideal s .f32) : FVec Ideal s .f32 :=
  addf (addf (addf (addf (addf (addf (addf (addf (addf z (T 0 0)) (T 0 1)) (T 0 2)) (T 1 0)) (T 1 1)) (T 1 2)) (T 2 0)) (T 2 1)) (T 2 2)

/-- `add9` from zero is the double sum over the window. -/
theorem add9_apply {s : Shape} (z : FVec Ideal s .f32) (T : Fin 3 → Fin 3 → FVec Ideal s .f32) (i : s.Idx) (hz : z i = 0) :
    add9 z T i = ∑ ky : Fin 3, ∑ kx : Fin 3, T ky kx i := by
  unfold add9
  simp only [addf_apply, Ideal.addf_def, hz, Fin.sum_univ_three, zero_add, add_assoc]

/-- A start array and four arrays added to it. -/
def add4 {s : Shape} (z : FVec Ideal s .f32) (T : Fin 4 → FVec Ideal s .f32) : FVec Ideal s .f32 :=
  addf (addf (addf (addf z (T 0)) (T 1)) (T 2)) (T 3)

/-- `add4` is the sum added to the start. -/
theorem add4_apply {s : Shape} (z : FVec Ideal s .f32) (T : Fin 4 → FVec Ideal s .f32) (i : s.Idx) : add4 z T i = z i + ∑ k : Fin 4, T k i := by
  unfold add4
  simp only [addf_apply, Ideal.addf_def, Fin.sum_univ_four, add_assoc]

/-- A start array and sixteen arrays added to it, line by line of a 4 by 4 window. -/
def add16 {s : Shape} (z : FVec Ideal s .f32) (T : Fin 4 → Fin 4 → FVec Ideal s .f32) : FVec Ideal s .f32 :=
  add4 (add4 (add4 (add4 z (T 0)) (T 1)) (T 2)) (T 3)

/-- `add16` from zero is the double sum over the window. -/
theorem add16_apply {s : Shape} (z : FVec Ideal s .f32) (T : Fin 4 → Fin 4 → FVec Ideal s .f32) (i : s.Idx) (hz : z i = 0) :
    add16 z T i = ∑ ky : Fin 4, ∑ kx : Fin 4, T ky kx i := by
  unfold add16
  rw [add4_apply, add4_apply, add4_apply, add4_apply, hz, Fin.sum_univ_four (f := fun ky => ∑ kx, T ky kx i)]
  simp only [zero_add]

end Cert.ReferenceIdeal.Val

end
-- ==== Proof.ReferenceIdeal.Layer1.lean ====
module
public import proofs.«01_k».proof.Proof.ReferenceIdeal.Pad

/-!
# The reference's first convolution
-/

@[expose] public section

set_option maxRecDepth 16384

noncomputable section

namespace Cert.ReferenceIdeal.Val

open Cert.ReferenceIdeal Cert.ReferenceIdeal.Gen Cert.ReferenceIdeal.Read Cert.Spec
open Idealize.ShloMosaic Idealize.ShloMosaic.TcCoe Idealize.ShloMosaic.Tactic

/-- One tap of the first convolution. -/
def tap1 (P : FVec Ideal S8x1x226x226 .f32) (w : FVec Ideal S64x1x4x4 .f32) (ky kx : ℕ)
    (hs : S8x1x226x226.SlicesBy ![0, 0, ky, kx] ![1, 1, 2, 2] S8x1x112x112) (hw : S64x1x4x4.Slices ![0, 0, ky, kx] S64x1x1x1) : FVec Ideal S8x112x112x64 .f32 :=
  Host.dotGeneral dot_S8x1x112x112_S64x1_S8x112x112x64_1_1_023_0_n_n none (Host.slice S8x1x112x112 ![0, 0, ky, kx] ![1, 1, 2, 2] P hs)
    (shapeCast S64x1 (extractStridedSlice S64x1x1x1 ![0, 0, ky, kx] w hw) shapeCasts_S64x1x1x1_S64x1)

/-- A tap at an index: the contraction over the channel of the padded image, shifted, with the weights of the tap. -/
theorem tap1_apply (P : FVec Ideal S8x1x226x226 .f32) (w : FVec Ideal S64x1x4x4 .f32) (ky kx : ℕ) (hky : ky < 4) (hkx : kx < 4)
    (hs : S8x1x226x226.SlicesBy ![0, 0, ky, kx] ![1, 1, 2, 2] S8x1x112x112) (hw : S64x1x4x4.Slices ![0, 0, ky, kx] S64x1x1x1)
    (n : Fin 8) (y x : Fin 112) (o : Fin 64) (f : N4) (hP : ∀ i, P i = padAt 224 f (i 0).val (i 1).val (i 2).val (i 3).val) :
    tap1 P w ky kx hs hw (ix4 n y x o) = ∑ c : Fin 1, padAt 224 f n c (2 * y + ky) (2 * x + kx) * rd w ![o, c, ky, kx] := by
  unfold tap1
  pointwise
  refine Finset.sum_congr rfl fun c _ => ?_
  obtain rfl : c = 0 := Subsingleton.elim _ _
  rw [hP, rdi4 w o 0 ky kx o.isLt (by omega) hky hkx]
  show padAt 224 f n 0 (ky + 2 * y) (kx + 2 * x) * _ = _
  rw [add_comm ky, add_comm kx]
  rfl

variable (x0 : FVec Ideal S8x1x224x224 .f32) (x1 : FVec Ideal S64x1x4x4 .f32) (x2 : FVec Ideal S64 .f32) (x3 : FVec Ideal S128x64x4x4 .f32)
  (x4 : FVec Ideal S128 .f32) (x5 : FVec Ideal S128x128x3x3 .f32) (x6 : FVec Ideal S128 .f32) (x7 : FVec Ideal S32x128x3x3 .f32)
  (x8 : FVec Ideal S128x32x1x1 .f32) (x9 : FVec Ideal S32x128x3x3 .f32) (x10 : FVec Ideal S128x32x1x1 .f32) (x11 : FVec Ideal S64x128x1x1 .f32)
  (x12 : FVec Ideal S64 .f32) (x13 : FVec Ideal S512x64 .f32)

/-- The padded image. -/
theorem v0_apply (i : S8x1x226x226.Idx) :
    val_main_v0 (F := Ideal) x0 i = padAt 224 (fun a b c d => rd x0 ![a, b, c, d]) (i 0).val (i 1).val (i 2).val (i 3).val :=
  pad_nchw 224 226 1 rfl x0 _ zero_fill _ _ _ (fun _ _ _ _ _ _ _ _ => rfl) i

/-- The sum of the sixteen taps. -/
theorem v81_apply (n : Fin 8) (y x : Fin 112) (o : Fin 64) :
    val_main_v81 (F := Ideal) x0 x1 (ix4 n y x o) =
      conv 2 4 1 224 (fun a b c d => rd x0 ![a, b, c, d]) (fun a b c d => rd x1 ![a, b, c, d]) n o y x := by
  have hs : ∀ ky kx : Fin 4, S8x1x226x226.SlicesBy ![0, 0, ky.val, kx.val] ![1, 1, 2, 2] S8x1x112x112 := by decide
  have hw : ∀ ky kx : Fin 4, S64x1x4x4.Slices ![0, 0, ky.val, kx.val] S64x1x1x1 := by decide
  have e : val_main_v81 (F := Ideal) x0 x1 =
      add16 (val_main_v1 (F := Ideal)) (fun ky kx => tap1 (val_main_v0 (F := Ideal) x0) x1 ky.val kx.val (hs ky kx) (hw ky kx)) := rfl
  rw [e, add16_apply _ _ _ (by unfold val_main_v1 val_main_cst; pointwise)]
  exact Finset.sum_congr rfl fun ky _ => Finset.sum_congr rfl fun kx _ => tap1_apply _ _ _ _ ky.isLt kx.isLt _ _ n y x o _ (v0_apply x0)

/-- The first layer's output. -/
theorem v86_apply (n c y x : ℕ) (hn : n < 8) (hc : c < 64) (hy : y < 112) (hx : x < 112) :
    rd (s := S8x64x112x112) (val_main_v86 (F := Ideal) x0 x1 x2) ![n, c, y, x] = (In.of x0 x1 x2 x3 x4 x5 x6 x7 x8 x9 x10 x11 x12 x13).h1 n c y x := by
  rw [show rd (s := S8x64x112x112) (val_main_v86 (F := Ideal) x0 x1 x2) ![n, c, y, x] = _ from rdi4 _ n c y x hn hc hy hx]
  unfold val_main_v86 val_main_v85 val_main_v84 val_main_v83 val_main_v82 val_main_call1_v0 val_main_call1_cst
  pointwise
  rw [v81_apply, ← rdi1 x2 c hc]
  rfl

end Cert.ReferenceIdeal.Val

end
-- ==== Proof.ReferenceIdeal.Layer2.lean ====
module
public import proofs.«01_k».proof.Proof.ReferenceIdeal.Layer1

/-!
# The reference's second convolution
-/

@[expose] public section

set_option maxRecDepth 16384

noncomputable section

namespace Cert.ReferenceIdeal.Val

open Cert.ReferenceIdeal Cert.ReferenceIdeal.Gen Cert.ReferenceIdeal.Read Cert.Spec
open Idealize.ShloMosaic Idealize.ShloMosaic.TcCoe Idealize.ShloMosaic.Tactic

/-- One tap of the second convolution. -/
def tap2 (P : FVec Ideal S8x64x114x114 .f32) (w : FVec Ideal S128x64x4x4 .f32) (ky kx : ℕ)
    (hs : S8x64x114x114.SlicesBy ![0, 0, ky, kx] ![1, 1, 2, 2] S8x64x56x56) (hw : S128x64x4x4.Slices ![0, 0, ky, kx] S128x64x1x1) : FVec Ideal S8x56x56x128 .f32 :=
  Host.dotGeneral dot_S8x64x56x56_S128x64_S8x56x56x128_1_1_023_0_n_n none (Host.slice S8x64x56x56 ![0, 0, ky, kx] ![1, 1, 2, 2] P hs)
    (shapeCast S128x64 (extractStridedSlice S128x64x1x1 ![0, 0, ky, kx] w hw) shapeCasts_S128x64x1x1_S128x64)

/-- A tap at an index: the contraction over the channels of the padded activation, shifted, with the weights of the tap. -/
theorem tap2_apply (P : FVec Ideal S8x64x114x114 .f32) (w : FVec Ideal S128x64x4x4 .f32) (ky kx : ℕ) (hky : ky < 4) (hkx : kx < 4)
    (hs : S8x64x114x114.SlicesBy ![0, 0, ky, kx] ![1, 1, 2, 2] S8x64x56x56) (hw : S128x64x4x4.Slices ![0, 0, ky, kx] S128x64x1x1)
    (n : Fin 8) (y x : Fin 56) (o : Fin 128) (f : N4) (hP : ∀ i, P i = padAt 112 f (i 0).val (i 1).val (i 2).val (i 3).val) :
    tap2 P w ky kx hs hw (ix4 n y x o) = ∑ c : Fin 64, padAt 112 f n c (2 * y + ky) (2 * x + kx) * rd w ![o, c, ky, kx] := by
  unfold tap2
  pointwise
  refine Finset.sum_congr rfl fun c _ => ?_
  rw [hP, rdi4 w o c ky kx o.isLt c.isLt hky hkx]
  show padAt 112 f n c (ky + 2 * y) (kx + 2 * x) * _ = _
  rw [add_comm ky, add_comm kx]

variable (x0 : FVec Ideal S8x1x224x224 .f32) (x1 : FVec Ideal S64x1x4x4 .f32) (x2 : FVec Ideal S64 .f32) (x3 : FVec Ideal S128x64x4x4 .f32)
  (x4 : FVec Ideal S128 .f32) (x5 : FVec Ideal S128x128x3x3 .f32) (x6 : FVec Ideal S128 .f32) (x7 : FVec Ideal S32x128x3x3 .f32)
  (x8 : FVec Ideal S128x32x1x1 .f32) (x9 : FVec Ideal S32x128x3x3 .f32) (x10 : FVec Ideal S128x32x1x1 .f32) (x11 : FVec Ideal S64x128x1x1 .f32)
  (x12 : FVec Ideal S64 .f32) (x13 : FVec Ideal S512x64 .f32)

/-- The padded activation. -/
theorem v87_apply (i : S8x64x114x114.Idx) :
    val_main_v87 (F := Ideal) x0 x1 x2 i = padAt 112 (In.of x0 x1 x2 x3 x4 x5 x6 x7 x8 x9 x10 x11 x12 x13).h1 (i 0).val (i 1).val (i 2).val (i 3).val :=
  pad_nchw 112 114 64 rfl _ _ zero_fill _ _ _ (v86_apply x0 x1 x2 x3 x4 x5 x6 x7 x8 x9 x10 x11 x12 x13) i

/-- The sum of the sixteen taps. -/
theorem v168_apply (n : Fin 8) (y x : Fin 56) (o : Fin 128) :
    val_main_v168 (F := Ideal) x0 x1 x2 x3 (ix4 n y x o) = conv 2 4 64 112 (In.of x0 x1 x2 x3 x4 x5 x6 x7 x8 x9 x10 x11 x12 x13).h1 (In.of x0 x1 x2 x3 x4 x5 x6 x7 x8 x9 x10 x11 x12 x13).w2 n o y x := by
  have hs : ∀ ky kx : Fin 4, S8x64x114x114.SlicesBy ![0, 0, ky.val, kx.val] ![1, 1, 2, 2] S8x64x56x56 := by decide
  have hw : ∀ ky kx : Fin 4, S128x64x4x4.Slices ![0, 0, ky.val, kx.val] S128x64x1x1 := by decide
  have e : val_main_v168 (F := Ideal) x0 x1 x2 x3 =
      add16 (val_main_v88 (F := Ideal)) (fun ky kx => tap2 (val_main_v87 (F := Ideal) x0 x1 x2) x3 ky.val kx.val (hs ky kx) (hw ky kx)) := rfl
  rw [e, add16_apply _ _ _ (by unfold val_main_v88 val_main_cst_1; pointwise)]
  exact Finset.sum_congr rfl fun ky _ => Finset.sum_congr rfl fun kx _ => tap2_apply _ _ _ _ ky.isLt kx.isLt _ _ n y x o _
    (v87_apply x0 x1 x2 x3 x4 x5 x6 x7 x8 x9 x10 x11 x12 x13)

/-- The second layer's output. -/
theorem v173_apply (n c y x : ℕ) (hn : n < 8) (hc : c < 128) (hy : y < 56) (hx : x < 56) :
    rd (s := S8x128x56x56) (val_main_v173 (F := Ideal) x0 x1 x2 x3 x4) ![n, c, y, x] = (In.of x0 x1 x2 x3 x4 x5 x6 x7 x8 x9 x10 x11 x12 x13).h2 n c y x := by
  rw [show rd (s := S8x128x56x56) (val_main_v173 (F := Ideal) x0 x1 x2 x3 x4) ![n, c, y, x] = _ from rdi4 _ n c y x hn hc hy hx]
  unfold val_main_v173 val_main_v172 val_main_v171 val_main_v170 val_main_v169 val_main_call3_v0 val_main_call3_cst
  pointwise
  rw [v168_apply x0 x1 x2 x3 x4 x5 x6 x7 x8 x9 x10 x11 x12 x13, ← rdi1 x4 c hc]
  rfl

end Cert.ReferenceIdeal.Val

end
-- ==== Proof.ReferenceIdeal.Layer3.lean ====
module
public import proofs.«01_k».proof.Proof.ReferenceIdeal.Layer2

/-!
# The reference's third convolution
-/

@[expose] public section

set_option maxRecDepth 16384

noncomputable section

namespace Cert.ReferenceIdeal.Val

open Cert.ReferenceIdeal Cert.ReferenceIdeal.Gen Cert.ReferenceIdeal.Read Cert.Spec
open Idealize.ShloMosaic Idealize.ShloMosaic.TcCoe Idealize.ShloMosaic.Tactic

/-- One tap of the third convolution. -/
def tap3 (P : FVec Ideal S8x128x58x58 .f32) (w : FVec Ideal S128x128x3x3 .f32) (ky kx : ℕ)
    (hs : S8x128x58x58.Slices ![0, 0, ky, kx] S8x128x56x56) (hw : S128x128x3x3.Slices ![0, 0, ky, kx] S128x128x1x1) : FVec Ideal S8x56x56x128 .f32 :=
  Host.dotGeneral dot_S8x128x56x56_S128x128_S8x56x56x128_1_1_023_0_n_n none (extractStridedSlice S8x128x56x56 ![0, 0, ky, kx] P hs)
    (shapeCast S128x128 (extractStridedSlice S128x128x1x1 ![0, 0, ky, kx] w hw) shapeCasts_S128x128x1x1_S128x128)

/-- A tap at an index: the contraction over the channels of the padded activation, shifted, with the weights of the tap. -/
theorem tap3_apply (P : FVec Ideal S8x128x58x58 .f32) (w : FVec Ideal S128x128x3x3 .f32) (ky kx : ℕ) (hky : ky < 3) (hkx : kx < 3)
    (hs : S8x128x58x58.Slices ![0, 0, ky, kx] S8x128x56x56) (hw : S128x128x3x3.Slices ![0, 0, ky, kx] S128x128x1x1)
    (n : Fin 8) (y x : Fin 56) (o : Fin 128) (f : N4) (hP : ∀ i, P i = padAt 56 f (i 0).val (i 1).val (i 2).val (i 3).val) :
    tap3 P w ky kx hs hw (ix4 n y x o) = ∑ c : Fin 128, padAt 56 f n c (1 * y + ky) (1 * x + kx) * rd w ![o, c, ky, kx] := by
  unfold tap3
  pointwise
  refine Finset.sum_congr rfl fun c _ => ?_
  rw [hP, rdi4 w o c ky kx o.isLt c.isLt hky hkx]
  show padAt 56 f n c (ky + y) (kx + x) * _ = _
  rw [add_comm ky, add_comm kx]

variable (x0 : FVec Ideal S8x1x224x224 .f32) (x1 : FVec Ideal S64x1x4x4 .f32) (x2 : FVec Ideal S64 .f32) (x3 : FVec Ideal S128x64x4x4 .f32)
  (x4 : FVec Ideal S128 .f32) (x5 : FVec Ideal S128x128x3x3 .f32) (x6 : FVec Ideal S128 .f32) (x7 : FVec Ideal S32x128x3x3 .f32)
  (x8 : FVec Ideal S128x32x1x1 .f32) (x9 : FVec Ideal S32x128x3x3 .f32) (x10 : FVec Ideal S128x32x1x1 .f32) (x11 : FVec Ideal S64x128x1x1 .f32)
  (x12 : FVec Ideal S64 .f32) (x13 : FVec Ideal S512x64 .f32)

/-- The padded activation. -/
theorem v174_apply (i : S8x128x58x58.Idx) :
    val_main_v174 (F := Ideal) x0 x1 x2 x3 x4 i = padAt 56 (In.of x0 x1 x2 x3 x4 x5 x6 x7 x8 x9 x10 x11 x12 x13).h2 (i 0).val (i 1).val (i 2).val (i 3).val :=
  pad_nchw 56 58 128 rfl _ _ zero_fill _ _ _ (v173_apply x0 x1 x2 x3 x4 x5 x6 x7 x8 x9 x10 x11 x12 x13) i

/-- The sum of the nine taps. -/
theorem v220_apply (n : Fin 8) (y x : Fin 56) (o : Fin 128) :
    val_main_v220 (F := Ideal) x0 x1 x2 x3 x4 x5 (ix4 n y x o) = conv 1 3 128 56 (In.of x0 x1 x2 x3 x4 x5 x6 x7 x8 x9 x10 x11 x12 x13).h2 (In.of x0 x1 x2 x3 x4 x5 x6 x7 x8 x9 x10 x11 x12 x13).w3 n o y x := by
  have hs : ∀ ky kx : Fin 3, S8x128x58x58.Slices ![0, 0, ky.val, kx.val] S8x128x56x56 := by decide
  have hw : ∀ ky kx : Fin 3, S128x128x3x3.Slices ![0, 0, ky.val, kx.val] S128x128x1x1 := by decide
  have e : val_main_v220 (F := Ideal) x0 x1 x2 x3 x4 x5 =
      add9 (val_main_v175 (F := Ideal)) (fun ky kx => tap3 (val_main_v174 (F := Ideal) x0 x1 x2 x3 x4) x5 ky.val kx.val (hs ky kx) (hw ky kx)) := rfl
  rw [e, add9_apply _ _ _ (by unfold val_main_v175 val_main_cst_3; pointwise)]
  exact Finset.sum_congr rfl fun ky _ => Finset.sum_congr rfl fun kx _ => tap3_apply _ _ _ _ ky.isLt kx.isLt _ _ n y x o _
    (v174_apply x0 x1 x2 x3 x4 x5 x6 x7 x8 x9 x10 x11 x12 x13)

/-- The third layer's output. -/
theorem v224_apply (n c y x : ℕ) (hn : n < 8) (hc : c < 128) (hy : y < 56) (hx : x < 56) :
    rd (s := S8x128x56x56) (val_main_v224 (F := Ideal) x0 x1 x2 x3 x4 x5 x6) ![n, c, y, x] = (In.of x0 x1 x2 x3 x4 x5 x6 x7 x8 x9 x10 x11 x12 x13).h3 n c y x := by
  rw [show rd (s := S8x128x56x56) (val_main_v224 (F := Ideal) x0 x1 x2 x3 x4 x5 x6) ![n, c, y, x] = _ from rdi4 _ n c y x hn hc hy hx]
  unfold val_main_v224 val_main_v223 val_main_v222 val_main_v221
  pointwise
  rw [v220_apply x0 x1 x2 x3 x4 x5 x6 x7 x8 x9 x10 x11 x12 x13, ← rdi1 x6 c hc]
  rfl

end Cert.ReferenceIdeal.Val

end
-- ==== Proof.ReferenceIdeal.Layer4.lean ====
module
public import proofs.«01_k».proof.Proof.ReferenceIdeal.Layer3

/-!
# The reference's residual blocks
-/

@[expose] public section

set_option maxRecDepth 16384

noncomputable section

namespace Cert.ReferenceIdeal.Val

open Cert.ReferenceIdeal Cert.ReferenceIdeal.Gen Cert.ReferenceIdeal.Read Cert.Spec
open Idealize.ShloMosaic Idealize.ShloMosaic.TcCoe Idealize.ShloMosaic.Tactic

/-- One tap of a residual block's 3 by 3 convolution. -/
def tapR (P : FVec Ideal S8x128x58x58 .f32) (w : FVec Ideal S32x128x3x3 .f32) (ky kx : ℕ)
    (hs : S8x128x58x58.Slices ![0, 0, ky, kx] S8x128x56x56) (hw : S32x128x3x3.Slices ![0, 0, ky, kx] S32x128x1x1) : FVec Ideal S8x56x56x32 .f32 :=
  Host.dotGeneral dot_S8x128x56x56_S32x128_S8x56x56x32_1_1_023_0_n_n none (extractStridedSlice S8x128x56x56 ![0, 0, ky, kx] P hs)
    (shapeCast S32x128 (extractStridedSlice S32x128x1x1 ![0, 0, ky, kx] w hw) shapeCasts_S32x128x1x1_S32x128)

/-- A tap at an index: the contraction over the channels of the padded activation, shifted, with the weights of the tap. -/
theorem tapR_apply (P : FVec Ideal S8x128x58x58 .f32) (w : FVec Ideal S32x128x3x3 .f32) (ky kx : ℕ) (hky : ky < 3) (hkx : kx < 3)
    (hs : S8x128x58x58.Slices ![0, 0, ky, kx] S8x128x56x56) (hw : S32x128x3x3.Slices ![0, 0, ky, kx] S32x128x1x1)
    (n : Fin 8) (y x : Fin 56) (o : Fin 32) (f : N4) (hP : ∀ i, P i = padAt 56 f (i 0).val (i 1).val (i 2).val (i 3).val) :
    tapR P w ky kx hs hw (ix4 n y x o) = ∑ c : Fin 128, padAt 56 f n c (1 * y + ky) (1 * x + kx) * rd w ![o, c, ky, kx] := by
  unfold tapR
  pointwise
  refine Finset.sum_congr rfl fun c _ => ?_
  rw [hP, rdi4 w o c ky kx o.isLt c.isLt hky hkx]
  show padAt 56 f n c (ky + y) (kx + x) * _ = _
  rw [add_comm ky, add_comm kx]

/-- The slices of the padded image. -/
theorem slices_window (ky kx : Fin 3) : S8x128x58x58.Slices ![0, 0, ky.val, kx.val] S8x128x56x56 := by decide +revert

/-- The slices of the weights. -/
theorem slices_weights (ky kx : Fin 3) : S32x128x3x3.Slices ![0, 0, ky.val, kx.val] S32x128x1x1 := by decide +revert

/-- A zero in every place. -/
def zeros (s : Shape) (d : Fin S_.rank → Fin s.rank) (h : S_.BroadcastsInDim s d) : FVec Ideal s .f32 :=
  broadcastInDim s d h (constant S_ .f32 0x00000000#32)

/-- The inner activation of a residual block: rectify, pad, convolve to 32 channels, rectify. -/
def inner (H : FVec Ideal S8x128x56x56 .f32) (w : FVec Ideal S32x128x3x3 .f32) : FVec Ideal S8x32x56x56 .f32 :=
  maximumf (transpose S8x32x56x56 [0, 3, 1, 2]
    (add9 (zeros S8x56x56x32 ![] bcast_S_S8x56x56x32) fun ky kx =>
      tapR (pad S8x128x58x58 ![0, 0, 1, 1] ![0, 0, 1, 1] ![0, 0, 0, 0] (maximumf H (zeros S8x128x56x56 ![] bcast_S_S8x128x56x56))
        (sitofp .f32 (constantI S_ 32 0#32)) pads_S8x128x56x56_S8x128x58x58_000_000_110_110 h_S_) w ky.val kx.val (slices_window ky kx) (slices_weights ky kx))
    transposes_S8x56x56x32_S8x32x56x56_0_3_1_2) (zeros S8x32x56x56 ![] bcast_S_S8x32x56x56)

/-- The inner activation at an index. -/
theorem inner_apply (H : FVec Ideal S8x128x56x56 .f32) (w : FVec Ideal S32x128x3x3 .f32) (f : N4)
    (hH : ∀ n c y x, n < 8 → c < 128 → y < 56 → x < 56 → rd (s := S8x128x56x56) H ![n, c, y, x] = f n c y x)
    (n : Fin 8) (c : Fin 32) (y x : Fin 56) :
    inner H w (ix4 n c y x) = reluN (conv 1 3 128 56 (reluN f) fun a b c d => rd w ![a, b, c, d]) n c y x := by
  have hR : ∀ n c y x, n < 8 → c < 128 → y < 56 → x < 56 →
      rd (s := S8x128x56x56) (maximumf H (zeros S8x128x56x56 ![] bcast_S_S8x128x56x56)) ![n, c, y, x] = reluN f n c y x := by
    intro n c y x hn hc hy hx
    rw [show rd (s := S8x128x56x56) (maximumf H (zeros S8x128x56x56 ![] bcast_S_S8x128x56x56)) ![n, c, y, x] = _ from rdi4 _ n c y x hn hc hy hx]
    unfold zeros
    pointwise
    show _ = relu (f n c y x)
    rw [← hH n c y x hn hc hy hx, show rd (s := S8x128x56x56) H ![n, c, y, x] = _ from rdi4 _ n c y x hn hc hy hx]
    rfl
  unfold inner
  rw [maximumf_apply, transpose_apply [0, 3, 1, 2] _ transposes_S8x56x56x32_S8x32x56x56_0_3_1_2 _ (ix4 n y x c) (fun b => match b with
    | ⟨0, _⟩ => rfl
    | ⟨1, _⟩ => rfl
    | ⟨2, _⟩ => rfl
    | ⟨3, _⟩ => rfl), add9_apply _ _ _ (by unfold zeros; pointwise)]
  refine congrArg₂ max (Finset.sum_congr rfl fun ky _ => Finset.sum_congr rfl fun kx _ => ?_) (by unfold zeros; pointwise)
  exact tapR_apply _ w ky.val kx.val ky.isLt kx.isLt _ _ n y x c (reluN f) fun i => pad_nchw 56 58 128 rfl _ _ zero_fill _ _ _ hR i

/-- A residual block: the input plus the one by one convolution of the inner activation. -/
def block (H : FVec Ideal S8x128x56x56 .f32) (w1 : FVec Ideal S32x128x3x3 .f32) (w2 : FVec Ideal S128x32x1x1 .f32) : FVec Ideal S8x128x56x56 .f32 :=
  addf H (transpose S8x128x56x56 [0, 3, 1, 2]
    (addf (zeros S8x56x56x128 ![] bcast_S_S8x56x56x128)
      (Host.dotGeneral dot_S8x32x56x56_S128x32_S8x56x56x128_1_1_023_0_n_n none
        (pad S8x32x56x56 ![0, 0, 0, 0] ![0, 0, 0, 0] ![0, 0, 0, 0] (inner H w1) (sitofp .f32 (constantI S_ 32 0#32)) pads_S8x32x56x56_S8x32x56x56_000_000_000_000 h_S_)
        (shapeCast S128x32 w2 shapeCasts_S128x32x1x1_S128x32)))
    transposes_S8x56x56x128_S8x128x56x56_0_3_1_2)

/-- Padding by nothing changes nothing. -/
theorem pad_none {C : ℕ} (A : FVec Ideal ⟨4, ![8, C, 56, 56]⟩ .f32) (v : FVec Ideal S_ .f32)
    (hp : (⟨4, ![8, C, 56, 56]⟩ : Shape).Pads ![0, 0, 0, 0] ![0, 0, 0, 0] ![0, 0, 0, 0] ⟨4, ![8, C, 56, 56]⟩) (hs : 0 < S_.numel) :
    pad ⟨4, ![8, C, 56, 56]⟩ ![0, 0, 0, 0] ![0, 0, 0, 0] ![0, 0, 0, 0] A v hp hs = A := by
  funext i
  refine pad_apply_of_inside ![0, 0, 0, 0] ![0, 0, 0, 0] ![0, 0, 0, 0] A v hp hs i i fun a => ?_
  fin_cases a
  · show (i 0).val = 0 + (i 0).val * (0 + 1); omega
  · show (i 1).val = 0 + (i 1).val * (0 + 1); omega
  · show (i 2).val = 0 + (i 2).val * (0 + 1); omega
  · show (i 3).val = 0 + (i 3).val * (0 + 1); omega

/-- A residual block at an index is `res` of its input. -/
theorem block_apply (H : FVec Ideal S8x128x56x56 .f32) (w1 : FVec Ideal S32x128x3x3 .f32) (w2 : FVec Ideal S128x32x1x1 .f32) (f : N4)
    (hH : ∀ n c y x, n < 8 → c < 128 → y < 56 → x < 56 → rd (s := S8x128x56x56) H ![n, c, y, x] = f n c y x)
    (n c y x : ℕ) (hn : n < 8) (hc : c < 128) (hy : y < 56) (hx : x < 56) :
    rd (s := S8x128x56x56) (block H w1 w2) ![n, c, y, x] =
      res f (fun a b c d => rd w1 ![a, b, c, d]) (fun a b c d => rd w2 ![a, b, c, d]) n c y x := by
  rw [show rd (s := S8x128x56x56) (block H w1 w2) ![n, c, y, x] = _ from rdi4 _ n c y x hn hc hy hx]
  unfold block
  rw [show pad S8x32x56x56 ![0, 0, 0, 0] ![0, 0, 0, 0] ![0, 0, 0, 0] (inner H w1) (sitofp .f32 (constantI S_ 32 0#32))
    pads_S8x32x56x56_S8x32x56x56_000_000_000_000 h_S_ = inner H w1 from pad_none _ _ _ _]
  unfold zeros
  pointwise
  unfold res conv1
  rw [← hH n c y x hn hc hy hx, show rd (s := S8x128x56x56) H ![n, c, y, x] = _ from rdi4 _ n c y x hn hc hy hx]
  refine congrArg₂ (fun a b : EReal => a + b) rfl (Finset.sum_congr rfl fun k _ => congrArg₂ (fun a b : EReal => a * b) ?_ ?_)
  · exact inner_apply H w1 f hH ⟨n, hn⟩ k ⟨y, hy⟩ ⟨x, hx⟩
  · exact (rdi4 w2 c k 0 0 hc k.isLt (by omega) (by omega)).symm

variable (x0 : FVec Ideal S8x1x224x224 .f32) (x1 : FVec Ideal S64x1x4x4 .f32) (x2 : FVec Ideal S64 .f32) (x3 : FVec Ideal S128x64x4x4 .f32)
  (x4 : FVec Ideal S128 .f32) (x5 : FVec Ideal S128x128x3x3 .f32) (x6 : FVec Ideal S128 .f32) (x7 : FVec Ideal S32x128x3x3 .f32)
  (x8 : FVec Ideal S128x32x1x1 .f32) (x9 : FVec Ideal S32x128x3x3 .f32) (x10 : FVec Ideal S128x32x1x1 .f32) (x11 : FVec Ideal S64x128x1x1 .f32)
  (x12 : FVec Ideal S64 .f32) (x13 : FVec Ideal S512x64 .f32)

/-- After the first residual block. -/
theorem v281_apply (n c y x : ℕ) (hn : n < 8) (hc : c < 128) (hy : y < 56) (hx : x < 56) :
    rd (s := S8x128x56x56) (val_main_v281 (F := Ideal) x0 x1 x2 x3 x4 x5 x6 x7 x8) ![n, c, y, x] = (In.of x0 x1 x2 x3 x4 x5 x6 x7 x8 x9 x10 x11 x12 x13).h4 n c y x := by
  rw [show val_main_v281 (F := Ideal) x0 x1 x2 x3 x4 x5 x6 x7 x8 = block (val_main_v224 (F := Ideal) x0 x1 x2 x3 x4 x5 x6) x7 x8 from rfl]
  exact block_apply _ x7 x8 (In.of x0 x1 x2 x3 x4 x5 x6 x7 x8 x9 x10 x11 x12 x13).h3 (v224_apply x0 x1 x2 x3 x4 x5 x6 x7 x8 x9 x10 x11 x12 x13) n c y x hn hc hy hx

/-- After the second residual block. -/
theorem v338_apply (n c y x : ℕ) (hn : n < 8) (hc : c < 128) (hy : y < 56) (hx : x < 56) :
    rd (s := S8x128x56x56) (val_main_v338 (F := Ideal) x0 x1 x2 x3 x4 x5 x6 x7 x8 x9 x10) ![n, c, y, x] = (In.of x0 x1 x2 x3 x4 x5 x6 x7 x8 x9 x10 x11 x12 x13).h5 n c y x := by
  rw [show val_main_v338 (F := Ideal) x0 x1 x2 x3 x4 x5 x6 x7 x8 x9 x10 =
    block (val_main_v281 (F := Ideal) x0 x1 x2 x3 x4 x5 x6 x7 x8) x9 x10 from rfl]
  exact block_apply _ x9 x10 (In.of x0 x1 x2 x3 x4 x5 x6 x7 x8 x9 x10 x11 x12 x13).h4 (v281_apply x0 x1 x2 x3 x4 x5 x6 x7 x8 x9 x10 x11 x12 x13) n c y x hn hc hy hx

/-- In front of the quantiser. -/
theorem v348_apply (n c y x : ℕ) (hn : n < 8) (hc : c < 64) (hy : y < 56) (hx : x < 56) :
    val_main_v348 (F := Ideal) x0 x1 x2 x3 x4 x5 x6 x7 x8 x9 x10 x11 x12 (ix4 ⟨n, hn⟩ ⟨c, hc⟩ ⟨y, hy⟩ ⟨x, hx⟩) = (In.of x0 x1 x2 x3 x4 x5 x6 x7 x8 x9 x10 x11 x12 x13).z n c y x := by
  unfold val_main_v348 val_main_v347 val_main_v346 val_main_v345 val_main_v344 val_main_v343 val_main_v342 val_main_v341 val_main_v340
  rw [show pad S8x128x56x56 ![0, 0, 0, 0] ![0, 0, 0, 0] ![0, 0, 0, 0] (val_main_v339 (F := Ideal) x0 x1 x2 x3 x4 x5 x6 x7 x8 x9 x10) (val_main_call14_v0 (F := Ideal))
    pads_S8x128x56x56_S8x128x56x56_000_000_000_000 h_S_ = val_main_v339 (F := Ideal) x0 x1 x2 x3 x4 x5 x6 x7 x8 x9 x10 from pad_none _ _ _ _]
  unfold val_main_v339 val_main_call13_v0 val_main_call13_cst val_main_cst_13
  pointwise
  refine congrArg₂ (fun a b : EReal => a + b) (Finset.sum_congr rfl fun k _ => congrArg₂ (fun a b : EReal => a * b) ?_ ?_) (rdi1 x12 c hc).symm
  · exact congrArg relu ((rdi4 _ n k y x hn k.isLt hy hx).symm.trans (v338_apply x0 x1 x2 x3 x4 x5 x6 x7 x8 x9 x10 x11 x12 x13 n k y x hn k.isLt hy hx))
  · exact (rdi4 x11 c k 0 0 hc k.isLt (by omega) (by omega)).symm

end Cert.ReferenceIdeal.Val

end
-- ==== Proof.ReferenceIdeal.VqNear.lean ====
module
public import proofs.«01_k».proof.Proof.ReferenceIdeal.Layer4
public import proofs.«01_k».proof.Proof.VqSpec

/-!
# The reference's nearest codewords
-/

@[expose] public section

set_option maxRecDepth 16384

noncomputable section

namespace Cert.ReferenceIdeal.Val

open Cert.ReferenceIdeal Cert.ReferenceIdeal.Gen Cert.ReferenceIdeal.Read Cert.Spec
open Idealize.ShloMosaic Idealize.ShloMosaic.TcCoe Idealize.ShloMosaic.Tactic

variable (x0 : FVec Ideal S8x1x224x224 .f32) (x1 : FVec Ideal S64x1x4x4 .f32) (x2 : FVec Ideal S64 .f32) (x3 : FVec Ideal S128x64x4x4 .f32)
  (x4 : FVec Ideal S128 .f32) (x5 : FVec Ideal S128x128x3x3 .f32) (x6 : FVec Ideal S128 .f32) (x7 : FVec Ideal S32x128x3x3 .f32)
  (x8 : FVec Ideal S128x32x1x1 .f32) (x9 : FVec Ideal S32x128x3x3 .f32) (x10 : FVec Ideal S128x32x1x1 .f32) (x11 : FVec Ideal S64x128x1x1 .f32)
  (x12 : FVec Ideal S64 .f32) (x13 : FVec Ideal S512x64 .f32)

/-- Row `r` of the reference's flattened encoder output. -/
theorem v350_apply (r : Fin 25088) (o : Fin 64) :
    val_main_v350 (F := Ideal) x0 x1 x2 x3 x4 x5 x6 x7 x8 x9 x10 x11 x12 (ix2 r o) = (In.of x0 x1 x2 x3 x4 x5 x6 x7 x8 x9 x10 x11 x12 x13).zrow r o := by
  rw [val_main_v350_apply, val_main_v349_apply]
  have hr := r.isLt
  have ho := o.isLt
  have e : idx_main_v349 (idx_main_v350 (ix2 r o)) =
      ix4 ⟨r.val / 3136, by omega⟩ ⟨o.val, ho⟩ ⟨r.val / 56 % 56, by omega⟩ ⟨r.val % 56, by omega⟩ := by
    funext a
    fin_cases a
    · exact Fin.ext (show (r.val * 64 + o.val) / 200704 = r.val / 3136 by omega)
    · exact Fin.ext (show (r.val * 64 + o.val) % 64 = o.val by omega)
    · exact Fin.ext (show (r.val * 64 + o.val) / 3584 % 56 = r.val / 56 % 56 by omega)
    · exact Fin.ext (show (r.val * 64 + o.val) / 64 % 56 = r.val % 56 by omega)
  rw [e]
  exact v348_apply x0 x1 x2 x3 x4 x5 x6 x7 x8 x9 x10 x11 x12 x13 _ _ _ _ _ _ _ _

/-- The codebook at an index. -/
theorem book_apply (j : Fin 512) (o : Fin 64) : x13 (ix2 j o) = (In.of x0 x1 x2 x3 x4 x5 x6 x7 x8 x9 x10 x11 x12 x13).cb j o := (rdi2 x13 j o j.isLt o.isLt).symm

/-- The squared distances. -/
theorem v364_apply (r : Fin 25088) (j : Fin 512) :
    val_main_v364 (F := Ideal) x0 x1 x2 x3 x4 x5 x6 x7 x8 x9 x10 x11 x12 x13 (ix2 r j) = Spec.dist ((In.of x0 x1 x2 x3 x4 x5 x6 x7 x8 x9 x10 x11 x12 x13).zrow r) (In.of x0 x1 x2 x3 x4 x5 x6 x7 x8 x9 x10 x11 x12 x13).cb j := by
  unfold val_main_v364 val_main_v363 val_main_v362 val_main_v361 val_main_v360 val_main_v359 val_main_v358 val_main_v357 val_main_v356 val_main_v355 val_main_v354 val_main_v353 val_main_v352 val_main_v351 val_main_cst_14 val_main_cst_15 val_main_cst_16
  pointwise
  simp only [v350_apply x0 x1 x2 x3 x4 x5 x6 x7 x8 x9 x10 x11 x12 x13, book_apply x0 x1 x2 x3 x4 x5 x6 x7 x8 x9 x10 x11 x12 x13]
  rfl

/-- The least distance of a row. -/
theorem v367_apply (r : Fin 25088) :
    val_main_v367 (F := Ideal) x0 x1 x2 x3 x4 x5 x6 x7 x8 x9 x10 x11 x12 x13 (ix1 r) = least (Spec.dist ((In.of x0 x1 x2 x3 x4 x5 x6 x7 x8 x9 x10 x11 x12 x13).zrow r) (In.of x0 x1 x2 x3 x4 x5 x6 x7 x8 x9 x10 x11 x12 x13).cb) := by
  unfold val_main_v367 least
  pointwise
  simp only [v364_apply]
  rfl

/-- The nearest codeword's index. -/
theorem v372_apply (r : Fin 25088) :
    val_main_v372 (F := Ideal) x0 x1 x2 x3 x4 x5 x6 x7 x8 x9 x10 x11 x12 x13 (ix1 r) = nearest (Spec.dist ((In.of x0 x1 x2 x3 x4 x5 x6 x7 x8 x9 x10 x11 x12 x13).zrow r) (In.of x0 x1 x2 x3 x4 x5 x6 x7 x8 x9 x10 x11 x12 x13).cb) := by
  unfold val_main_v372 nearest val_main_v371 val_main_v370 val_main_v369 val_main_v368 val_main_call15_v1 val_main_call15_v2 val_main_call15_v0 val_main_v366 val_main_v365
  pointwise
  simp only [v364_apply, v367_apply]
  rfl

/-- The one-hot rows. -/
theorem v373_apply (r : Fin 25088) (j : Fin 512) :
    val_main_v373 (F := Ideal) x0 x1 x2 x3 x4 x5 x6 x7 x8 x9 x10 x11 x12 x13 (ix2 r j) = hot (Spec.dist ((In.of x0 x1 x2 x3 x4 x5 x6 x7 x8 x9 x10 x11 x12 x13).zrow r) (In.of x0 x1 x2 x3 x4 x5 x6 x7 x8 x9 x10 x11 x12 x13).cb) j := by
  unfold val_main_v373 hot val_main_call16_v4 val_main_call16_v3 val_main_call16_v2 val_main_call16_v1 val_main_call16_v0
  pointwise
  rw [v372_apply]
  exact uitofp_bit _ _ ((cmpi_eq_one _ _).trans eq_comm)
end Cert.ReferenceIdeal.Val

end
-- ==== Proof.ReferenceIdeal.VqOut.lean ====
module
public import proofs.«01_k».proof.Proof.ReferenceIdeal.VqNear

/-!
# The reference's two results
-/

@[expose] public section

set_option maxRecDepth 16384

noncomputable section

namespace Cert.ReferenceIdeal.Val

open Cert.ReferenceIdeal Cert.ReferenceIdeal.Gen Cert.ReferenceIdeal.Read Cert.Spec
open Idealize.ShloMosaic Idealize.ShloMosaic.TcCoe Idealize.ShloMosaic.Tactic

variable (x0 : FVec Ideal S8x1x224x224 .f32) (x1 : FVec Ideal S64x1x4x4 .f32) (x2 : FVec Ideal S64 .f32) (x3 : FVec Ideal S128x64x4x4 .f32)
  (x4 : FVec Ideal S128 .f32) (x5 : FVec Ideal S128x128x3x3 .f32) (x6 : FVec Ideal S128 .f32) (x7 : FVec Ideal S32x128x3x3 .f32)
  (x8 : FVec Ideal S128x32x1x1 .f32) (x9 : FVec Ideal S32x128x3x3 .f32) (x10 : FVec Ideal S128x32x1x1 .f32) (x11 : FVec Ideal S64x128x1x1 .f32)
  (x12 : FVec Ideal S64 .f32) (x13 : FVec Ideal S512x64 .f32)

/-- The quantised rows. -/
theorem v374_apply (r : Fin 25088) (o : Fin 64) :
    val_main_v374 (F := Ideal) x0 x1 x2 x3 x4 x5 x6 x7 x8 x9 x10 x11 x12 x13 (ix2 r o) = quant ((In.of x0 x1 x2 x3 x4 x5 x6 x7 x8 x9 x10 x11 x12 x13).zrow r) (In.of x0 x1 x2 x3 x4 x5 x6 x7 x8 x9 x10 x11 x12 x13).cb o := by
  unfold val_main_v374 quant
  pointwise
  simp only [v373_apply, book_apply x0 x1 x2 x3 x4 x5 x6 x7 x8 x9 x10 x11 x12 x13]

/-- The squared differences, at a position of the quantised image. -/
theorem v377_apply (r : Fin 25088) (o : Fin 64) (i : S8x56x56x64.Idx) (hr : r.val = ((i 0).val * 56 + (i 1).val) * 56 + (i 2).val) (ho : o.val = (i 3).val) :
    val_main_v377 (F := Ideal) x0 x1 x2 x3 x4 x5 x6 x7 x8 x9 x10 x11 x12 x13 i = (quant ((In.of x0 x1 x2 x3 x4 x5 x6 x7 x8 x9 x10 x11 x12 x13).zrow r) (In.of x0 x1 x2 x3 x4 x5 x6 x7 x8 x9 x10 x11 x12 x13).cb o - (In.of x0 x1 x2 x3 x4 x5 x6 x7 x8 x9 x10 x11 x12 x13).zrow r o) * (quant ((In.of x0 x1 x2 x3 x4 x5 x6 x7 x8 x9 x10 x11 x12 x13).zrow r) (In.of x0 x1 x2 x3 x4 x5 x6 x7 x8 x9 x10 x11 x12 x13).cb o - (In.of x0 x1 x2 x3 x4 x5 x6 x7 x8 x9 x10 x11 x12 x13).zrow r o) := by
  have h0 : (i 0).val < 8 := (i 0).isLt
  have h1 : (i 1).val < 56 := (i 1).isLt
  have h2 : (i 2).val < 56 := (i 2).isLt
  have h3 : (i 3).val < 64 := (i 3).isLt
  have e : val_main_v376 (F := Ideal) x0 x1 x2 x3 x4 x5 x6 x7 x8 x9 x10 x11 x12 x13 i = quant ((In.of x0 x1 x2 x3 x4 x5 x6 x7 x8 x9 x10 x11 x12 x13).zrow r) (In.of x0 x1 x2 x3 x4 x5 x6 x7 x8 x9 x10 x11 x12 x13).cb o - (In.of x0 x1 x2 x3 x4 x5 x6 x7 x8 x9 x10 x11 x12 x13).zrow r o := by
    rw [val_main_v376_apply, val_main_v375_apply, ← v374_apply, ← v350_apply, val_main_v350_apply]
    refine congrArg₂ (fun a b : EReal => a - b) (congrArg (val_main_v374 (F := Ideal) x0 x1 x2 x3 x4 x5 x6 x7 x8 x9 x10 x11 x12 x13) ?_) (congrArg (val_main_v349 (F := Ideal) x0 x1 x2 x3 x4 x5 x6 x7 x8 x9 x10 x11 x12) ?_)
    · funext a
      fin_cases a
      · exact Fin.ext (show ((((i 0).val * 56 + (i 1).val) * 56 + (i 2).val) * 64 + (i 3).val) / 64 = r.val by omega)
      · exact Fin.ext (show ((((i 0).val * 56 + (i 1).val) * 56 + (i 2).val) * 64 + (i 3).val) % 64 = o.val by omega)
    · funext a
      fin_cases a
      · exact Fin.ext (show (i 0).val = (r.val * 64 + o.val) / 200704 by omega)
      · exact Fin.ext (show (i 1).val = (r.val * 64 + o.val) / 3584 % 56 by omega)
      · exact Fin.ext (show (i 2).val = (r.val * 64 + o.val) / 64 % 56 by omega)
      · exact Fin.ext (show (i 3).val = (r.val * 64 + o.val) % 64 by omega)
  rw [val_main_v377_apply, e]
  rfl

/-- The counts. -/
theorem v381_apply (j : Fin 512) : val_main_v381 (F := Ideal) x0 x1 x2 x3 x4 x5 x6 x7 x8 x9 x10 x11 x12 x13 (ix1 j) = tally 25088 (In.of x0 x1 x2 x3 x4 x5 x6 x7 x8 x9 x10 x11 x12 x13).zrow (In.of x0 x1 x2 x3 x4 x5 x6 x7 x8 x9 x10 x11 x12 x13).cb j := by
  unfold val_main_v381 tally val_main_cst_23
  pointwise
  simp only [v373_apply]

/-- The second result: the perplexity of the counts. -/
theorem v390_apply (i : S_.Idx) : val_main_v390 (F := Ideal) x0 x1 x2 x3 x4 x5 x6 x7 x8 x9 x10 x11 x12 x13 i = perplexity (tally 25088 (In.of x0 x1 x2 x3 x4 x5 x6 x7 x8 x9 x10 x11 x12 x13).zrow (In.of x0 x1 x2 x3 x4 x5 x6 x7 x8 x9 x10 x11 x12 x13).cb) := by
  unfold val_main_v390 perplexity val_main_v389 val_main_v388 val_main_v387 val_main_v386 val_main_v385 val_main_v384 val_main_v383 val_main_v382 val_main_cst_24 val_main_cst_25 val_main_cst_26
  pointwise
  simp only [v381_apply]
  rfl

/-- Positions of the quantised image and rows of its flattening are in one-to-one correspondence. -/
def flatten : S8x56x56x64.Idx ≃ Fin 25088 × Fin 64 where
  toFun i := (⟨((i 0).val * 56 + (i 1).val) * 56 + (i 2).val, by
      have h0 : (i 0).val < 8 := (i 0).isLt
      have h1 : (i 1).val < 56 := (i 1).isLt
      have h2 : (i 2).val < 56 := (i 2).isLt
      omega⟩, ⟨(i 3).val, (i 3).isLt⟩)
  invFun p := ix4 ⟨p.1.val / 3136, by have := p.1.isLt; omega⟩ ⟨p.1.val / 56 % 56, by omega⟩ ⟨p.1.val % 56, by omega⟩ p.2
  left_inv i := by
    have h0 : (i 0).val < 8 := (i 0).isLt
    have h1 : (i 1).val < 56 := (i 1).isLt
    have h2 : (i 2).val < 56 := (i 2).isLt
    funext a
    fin_cases a
    · exact Fin.ext (show (((i 0).val * 56 + (i 1).val) * 56 + (i 2).val) / 3136 = (i 0).val by omega)
    · exact Fin.ext (show (((i 0).val * 56 + (i 1).val) * 56 + (i 2).val) / 56 % 56 = (i 1).val by omega)
    · exact Fin.ext (show (((i 0).val * 56 + (i 1).val) * 56 + (i 2).val) % 56 = (i 2).val by omega)
    · rfl
  right_inv p := by
    have h := p.1.isLt
    refine Prod.ext (Fin.ext ?_) rfl
    show (p.1.val / 3136 * 56 + p.1.val / 56 % 56) * 56 + p.1.val % 56 = p.1.val
    omega

/-- The literal one quarter. -/
theorem lit_quarter : lit 0x3E800000#32 = ((1 / 4 : ℝ) : EReal) := by
  show Ideal.ofBits .f32 0x3E800000#32 = _
  simp [Ideal.ofBits, Ideal.ieee, -EReal.coe_mul]
  norm_num

/-- The literal number of entries of the quantised image. -/
theorem lit_positions : lit 0x49C40000#32 = ((1605632 : ℝ) : EReal) := by
  show Ideal.ofBits .f32 0x49C40000#32 = _
  simp [Ideal.ofBits, Ideal.ieee, -EReal.coe_mul]
  norm_num

/-- The sum of all the squared differences. -/
theorem v378_apply (i : S_.Idx) : val_main_v378 (F := Ideal) x0 x1 x2 x3 x4 x5 x6 x7 x8 x9 x10 x11 x12 x13 i = errSum 25088 (In.of x0 x1 x2 x3 x4 x5 x6 x7 x8 x9 x10 x11 x12 x13).zrow (In.of x0 x1 x2 x3 x4 x5 x6 x7 x8 x9 x10 x11 x12 x13).cb := by
  unfold errSum sqErr
  rw [val_main_v378_apply, ← Fintype.sum_prod_type']
  refine Eq.trans (congrArg₂ (fun a b : EReal => a + b) Ideal.ofBits_zero_f32 (Fintype.sum_equiv flatten _ _ fun i => ?_)) (zero_add _)
  exact v377_apply x0 x1 x2 x3 x4 x5 x6 x7 x8 x9 x10 x11 x12 x13 (flatten i).1 (flatten i).2 i rfl rfl

/-- The first result: the loss. -/
theorem v380_apply (i : S_.Idx) : val_main_v380 (F := Ideal) x0 x1 x2 x3 x4 x5 x6 x7 x8 x9 x10 x11 x12 x13 i = errSum 25088 (In.of x0 x1 x2 x3 x4 x5 x6 x7 x8 x9 x10 x11 x12 x13).zrow (In.of x0 x1 x2 x3 x4 x5 x6 x7 x8 x9 x10 x11 x12 x13).cb * ((1 / 6422528 : ℝ) : EReal) := by
  have e : val_main_v380 (F := Ideal) x0 x1 x2 x3 x4 x5 x6 x7 x8 x9 x10 x11 x12 x13 i = lit 0x3E800000#32 * Ideal.div (val_main_v378 (F := Ideal) x0 x1 x2 x3 x4 x5 x6 x7 x8 x9 x10 x11 x12 x13 i) (lit 0x49C40000#32) := rfl
  rw [e, v378_apply, lit_quarter, lit_positions, Ideal.div, if_neg (by norm_num), mul_left_comm]
  refine congrArg (fun b : EReal => _ * b) ?_
  rw [← EReal.coe_inv, ← EReal.coe_mul]
  norm_num

end Cert.ReferenceIdeal.Val

end
-- ==== Proof.ReferenceIdeal.Pair.lean ====
module
public import Idealize.ShloMosaic.Lib.Claim
public import proofs.«01_k».proof.Proof.Gen.ReferenceIdeal.Run
public import proofs.«01_k».proof.Proof.KernelIdeal.VqLayer
public import proofs.«01_k».proof.Proof.ReferenceIdeal.VqOut

/-!
# The two programs together

The runs of the two programs and the equality of their results: both programs' loss is the sum of the squared errors of the
nearest codewords times one constant, and both programs' perplexity is that of the counts of the nearest codewords.
-/

@[expose] public section

set_option maxRecDepth 16384

noncomputable section

namespace Cert.Proof

open Idealize.ShloMosaic Idealize.SL.Sem Cert.Spec

/-- The reference's arguments at natural coordinates. -/
def refArgs (m' : (ℓ : Loc Cert.ReferenceIdeal.nD Cert.ReferenceIdeal.τ Cert.ReferenceIdeal.sig) → Buf (Elt Ideal) ℓ) (c : Dev Cert.ReferenceIdeal.nD) : In :=
  In.of (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))

/-- The reference runs, ends with the loss and the perplexity of its arguments, and leaves the arguments unchanged. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run Cert.ReferenceIdeal.defs (onTc (τ := Cert.ReferenceIdeal.τ) (Cert.ReferenceIdeal.main (F := Ideal))) ⟨m', fun _ => 0, ρ'⟩ fun r =>
      ∀ c : Dev Cert.ReferenceIdeal.nD,
        r.2.mem ((c.tc : Thread Cert.ReferenceIdeal.nD Cert.ReferenceIdeal.τ).loc Cert.ReferenceIdeal.main_v380) =
            (fun _ => errSum 25088 (refArgs m' c).zrow (refArgs m' c).cb * ((1 / 6422528 : ℝ) : EReal))
        ∧ r.2.mem ((c.tc : Thread Cert.ReferenceIdeal.nD Cert.ReferenceIdeal.τ).loc Cert.ReferenceIdeal.main_v390) =
            (fun _ => perplexity (tally 25088 (refArgs m' c).zrow (refArgs m' c).cb))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13) :=
  (θ_run Cert.ReferenceIdeal.defs _ _).mono (fun r h c =>
    ⟨((h c).1.trans (Cert.ReferenceIdeal.Read.val_main_v380_eq (F := Ideal) (StableHlo.launchContents m' c))).trans
        (funext fun i => Cert.ReferenceIdeal.Val.v380_apply _ _ _ _ _ _ _ _ _ _ _ _ _ _ i),
      ((h c).2.1.trans (Cert.ReferenceIdeal.Read.val_main_v390_eq (F := Ideal) (StableHlo.launchContents m' c))).trans
        (funext fun i => Cert.ReferenceIdeal.Val.v390_apply _ _ _ _ _ _ _ _ _ _ _ _ _ _ i),
      (h c).2.2⟩) (Cert.ReferenceIdeal.Value.run (F := Ideal) m' ρ')

/-- The arguments at natural coordinates depend on the fourteen arrays alone. -/
theorem of_congr {x0 y0 : (⟨4, ![8, 1, 224, 224]⟩ : Shape).Idx → EReal} {x1 y1 : (⟨4, ![64, 1, 4, 4]⟩ : Shape).Idx → EReal}
    {x2 y2 : (⟨1, ![64]⟩ : Shape).Idx → EReal} {x3 y3 : (⟨4, ![128, 64, 4, 4]⟩ : Shape).Idx → EReal} {x4 y4 : (⟨1, ![128]⟩ : Shape).Idx → EReal}
    {x5 y5 : (⟨4, ![128, 128, 3, 3]⟩ : Shape).Idx → EReal} {x6 y6 : (⟨1, ![128]⟩ : Shape).Idx → EReal}
    {x7 y7 : (⟨4, ![32, 128, 3, 3]⟩ : Shape).Idx → EReal} {x8 y8 : (⟨4, ![128, 32, 1, 1]⟩ : Shape).Idx → EReal}
    {x9 y9 : (⟨4, ![32, 128, 3, 3]⟩ : Shape).Idx → EReal} {x10 y10 : (⟨4, ![128, 32, 1, 1]⟩ : Shape).Idx → EReal}
    {x11 y11 : (⟨4, ![64, 128, 1, 1]⟩ : Shape).Idx → EReal} {x12 y12 : (⟨1, ![64]⟩ : Shape).Idx → EReal}
    {x13 y13 : (⟨2, ![512, 64]⟩ : Shape).Idx → EReal}
    (h0 : x0 = y0) (h1 : x1 = y1) (h2 : x2 = y2) (h3 : x3 = y3) (h4 : x4 = y4) (h5 : x5 = y5) (h6 : x6 = y6) (h7 : x7 = y7) (h8 : x8 = y8)
    (h9 : x9 = y9) (h10 : x10 = y10) (h11 : x11 = y11) (h12 : x12 = y12) (h13 : x13 = y13) :
    In.of x0 x1 x2 x3 x4 x5 x6 x7 x8 x9 x10 x11 x12 x13 = In.of y0 y1 y2 y3 y4 y5 y6 y7 y8 y9 y10 y11 y12 y13 := by
  subst h0 h1 h2 h3 h4 h5 h6 h7 h8 h9 h10 h11 h12 h13
  rfl

/-- From equal arguments the two losses are equal. -/
theorem loss_eq (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) (a : In) (h : a = Cert.KernelIdeal.Val.args m c) :
    (fun _ => errSum 25088 a.zrow a.cb * ((1 / 6422528 : ℝ) : EReal) : Cert.KernelIdeal.S_.Idx → EReal) =
      Cert.KernelIdeal.Run.W23 m ρ c (Proc.devRef .tc Cert.KernelIdeal.main_v96) := by
  subst h
  exact funext fun i => (Cert.KernelIdeal.Val.W23_v96 m ρ c i).symm

/-- From equal arguments the two perplexities are equal. -/
theorem perplexity_eq (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) (a : In) (h : a = Cert.KernelIdeal.Val.args m c) :
    (fun _ => perplexity (tally 25088 a.zrow a.cb) : Cert.KernelIdeal.S_.Idx → EReal) =
      Cert.KernelIdeal.Run.W23 m ρ c (Proc.devRef .tc Cert.KernelIdeal.main_v97) := by
  subst h
  exact funext fun i => (Cert.KernelIdeal.Val.W23_v97 m ρ c i).symm

/-- The kernel runs, ends with the contents of its last boundary in the two results, and leaves the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run Cert.KernelIdeal.defs (onTc (τ := Cert.KernelIdeal.τ) (Cert.KernelIdeal.main (F := Ideal))) ⟨m, fun _ => 0, ρ⟩ fun r =>
      ∀ c : Dev Cert.KernelIdeal.nD,
        r.2.mem ((c.tc : Thread Cert.KernelIdeal.nD Cert.KernelIdeal.τ).loc Cert.KernelIdeal.main_v96) =
            Cert.KernelIdeal.Run.W23 m ρ c (Proc.devRef .tc Cert.KernelIdeal.main_v96)
        ∧ r.2.mem ((c.tc : Thread Cert.KernelIdeal.nD Cert.KernelIdeal.τ).loc Cert.KernelIdeal.main_v97) =
            Cert.KernelIdeal.Run.W23 m ρ c (Proc.devRef .tc Cert.KernelIdeal.main_v97)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13) :=
  (θ_run Cert.KernelIdeal.defs _ _).mono (fun r h c =>
      ⟨h.1.1 c _ (Cert.KernelIdeal.Run.mem_uc Cert.KernelIdeal.main_v96 (by decide)), h.1.1 c _ (Cert.KernelIdeal.Run.mem_uc Cert.KernelIdeal.main_v97 (by decide)), h.2.1 c⟩)
    (θ_run_and (Cert.KernelIdeal.Run.run (F := Ideal) m ρ) (Cert.KernelIdeal.Run.frame (F := Ideal) m ρ))

end Cert.Proof

end
-- ==== Proof.ReferenceIdeal.Both.lean ====
module
public import proofs.«01_k».proof.Defs
public import proofs.«01_k».proof.Proof.ReferenceIdeal.Pair

/-!
# The two runs side by side

From equal arguments, arrays of extended reals of one shape in both programs, the two programs end with equal results.
-/

@[expose] public section

set_option maxRecDepth 16384

noncomputable section

namespace Cert.Proof

open Idealize.ShloMosaic Idealize.SL.Sem Cert.Spec

/-- From memories with equal argument arrays both programs run, end with the same loss and the same perplexity, and leave their arguments unchanged. -/
theorem both : ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Cert.Pre_KernelIdeal m →
    (∀ c : Dev Cert.KernelIdeal.nD,
      @Eq (Cert.KernelIdeal.S8x1x224x224.Idx → EReal) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg0))
      ∧ @Eq (Cert.KernelIdeal.S64x1x4x4.Idx → EReal) (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg1))
      ∧ @Eq (Cert.KernelIdeal.S64.Idx → EReal) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg2))
      ∧ @Eq (Cert.KernelIdeal.S128x64x4x4.Idx → EReal) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg3))
      ∧ @Eq (Cert.KernelIdeal.S128.Idx → EReal) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg4))
      ∧ @Eq (Cert.KernelIdeal.S128x128x3x3.Idx → EReal) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg5))
      ∧ @Eq (Cert.KernelIdeal.S128.Idx → EReal) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg6))
      ∧ @Eq (Cert.KernelIdeal.S32x128x3x3.Idx → EReal) (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg7))
      ∧ @Eq (Cert.KernelIdeal.S128x32x1x1.Idx → EReal) (m' ((c.tc : Thread Cert.ReferenceIdeal.nD Cert.ReferenceIdeal.τ).loc Cert.ReferenceIdeal.main_arg8)) (m ((c.tc : Thread Cert.KernelIdeal.nD Cert.KernelIdeal.τ).loc Cert.KernelIdeal.main_arg8))
      ∧ @Eq (Cert.KernelIdeal.S32x128x3x3.Idx → EReal) (m' ((c.tc : Thread Cert.ReferenceIdeal.nD Cert.ReferenceIdeal.τ).loc Cert.ReferenceIdeal.main_arg9)) (m ((c.tc : Thread Cert.KernelIdeal.nD Cert.KernelIdeal.τ).loc Cert.KernelIdeal.main_arg9))
      ∧ @Eq (Cert.KernelIdeal.S128x32x1x1.Idx → EReal) (m' ((c.tc : Thread Cert.ReferenceIdeal.nD Cert.ReferenceIdeal.τ).loc Cert.ReferenceIdeal.main_arg10)) (m ((c.tc : Thread Cert.KernelIdeal.nD Cert.KernelIdeal.τ).loc Cert.KernelIdeal.main_arg10))
      ∧ @Eq (Cert.KernelIdeal.S64x128x1x1.Idx → EReal) (m' ((c.tc : Thread Cert.ReferenceIdeal.nD Cert.ReferenceIdeal.τ).loc Cert.ReferenceIdeal.main_arg11)) (m ((c.tc : Thread Cert.KernelIdeal.nD Cert.KernelIdeal.τ).loc Cert.KernelIdeal.main_arg11))
      ∧ @Eq (Cert.KernelIdeal.S64.Idx → EReal) (m' ((c.tc : Thread Cert.ReferenceIdeal.nD Cert.ReferenceIdeal.τ).loc Cert.ReferenceIdeal.main_arg12)) (m ((c.tc : Thread Cert.KernelIdeal.nD Cert.KernelIdeal.τ).loc Cert.KernelIdeal.main_arg12))
      ∧ @Eq (Cert.KernelIdeal.S512x64.Idx → EReal) (m' ((c.tc : Thread Cert.ReferenceIdeal.nD Cert.ReferenceIdeal.τ).loc Cert.ReferenceIdeal.main_arg13)) (m ((c.tc : Thread Cert.KernelIdeal.nD Cert.KernelIdeal.τ).loc Cert.KernelIdeal.main_arg13))) →
    ∃ (v0 : (c : Dev Cert.KernelIdeal.nD) → Cert.KernelIdeal.S_.Idx → EReal) (v1 : (c : Dev Cert.KernelIdeal.nD) → Cert.KernelIdeal.S_.Idx → EReal),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          @Eq (Cert.KernelIdeal.S_.Idx → EReal) (r.2.mem ((c.tc : Thread Cert.KernelIdeal.nD Cert.KernelIdeal.τ).loc Cert.KernelIdeal.main_v96)) (v0 c)
          ∧ @Eq (Cert.KernelIdeal.S_.Idx → EReal) (r.2.mem ((c.tc : Thread Cert.KernelIdeal.nD Cert.KernelIdeal.τ).loc Cert.KernelIdeal.main_v97)) (v1 c)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          @Eq (Cert.KernelIdeal.S_.Idx → EReal) (r.2.mem ((c.tc : Thread Cert.ReferenceIdeal.nD Cert.ReferenceIdeal.τ).loc Cert.ReferenceIdeal.main_v380)) (v0 c)
          ∧ @Eq (Cert.KernelIdeal.S_.Idx → EReal) (r.2.mem ((c.tc : Thread Cert.ReferenceIdeal.nD Cert.ReferenceIdeal.τ).loc Cert.ReferenceIdeal.main_v390)) (v1 c)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)) := by
  intro m g m' g' _ hagree
  have hargs : ∀ c : Dev Cert.KernelIdeal.nD, refArgs m' c = Cert.KernelIdeal.Val.args m c := by
    intro c
    obtain ⟨a0, a1, a2, a3, a4, a5, a6, a7, a8, a9, a10, a11, a12, a13⟩ := hagree c
    exact of_congr a0 a1 a2 a3 a4 a5 a6 a7 a8 a9 a10 a11 a12 a13
  exact ⟨fun c => Cert.KernelIdeal.Run.W23 m g c (Proc.devRef .tc Cert.KernelIdeal.main_v96), fun c => Cert.KernelIdeal.Run.W23 m g c (Proc.devRef .tc Cert.KernelIdeal.main_v97), kernel_run m g,
    (θ_run Cert.ReferenceIdeal.defs _ _).mono (fun r h c =>
      ⟨(h c).1.trans (loss_eq m g c _ (hargs c)), (h c).2.1.trans (perplexity_eq m g c _ (hargs c)), (h c).2.2⟩) (ref_run m' g')⟩

end Cert.Proof

end
-- ==== Proof.ReferenceIdeal.Claims.lean ====
module
public import proofs.«01_k».proof.Defs
public import proofs.«01_k».proof.Proof.Kernel.Run
public import proofs.«01_k».proof.Proof.ReferenceIdeal.Both

/-!
# The claims

The frames of the three programs and the equality of the results of the idealized kernel and the idealized reference.
-/

@[expose] public section

set_option maxRecDepth 16384

noncomputable section

namespace Cert.Proof

open Idealize.ShloMosaic Idealize.SL.Sem Cert.Spec

/-- The kernel's frame. -/
theorem frame_p : Cert.quiescent_Kernel := fun m ρ _ => Cert.Kernel.Run.frame (F := Bits) m ρ

/-- The idealized kernel's frame. -/
theorem frame_pi : Cert.quiescent_KernelIdeal := fun m ρ _ => Cert.KernelIdeal.Run.frame (F := Ideal) m ρ

/-- The reference's frame: the argument arrays end as launched and every counter at zero. -/
theorem frame_r : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The idealized kernel differs from the kernel in the named constant alone. -/
theorem preserves : Cert.preserves_Kernel_KernelIdeal := IdealRules.named_const.statement _ _ _ _ _ rfl

/-- From equal arguments the two programs end with equal results. -/
theorem algebraic : Cert.algebraic_KernelIdeal_ReferenceIdeal := both

end Cert.Proof

end
-- ==== Proof.Decoder.Run.lean ====
module
public import proofs.«01_k».proof.Proof.Gen.DecoderIdeal.Frame

/-!
# The decoder's run

The kernel's run ends with every buffer outside a kernel's scope at the contents of the last boundary. The launch is the one
of its frame.
-/

@[expose] public section

set_option maxRecDepth 16384

noncomputable section

namespace Cert.DecoderIdeal.Run

open Cert.DecoderIdeal Cert.DecoderIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: every execution terminates, nothing faulting, with every unscoped buffer at the last boundary's contents and every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W14 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => ⟨h, funext fun g => hz g (.inr (no_unscoped g.2))⟩)

end Cert.DecoderIdeal.Run

end
-- ==== Proof.Decoder.Net.lean ====
module
public import proofs.«01_k».proof.Proof.Net

/-!
# The decoder's first layers

The convolution from the quantised vectors and the residual stack, as functions of the seven arguments at natural coordinates.
-/

@[expose] public section

noncomputable section

namespace Cert.Spec

open Idealize.ShloMosaic

/-- The seven arguments at natural coordinates; the quantised vectors as 64 channels of 56 by 56. -/
structure Dec where
  q : N4
  w : N4
  b : ℕ → EReal
  r11 : N4
  r12 : N4
  r21 : N4
  r22 : N4

/-- The arguments read from seven arrays: row `n * 3136 + y * 56 + x` of the first is position `(y, x)` of image `n`. -/
def Dec.of (x0 : (⟨2, ![25088, 64]⟩ : Shape).Idx → EReal) (x1 : (⟨4, ![128, 64, 3, 3]⟩ : Shape).Idx → EReal) (x2 : (⟨1, ![128]⟩ : Shape).Idx → EReal)
    (x3 : (⟨4, ![32, 128, 3, 3]⟩ : Shape).Idx → EReal) (x4 : (⟨4, ![128, 32, 1, 1]⟩ : Shape).Idx → EReal)
    (x5 : (⟨4, ![32, 128, 3, 3]⟩ : Shape).Idx → EReal) (x6 : (⟨4, ![128, 32, 1, 1]⟩ : Shape).Idx → EReal) : Dec where
  q := fun n c y x => rd x0 ![n * 3136 + y * 56 + x, c]
  w := fun a b c d => rd x1 ![a, b, c, d]
  b := fun a => rd x2 ![a]
  r11 := fun a b c d => rd x3 ![a, b, c, d]
  r12 := fun a b c d => rd x4 ![a, b, c, d]
  r21 := fun a b c d => rd x5 ![a, b, c, d]
  r22 := fun a b c d => rd x6 ![a, b, c, d]

/-- After the convolution: 128 channels of 56 by 56. -/
def Dec.h1 (a : Dec) : N4 := addB (conv 1 3 64 56 a.q a.w) a.b
/-- After the first residual block. -/
def Dec.h2 (a : Dec) : N4 := res a.h1 a.r11 a.r12
/-- After the second residual block. -/
def Dec.h3 (a : Dec) : N4 := res a.h2 a.r21 a.r22

end Cert.Spec

end
-- ==== Proof.Decoder.Taps.lean ====
/- The three by three convolution from 64 to 128 channels on a flat image: nine shifted loads side by side times the
   stacked weights, and the chunk of rows that the call stores. -/
module

public import proofs.«01_k».proof.Proof.Gen.DecoderIdeal.Skeleton
public import proofs.«01_k».proof.Proof.KernelIdeal.Flat

@[expose] public section

set_option maxRecDepth 16384

noncomputable section

namespace Cert.DecoderIdeal.Val

open Cert.DecoderIdeal Cert.DecoderIdeal.Gen Cert.Spec
open Cert.KernelIdeal.Val (tapOff load2 load2_apply load3 load3_apply load3r load3r_apply Inner flatAt_inner flatAt_outer flatAt_tap)
open Idealize.ShloMosaic Idealize.ShloMosaic.TcCoe Idealize.ShloMosaic.Tactic

/-- One of nine arrays of 64 channels. -/
def pick64 (f0 f1 f2 f3 f4 f5 f6 f7 f8 : FVec Ideal S812x64 .f32) : Fin 9 → FVec Ideal S812x64 .f32 :=
  ![f0, f1, f2, f3, f4, f5, f6, f7, f8]

/-- Nine arrays side by side. -/
def nine64 (f0 f1 f2 f3 f4 f5 f6 f7 f8 : FVec Ideal S812x64 .f32) : FVec Ideal S812x576 .f32 :=
  concatenate S812x576 1 [⟨S812x64, f0⟩, ⟨S812x64, f1⟩, ⟨S812x64, f2⟩, ⟨S812x64, f3⟩, ⟨S812x64, f4⟩, ⟨S812x64, f5⟩,
    ⟨S812x64, f6⟩, ⟨S812x64, f7⟩, ⟨S812x64, f8⟩]
    concatenates_S812x64_S812x64_S812x64_S812x64_S812x64_S812x64_S812x64_S812x64_S812x64_S812x576_d1

/-- Lane `k` of nine arrays side by side is lane `k % 64` of array `k / 64`. -/
theorem nine64_apply (f0 f1 f2 f3 f4 f5 f6 f7 f8 : FVec Ideal S812x64 .f32) (r : Fin 812) (k : Fin 576) :
    nine64 f0 f1 f2 f3 f4 f5 f6 f7 f8 (ix2 r k)
      = rd (s := S812x64) ((pick64 f0 f1 f2 f3 f4 f5 f6 f7 f8) (Fin.ofNat 9 (k.val / 64))) ![r.val, k.val % 64] := by
  have hk : k.val / 64 < 9 := by have := k.isLt; omega
  have h := concatenate_ofFn_apply (t := S812x576) (s₁ := S812x64) 1 (pick64 f0 f1 f2 f3 f4 f5 f6 f7 f8)
    concatenates_S812x64_S812x64_S812x64_S812x64_S812x64_S812x64_S812x64_S812x64_S812x64_S812x576_d1
    rfl 64 rfl (ix2 r k) (Fin.ofNat 9 (k.val / 64)) (by
      show k.val / 64 = k.val / 64 % 9
      omega) (ix2 r ⟨k.val % 64, by omega⟩) rfl (fun b hb => by
        fin_cases b
        · rfl
        · exact absurd rfl hb)
  exact h.trans (rd2 _ _ _ _ rfl rfl)

/-- The product with the stacked weights, as the sum over taps and channels. -/
theorem taps64 (f0 f1 f2 f3 f4 f5 f6 f7 f8 : FVec Ideal S812x64 .f32) (w : FVec Ideal S9x64x128 .f32) :
    matmul dot_S812x576_S576x128_S812x128_1_0_0_1_n_n none (nine64 f0 f1 f2 f3 f4 f5 f6 f7 f8)
      (shapeCast S576x128 (shapeCast S9x64x128 w shapeCasts_S9x64x128_S9x64x128) shapeCasts_S9x64x128_S576x128)
      (constant S812x128 FTy.f32 0#32)
    = fun x => ∑ t : Fin 9, ∑ c : Fin 64,
        (pick64 f0 f1 f2 f3 f4 f5 f6 f7 f8) t (ix2 (x 0) c) * w (ix3 t c (x 1)) := by
  funext x
  pointwise
  have hw : ∀ k : Fin 576, w (ix3 ⟨k.val / 64, by omega⟩ ⟨k.val % 64, by omega⟩ (x 1)) = rd (s := S9x64x128) w ![k.val / 64, k.val % 64, (x 1).val] :=
    fun k => rd3 _ _ _ _ _ rfl rfl rfl
  refine (Finset.sum_congr rfl fun k _ => congrArg₂ (· * ·) (nine64_apply f0 f1 f2 f3 f4 f5 f6 f7 f8 (x 0) k) (hw k)).trans ?_
  refine (sum_split 9 64 rfl (fun t c => rd (s := S812x64) ((pick64 f0 f1 f2 f3 f4 f5 f6 f7 f8) (Fin.ofNat 9 t))
          ![(x 0).val, c] * rd (s := S9x64x128) w ![t, c, (x 1).val])).trans ?_
  refine Finset.sum_congr rfl fun t _ => Finset.sum_congr rfl fun c _ => ?_
  rw [show Fin.ofNat 9 t.val = t from Fin.ext (Nat.mod_eq_of_lt t.isLt)]
  exact congrArg₂ (· * ·) (rd2 _ _ _ (ix2 (x 0) c) rfl rfl).symm (rd3 w _ _ _ (ix3 t c (x 1)) rfl rfl rfl).symm

/-- A load of 812 rows from row `off` on stays inside a flat image of 64 channels. -/
abbrev InB64 (off : ℕ) : Prop := ∀ a, (![0, off, 0] : Fin 3 → ℕ) a + (![1, 812, 64] : Fin 3 → ℕ) a ≤ (![1, 3448, 64] : Fin 3 → ℕ) a

/-- The 812 rows loaded from row `off` on. -/
def row64 {sg : RefSig} (a1 : Memref sg .tc .vmem S1x3448x64 .f32) (h1 : a1.IsWhole) (X : FVec Ideal S1x3448x64 .f32) (off : ℕ) (i : InB64 off) :
    FVec Ideal S812x64 .f32 :=
  shapeCast S812x64 (load3r (m1 := 812) a1 h1 X off i) shapeCasts_S1x812x64_S812x64

theorem row64_apply {sg : RefSig} (a1 : Memref sg .tc .vmem S1x3448x64 .f32) (h1 : a1.IsWhole) (X : FVec Ideal S1x3448x64 .f32) (off : ℕ) (i : InB64 off)
    (r : Fin 812) (c : Fin 64) (q : ℕ) (hq : q = off + r.val) : row64 a1 h1 X off i (ix2 r c) = rd (s := S1x3448x64) X ![0, q, c.val] := by
  unfold row64
  pointwise
  exact load3r_apply (m1 := 812) a1 h1 X off i _ r c q hq

/-- The closed form over natural coordinates: `X` one image's flat array, `w` the tap weights, `b` the bias, `m` the mask. -/
def K64 (X : ℕ → ℕ → EReal) (w : ℕ → ℕ → ℕ → EReal) (b m : ℕ → EReal) (p o : ℕ) : EReal :=
  if 66 ≤ p ∧ p < 3314 then
    (∑ t : Fin 9, ∑ c : Fin 64, X (p - 59 + tapOff t.val) c.val * w t.val c.val o + b o) * m p
  else 0

/-- The 812-row chunk whose rows begin at `o0 + 59`. -/
theorem chunk64 {sg : RefSig} (X : FVec Ideal S1x3448x64 .f32) (w : FVec Ideal S9x64x128 .f32) (b : FVec Ideal S1x128 .f32) (m : FVec Ideal S3448x1 .f32)
    (a1 : Memref sg .tc .vmem S1x3448x64 .f32) (h1 : a1.IsWhole) (a2 : Memref sg .tc .vmem S9x64x128 .f32) (h2 : a2.IsWhole)
    (a3 : Memref sg .tc .vmem S1x128 .f32) (h3 : a3.IsWhole) (a4 : Memref sg .tc .vmem S3448x1 .f32) (h4 : a4.IsWhole)
    (o0 : ℕ) (i0 : InB64 o0) (i1 : InB64 (o0 + 1)) (i2 : InB64 (o0 + 2)) (i3 : InB64 (o0 + 58)) (i4 : InB64 (o0 + 59)) (i5 : InB64 (o0 + 60))
    (i6 : InB64 (o0 + 116)) (i7 : InB64 (o0 + 117)) (i8 : InB64 (o0 + 118)) (iw ib im) (hb : 7 ≤ o0 ∧ o0 + 871 ≤ 3314)
    (x : S1x812x128.Idx) (p o : ℕ) (hp : p = o0 + 59 + (x 1).val) (ho : o = (x 2).val) :
    shapeCast S1x812x128 (mulf (addf
      (matmul (φ₁ := .f32) (φ₂ := .f32) dot_S812x576_S576x128_S812x128_1_0_0_1_n_n none
        (nine64 (row64 a1 h1 X o0 i0) (row64 a1 h1 X (o0 + 1) i1) (row64 a1 h1 X (o0 + 2) i2) (row64 a1 h1 X (o0 + 58) i3)
          (row64 a1 h1 X (o0 + 59) i4) (row64 a1 h1 X (o0 + 60) i5) (row64 a1 h1 X (o0 + 116) i6) (row64 a1 h1 X (o0 + 117) i7)
          (row64 a1 h1 X (o0 + 118) i8))
        (shapeCast S576x128 (shapeCast S9x64x128 (load3 a2 h2 w iw) shapeCasts_S9x64x128_S9x64x128) shapeCasts_S9x64x128_S576x128)
        (constant S812x128 FTy.f32 0#32))
      (broadcastTo S812x128 (shapeCast S1x128 (shapeCast S128 (load2 (m0 := 1) a3 h3 b 0 ib) shapeCasts_S1x128_S128) shapeCasts_S128_S1x128) broadcasts_S1x128_S812x128))
      (broadcastTo S812x128 (shapeCast S812x1 (load2 (m0 := 812) a4 h4 m (o0 + 59) im)
        shapeCasts_S812x1_S812x1) broadcasts_S812x1_S812x128)) shapeCasts_S812x128_S1x812x128 x
    = K64 (fun p c => rd (s := S1x3448x64) X ![0, p, c]) (fun t c o => rd (s := S9x64x128) w ![t, c, o]) (fun o => rd (s := S1x128) b ![0, o])
        (fun p => rd (s := S3448x1) m ![p, 0]) p o := by
  rw [taps64]
  have hx1 : (x 1).val < 812 := (x 1).isLt
  unfold K64
  rw [if_pos (by omega)]
  pointwise
  refine congrArg₂ (· * ·) (congrArg₂ (· + ·) (Finset.sum_congr rfl fun t _ => Finset.sum_congr rfl fun c _ => congrArg₂ (· * ·) ?_ ?_) ?_) ?_
  · have key : ∀ (off : ℕ) (i : InB64 off) (r : Fin 812), p - 59 + tapOff t.val = off + r.val → row64 a1 h1 X off i (ix2 r c)
        = rd (s := S1x3448x64) X ![0, p - 59 + tapOff t.val, c.val] := fun off i r hq => row64_apply a1 h1 X off i r c _ hq
    fin_cases t <;> exact key _ _ _ (by simp only [tapOff]; omega)
  · exact load3_apply a2 h2 w iw _ _ _ _ ho
  · exact load2_apply (m0 := 1) a3 h3 b 0 ib _ _ _ _ rfl ho
  · exact load2_apply (m0 := 812) a4 h4 m _ im _ _ _ _ hp rfl

/-- Nine taps are the three by three convolution from 64 channels. -/
theorem taps64_conv (f w : N4) (n o y x : ℕ) :
    ∑ t : Fin 9, ∑ c : Fin 64, padAt 56 f n c.val (1 * y + t.val / 3) (1 * x + t.val % 3) * w o c.val (t.val / 3) (t.val % 3)
      = conv 1 3 64 56 f w n o y x :=
  sum_split 3 3 rfl fun ky kx => ∑ c : Fin 64, padAt 56 f n c.val (1 * y + ky) (1 * x + kx) * w o c.val ky kx

/-- The call's closed form is the convolution with its bias, laid out flat. -/
theorem K64_layer (X : ℕ → ℕ → EReal) (w : ℕ → ℕ → ℕ → EReal) (b b' m : ℕ → EReal) (f w' : N4) (n p o : ℕ)
    (hX : ∀ p c, p < 3448 → c < 64 → X p c = flatAt f n p c)
    (hw : ∀ t c, t < 9 → c < 64 → w t c o = w' o c (t / 3) (t % 3)) (hm : m p = if Inner p then 1 else 0) (hb : b o = b' o) :
    K64 X w b m p o = flatAt (addB (conv 1 3 64 56 f w') b') n p o := by
  unfold K64
  rw [hb]
  by_cases h : Inner p
  · rw [if_pos h.range, hm, if_pos h, mul_one, flatAt_inner _ _ _ h]
    unfold addB
    rw [← taps64_conv]
    refine congrArg (· + b' o) (Finset.sum_congr rfl fun t _ => Finset.sum_congr rfl fun c _ => ?_)
    rw [hX _ _ (by have := h.range; have := t.isLt; unfold tapOff; omega) c.isLt, flatAt_tap _ _ _ _ t.isLt h, hw _ _ t.isLt c.isLt]
  · rw [hm, if_neg h, mul_zero, flatAt_outer _ _ _ h, ite_self]

end Cert.DecoderIdeal.Val

end
-- ==== Proof.Decoder.Blocks.lean ====
/- Reading a call's blocks: what holds of every window that is a whole array, or one image of the flat array. -/
module

public import proofs.«01_k».proof.Proof.KernelIdeal.Val3

@[expose] public section

set_option maxRecDepth 16384

noncomputable section

namespace Cert.DecoderIdeal.Val

open Cert.Spec
open Idealize.ShloMosaic

/-- A read in which every coordinate stays in place is the array itself. -/
theorem whole_read {s : Shape} (A B : s.Idx → EReal) (e : s.Idx → s.Idx) (hB : ∀ y, B y = A (e y)) (he : ∀ y a, (e y a).val = (y a).val) : B = A :=
  funext fun y => (hB y).trans (congrArg A (funext fun a => Fin.ext (he y a)))

/-- A read of one image of the flat array, at natural coordinates. -/
theorem image_read {k : ℕ} (A : (⟨3, ![8, 3448, k]⟩ : Shape).Idx → EReal) (B : (⟨3, ![1, 3448, k]⟩ : Shape).Idx → EReal)
    (e : (⟨3, ![1, 3448, k]⟩ : Shape).Idx → (⟨3, ![8, 3448, k]⟩ : Shape).Idx) (hB : ∀ y, B y = A (e y)) (t : ℕ) (ht : t < 8)
    (h0 : ∀ y, (e y 0).val = t) (h1 : ∀ y, (e y 1).val = (y 1).val) (h2 : ∀ y, (e y 2).val = (y 2).val) (p q : ℕ) :
    rd B ![0, p, q] = rd A ![t, p, q] := by
  refine rd_lead _ _ t ht (fun y j g0 g1 g2 => (hB y).trans (congrArg A (funext fun a => Fin.ext ?_))) p q
  fin_cases a
  · exact (h0 y).trans g0.symm
  · exact (h1 y).trans g1.symm
  · exact (h2 y).trans g2.symm

/-- A function of three naturals, at the coordinates of an index of the flat array. -/
theorem at_flat (Y : (⟨3, ![8, 3448, 128]⟩ : Shape).Idx) (n p o : ℕ) (f : ℕ → ℕ → ℕ → EReal) (h0 : (Y 0).val = n) (h1 : (Y 1).val = p) (h2 : (Y 2).val = o) :
    f n p o = (fun Y : (⟨3, ![8, 3448, 128]⟩ : Shape).Idx => f (Y 0).val (Y 1).val (Y 2).val) Y := by
  subst h0 h1 h2
  rfl

end Cert.DecoderIdeal.Val

end
-- ==== Proof.Decoder.Arr0.lean ====
/- What the decoder's first call leaves: its block in closed form, then its array. -/
module

public import proofs.«01_k».proof.Proof.Gen.DecoderIdeal.Frame
public import proofs.«01_k».proof.Proof.Decoder.Taps
public import proofs.«01_k».proof.Proof.Decoder.Blocks

@[expose] public section

set_option maxRecDepth 16384

noncomputable section

namespace Cert.DecoderIdeal.Val

open Cert.DecoderIdeal Cert.DecoderIdeal.Gen Cert.Spec
open Idealize.ShloMosaic Idealize.ShloMosaic.TcCoe Idealize.ShloMosaic.Tactic
open Idealize.SL Idealize.SL.RA

/-- The block the body leaves at a point. -/
theorem out0 (c : Dev nD) (i : grid0.Coords) (arg1 : Memref sig .tc .vmem S1x3448x64 .f32) (harg1 : arg1.IsWhole) (arg2 : Memref sig .tc .vmem S9x64x128 .f32) (harg2 : arg2.IsWhole)
    (arg3 : Memref sig .tc .vmem S1x128 .f32) (harg3 : arg3.IsWhole) (arg4 : Memref sig .tc .vmem S3448x1 .f32) (harg4 : arg4.IsWhole) (arg5 : Memref sig .tc .vmem S1x3448x128 .f32) (harg5 : arg5.IsWhole)
    (x0 : Vec Ideal S1x3448x64 .f32) (x1 : Vec Ideal S9x64x128 .f32) (x2 : Vec Ideal S1x128 .f32) (x3 : Vec Ideal S3448x1 .f32) (y : S1x3448x128.Idx) :
    out0_A_4 (F := Ideal) c i arg1 harg1 arg2 harg2 arg3 harg3 arg4 harg4 arg5 harg5 x0 x1 x2 x3 y
      = K64 (fun p c => rd (s := S1x3448x64) x0 ![0, p, c]) (fun t c o => rd (s := S9x64x128) x1 ![t, c, o]) (fun o => rd (s := S1x128) x2 ![0, o])
          (fun p => rd (s := S3448x1) x3 ![p, 0]) (y 1).val (y 2).val := by
  have hc := cover0_A_4 (F := Ideal) c i arg1 harg1 arg2 harg2 arg3 harg3 arg4 harg4 arg5 harg5 x0 x1 x2 x3 y
  unfold out0_A_4
  rw [View.read_writes_junk_eq_canon]
  refine View.canon_eq_of_allAt _ y _ hc ?_
  clear hc
  frame_open
  refine View.allAt_cons_unit _ _ _ _ _ ?_ <| View.allAt_cons_unit _ _ _ _ _ ?_ <| View.allAt_cons_unit _ _ _ _ _ ?_ <|
    View.allAt_cons_unit _ _ _ _ _ ?_ <| View.allAt_cons_unit _ _ _ _ _ ?_ <| View.allAt_cons_unit _ _ _ _ _ ?_ <| View.allAt_nil _ _
  all_goals tile_intro x h
  · unfold K64; rw [if_neg (by omega)]; exact Ideal.ofBits_zero_f32
  · unfold K64; rw [if_neg (by omega)]; exact Ideal.ofBits_zero_f32
  all_goals
    exact chunk64 x0 x1 x2 x3 arg1 harg1 arg2 harg2 arg3 harg3 arg4 harg4 _ _ _ _ _ _ _ _ _ _ _ _ _ (by omega) x _ _ h1 h2

/-- The windows' block indices at a point. -/
theorem idx0 : ∀ t : Fin cfg0.N, win0_0.index t = ![t.val, 0, 0] ∧ win0_1.index t = ![0, 0, 0] ∧ win0_2.index t = ![0, 0] ∧ win0_3.index t = ![0, 0] ∧ win0_4.index t = ![t.val, 0, 0] :=
  (by decide +kernel : ∀ t : Fin grid0.N, win0_0.index t = ![t.val, 0, 0] ∧ win0_1.index t = ![0, 0, 0] ∧ win0_2.index t = ![0, 0] ∧ win0_3.index t = ![0, 0] ∧ win0_4.index t = ![t.val, 0, 0])

section Blocks
variable (V : (c : Dev nD) → (b : Ref sig .tc) → Buf (Elt Ideal) ((c : Thread nD τ).loc b)) (c : Dev nD)

/-- The array after the run: image `n`'s row is the closed form over image `n`'s operand. -/
theorem arr0 (X : FVec Ideal S8x3448x64 .f32) (w : FVec Ideal S9x64x128 .f32) (b : FVec Ideal S1x128 .f32) (m : FVec Ideal S3448x1 .f32)
    (hX : V c (Pipeline.arrRef spec0 0) = X) (hw : V c (Pipeline.arrRef spec0 1) = w) (hb : V c (Pipeline.arrRef spec0 2) = b) (hm : V c (Pipeline.arrRef spec0 3) = m) :
    (dat0 (F := Ideal) V c).arrAt 4 cfg0.N
      = fun y : S8x3448x128.Idx => K64 (fun p c => rd (s := S8x3448x64) X ![(y 0).val, p, c]) (fun t c o => rd (s := S9x64x128) w ![t, c, o])
          (fun o => rd (s := S1x128) b ![0, o]) (fun p => rd (s := S3448x1) m ![p, 0]) (y 1).val (y 2).val := by
  subst hX hw hb hm
  refine (dat0 (F := Ideal) V c).arrAt_eq_of_covers 4 _ (by decide +kernel) fun t hf y => ?_
  obtain ⟨j0, j1, j2, j3, j4⟩ := idx0 t
  have f1 : iblk0 V c 1 t = V c (Pipeline.arrRef spec0 1) :=
    whole_read (s := S9x64x128) _ _ ((cfg0.win 1).blk t).view.emb (fun _ => rfl) fun y a => by blk_simp [j1]; fin_cases a <;> simp
  have f2 : iblk0 V c 2 t = V c (Pipeline.arrRef spec0 2) :=
    whole_read (s := S1x128) _ _ ((cfg0.win 2).blk t).view.emb (fun _ => rfl) fun y a => by blk_simp [j2]; fin_cases a <;> simp
  have f3 : iblk0 V c 3 t = V c (Pipeline.arrRef spec0 3) :=
    whole_read (s := S3448x1) _ _ ((cfg0.win 3).blk t).view.emb (fun _ => rfl) fun y a => by blk_simp [j3]; fin_cases a <;> simp
  have f0 := image_read (k := 64) (V c (Pipeline.arrRef spec0 0)) (iblk0 V c 0 t) ((cfg0.win 0).blk t).view.emb (fun _ => rfl) t.val t.isLt
    (fun y => by blk_simp [j0]) (fun y => by blk_simp [j0]) (fun y => by blk_simp [j0])
  rw [after0_4]
  unfold outsAt0
  refine (out0 c _ _ _ _ _ _ _ _ _ _ _ _ _ _ _ _).trans ?_
  rw [f1, f2, f3]
  simp only [f0]
  exact at_flat _ _ _ _ (fun n p o => K64 (fun p c' => rd (s := S8x3448x64) (V c (Pipeline.arrRef spec0 0)) ![n, p, c']) _ _ _ p o)
    (by blk_simp [j4]) (by blk_simp [j4]) (by blk_simp [j4])
end Blocks

end Cert.DecoderIdeal.Val

end
-- ==== Proof.Decoder.Res.lean ====
/- The residual call that rectifies its output: its chunk of rows, and its closed form as a layer. -/
module

public import proofs.«01_k».proof.Proof.KernelIdeal.Flat

@[expose] public section

set_option maxRecDepth 16384

noncomputable section

namespace Cert.DecoderIdeal.Val

open Cert.KernelIdeal Cert.KernelIdeal.Gen Cert.KernelIdeal.Val Cert.Spec
open Idealize.ShloMosaic Idealize.ShloMosaic.TcCoe Idealize.ShloMosaic.Tactic

/-- The block in closed form: interior rows hold the rectified residual block times the mask, the rows around 0. -/
def KR (X : ℕ → ℕ → EReal) (w1 : ℕ → ℕ → ℕ → EReal) (w2 : ℕ → ℕ → EReal) (m : ℕ → EReal) (p o : ℕ) : EReal :=
  if 66 ≤ p ∧ p < 3314 then relu (resF X w1 w2 p o) * m p else 0

/-- The 812-row chunk whose rows begin at `o0 + 59`. -/
theorem chunkR {sg : RefSig} (X : FVec Ideal S1x3448x128 .f32) (w1 : FVec Ideal S9x128x32 .f32) (w2 : FVec Ideal S32x128 .f32) (m : FVec Ideal S3448x1 .f32)
    (a1 : Memref sg .tc .vmem S1x3448x128 .f32) (h1 : a1.IsWhole)
    (a2 : Memref sg .tc .vmem S9x128x32 .f32) (h2 : a2.IsWhole)
    (a3 : Memref sg .tc .vmem S32x128 .f32) (h3 : a3.IsWhole)
    (a4 : Memref sg .tc .vmem S3448x1 .f32) (h4 : a4.IsWhole)
    (o0 : ℕ) (i0 : InB o0) (i1 : InB (o0 + 1)) (i2 : InB (o0 + 2)) (i3 : InB (o0 + 58)) (i4 : InB (o0 + 59)) (i5 : InB (o0 + 60)) (i6 : InB (o0 + 116))
    (i7 : InB (o0 + 117)) (i8 : InB (o0 + 118)) (i9 : InB (o0 + 59))
    (iw iv im) (hb : 7 ≤ o0 ∧ o0 + 871 ≤ 3314)
    (x : S1x812x128.Idx) (p o : ℕ) (hp : p = o0 + 59 + (x 1).val) (ho : o = (x 2).val) :
    shapeCast S1x812x128 (mulf (maximumf (resBlock a1 h1 X (load3 a2 h2 w1 iw) (load2 (m0 := 32) a3 h3 w2 0 iv) o0 i0 i1 i2 i3 i4 i5 i6 i7 i8 i9)
        (broadcast S812x128 (Scalar.ofBits .f32 0x00000000#32)))
      (broadcastTo S812x128 (shapeCast S812x1 (load2 (m0 := 812) a4 h4 m (o0 + 59) im)
        shapeCasts_S812x1_S812x1) broadcasts_S812x1_S812x128)) shapeCasts_S812x128_S1x812x128 x
    = KR (fun p c => rd (s := S1x3448x128) X ![0, p, c]) (fun t c o => rd (s := S9x128x32) w1 ![t, c, o]) (fun h o => rd (s := S32x128) w2 ![h, o])
        (fun p => rd (s := S3448x1) m ![p, 0]) p o := by
  have hx1 : (x 1).val < 812 := (x 1).isLt
  unfold KR
  rw [if_pos (by omega)]
  pointwise
  refine congrArg₂ (· * ·) (congrArg relu ?_) ?_
  · subst ho
    exact resBlock_apply a1 h1 X _ _ o0 i0 i1 i2 i3 i4 i5 i6 i7 i8 i9 (x 1) (x 2) p hp _ _
      (fun t c h => load3_apply a2 h2 w1 iw t c h _ rfl) (fun h c => load2_apply (m0 := 32) a3 h3 w2 0 iv h c _ _ (by simp) rfl)
  · exact load2_apply (m0 := 812) a4 h4 m _ im _ _ _ _ hp rfl

/-- The call's closed form is the residual block rectified, laid out flat. -/
theorem KR_layer (X : ℕ → ℕ → EReal) (w1 : ℕ → ℕ → ℕ → EReal) (w2 : ℕ → ℕ → EReal) (m : ℕ → EReal) (f w1' w2' : N4) (n p o : ℕ) (ho : o < 128)
    (hX : ∀ p c, p < 3448 → c < 128 → X p c = flatAt f n p c)
    (hw1 : ∀ t c h, t < 9 → c < 128 → h < 32 → w1 t c h = w1' h c (t / 3) (t % 3)) (hw2 : ∀ h o, h < 32 → o < 128 → w2 h o = w2' o h 0 0)
    (hm : m p = if Inner p then 1 else 0) :
    KR X w1 w2 m p o = flatAt (reluN (res f w1' w2')) n p o := by
  unfold KR
  by_cases h : Inner p
  · rw [if_pos h.range, hm, if_pos h, mul_one, flatAt_inner _ _ _ h, resF_layer X w1 w2 f w1' w2' n p o ho hX hw1 hw2 h]
    rfl
  · rw [hm, if_neg h, mul_zero, flatAt_outer _ _ _ h, ite_self]

end Cert.DecoderIdeal.Val

end
-- ==== Proof.Decoder.ArrRes.lean ====
/- What the decoder's two residual calls leave in their arrays: `K3` for the first, `KR`, which rectifies, for the second. -/
module

public import proofs.«01_k».proof.Proof.Gen.DecoderIdeal.Frame
public import proofs.«01_k».proof.Proof.Decoder.Res
public import proofs.«01_k».proof.Proof.Decoder.Blocks

@[expose] public section

set_option maxRecDepth 16384

noncomputable section

namespace Cert.DecoderIdeal.Val

open Cert.DecoderIdeal Cert.DecoderIdeal.Gen Cert.Spec
open Cert.KernelIdeal.Val (K3 chunk3)
open Idealize.ShloMosaic Idealize.ShloMosaic.TcCoe Idealize.ShloMosaic.Tactic
open Idealize.SL Idealize.SL.RA

section Bodies
variable (c : Dev nD) (arg1 : Memref sig .tc .vmem S1x3448x128 .f32) (harg1 : arg1.IsWhole) (arg2 : Memref sig .tc .vmem S9x128x32 .f32) (harg2 : arg2.IsWhole)
  (arg3 : Memref sig .tc .vmem S32x128 .f32) (harg3 : arg3.IsWhole) (arg4 : Memref sig .tc .vmem S3448x1 .f32) (harg4 : arg4.IsWhole) (arg5 : Memref sig .tc .vmem S1x3448x128 .f32) (harg5 : arg5.IsWhole)
  (x0 : Vec Ideal S1x3448x128 .f32) (x1 : Vec Ideal S9x128x32 .f32) (x2 : Vec Ideal S32x128 .f32) (x3 : Vec Ideal S3448x1 .f32) (y : S1x3448x128.Idx)

/-- The block the first call's body leaves at a point. -/
theorem out1 (i : grid1.Coords) : out1_A_4 (F := Ideal) c i arg1 harg1 arg2 harg2 arg3 harg3 arg4 harg4 arg5 harg5 x0 x1 x2 x3 y
      = K3 (fun p c => rd (s := S1x3448x128) x0 ![0, p, c]) (fun t c o => rd (s := S9x128x32) x1 ![t, c, o]) (fun h o => rd (s := S32x128) x2 ![h, o])
          (fun p => rd (s := S3448x1) x3 ![p, 0]) (y 1).val (y 2).val := by
  have hc := cover1_A_4 (F := Ideal) c i arg1 harg1 arg2 harg2 arg3 harg3 arg4 harg4 arg5 harg5 x0 x1 x2 x3 y
  unfold out1_A_4
  rw [View.read_writes_junk_eq_canon]
  refine View.canon_eq_of_allAt _ y _ hc ?_
  clear hc
  frame_open
  refine View.allAt_cons_unit _ _ _ _ _ ?_ <| View.allAt_cons_unit _ _ _ _ _ ?_ <| View.allAt_cons_unit _ _ _ _ _ ?_ <|
    View.allAt_cons_unit _ _ _ _ _ ?_ <| View.allAt_cons_unit _ _ _ _ _ ?_ <| View.allAt_cons_unit _ _ _ _ _ ?_ <| View.allAt_nil _ _
  all_goals tile_intro x h
  · unfold K3; rw [if_neg (by omega)]; exact Ideal.ofBits_zero_f32
  · unfold K3; rw [if_neg (by omega)]; exact Ideal.ofBits_zero_f32
  all_goals exact chunk3 x0 x1 x2 x3 arg1 harg1 arg2 harg2 arg3 harg3 arg4 harg4 _ _ _ _ _ _ _ _ _ _ _ _ _ _ (by omega) x _ _ h1 h2

/-- The block the second call's body leaves at a point. -/
theorem out2 (i : grid2.Coords) : out2_A_4 (F := Ideal) c i arg1 harg1 arg2 harg2 arg3 harg3 arg4 harg4 arg5 harg5 x0 x1 x2 x3 y
      = KR (fun p c => rd (s := S1x3448x128) x0 ![0, p, c]) (fun t c o => rd (s := S9x128x32) x1 ![t, c, o]) (fun h o => rd (s := S32x128) x2 ![h, o])
          (fun p => rd (s := S3448x1) x3 ![p, 0]) (y 1).val (y 2).val := by
  have hc := cover2_A_4 (F := Ideal) c i arg1 harg1 arg2 harg2 arg3 harg3 arg4 harg4 arg5 harg5 x0 x1 x2 x3 y
  unfold out2_A_4
  rw [View.read_writes_junk_eq_canon]
  refine View.canon_eq_of_allAt _ y _ hc ?_
  clear hc
  frame_open
  refine View.allAt_cons_unit _ _ _ _ _ ?_ <| View.allAt_cons_unit _ _ _ _ _ ?_ <| View.allAt_cons_unit _ _ _ _ _ ?_ <|
    View.allAt_cons_unit _ _ _ _ _ ?_ <| View.allAt_cons_unit _ _ _ _ _ ?_ <| View.allAt_cons_unit _ _ _ _ _ ?_ <| View.allAt_nil _ _
  all_goals tile_intro x h
  · unfold KR; rw [if_neg (by omega)]; exact Ideal.ofBits_zero_f32
  · unfold KR; rw [if_neg (by omega)]; exact Ideal.ofBits_zero_f32
  all_goals exact chunkR x0 x1 x2 x3 arg1 harg1 arg2 harg2 arg3 harg3 arg4 harg4 _ _ _ _ _ _ _ _ _ _ _ _ _ _ (by omega) x _ _ h1 h2

end Bodies

/-- The first call's block indices at a point. -/
theorem idx1 : ∀ t : Fin cfg1.N, win1_0.index t = ![t.val, 0, 0] ∧ win1_1.index t = ![0, 0, 0] ∧ win1_2.index t = ![0, 0] ∧ win1_3.index t = ![0, 0] ∧ win1_4.index t = ![t.val, 0, 0] :=
  (by decide +kernel : ∀ t : Fin grid1.N, win1_0.index t = ![t.val, 0, 0] ∧ win1_1.index t = ![0, 0, 0] ∧ win1_2.index t = ![0, 0] ∧ win1_3.index t = ![0, 0] ∧ win1_4.index t = ![t.val, 0, 0])

/-- The second call's block indices at a point. -/
theorem idx2 : ∀ t : Fin cfg2.N, win2_0.index t = ![t.val, 0, 0] ∧ win2_1.index t = ![0, 0, 0] ∧ win2_2.index t = ![0, 0] ∧ win2_3.index t = ![0, 0] ∧ win2_4.index t = ![t.val, 0, 0] :=
  (by decide +kernel : ∀ t : Fin grid2.N, win2_0.index t = ![t.val, 0, 0] ∧ win2_1.index t = ![0, 0, 0] ∧ win2_2.index t = ![0, 0] ∧ win2_3.index t = ![0, 0] ∧ win2_4.index t = ![t.val, 0, 0])

section Arrays
variable (V : (c : Dev nD) → (b : Ref sig .tc) → Buf (Elt Ideal) ((c : Thread nD τ).loc b)) (c : Dev nD)
  (X : FVec Ideal S8x3448x128 .f32) (w1 : FVec Ideal S9x128x32 .f32) (w2 : FVec Ideal S32x128 .f32) (m : FVec Ideal S3448x1 .f32)

/-- The array after the first call: image `n`'s row is the closed form over image `n`'s operand. -/
theorem arr1 (hX : V c (Pipeline.arrRef spec1 0) = X) (hw1 : V c (Pipeline.arrRef spec1 1) = w1) (hw2 : V c (Pipeline.arrRef spec1 2) = w2)
    (hm : V c (Pipeline.arrRef spec1 3) = m) : (dat1 (F := Ideal) V c).arrAt 4 cfg1.N
      = fun y : S8x3448x128.Idx => K3 (fun p c => rd (s := S8x3448x128) X ![(y 0).val, p, c]) (fun t c o => rd (s := S9x128x32) w1 ![t, c, o])
          (fun h o => rd (s := S32x128) w2 ![h, o]) (fun p => rd (s := S3448x1) m ![p, 0]) (y 1).val (y 2).val := by
  subst hX hw1 hw2 hm
  refine (dat1 (F := Ideal) V c).arrAt_eq_of_covers 4 _ (by decide +kernel) fun t hf y => ?_
  obtain ⟨j0, j1, j2, j3, j4⟩ := idx1 t
  have f1 : iblk1 V c 1 t = V c (Pipeline.arrRef spec1 1) :=
    whole_read (s := S9x128x32) _ _ ((cfg1.win 1).blk t).view.emb (fun _ => rfl) fun y a => by blk_simp [j1]; fin_cases a <;> simp
  have f2 : iblk1 V c 2 t = V c (Pipeline.arrRef spec1 2) :=
    whole_read (s := S32x128) _ _ ((cfg1.win 2).blk t).view.emb (fun _ => rfl) fun y a => by blk_simp [j2]; fin_cases a <;> simp
  have f3 : iblk1 V c 3 t = V c (Pipeline.arrRef spec1 3) :=
    whole_read (s := S3448x1) _ _ ((cfg1.win 3).blk t).view.emb (fun _ => rfl) fun y a => by blk_simp [j3]; fin_cases a <;> simp
  have f0 := image_read (k := 128) (V c (Pipeline.arrRef spec1 0)) (iblk1 V c 0 t) ((cfg1.win 0).blk t).view.emb (fun _ => rfl) t.val t.isLt
    (fun y => by blk_simp [j0]) (fun y => by blk_simp [j0]) (fun y => by blk_simp [j0])
  rw [after1_4]
  unfold outsAt1
  refine (out1 c _ _ _ _ _ _ _ _ _ _ _ _ _ _ _ _).trans ?_
  rw [f1, f2, f3]
  simp only [f0]
  exact at_flat _ _ _ _ (fun n p o => K3 (fun p c' => rd (s := S8x3448x128) (V c (Pipeline.arrRef spec1 0)) ![n, p, c']) _ _ _ p o)
    (by blk_simp [j4]) (by blk_simp [j4]) (by blk_simp [j4])

/-- The array after the second call: image `n`'s row is the rectified closed form over image `n`'s operand. -/
theorem arr2 (hX : V c (Pipeline.arrRef spec2 0) = X) (hw1 : V c (Pipeline.arrRef spec2 1) = w1) (hw2 : V c (Pipeline.arrRef spec2 2) = w2)
    (hm : V c (Pipeline.arrRef spec2 3) = m) : (dat2 (F := Ideal) V c).arrAt 4 cfg2.N
      = fun y : S8x3448x128.Idx => KR (fun p c => rd (s := S8x3448x128) X ![(y 0).val, p, c]) (fun t c o => rd (s := S9x128x32) w1 ![t, c, o])
          (fun h o => rd (s := S32x128) w2 ![h, o]) (fun p => rd (s := S3448x1) m ![p, 0]) (y 1).val (y 2).val := by
  subst hX hw1 hw2 hm
  refine (dat2 (F := Ideal) V c).arrAt_eq_of_covers 4 _ (by decide +kernel) fun t hf y => ?_
  obtain ⟨j0, j1, j2, j3, j4⟩ := idx2 t
  have f1 : iblk2 V c 1 t = V c (Pipeline.arrRef spec2 1) :=
    whole_read (s := S9x128x32) _ _ ((cfg2.win 1).blk t).view.emb (fun _ => rfl) fun y a => by blk_simp [j1]; fin_cases a <;> simp
  have f2 : iblk2 V c 2 t = V c (Pipeline.arrRef spec2 2) :=
    whole_read (s := S32x128) _ _ ((cfg2.win 2).blk t).view.emb (fun _ => rfl) fun y a => by blk_simp [j2]; fin_cases a <;> simp
  have f3 : iblk2 V c 3 t = V c (Pipeline.arrRef spec2 3) :=
    whole_read (s := S3448x1) _ _ ((cfg2.win 3).blk t).view.emb (fun _ => rfl) fun y a => by blk_simp [j3]; fin_cases a <;> simp
  have f0 := image_read (k := 128) (V c (Pipeline.arrRef spec2 0)) (iblk2 V c 0 t) ((cfg2.win 0).blk t).view.emb (fun _ => rfl) t.val t.isLt
    (fun y => by blk_simp [j0]) (fun y => by blk_simp [j0]) (fun y => by blk_simp [j0])
  rw [after2_4]
  unfold outsAt2
  refine (out2 c _ _ _ _ _ _ _ _ _ _ _ _ _ _ _ _).trans ?_
  rw [f1, f2, f3]
  simp only [f0]
  exact at_flat _ _ _ _ (fun n p o => KR (fun p c' => rd (s := S8x3448x128) (V c (Pipeline.arrRef spec2 0)) ![n, p, c']) _ _ _ p o)
    (by blk_simp [j4]) (by blk_simp [j4]) (by blk_simp [j4])

end Arrays

end Cert.DecoderIdeal.Val

end
-- ==== Proof.Decoder.Layers.lean ====
module
public import proofs.«01_k».proof.Proof.Decoder.Net
public import proofs.«01_k».proof.Proof.Decoder.Arr0
public import proofs.«01_k».proof.Proof.Decoder.ArrRes
public import proofs.«01_k».proof.Proof.KernelIdeal.Layer4
public import Idealize.ShloMosaic.Lib.StableHlo.RunRead

/-!
# The decoder's layers in the kernel

The quantised vectors laid out flat, and what each of the three calls leaves: a layer laid out flat. The host then cuts the
layer out of the last.
-/

@[expose] public section

set_option maxRecDepth 16384

noncomputable section

namespace Cert.DecoderIdeal.Val

open Cert.DecoderIdeal Cert.DecoderIdeal.Gen Cert.Spec
open Cert.KernelIdeal.Val (maskSq maskCol_apply zero_pad pad_nhwc wtap32_apply w1x1_apply Inner flatAt_outer flatAt_inner K3_layer)
open Idealize.ShloMosaic Idealize.ShloMosaic.TcCoe Idealize.ShloMosaic.Tactic

/-- Eight rows in front and 76 behind, 64 channels. -/
theorem pad_rows64 (A : FVec Ideal S8x3364x64 .f32) (v : S_.Idx → EReal) (hv : ∀ i, v i = 0) (n p c : ℕ) (hn : n < 8) (hp : p < 3448) (hc : c < 64) :
    rd (s := S8x3448x64) (pad S8x3448x64 ![0, 8, 0] ![0, 76, 0] ![0, 0, 0] A v pads_S8x3364x64_S8x3448x64_000_8760_000 h_S_) ![n, p, c]
      = if 8 ≤ p ∧ p < 3372 then rd (s := S8x3364x64) A ![n, p - 8, c] else 0 := by
  rw [rdi3 _ n p c hn hp hc]
  by_cases h : 8 ≤ p ∧ p < 3372
  · rw [if_pos h, rdi3 _ n (p - 8) c hn (by omega) hc]
    refine pad_apply_of_inside ![0, 8, 0] ![0, 76, 0] ![0, 0, 0] A v _ _ _ (ix3 (n0 := 8) (n1 := 3364) (n2 := 64) ⟨n, hn⟩ ⟨p - 8, by omega⟩ ⟨c, hc⟩) fun a => ?_
    fin_cases a
    · show n = 0 + n * (0 + 1); omega
    · show p = 8 + (p - 8) * (0 + 1); omega
    · show c = 0 + c * (0 + 1); omega
  · rw [if_neg h, pad_apply_of_not_inside ![0, 8, 0] ![0, 76, 0] ![0, 0, 0] A v _ _ _ 1 fun g => h ?_, hv]
    have g1 : 8 ≤ p := g.1
    have g2 : (p - 8) / (0 + 1) < 3364 := g.2.2
    omega

/-- Three by three weights from 64 to 128 channels, one tap after another. -/
theorem wtap64_apply (w : FVec Ideal S128x64x3x3 .f32) (t c o : ℕ) (ht : t < 9) (hc : c < 64) (ho : o < 128) :
    rd (s := S9x64x128) (shapeCast S9x64x128 (transpose S3x3x64x128 [2, 3, 1, 0] w transposes_S128x64x3x3_S3x3x64x128_2_3_1_0)
      shapeCasts_S3x3x64x128_S9x64x128) ![t, c, o] = rd w ![o, c, t / 3, t % 3] := by
  rw [rdi3 _ t c o ht hc ho]
  pointwise
  exact rd4 w _ _ _ _ _ rfl rfl rfl rfl

section Stretches

variable (V : Valuation τ sig (Elt Ideal))

theorem ops0_v0 : StableHlo.after (hostOps0 (F := Ideal)) V (Proc.devRef .tc main_v0)
    = shapeCast S8x56x56x64 (V (Proc.devRef .tc main_arg0) : FVec Ideal S25088x64 .f32) shapeCasts_S25088x64_S8x56x56x64 := by
  after_reads_simp
  rfl

theorem ops0_c : StableHlo.after (hostOps0 (F := Ideal)) V (Proc.devRef .tc main_c) = constantI S_ 32 0#32 := by
  after_reads_simp

theorem ops0_1_v1 : StableHlo.after (hostOps0_1 (F := Ideal)) V (Proc.devRef .tc main_v1)
    = pad S8x58x58x64 ![0, 1, 1, 0] ![0, 1, 1, 0] ![0, 0, 0, 0] (V (Proc.devRef .tc main_v0) : FVec Ideal S8x56x56x64 .f32)
        (sitofp (F := Ideal) .f32 (V (Proc.devRef .tc main_c) : IVec S_ 32)) pads_S8x56x56x64_S8x58x58x64_000_110_110_000 h_S_ := by
  after_reads_simp
  rfl

theorem ops0_2_v2 : StableHlo.after (hostOps0_2 (F := Ideal)) V (Proc.devRef .tc main_v2)
    = shapeCast S8x3364x64 (V (Proc.devRef .tc main_v1) : FVec Ideal S8x58x58x64 .f32) shapeCasts_S8x58x58x64_S8x3364x64 := by
  after_reads_simp
  rfl

theorem ops0_2_c : StableHlo.after (hostOps0_2 (F := Ideal)) V (Proc.devRef .tc main_c_0) = constantI S_ 32 0#32 := by
  after_reads_simp

theorem ops0_3_v3 : StableHlo.after (hostOps0_3 (F := Ideal)) V (Proc.devRef .tc main_v3)
    = pad S8x3448x64 ![0, 8, 0] ![0, 76, 0] ![0, 0, 0] (V (Proc.devRef .tc main_v2) : FVec Ideal S8x3364x64 .f32)
        (sitofp (F := Ideal) .f32 (V (Proc.devRef .tc main_c_0) : IVec S_ 32)) pads_S8x3364x64_S8x3448x64_000_8760_000 h_S_ := by
  after_reads_simp
  rfl

theorem ops0_4_v5 : StableHlo.after (hostOps0_4 (F := Ideal)) V (Proc.devRef .tc main_v5)
    = shapeCast S9x64x128 (transpose S3x3x64x128 [2, 3, 1, 0] (V (Proc.devRef .tc main_arg1) : FVec Ideal S128x64x3x3 .f32)
        transposes_S128x64x3x3_S3x3x64x128_2_3_1_0) shapeCasts_S3x3x64x128_S9x64x128 := by
  after_reads_simp
  rfl

theorem ops0_4_v6 : StableHlo.after (hostOps0_4 (F := Ideal)) V (Proc.devRef .tc main_v6)
    = shapeCast S1x128 (V (Proc.devRef .tc main_arg2) : FVec Ideal S128 .f32) shapeCasts_S128_S1x128 := by
  after_reads_simp
  rfl

theorem ops0_4_v13 : StableHlo.after (hostOps0_4 (F := Ideal)) V (Proc.devRef .tc main_v13) = shapeCast S3364x1 maskSq shapeCasts_S58x58_S3364x1 := by
  after_reads_simp
  rfl

theorem ops0_4_c : StableHlo.after (hostOps0_4 (F := Ideal)) V (Proc.devRef .tc main_c_4) = constantI S_ 32 0#32 := by
  after_reads_simp

theorem ops0_5_v14 : StableHlo.after (hostOps0_5 (F := Ideal)) V (Proc.devRef .tc main_v14)
    = pad S3448x1 ![8, 0] ![76, 0] ![0, 0] (V (Proc.devRef .tc main_v13) : FVec Ideal S3364x1 .f32)
        (sitofp (F := Ideal) .f32 (V (Proc.devRef .tc main_c_4) : IVec S_ 32)) pads_S3364x1_S3448x1_8760_000 h_S_ := by
  after_reads_simp
  rfl

theorem ops1_v17 : StableHlo.after (hostOps1 (F := Ideal)) V (Proc.devRef .tc main_v17)
    = shapeCast S9x128x32 (transpose S3x3x128x32 [2, 3, 1, 0] (V (Proc.devRef .tc main_arg3) : FVec Ideal S32x128x3x3 .f32)
        transposes_S32x128x3x3_S3x3x128x32_2_3_1_0) shapeCasts_S3x3x128x32_S9x128x32 := by
  after_reads_simp
  rfl

theorem ops1_v19 : StableHlo.after (hostOps1 (F := Ideal)) V (Proc.devRef .tc main_v19)
    = transpose S32x128 [1, 0] (shapeCast S128x32 (V (Proc.devRef .tc main_arg4) : FVec Ideal S128x32x1x1 .f32) shapeCasts_S128x32x1x1_S128x32)
        transposes_S128x32_S32x128_1_0 := by
  after_reads_simp
  rfl

theorem ops1_v26 : StableHlo.after (hostOps1 (F := Ideal)) V (Proc.devRef .tc main_v26) = shapeCast S3364x1 maskSq shapeCasts_S58x58_S3364x1 := by
  after_reads_simp
  rfl

theorem ops1_c : StableHlo.after (hostOps1 (F := Ideal)) V (Proc.devRef .tc main_c_9) = constantI S_ 32 0#32 := by
  after_reads_simp

theorem ops1_1_v27 : StableHlo.after (hostOps1_1 (F := Ideal)) V (Proc.devRef .tc main_v27)
    = pad S3448x1 ![8, 0] ![76, 0] ![0, 0] (V (Proc.devRef .tc main_v26) : FVec Ideal S3364x1 .f32)
        (sitofp (F := Ideal) .f32 (V (Proc.devRef .tc main_c_9) : IVec S_ 32)) pads_S3364x1_S3448x1_8760_000 h_S_ := by
  after_reads_simp
  rfl

theorem ops2_v30 : StableHlo.after (hostOps2 (F := Ideal)) V (Proc.devRef .tc main_v30)
    = shapeCast S9x128x32 (transpose S3x3x128x32 [2, 3, 1, 0] (V (Proc.devRef .tc main_arg5) : FVec Ideal S32x128x3x3 .f32)
        transposes_S32x128x3x3_S3x3x128x32_2_3_1_0) shapeCasts_S3x3x128x32_S9x128x32 := by
  after_reads_simp
  rfl

theorem ops2_v32 : StableHlo.after (hostOps2 (F := Ideal)) V (Proc.devRef .tc main_v32)
    = transpose S32x128 [1, 0] (shapeCast S128x32 (V (Proc.devRef .tc main_arg6) : FVec Ideal S128x32x1x1 .f32) shapeCasts_S128x32x1x1_S128x32)
        transposes_S128x32_S32x128_1_0 := by
  after_reads_simp
  rfl

theorem ops2_v39 : StableHlo.after (hostOps2 (F := Ideal)) V (Proc.devRef .tc main_v39) = shapeCast S3364x1 maskSq shapeCasts_S58x58_S3364x1 := by
  after_reads_simp
  rfl

theorem ops2_c : StableHlo.after (hostOps2 (F := Ideal)) V (Proc.devRef .tc main_c_14) = constantI S_ 32 0#32 := by
  after_reads_simp

theorem ops2_1_v40 : StableHlo.after (hostOps2_1 (F := Ideal)) V (Proc.devRef .tc main_v40)
    = pad S3448x1 ![8, 0] ![76, 0] ![0, 0] (V (Proc.devRef .tc main_v39) : FVec Ideal S3364x1 .f32)
        (sitofp (F := Ideal) .f32 (V (Proc.devRef .tc main_c_14) : IVec S_ 32)) pads_S3364x1_S3448x1_8760_000 h_S_ := by
  after_reads_simp
  rfl

theorem ops3_v44 : StableHlo.after (hostOps3 (F := Ideal)) V (Proc.devRef .tc main_v44)
    = extractStridedSlice S8x56x56x128 ![0, 1, 1, 0] (shapeCast S8x58x58x128
        (extractStridedSlice S8x3364x128 ![0, 8, 0] (V (Proc.devRef .tc main_v41) : FVec Ideal S8x3448x128 .f32) slices_S8x3448x128_S8x3364x128_0_8_0)
        shapeCasts_S8x3364x128_S8x58x58x128) slices_S8x58x58x128_S8x56x56x128_0_1_1_0 := by
  after_reads_simp
  rfl

end Stretches

variable (m : (ℓ : Loc nD τ sig) → Buf (Elt Ideal) ℓ) (ρ : Dev nD → PrngReg) (c : Dev nD)

/-- The arguments in memory, at natural coordinates. -/
def args : Dec :=
  Dec.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The padded quantised vectors. -/
theorem W2_v1 (i : S8x58x58x64.Idx) : (W2 m ρ c (Proc.devRef .tc main_v1) : FVec Ideal S8x58x58x64 .f32) i
    = padAt 56 (args m c).q (i 0).val (i 3).val (i 1).val (i 2).val := by
  have e : W2 m ρ c (Proc.devRef .tc main_v1) = _ := ops0_1_v1 (W1 m ρ c)
  rw [e]
  refine pad_nhwc 56 58 64 rfl _ _ (zero_pad _ (ops0_c _)) _ _ _ (fun n y x k hn hy hx hk => ?_) i
  have e0 : W1 m ρ c (Proc.devRef .tc main_v0) = _ := ops0_v0 (W0 m ρ c)
  rw [e0, rdi4 _ n y x k hn hy hx hk]
  pointwise
  rw [W0_args m ρ c main_arg0 (by decide)]
  exact rd2 _ (n * 3136 + y * 56 + x) k _ (by simp only [ix2]) rfl

/-- The quantised vectors laid out flat. -/
theorem W4_v3 (n p k : ℕ) (hn : n < 8) (hp : p < 3448) (hk : k < 64) :
    rd (s := S8x3448x64) (W4 m ρ c (Proc.devRef .tc main_v3)) ![n, p, k] = flatAt (args m c).q n p k := by
  have e : W4 m ρ c (Proc.devRef .tc main_v3) = _ := ops0_3_v3 (W3 m ρ c)
  rw [e, pad_rows64 _ _ (zero_pad _ (ops0_2_c _)) n p k hn hp hk]
  have e0 : W3 m ρ c (Proc.devRef .tc main_v2) = _ := ops0_2_v2 (W2 m ρ c)
  by_cases h : 8 ≤ p ∧ p < 3372
  · rw [if_pos h, e0, rdi3 _ n (p - 8) k hn (by omega) hk]
    pointwise
    rw [W2_v1]
    unfold flatAt
    rw [if_pos h.1]
    simp only [ix4]
  · rw [if_neg h, flatAt_outer _ _ _ (fun g => by unfold Cert.KernelIdeal.Val.Inner at g; omega)]

/-- The mask in front of the first call. -/
theorem W6_v14 (p : ℕ) (hp : p < 3448) :
    rd (s := S3448x1) (W6 m ρ c (Proc.devRef .tc main_v14)) ![p, 0] = if Inner p then 1 else 0 := by
  have e : W6 m ρ c (Proc.devRef .tc main_v14) = _ := ops0_5_v14 (W5 m ρ c)
  have e0 : W5 m ρ c (Proc.devRef .tc main_v13) = _ := ops0_4_v13 (W4 m ρ c)
  rw [e, e0]
  exact maskCol_apply _ (zero_pad _ (ops0_4_c _)) p hp

/-- The first layer. -/
theorem W7_v15 (n p o : ℕ) (hn : n < 8) (hp : p < 3448) (ho : o < 128) :
    rd (s := S8x3448x128) (W7 m ρ c (Proc.devRef .tc main_v15)) ![n, p, o] = flatAt (args m c).h1 n p o := by
  have e : W7 m ρ c (Proc.devRef .tc main_v15) = _ := (W7_arr m ρ c 4).trans (arr0 (V6 m ρ) c _ _ _ _
    ((W6_of m ρ c main_v3 (by decide)).trans (W5_of m ρ c main_v3 (by decide)))
    ((W6_of m ρ c main_v5 (by decide)).trans (ops0_4_v5 (W4 m ρ c)))
    ((W6_of m ρ c main_v6 (by decide)).trans (ops0_4_v6 (W4 m ρ c))) rfl)
  rw [e, rdi3 _ n p o hn hp ho]
  refine K64_layer _ _ _ _ _ _ _ n p o (fun p k hp hk => W4_v3 m ρ c n p k hn hp hk) (fun t k ht hk => ?_) (W6_v14 m ρ c p hp) ?_
  · refine (wtap64_apply _ t k o ht hk ho).trans ?_
    rw [W4_args m ρ c main_arg1 (by decide)]
    rfl
  · refine (rdi2 _ 0 o (by omega) ho).trans ?_
    pointwise
    rw [W4_args m ρ c main_arg2 (by decide)]
    exact rd1 _ o _ rfl

/-- The second layer. -/
theorem W10_v28 (n p o : ℕ) (hn : n < 8) (hp : p < 3448) (ho : o < 128) :
    rd (s := S8x3448x128) (W10 m ρ c (Proc.devRef .tc main_v28)) ![n, p, o] = flatAt (args m c).h2 n p o := by
  have e : W10 m ρ c (Proc.devRef .tc main_v28) = _ := (W10_arr m ρ c 4).trans (arr1 (V9 m ρ) c _ _ _ _
    ((W9_of m ρ c main_v15 (by decide)).trans (W8_of m ρ c main_v15 (by decide)))
    ((W9_of m ρ c main_v17 (by decide)).trans (ops1_v17 (W7 m ρ c)))
    ((W9_of m ρ c main_v19 (by decide)).trans (ops1_v19 (W7 m ρ c))) (ops1_1_v27 (W8 m ρ c)))
  have e0 : W8 m ρ c (Proc.devRef .tc main_v26) = _ := ops1_v26 (W7 m ρ c)
  rw [e, rdi3 _ n p o hn hp ho, e0]
  refine K3_layer _ _ _ _ _ _ _ n p o ho (fun p k hp hk => W7_v15 m ρ c n p k hn hp hk) (fun t k h ht hk hh => ?_) (fun h o hh ho => ?_)
    (maskCol_apply _ (zero_pad _ (ops1_c _)) p hp)
  · refine (wtap32_apply _ t k h ht hk hh).trans ?_
    rw [W7_args m ρ c main_arg3 (by decide)]
    rfl
  · refine (w1x1_apply _ h o hh ho).trans ?_
    rw [W7_args m ρ c main_arg4 (by decide)]
    rfl

/-- The third layer, rectified. -/
theorem W13_v41 (n p o : ℕ) (hn : n < 8) (hp : p < 3448) (ho : o < 128) :
    rd (s := S8x3448x128) (W13 m ρ c (Proc.devRef .tc main_v41)) ![n, p, o] = flatAt (reluN (args m c).h3) n p o := by
  have e : W13 m ρ c (Proc.devRef .tc main_v41) = _ := (W13_arr m ρ c 4).trans (arr2 (V12 m ρ) c _ _ _ _
    ((W12_of m ρ c main_v28 (by decide)).trans (W11_of m ρ c main_v28 (by decide)))
    ((W12_of m ρ c main_v30 (by decide)).trans (ops2_v30 (W10 m ρ c)))
    ((W12_of m ρ c main_v32 (by decide)).trans (ops2_v32 (W10 m ρ c))) (ops2_1_v40 (W11 m ρ c)))
  have e0 : W11 m ρ c (Proc.devRef .tc main_v39) = _ := ops2_v39 (W10 m ρ c)
  rw [e, rdi3 _ n p o hn hp ho, e0]
  refine KR_layer _ _ _ _ _ _ _ n p o ho (fun p k hp hk => W10_v28 m ρ c n p k hn hp hk) (fun t k h ht hk hh => ?_) (fun h o hh ho => ?_)
    (maskCol_apply _ (zero_pad _ (ops2_c _)) p hp)
  · refine (wtap32_apply _ t k h ht hk hh).trans ?_
    rw [W10_args m ρ c main_arg5 (by decide)]
    rfl
  · refine (w1x1_apply _ h o hh ho).trans ?_
    rw [W10_args m ρ c main_arg6 (by decide)]
    rfl

/-- The result. -/
theorem W14_v44 (i : S8x56x56x128.Idx) : (W14 m ρ c (Proc.devRef .tc main_v44) : FVec Ideal S8x56x56x128 .f32) i
    = reluN (args m c).h3 (i 0).val (i 3).val (i 1).val (i 2).val := by
  have i0 : (i 0).val < 8 := (i 0).isLt
  have i1 : (i 1).val < 56 := (i 1).isLt
  have i2 : (i 2).val < 56 := (i 2).isLt
  have i3 : (i 3).val < 128 := (i 3).isLt
  have e : W14 m ρ c (Proc.devRef .tc main_v44) = _ := ops3_v44 (W13 m ρ c)
  rw [e]
  pointwise
  refine (rd3 _ (i 0).val (8 + ((1 + (i 1).val) * 58 + (1 + (i 2).val))) (i 3).val _ rfl rfl rfl).trans
    ((W13_v41 m ρ c _ _ _ i0 (by omega) i3).trans ((flatAt_inner _ _ _ (by unfold Cert.KernelIdeal.Val.Inner; omega)).trans ?_))
  congr 1 <;> omega

end Cert.DecoderIdeal.Val

end
-- ==== Proof.Decoder.Ref.lean ====
module
public import proofs.«01_k».proof.Proof.Gen.DecoderReferenceIdeal.Read
public import proofs.«01_k».proof.Proof.Decoder.Net
public import proofs.«01_k».proof.Proof.ReferenceIdeal.Layer4

/-!
# The decoder's layers in the reference

The convolution from 64 channels, then the residual block of the encoder's reference twice, and the closing rectification.
-/

@[expose] public section

set_option maxRecDepth 16384

noncomputable section

namespace Cert.DecoderReferenceIdeal.Val

open Cert.DecoderReferenceIdeal Cert.DecoderReferenceIdeal.Gen Cert.DecoderReferenceIdeal.Read Cert.Spec
open Cert.ReferenceIdeal.Val (add9 add9_apply pad_nchw zero_fill block block_apply)
open Idealize.ShloMosaic Idealize.ShloMosaic.TcCoe Idealize.ShloMosaic.Tactic

/-- One tap of the convolution. -/
def tap64 (P : FVec Ideal S8x64x58x58 .f32) (w : FVec Ideal S128x64x3x3 .f32) (ky kx : ℕ)
    (hs : S8x64x58x58.Slices ![0, 0, ky, kx] S8x64x56x56) (hw : S128x64x3x3.Slices ![0, 0, ky, kx] S128x64x1x1) : FVec Ideal S8x56x56x128 .f32 :=
  Host.dotGeneral dot_S8x64x56x56_S128x64_S8x56x56x128_1_1_023_0_n_n none (extractStridedSlice S8x64x56x56 ![0, 0, ky, kx] P hs)
    (shapeCast S128x64 (extractStridedSlice S128x64x1x1 ![0, 0, ky, kx] w hw) shapeCasts_S128x64x1x1_S128x64)

/-- A tap at an index: the contraction over the 64 channels of the padded vectors, shifted, with the weights of the tap. -/
theorem tap64_apply (P : FVec Ideal S8x64x58x58 .f32) (w : FVec Ideal S128x64x3x3 .f32) (ky kx : ℕ) (hky : ky < 3) (hkx : kx < 3)
    (hs : S8x64x58x58.Slices ![0, 0, ky, kx] S8x64x56x56) (hw : S128x64x3x3.Slices ![0, 0, ky, kx] S128x64x1x1)
    (n : Fin 8) (y x : Fin 56) (o : Fin 128) (f : N4) (hP : ∀ i, P i = padAt 56 f (i 0).val (i 1).val (i 2).val (i 3).val) :
    tap64 P w ky kx hs hw (ix4 n y x o) = ∑ c : Fin 64, padAt 56 f n c (1 * y + ky) (1 * x + kx) * rd w ![o, c, ky, kx] := by
  unfold tap64
  pointwise
  refine Finset.sum_congr rfl fun c _ => ?_
  rw [hP, rdi4 w o c ky kx o.isLt c.isLt hky hkx]
  show padAt 56 f n c (ky + y) (kx + x) * _ = _
  rw [add_comm ky, add_comm kx]

variable (x0 : FVec Ideal S25088x64 .f32) (x1 : FVec Ideal S128x64x3x3 .f32) (x2 : FVec Ideal S128 .f32) (x3 : FVec Ideal S32x128x3x3 .f32)
  (x4 : FVec Ideal S128x32x1x1 .f32) (x5 : FVec Ideal S32x128x3x3 .f32) (x6 : FVec Ideal S128x32x1x1 .f32)

/-- The quantised vectors with the channels in front. -/
theorem v1_apply (n c y x : ℕ) (hn : n < 8) (hc : c < 64) (hy : y < 56) (hx : x < 56) :
    rd (s := S8x64x56x56) (val_main_v1 (F := Ideal) x0) ![n, c, y, x] = (Dec.of x0 x1 x2 x3 x4 x5 x6).q n c y x := by
  rw [show rd (s := S8x64x56x56) (val_main_v1 (F := Ideal) x0) ![n, c, y, x] = _ from rdi4 _ n c y x hn hc hy hx, val_main_v1_apply, val_main_v0_apply]
  refine rd2 x0 (n * 3136 + y * 56 + x) c _ ?_ ?_
  · show (((n * 56 + y) * 56 + x) * 64 + c) / 64 = _
    omega
  · show (((n * 56 + y) * 56 + x) * 64 + c) % 64 = _
    omega

/-- The padded vectors. -/
theorem v2_apply (i : S8x64x58x58.Idx) :
    val_main_v2 (F := Ideal) x0 i = padAt 56 (Dec.of x0 x1 x2 x3 x4 x5 x6).q (i 0).val (i 1).val (i 2).val (i 3).val :=
  pad_nchw 56 58 64 rfl _ _ zero_fill _ _ _ (v1_apply x0 x1 x2 x3 x4 x5 x6) i

/-- The sum of the nine taps. -/
theorem v48_apply (n : Fin 8) (y x : Fin 56) (o : Fin 128) :
    val_main_v48 (F := Ideal) x0 x1 (ix4 n y x o) = conv 1 3 64 56 (Dec.of x0 x1 x2 x3 x4 x5 x6).q (Dec.of x0 x1 x2 x3 x4 x5 x6).w n o y x := by
  have hs : ∀ ky kx : Fin 3, S8x64x58x58.Slices ![0, 0, ky.val, kx.val] S8x64x56x56 := by decide
  have hw : ∀ ky kx : Fin 3, S128x64x3x3.Slices ![0, 0, ky.val, kx.val] S128x64x1x1 := by decide
  have e : val_main_v48 (F := Ideal) x0 x1 =
      add9 (val_main_v3 (F := Ideal)) (fun ky kx => tap64 (val_main_v2 (F := Ideal) x0) x1 ky.val kx.val (hs ky kx) (hw ky kx)) := rfl
  rw [e, add9_apply _ _ _ (by unfold val_main_v3 val_main_cst; pointwise)]
  exact Finset.sum_congr rfl fun ky _ => Finset.sum_congr rfl fun kx _ => tap64_apply _ _ _ _ ky.isLt kx.isLt _ _ n y x o _
    (v2_apply x0 x1 x2 x3 x4 x5 x6)

/-- After the convolution. -/
theorem v52_apply (n c y x : ℕ) (hn : n < 8) (hc : c < 128) (hy : y < 56) (hx : x < 56) :
    rd (s := S8x128x56x56) (val_main_v52 (F := Ideal) x0 x1 x2) ![n, c, y, x] = (Dec.of x0 x1 x2 x3 x4 x5 x6).h1 n c y x := by
  rw [show rd (s := S8x128x56x56) (val_main_v52 (F := Ideal) x0 x1 x2) ![n, c, y, x] = _ from rdi4 _ n c y x hn hc hy hx]
  unfold val_main_v52 val_main_v51 val_main_v50 val_main_v49
  pointwise
  rw [v48_apply x0 x1 x2 x3 x4 x5 x6, ← rdi1 x2 c hc]
  rfl

/-- After the first residual block. -/
theorem v109_apply (n c y x : ℕ) (hn : n < 8) (hc : c < 128) (hy : y < 56) (hx : x < 56) :
    rd (s := S8x128x56x56) (val_main_v109 (F := Ideal) x0 x1 x2 x3 x4) ![n, c, y, x] = (Dec.of x0 x1 x2 x3 x4 x5 x6).h2 n c y x := by
  rw [show val_main_v109 (F := Ideal) x0 x1 x2 x3 x4 = block (val_main_v52 (F := Ideal) x0 x1 x2) x3 x4 from rfl]
  exact block_apply _ x3 x4 (Dec.of x0 x1 x2 x3 x4 x5 x6).h1 (v52_apply x0 x1 x2 x3 x4 x5 x6) n c y x hn hc hy hx

/-- After the second residual block. -/
theorem v166_apply (n c y x : ℕ) (hn : n < 8) (hc : c < 128) (hy : y < 56) (hx : x < 56) :
    rd (s := S8x128x56x56) (val_main_v166 (F := Ideal) x0 x1 x2 x3 x4 x5 x6) ![n, c, y, x] = (Dec.of x0 x1 x2 x3 x4 x5 x6).h3 n c y x := by
  rw [show val_main_v166 (F := Ideal) x0 x1 x2 x3 x4 x5 x6 = block (val_main_v109 (F := Ideal) x0 x1 x2 x3 x4) x5 x6 from rfl]
  exact block_apply _ x5 x6 (Dec.of x0 x1 x2 x3 x4 x5 x6).h2 (v109_apply x0 x1 x2 x3 x4 x5 x6) n c y x hn hc hy hx

/-- The result: the second block's output rectified, the channels last. -/
theorem v168_apply (i : S8x56x56x128.Idx) :
    val_main_v168 (F := Ideal) x0 x1 x2 x3 x4 x5 x6 i = reluN (Dec.of x0 x1 x2 x3 x4 x5 x6).h3 (i 0).val (i 3).val (i 1).val (i 2).val := by
  have i0 : (i 0).val < 8 := (i 0).isLt
  have i1 : (i 1).val < 56 := (i 1).isLt
  have i2 : (i 2).val < 56 := (i 2).isLt
  have i3 : (i 3).val < 128 := (i 3).isLt
  rw [val_main_v168_apply]
  unfold val_main_v167 val_main_call9_v0 val_main_call9_cst
  pointwise
  refine congrArg relu (Eq.trans ?_ (v166_apply x0 x1 x2 x3 x4 x5 x6 _ _ _ _ i0 i3 i1 i2))
  exact rd4 (n0 := 8) (n1 := 128) (n2 := 56) (n3 := 56) _ _ _ _ _ _ rfl rfl rfl rfl

end Cert.DecoderReferenceIdeal.Val

end
-- ==== Proof.Decoder.Pair.lean ====
module
public import Idealize.ShloMosaic.Lib.Claim
public import proofs.«01_k».proof.Proof.Gen.DecoderReferenceIdeal.Run
public import proofs.«01_k».proof.Proof.Decoder.Run
public import proofs.«01_k».proof.Proof.Decoder.Layers
public import proofs.«01_k».proof.Proof.Decoder.Ref

/-!
# The decoder's two programs

The run of each program, ending with the rectified output of the second residual block of its arguments.
-/

@[expose] public section

set_option maxRecDepth 16384

noncomputable section

namespace Cert.Spec

open Idealize.ShloMosaic

/-- The arguments at natural coordinates depend on the seven arrays alone. -/
theorem Dec.of_congr {x0 y0 : (⟨2, ![25088, 64]⟩ : Shape).Idx → EReal} {x1 y1 : (⟨4, ![128, 64, 3, 3]⟩ : Shape).Idx → EReal}
    {x2 y2 : (⟨1, ![128]⟩ : Shape).Idx → EReal} {x3 y3 : (⟨4, ![32, 128, 3, 3]⟩ : Shape).Idx → EReal} {x4 y4 : (⟨4, ![128, 32, 1, 1]⟩ : Shape).Idx → EReal}
    {x5 y5 : (⟨4, ![32, 128, 3, 3]⟩ : Shape).Idx → EReal} {x6 y6 : (⟨4, ![128, 32, 1, 1]⟩ : Shape).Idx → EReal}
    (h0 : x0 = y0) (h1 : x1 = y1) (h2 : x2 = y2) (h3 : x3 = y3) (h4 : x4 = y4) (h5 : x5 = y5) (h6 : x6 = y6) :
    Dec.of x0 x1 x2 x3 x4 x5 x6 = Dec.of y0 y1 y2 y3 y4 y5 y6 := by
  subst h0 h1 h2 h3 h4 h5 h6
  rfl

end Cert.Spec

namespace Cert.DecoderIdeal.Val

open Cert.DecoderIdeal Cert.DecoderIdeal.Gen Cert.Spec
open Idealize.ShloMosaic Idealize.ShloMosaic.TcCoe Idealize.SL.Sem

/-- The kernel's seven argument arrays are the same in two memories. -/
def Kept (m m1 : (ℓ : Loc nD τ sig) → Buf (Elt Ideal) ℓ) (c : Dev nD) : Prop :=
  m1 ((c.tc : Thread nD τ).loc main_arg0) = m ((c.tc : Thread nD τ).loc main_arg0)
  ∧ m1 ((c.tc : Thread nD τ).loc main_arg1) = m ((c.tc : Thread nD τ).loc main_arg1)
  ∧ m1 ((c.tc : Thread nD τ).loc main_arg2) = m ((c.tc : Thread nD τ).loc main_arg2)
  ∧ m1 ((c.tc : Thread nD τ).loc main_arg3) = m ((c.tc : Thread nD τ).loc main_arg3)
  ∧ m1 ((c.tc : Thread nD τ).loc main_arg4) = m ((c.tc : Thread nD τ).loc main_arg4)
  ∧ m1 ((c.tc : Thread nD τ).loc main_arg5) = m ((c.tc : Thread nD τ).loc main_arg5)
  ∧ m1 ((c.tc : Thread nD τ).loc main_arg6) = m ((c.tc : Thread nD τ).loc main_arg6)

/-- The rectified third layer, the channels last. -/
def out (a : Dec) : S8x56x56x128.Idx → EReal := fun i => reluN a.h3 (i 0).val (i 3).val (i 1).val (i 2).val

/-- The kernel runs, ends with the rectified third layer of its arguments, and leaves the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      @Eq (S8x56x56x128.Idx → EReal) (r.2.mem ((c.tc : Thread nD τ).loc main_v44)) (out (args m c)) ∧ Kept m r.2.mem c :=
  (θ_run defs _ _).mono (fun r h c =>
      ⟨(h.1.1 c _ (mem_uc main_v44 (by decide))).trans (funext fun i => W14_v44 m ρ c i), h.2.1 c⟩)
    (θ_run_and (Cert.DecoderIdeal.Run.run (F := Ideal) m ρ) (Cert.DecoderIdeal.Gen.frame (F := Ideal) m ρ))

end Cert.DecoderIdeal.Val

namespace Cert.DecoderReferenceIdeal.Val

open Cert.DecoderReferenceIdeal Cert.DecoderReferenceIdeal.Gen Cert.Spec
open Idealize.ShloMosaic Idealize.ShloMosaic.TcCoe Idealize.SL.Sem

/-- The reference's seven argument arrays are the same in two memories. -/
def Kept (m m1 : (ℓ : Loc nD τ sig) → Buf (Elt Ideal) ℓ) (c : Dev nD) : Prop :=
  m1 ((c.tc : Thread nD τ).loc main_arg0) = m ((c.tc : Thread nD τ).loc main_arg0)
  ∧ m1 ((c.tc : Thread nD τ).loc main_arg1) = m ((c.tc : Thread nD τ).loc main_arg1)
  ∧ m1 ((c.tc : Thread nD τ).loc main_arg2) = m ((c.tc : Thread nD τ).loc main_arg2)
  ∧ m1 ((c.tc : Thread nD τ).loc main_arg3) = m ((c.tc : Thread nD τ).loc main_arg3)
  ∧ m1 ((c.tc : Thread nD τ).loc main_arg4) = m ((c.tc : Thread nD τ).loc main_arg4)
  ∧ m1 ((c.tc : Thread nD τ).loc main_arg5) = m ((c.tc : Thread nD τ).loc main_arg5)
  ∧ m1 ((c.tc : Thread nD τ).loc main_arg6) = m ((c.tc : Thread nD τ).loc main_arg6)

/-- The reference's arguments at natural coordinates. -/
def args (m : (ℓ : Loc nD τ sig) → Buf (Elt Ideal) ℓ) (c : Dev nD) : Dec :=
  Dec.of (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- The reference runs, ends with the rectified third layer of its arguments, and leaves the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      @Eq (S8x56x56x128.Idx → EReal) (r.2.mem ((c.tc : Thread nD τ).loc main_v168)) (Cert.DecoderIdeal.Val.out (args m c)) ∧ Kept m r.2.mem c :=
  (θ_run defs _ _).mono (fun r h c =>
      ⟨((h c).1.trans (Cert.DecoderReferenceIdeal.Read.val_main_v168_eq (F := Ideal) (StableHlo.launchContents m c))).trans
        (funext fun i => v168_apply _ _ _ _ _ _ _ i), (h c).2⟩)
    (Cert.DecoderReferenceIdeal.Value.run (F := Ideal) m ρ)

end Cert.DecoderReferenceIdeal.Val

end
-- ==== Proof.Decoder.Claims.lean ====
module
public import proofs.«01_k».proof.Defs
public import proofs.«01_k».proof.Proof.Gen.Decoder.Frame
public import proofs.«01_k».proof.Proof.Decoder.Pair

/-!
# The decoder's claims

The frames of the decoder's three programs and the equality of the results of the kernel and the reference.
-/

@[expose] public section

set_option maxRecDepth 16384

noncomputable section

namespace Cert.Proof

open Idealize.ShloMosaic Idealize.SL.Sem Cert.Spec

/-- The decoder kernel's frame. -/
theorem frame_dec : Cert.quiescent_Decoder := fun m ρ _ => Cert.Decoder.Gen.frame (F := Bits) m ρ

/-- The idealized decoder kernel's frame. -/
theorem frame_dec_ideal : Cert.quiescent_DecoderIdeal := fun m ρ _ => Cert.DecoderIdeal.Gen.frame (F := Ideal) m ρ

/-- The decoder reference's frame: the argument arrays end as launched and every counter at zero. -/
theorem frame_dec_ref : Cert.quiescent_DecoderReferenceIdeal := fun m ρ _ =>
  (θ_run Cert.DecoderReferenceIdeal.defs _ _).mono (fun r h => ⟨fun c => (h c).2, sem_eq_zero_of_no_sems (by decide) r.2⟩)
    (Cert.DecoderReferenceIdeal.Value.run (F := Ideal) m ρ)

/-- The idealized decoder kernel is the decoder kernel. -/
theorem preserves_dec : Cert.preserves_Decoder_DecoderIdeal := trivial

/-- From memories with equal argument arrays both programs run, end with the same layer, and leave their arguments unchanged. -/
theorem both_dec : ∀ (m : (ℓ : Loc Cert.DecoderIdeal.nD Cert.DecoderIdeal.τ Cert.DecoderIdeal.sig) → Buf (Elt Ideal) ℓ) (g : Dev Cert.DecoderIdeal.nD → PrngReg)
    (m' : (ℓ : Loc Cert.DecoderReferenceIdeal.nD Cert.DecoderReferenceIdeal.τ Cert.DecoderReferenceIdeal.sig) → Buf (Elt Ideal) ℓ) (g' : Dev Cert.DecoderReferenceIdeal.nD → PrngReg), Cert.Pre_DecoderIdeal m →
    (∀ c : Dev Cert.DecoderIdeal.nD,
      @Eq (Cert.DecoderIdeal.S25088x64.Idx → EReal) (m' ((c.tc : Thread Cert.DecoderReferenceIdeal.nD Cert.DecoderReferenceIdeal.τ).loc Cert.DecoderReferenceIdeal.main_arg0)) (m ((c.tc : Thread Cert.DecoderIdeal.nD Cert.DecoderIdeal.τ).loc Cert.DecoderIdeal.main_arg0))
      ∧ @Eq (Cert.DecoderIdeal.S128x64x3x3.Idx → EReal) (m' ((c.tc : Thread Cert.DecoderReferenceIdeal.nD Cert.DecoderReferenceIdeal.τ).loc Cert.DecoderReferenceIdeal.main_arg1)) (m ((c.tc : Thread Cert.DecoderIdeal.nD Cert.DecoderIdeal.τ).loc Cert.DecoderIdeal.main_arg1))
      ∧ @Eq (Cert.DecoderIdeal.S128.Idx → EReal) (m' ((c.tc : Thread Cert.DecoderReferenceIdeal.nD Cert.DecoderReferenceIdeal.τ).loc Cert.DecoderReferenceIdeal.main_arg2)) (m ((c.tc : Thread Cert.DecoderIdeal.nD Cert.DecoderIdeal.τ).loc Cert.DecoderIdeal.main_arg2))
      ∧ @Eq (Cert.DecoderIdeal.S32x128x3x3.Idx → EReal) (m' ((c.tc : Thread Cert.DecoderReferenceIdeal.nD Cert.DecoderReferenceIdeal.τ).loc Cert.DecoderReferenceIdeal.main_arg3)) (m ((c.tc : Thread Cert.DecoderIdeal.nD Cert.DecoderIdeal.τ).loc Cert.DecoderIdeal.main_arg3))
      ∧ @Eq (Cert.DecoderIdeal.S128x32x1x1.Idx → EReal) (m' ((c.tc : Thread Cert.DecoderReferenceIdeal.nD Cert.DecoderReferenceIdeal.τ).loc Cert.DecoderReferenceIdeal.main_arg4)) (m ((c.tc : Thread Cert.DecoderIdeal.nD Cert.DecoderIdeal.τ).loc Cert.DecoderIdeal.main_arg4))
      ∧ @Eq (Cert.DecoderIdeal.S32x128x3x3.Idx → EReal) (m' ((c.tc : Thread Cert.DecoderReferenceIdeal.nD Cert.DecoderReferenceIdeal.τ).loc Cert.DecoderReferenceIdeal.main_arg5)) (m ((c.tc : Thread Cert.DecoderIdeal.nD Cert.DecoderIdeal.τ).loc Cert.DecoderIdeal.main_arg5))
      ∧ @Eq (Cert.DecoderIdeal.S128x32x1x1.Idx → EReal) (m' ((c.tc : Thread Cert.DecoderReferenceIdeal.nD Cert.DecoderReferenceIdeal.τ).loc Cert.DecoderReferenceIdeal.main_arg6)) (m ((c.tc : Thread Cert.DecoderIdeal.nD Cert.DecoderIdeal.τ).loc Cert.DecoderIdeal.main_arg6))) →
    ∃ (v0 : (c : Dev Cert.DecoderIdeal.nD) → Cert.DecoderIdeal.S8x56x56x128.Idx → EReal),
      θ_run (Cert.DecoderIdeal.defs (F := Ideal)) (onTc (τ := Cert.DecoderIdeal.τ) (Cert.DecoderIdeal.main (F := Ideal))) ⟨m, fun _ => 0, g⟩ (fun r => ∀ c : Dev Cert.DecoderIdeal.nD,
          @Eq (Cert.DecoderIdeal.S8x56x56x128.Idx → EReal) (r.2.mem ((c.tc : Thread Cert.DecoderIdeal.nD Cert.DecoderIdeal.τ).loc Cert.DecoderIdeal.main_v44)) (v0 c)
          ∧ Cert.DecoderIdeal.Val.Kept m r.2.mem c)
      ∧ θ_run (Cert.DecoderReferenceIdeal.defs (F := Ideal)) (onTc (τ := Cert.DecoderReferenceIdeal.τ) (Cert.DecoderReferenceIdeal.main (F := Ideal))) ⟨m', fun _ => 0, g'⟩ (fun r => ∀ c : Dev Cert.DecoderReferenceIdeal.nD,
          @Eq (Cert.DecoderIdeal.S8x56x56x128.Idx → EReal) (r.2.mem ((c.tc : Thread Cert.DecoderReferenceIdeal.nD Cert.DecoderReferenceIdeal.τ).loc Cert.DecoderReferenceIdeal.main_v168)) (v0 c)
          ∧ Cert.DecoderReferenceIdeal.Val.Kept m' r.2.mem c) := by
  intro m g m' g' _ hagree
  have hargs : ∀ c : Dev Cert.DecoderIdeal.nD, Cert.DecoderReferenceIdeal.Val.args m' c = Cert.DecoderIdeal.Val.args m c := fun c => by
    obtain ⟨a0, a1, a2, a3, a4, a5, a6⟩ := hagree c
    exact Dec.of_congr a0 a1 a2 a3 a4 a5 a6
  exact ⟨fun c => Cert.DecoderIdeal.Val.out (Cert.DecoderIdeal.Val.args m c), Cert.DecoderIdeal.Val.kernel_run m g,
    (θ_run Cert.DecoderReferenceIdeal.defs _ _).mono (fun r h c => ⟨(h c).1.trans (congrArg Cert.DecoderIdeal.Val.out (hargs c)), (h c).2⟩)
      (Cert.DecoderReferenceIdeal.Val.ref_run m' g')⟩

/-- From equal arguments the two programs end with equal results. -/
theorem algebraic_dec : Cert.algebraic_DecoderIdeal_DecoderReferenceIdeal := both_dec

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Decoder
public import proofs.«01_k».proof.Proof.Gen.Decoder.Frame
public import proofs.«01_k».proof.Proof.Gen.DecoderIdeal
public import proofs.«01_k».proof.Proof.Gen.DecoderIdeal.Frame
public import proofs.«01_k».proof.Proof.Gen.DecoderReferenceIdeal
public import proofs.«01_k».proof.Proof.Gen.DecoderReferenceIdeal.Run
public import proofs.«01_k».proof.Proof.Gen.DecoderReferenceIdeal.Read
public import proofs.«01_k».proof.Proof.ReferenceIdeal.Claims
public import proofs.«01_k».proof.Proof.Decoder.Claims

@[expose] public section

noncomputable section

namespace Cert.Proof

/-- The six programs' facts, the six frames, and for each pair of programs the constant and the equality of the results. -/
theorem claim : Cert.Claim :=
  ⟨Cert.Kernel.Gen.facts, Cert.KernelIdeal.Gen.facts, Cert.ReferenceIdeal.Gen.facts,
    Cert.Decoder.Gen.facts, Cert.DecoderIdeal.Gen.facts, Cert.DecoderReferenceIdeal.Gen.facts,
    frame_p, frame_pi, frame_r, frame_dec, frame_dec_ideal, frame_dec_ref,
    preserves, algebraic, preserves_dec, algebraic_dec⟩

end Cert.Proof

end
